-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_PrepKernel (m : (ℓ : Loc Cert.PrepKernel.nD Cert.PrepKernel.τ Cert.PrepKernel.sig) → Buf (Elt Bits) ℓ) : Prop :=
  True

def Pre_PrepKernelIdeal (m : (ℓ : Loc Cert.PrepKernelIdeal.nD Cert.PrepKernelIdeal.τ Cert.PrepKernelIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2)
      ∧ r.2.mem ((c.tc : Thread Cert.UpKernel.nD Cert.UpKernel.τ).loc Cert.UpKernel.main_arg3) = m ((c.tc : Thread Cert.UpKernel.nD Cert.UpKernel.τ).loc Cert.UpKernel.main_arg3)
      ∧ r.2.mem ((c.tc : Thread Cert.UpKernel.nD Cert.UpKernel.τ).loc Cert.UpKernel.main_arg4) = m ((c.tc : Thread Cert.UpKernel.nD Cert.UpKernel.τ).loc Cert.UpKernel.main_arg4))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
      ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4))
      ∧ r.2.sem = fun _ => 0)

def quiescent_PrepKernel [hPrepKernel : Cert.PrepKernel.Facts] : Prop :=
  ∀ (m : (ℓ : Loc Cert.PrepKernel.nD Cert.PrepKernel.τ Cert.PrepKernel.sig) → Buf (Elt Bits) ℓ) (g : Dev Cert.PrepKernel.nD → PrngReg), Pre_PrepKernel m →
    θ_run (Cert.PrepKernel.defs (F := Bits)) (onTc (τ := Cert.PrepKernel.τ) (Cert.PrepKernel.main (F := Bits))) ⟨m, fun _ => 0, g⟩ (fun r => (∀ c : Dev Cert.PrepKernel.nD,
      r.2.mem ((c.tc : Thread Cert.PrepKernel.nD Cert.PrepKernel.τ).loc Cert.PrepKernel.main_arg0) = m ((c.tc : Thread Cert.PrepKernel.nD Cert.PrepKernel.τ).loc Cert.PrepKernel.main_arg0)
      ∧ r.2.mem ((c.tc : Thread Cert.PrepKernel.nD Cert.PrepKernel.τ).loc Cert.PrepKernel.main_arg1) = m ((c.tc : Thread Cert.PrepKernel.nD Cert.PrepKernel.τ).loc Cert.PrepKernel.main_arg1)
      ∧ r.2.mem ((c.tc : Thread Cert.PrepKernel.nD Cert.PrepKernel.τ).loc Cert.PrepKernel.main_arg2) = m ((c.tc : Thread Cert.PrepKernel.nD Cert.PrepKernel.τ).loc Cert.PrepKernel.main_arg2))
      ∧ r.2.sem = fun _ => 0)

def quiescent_PrepKernelIdeal [hPrepKernelIdeal : Cert.PrepKernelIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg), Pre_PrepKernelIdeal m →
    θ_run (Cert.PrepKernelIdeal.defs (F := Ideal)) (onTc (τ := Cert.PrepKernelIdeal.τ) (Cert.PrepKernelIdeal.main (F := Ideal))) ⟨m, fun _ => 0, g⟩ (fun r => (∀ c : Dev Cert.PrepKernelIdeal.nD,
      r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
      ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
      ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)
      ∧ m' ((c.tc : Thread Cert.UpReferenceIdeal.nD Cert.UpReferenceIdeal.τ).loc Cert.UpReferenceIdeal.main_arg3) = m ((c.tc : Thread Cert.UpKernelIdeal.nD Cert.UpKernelIdeal.τ).loc Cert.UpKernelIdeal.main_arg3)
      ∧ m' ((c.tc : Thread Cert.UpReferenceIdeal.nD Cert.UpReferenceIdeal.τ).loc Cert.UpReferenceIdeal.main_arg4) = m ((c.tc : Thread Cert.UpKernelIdeal.nD Cert.UpKernelIdeal.τ).loc Cert.UpKernelIdeal.main_arg4)) →
    ∃ (v0 : (c : Dev Cert.UpKernelIdeal.nD) → Buf (Elt Ideal) ((c.tc : Thread Cert.UpKernelIdeal.nD Cert.UpKernelIdeal.τ).loc Cert.UpKernelIdeal.main_v4)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v4) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
          ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
          ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v3) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4))

def preserves_PrepKernel_PrepKernelIdeal : Prop :=
  True

def algebraic_PrepKernelIdeal_PrepReferenceIdeal [hPrepKernelIdeal : Cert.PrepKernelIdeal.Facts] [hPrepReferenceIdeal : Cert.PrepReferenceIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepKernelIdeal m →
    (∀ c : Dev Cert.PrepKernelIdeal.nD,
      m' ((c.tc : Thread Cert.PrepReferenceIdeal.nD Cert.PrepReferenceIdeal.τ).loc Cert.PrepReferenceIdeal.main_arg0) = m ((c.tc : Thread Cert.PrepKernelIdeal.nD Cert.PrepKernelIdeal.τ).loc Cert.PrepKernelIdeal.main_arg0)
      ∧ m' ((c.tc : Thread Cert.PrepReferenceIdeal.nD Cert.PrepReferenceIdeal.τ).loc Cert.PrepReferenceIdeal.main_arg1) = m ((c.tc : Thread Cert.PrepKernelIdeal.nD Cert.PrepKernelIdeal.τ).loc Cert.PrepKernelIdeal.main_arg1)
      ∧ m' ((c.tc : Thread Cert.PrepReferenceIdeal.nD Cert.PrepReferenceIdeal.τ).loc Cert.PrepReferenceIdeal.main_arg2) = m ((c.tc : Thread Cert.PrepKernelIdeal.nD Cert.PrepKernelIdeal.τ).loc Cert.PrepKernelIdeal.main_arg2)) →
    ∃ (v0 : (c : Dev Cert.PrepKernelIdeal.nD) → Buf (Elt Ideal) ((c.tc : Thread Cert.PrepKernelIdeal.nD Cert.PrepKernelIdeal.τ).loc Cert.PrepKernelIdeal.main_v3_0)) (v1 : (c : Dev Cert.PrepKernelIdeal.nD) → Buf (Elt Ideal) ((c.tc : Thread Cert.PrepKernelIdeal.nD Cert.PrepKernelIdeal.τ).loc Cert.PrepKernelIdeal.main_v3_1)),
      θ_run (Cert.PrepKernelIdeal.defs (F := Ideal)) (onTc (τ := Cert.PrepKernelIdeal.τ) (Cert.PrepKernelIdeal.main (F := Ideal))) ⟨m, fun _ => 0, g⟩ (fun r => ∀ c : Dev Cert.PrepKernelIdeal.nD,
          r.2.mem ((c.tc : Thread Cert.PrepKernelIdeal.nD Cert.PrepKernelIdeal.τ).loc Cert.PrepKernelIdeal.main_v3_0) = v0 c
          ∧ r.2.mem ((c.tc : Thread Cert.PrepKernelIdeal.nD Cert.PrepKernelIdeal.τ).loc Cert.PrepKernelIdeal.main_v3_1) = v1 c
          ∧ r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
          ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
          ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v3_0) = v0 c
          ∧ r.2.mem ((c.tc : Thread Cert.PrepReferenceIdeal.nD Cert.PrepReferenceIdeal.τ).loc Cert.PrepReferenceIdeal.main_v3_1) = v1 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2))

def Claim : Prop :=
  ∃ (hKernel : Cert.Kernel.Facts) (hKernelIdeal : Cert.KernelIdeal.Facts) (hReferenceIdeal : Cert.ReferenceIdeal.Facts) (hUpKernel : Cert.UpKernel.Facts) (hUpKernelIdeal : Cert.UpKernelIdeal.Facts) (hUpReferenceIdeal : Cert.UpReferenceIdeal.Facts) (hPrepKernel : Cert.PrepKernel.Facts) (hPrepKernelIdeal : Cert.PrepKernelIdeal.Facts) (hPrepReferenceIdeal : Cert.PrepReferenceIdeal.Facts),
    quiescent_Kernel (hKernel := hKernel)
    ∧ quiescent_KernelIdeal (hKernelIdeal := hKernelIdeal)
    ∧ quiescent_ReferenceIdeal (hReferenceIdeal := hReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_PrepKernel (hPrepKernel := hPrepKernel)
    ∧ quiescent_PrepKernelIdeal (hPrepKernelIdeal := hPrepKernelIdeal)
    ∧ quiescent_PrepReferenceIdeal (hPrepReferenceIdeal := hPrepReferenceIdeal)
    ∧ preserves_Kernel_KernelIdeal
    ∧ algebraic_KernelIdeal_ReferenceIdeal (hKernelIdeal := hKernelIdeal) (hReferenceIdeal := hReferenceIdeal)
    ∧ preserves_UpKernel_UpKernelIdeal
    ∧ algebraic_UpKernelIdeal_UpReferenceIdeal (hUpKernelIdeal := hUpKernelIdeal) (hUpReferenceIdeal := hUpReferenceIdeal)
    ∧ preserves_PrepKernel_PrepKernelIdeal
    ∧ algebraic_PrepKernelIdeal_PrepReferenceIdeal (hPrepKernelIdeal := hPrepKernelIdeal) (hPrepReferenceIdeal := hPrepReferenceIdeal)
-- ==== Kernel.lean ====
abbrev S768x5376 : Shape := ⟨2, ![768, 5376]⟩
abbrev S768 : Shape := ⟨1, ![768]⟩
abbrev S5376x5120 : Shape := ⟨2, ![5376, 5120]⟩
abbrev S5120 : Shape := ⟨1, ![5120]⟩
abbrev S1x5120 : Shape := ⟨2, ![1, 5120]⟩
abbrev S768x1 : Shape := ⟨2, ![768, 1]⟩
abbrev S768x128 : Shape := ⟨2, ![768, 128]⟩
abbrev S768x5120 : Shape := ⟨2, ![768, 5120]⟩
abbrev S10 : Shape := ⟨1, ![10]⟩
abbrev S2x5376x512 : Shape := ⟨3, ![2, 5376, 512]⟩
abbrev S768x512 : Shape := ⟨2, ![768, 512]⟩
abbrev S2x768x512 : Shape := ⟨3, ![2, 768, 512]⟩
abbrev S1 : Shape := ⟨1, ![1]⟩
abbrev S_ : Shape := ⟨0, ![]⟩
abbrev S1x5376x512 : Shape := ⟨3, ![1, 5376, 512]⟩
abbrev S5376x512 : Shape := ⟨2, ![5376, 512]⟩
abbrev S1x768x512 : Shape := ⟨3, ![1, 768, 512]⟩
abbrev S1x256x256 : Shape := ⟨3, ![1, 256, 256]⟩
abbrev S256x256 : Shape := ⟨2, ![256, 256]⟩
abbrev S768x256 : Shape := ⟨2, ![768, 256]⟩
abbrev S1x128 : Shape := ⟨2, ![1, 128]⟩
abbrev S32x128 : Shape := ⟨2, ![32, 128]⟩
abbrev S1x32x128 : Shape := ⟨3, ![1, 32, 128]⟩

abbrev nBuf : Space → Nat
  | .hbm => 8
  | .vmem => 7
  | .smem => 0
  | _ => 0

abbrev bufTy : (tb : Table) → Fin (tcTables nBuf tb) → BufTy
  | .hbm, ⟨0, _⟩ => ⟨S768x5376, .i8⟩
  | .hbm, ⟨1, _⟩ => ⟨S768, .f32⟩
  | .hbm, ⟨2, _⟩ => ⟨S5376x5120, .i8⟩
  | .hbm, ⟨3, _⟩ => ⟨S5120, .f32⟩
  | .hbm, ⟨4, _⟩ => ⟨S1x5120, .f32⟩
  | .hbm, ⟨5, _⟩ => ⟨S768x1, .f32⟩
  | .hbm, ⟨6, _⟩ => ⟨S768x128, .f32⟩
  | .hbm, ⟨7, _⟩ => ⟨S768x5120, .f32⟩
  | .local _ .vmem, ⟨0, _⟩ => ⟨S1x5120, .f32⟩
  | .local _ .vmem, ⟨1, _⟩ => ⟨S768x5376, .i8⟩
  | .local _ .vmem, ⟨2, _⟩ => ⟨S768x128, .f32⟩
  | .local _ .vmem, ⟨3, _⟩ => ⟨S768x5376, .bf16⟩
  | .local _ .vmem, ⟨4, _⟩ => ⟨S2x5376x512, .i8⟩
  | .local _ .vmem, ⟨5, _⟩ => ⟨S768x512, .f32⟩
  | .local _ .vmem, ⟨6, _⟩ => ⟨S2x768x512, .f32⟩
  | _, _ => ⟨S768x5376, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scoped0 : Ref sig .tc := ⟨.vmem, 3, rfl⟩
abbrev cc0_scoped1 : Ref sig .tc := ⟨.vmem, 4, rfl⟩
abbrev cc0_scoped2 : Ref sig .tc := ⟨.vmem, 5, rfl⟩
abbrev cc0_scoped3 : Ref sig .tc := ⟨.vmem, 6, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

def k0_mult1 : BitVec 32 :=
  let c0_i32_r0 : BitVec 32 := 0#32
  c0_i32_r0
@[reducible] def k0_t1_loop : Scf.Loop 32 :=
  let c0_i32_135_r0 : BitVec 32 := 0#32
  let c10_i32_r0 : BitVec 32 := 10#32
  let v216_r0 : BitVec 32 := Scalar.addi c0_i32_135_r0 c10_i32_r0
  let c1_i32_r0 : BitVec 32 := 1#32
  ⟨c0_i32_135_r0, v216_r0, c1_i32_r0⟩
def k0_mult2 (k0_t1 : Fin k0_t1_loop.trips) : BitVec 32 :=
  let c0_i32_135_r0 : BitVec 32 := 0#32
  let c1_i32_r0 : BitVec 32 := 1#32
  let arg6_r0 : BitVec 32 := Scf.iv c0_i32_135_r0 c1_i32_r0 k0_t1
  let c512_i32_r0 : BitVec 32 := 512#32
  let v230_r0 : BitVec 32 := Scalar.muli arg6_r0 c512_i32_r0
  v230_r0
def k0_off1 (k0_t1 : Fin k0_t1_loop.trips) : Fin 1 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  ![v229_r0.toNat]
def k0_off2 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let c0_i32_146_r0 : BitVec 32 := 0#32
  let c0_i32_147_r0 : BitVec 32 := 0#32
  ![v229_r0.toNat, 0, 0]
def k0_off3 (k0_t1 : Fin k0_t1_loop.trips) : Fin 2 → Nat :=
  let c0_i32_148_r0 : BitVec 32 := 0#32
  let c0_i32_135_r0 : BitVec 32 := 0#32
  let c1_i32_r0 : BitVec 32 := 1#32
  let arg6_r0 : BitVec 32 := Scf.iv c0_i32_135_r0 c1_i32_r0 k0_t1
  let c512_i32_r0 : BitVec 32 := 512#32
  let v230_r0 : BitVec 32 := Scalar.muli arg6_r0 c512_i32_r0
  let v231_r0 : BitVec 32 := v230_r0
  ![0, v231_r0.toNat]
def k0_cond1 (k0_t1 : Fin k0_t1_loop.trips) : BitVec 1 :=
  let c0_i32_135_r0 : BitVec 32 := 0#32
  let c1_i32_r0 : BitVec 32 := 1#32
  let arg6_r0 : BitVec 32 := Scf.iv c0_i32_135_r0 c1_i32_r0 k0_t1
  let c1_i32_149_r0 : BitVec 32 := 1#32
  let v237_r0 : BitVec 32 := Scalar.addi arg6_r0 c1_i32_149_r0
  let c10_i32_150_r0 : BitVec 32 := 10#32
  let v238_r0 : BitVec 1 := Scalar.cmpi .slt v237_r0 c10_i32_150_r0
  let v239_r0 : BitVec 32 := Scalar.extui v238_r0
  let c0_i32_151_r0 : BitVec 32 := 0#32
  let v240_r0 : BitVec 1 := Scalar.cmpi .ne v239_r0 c0_i32_151_r0
  v240_r0

def k0_mult3 (k0_t1 : Fin k0_t1_loop.trips) : BitVec 32 :=
  let c0_i32_135_r0 : BitVec 32 := 0#32
  let c1_i32_r0 : BitVec 32 := 1#32
  let arg6_r0 : BitVec 32 := Scf.iv c0_i32_135_r0 c1_i32_r0 k0_t1
  let c1_i32_939_r0 : BitVec 32 := 1#32
  let v1534_r0 : BitVec 32 := Scalar.addi arg6_r0 c1_i32_939_r0
  let c512_i32_941_r0 : BitVec 32 := 512#32
  let v1536_r0 : BitVec 32 := Scalar.muli v1534_r0 c512_i32_941_r0
  v1536_r0
def k0_off4 (k0_t1 : Fin k0_t1_loop.trips) : Fin 1 → Nat :=
  let c1_i32_940_r0 : BitVec 32 := 1#32
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1535_r0 : BitVec 32 := Scalar.subi c1_i32_940_r0 v229_r0
  ![v1535_r0.toNat]
def k0_off5 (k0_t1 : Fin k0_t1_loop.trips) : Fin 3 → Nat :=
  let c1_i32_940_r0 : BitVec 32 := 1#32
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1535_r0 : BitVec 32 := Scalar.subi c1_i32_940_r0 v229_r0
  let c0_i32_942_r0 : BitVec 32 := 0#32
  let c0_i32_943_r0 : BitVec 32 := 0#32
  ![v1535_r0.toNat, 0, 0]
def k0_off6 (k0_t1 : Fin k0_t1_loop.trips) : Fin 2 → Nat :=
  let c0_i32_944_r0 : BitVec 32 := 0#32
  let c0_i32_135_r0 : BitVec 32 := 0#32
  let c1_i32_r0 : BitVec 32 := 1#32
  let arg6_r0 : BitVec 32 := Scf.iv c0_i32_135_r0 c1_i32_r0 k0_t1
  let c1_i32_939_r0 : BitVec 32 := 1#32
  let v1534_r0 : BitVec 32 := Scalar.addi arg6_r0 c1_i32_939_r0
  let c512_i32_941_r0 : BitVec 32 := 512#32
  let v1536_r0 : BitVec 32 := Scalar.muli v1534_r0 c512_i32_941_r0
  let v1537_r0 : BitVec 32 := v1536_r0
  ![0, v1537_r0.toNat]
def k0_cond2 (k0_t1 : Fin k0_t1_loop.trips) : BitVec 1 :=
  let c0_i32_135_r0 : BitVec 32 := 0#32
  let c1_i32_r0 : BitVec 32 := 1#32
  let arg6_r0 : BitVec 32 := Scf.iv c0_i32_135_r0 c1_i32_r0 k0_t1
  let c1_i32_152_r0 : BitVec 32 := 1#32
  let v241_r0 : BitVec 1 := Scalar.cmpi .sgt arg6_r0 c1_i32_152_r0
  let v242_r0 : BitVec 32 := Scalar.extui v241_r0
  let c0_i32_153_r0 : BitVec 32 := 0#32
  let v243_r0 : BitVec 1 := Scalar.cmpi .ne v242_r0 c0_i32_153_r0
  v243_r0

def k0_mult4 (k0_t1 : Fin k0_t1_loop.trips) : BitVec 32 :=
  let c0_i32_135_r0 : BitVec 32 := 0#32
  let c1_i32_r0 : BitVec 32 := 1#32
  let arg6_r0 : BitVec 32 := Scf.iv c0_i32_135_r0 c1_i32_r0 k0_t1
  let c2_i32_r0 : BitVec 32 := 2#32
  let v1534_r0 : BitVec 32 := Scalar.subi arg6_r0 c2_i32_r0
  let c512_i32_939_r0 : BitVec 32 := 512#32
  let v1535_r0 : BitVec 32 := Scalar.muli v1534_r0 c512_i32_939_r0
  v1535_r0
def k0_off7 (k0_t1 : Fin k0_t1_loop.trips) : Fin 1 → Nat :=
  let c5_i32_940_r0 : BitVec 32 := 5#32
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1537_r0 : BitVec 32 := Scalar.addi c5_i32_940_r0 v229_r0
  ![v1537_r0.toNat]
def k0_off8 (k0_t1 : Fin k0_t1_loop.trips) : Fin 2 → Nat :=
  let c0_i32_941_r0 : BitVec 32 := 0#32
  let c0_i32_135_r0 : BitVec 32 := 0#32
  let c1_i32_r0 : BitVec 32 := 1#32
  let arg6_r0 : BitVec 32 := Scf.iv c0_i32_135_r0 c1_i32_r0 k0_t1
  let c2_i32_r0 : BitVec 32 := 2#32
  let v1534_r0 : BitVec 32 := Scalar.subi arg6_r0 c2_i32_r0
  let c512_i32_939_r0 : BitVec 32 := 512#32
  let v1535_r0 : BitVec 32 := Scalar.muli v1534_r0 c512_i32_939_r0
  let v1536_r0 : BitVec 32 := v1535_r0
  ![0, v1536_r0.toNat]
def k0_off9 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let c0_i32_942_r0 : BitVec 32 := 0#32
  let c0_i32_943_r0 : BitVec 32 := 0#32
  ![v229_r0.toNat, 0, 0]
def k0_off10 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v244_r0 : Index := Scalar.indexCast v229_r0
  let c0_154_r0 : Index := 0#32
  let c0_155_r0 : Index := 0#32
  ![v244_r0.toNat, 0, 0]
def k0_off11 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v250_r0 : Index := Scalar.indexCast v229_r0
  let c256_158_r0 : Index := 256#32
  let c0_159_r0 : Index := 0#32
  ![v250_r0.toNat, 256, 0]
def k0_off12 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v257_r0 : Index := Scalar.indexCast v229_r0
  let c512_163_r0 : Index := 512#32
  let c0_164_r0 : Index := 0#32
  ![v257_r0.toNat, 512, 0]
def k0_off13 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v264_r0 : Index := Scalar.indexCast v229_r0
  let c768_168_r0 : Index := 768#32
  let c0_169_r0 : Index := 0#32
  ![v264_r0.toNat, 768, 0]
def k0_off14 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v271_r0 : Index := Scalar.indexCast v229_r0
  let c1024_173_r0 : Index := 1024#32
  let c0_174_r0 : Index := 0#32
  ![v271_r0.toNat, 1024, 0]
def k0_off15 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v278_r0 : Index := Scalar.indexCast v229_r0
  let c1280_178_r0 : Index := 1280#32
  let c0_179_r0 : Index := 0#32
  ![v278_r0.toNat, 1280, 0]
def k0_off16 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v285_r0 : Index := Scalar.indexCast v229_r0
  let c1536_183_r0 : Index := 1536#32
  let c0_184_r0 : Index := 0#32
  ![v285_r0.toNat, 1536, 0]
def k0_off17 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v292_r0 : Index := Scalar.indexCast v229_r0
  let c1792_188_r0 : Index := 1792#32
  let c0_189_r0 : Index := 0#32
  ![v292_r0.toNat, 1792, 0]
def k0_off18 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v299_r0 : Index := Scalar.indexCast v229_r0
  let c2048_193_r0 : Index := 2048#32
  let c0_194_r0 : Index := 0#32
  ![v299_r0.toNat, 2048, 0]
def k0_off19 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v306_r0 : Index := Scalar.indexCast v229_r0
  let c2304_198_r0 : Index := 2304#32
  let c0_199_r0 : Index := 0#32
  ![v306_r0.toNat, 2304, 0]
def k0_off20 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v313_r0 : Index := Scalar.indexCast v229_r0
  let c2560_203_r0 : Index := 2560#32
  let c0_204_r0 : Index := 0#32
  ![v313_r0.toNat, 2560, 0]
def k0_off21 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v320_r0 : Index := Scalar.indexCast v229_r0
  let c2816_208_r0 : Index := 2816#32
  let c0_209_r0 : Index := 0#32
  ![v320_r0.toNat, 2816, 0]
def k0_off22 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v327_r0 : Index := Scalar.indexCast v229_r0
  let c3072_213_r0 : Index := 3072#32
  let c0_214_r0 : Index := 0#32
  ![v327_r0.toNat, 3072, 0]
def k0_off23 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v334_r0 : Index := Scalar.indexCast v229_r0
  let c3328_218_r0 : Index := 3328#32
  let c0_219_r0 : Index := 0#32
  ![v334_r0.toNat, 3328, 0]
def k0_off24 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v341_r0 : Index := Scalar.indexCast v229_r0
  let c3584_223_r0 : Index := 3584#32
  let c0_224_r0 : Index := 0#32
  ![v341_r0.toNat, 3584, 0]
def k0_off25 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v348_r0 : Index := Scalar.indexCast v229_r0
  let c3840_228_r0 : Index := 3840#32
  let c0_229_r0 : Index := 0#32
  ![v348_r0.toNat, 3840, 0]
def k0_off26 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v355_r0 : Index := Scalar.indexCast v229_r0
  let c4096_233_r0 : Index := 4096#32
  let c0_234_r0 : Index := 0#32
  ![v355_r0.toNat, 4096, 0]
def k0_off27 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v362_r0 : Index := Scalar.indexCast v229_r0
  let c4352_238_r0 : Index := 4352#32
  let c0_239_r0 : Index := 0#32
  ![v362_r0.toNat, 4352, 0]
def k0_off28 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v369_r0 : Index := Scalar.indexCast v229_r0
  let c4608_243_r0 : Index := 4608#32
  let c0_244_r0 : Index := 0#32
  ![v369_r0.toNat, 4608, 0]
def k0_off29 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v376_r0 : Index := Scalar.indexCast v229_r0
  let c4864_248_r0 : Index := 4864#32
  let c0_249_r0 : Index := 0#32
  ![v376_r0.toNat, 4864, 0]
def k0_off30 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v383_r0 : Index := Scalar.indexCast v229_r0
  let c5120_253_r0 : Index := 5120#32
  let c0_254_r0 : Index := 0#32
  ![v383_r0.toNat, 5120, 0]
def k0_off31 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v393_r0 : Index := Scalar.indexCast v229_r0
  let c0_260_r0 : Index := 0#32
  let c256_261_r0 : Index := 256#32
  ![v393_r0.toNat, 0, 256]
def k0_off32 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v399_r0 : Index := Scalar.indexCast v229_r0
  let c256_265_r0 : Index := 256#32
  let c256_266_r0 : Index := 256#32
  ![v399_r0.toNat, 256, 256]
def k0_off33 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v406_r0 : Index := Scalar.indexCast v229_r0
  let c512_270_r0 : Index := 512#32
  let c256_271_r0 : Index := 256#32
  ![v406_r0.toNat, 512, 256]
def k0_off34 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v413_r0 : Index := Scalar.indexCast v229_r0
  let c768_275_r0 : Index := 768#32
  let c256_276_r0 : Index := 256#32
  ![v413_r0.toNat, 768, 256]
def k0_off35 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v420_r0 : Index := Scalar.indexCast v229_r0
  let c1024_280_r0 : Index := 1024#32
  let c256_281_r0 : Index := 256#32
  ![v420_r0.toNat, 1024, 256]
def k0_off36 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v427_r0 : Index := Scalar.indexCast v229_r0
  let c1280_285_r0 : Index := 1280#32
  let c256_286_r0 : Index := 256#32
  ![v427_r0.toNat, 1280, 256]
def k0_off37 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v434_r0 : Index := Scalar.indexCast v229_r0
  let c1536_290_r0 : Index := 1536#32
  let c256_291_r0 : Index := 256#32
  ![v434_r0.toNat, 1536, 256]
def k0_off38 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v441_r0 : Index := Scalar.indexCast v229_r0
  let c1792_295_r0 : Index := 1792#32
  let c256_296_r0 : Index := 256#32
  ![v441_r0.toNat, 1792, 256]
def k0_off39 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v448_r0 : Index := Scalar.indexCast v229_r0
  let c2048_300_r0 : Index := 2048#32
  let c256_301_r0 : Index := 256#32
  ![v448_r0.toNat, 2048, 256]
def k0_off40 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v455_r0 : Index := Scalar.indexCast v229_r0
  let c2304_305_r0 : Index := 2304#32
  let c256_306_r0 : Index := 256#32
  ![v455_r0.toNat, 2304, 256]
def k0_off41 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v462_r0 : Index := Scalar.indexCast v229_r0
  let c2560_310_r0 : Index := 2560#32
  let c256_311_r0 : Index := 256#32
  ![v462_r0.toNat, 2560, 256]
def k0_off42 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v469_r0 : Index := Scalar.indexCast v229_r0
  let c2816_315_r0 : Index := 2816#32
  let c256_316_r0 : Index := 256#32
  ![v469_r0.toNat, 2816, 256]
def k0_off43 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v476_r0 : Index := Scalar.indexCast v229_r0
  let c3072_320_r0 : Index := 3072#32
  let c256_321_r0 : Index := 256#32
  ![v476_r0.toNat, 3072, 256]
def k0_off44 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v483_r0 : Index := Scalar.indexCast v229_r0
  let c3328_325_r0 : Index := 3328#32
  let c256_326_r0 : Index := 256#32
  ![v483_r0.toNat, 3328, 256]
def k0_off45 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v490_r0 : Index := Scalar.indexCast v229_r0
  let c3584_330_r0 : Index := 3584#32
  let c256_331_r0 : Index := 256#32
  ![v490_r0.toNat, 3584, 256]
def k0_off46 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v497_r0 : Index := Scalar.indexCast v229_r0
  let c3840_335_r0 : Index := 3840#32
  let c256_336_r0 : Index := 256#32
  ![v497_r0.toNat, 3840, 256]
def k0_off47 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v504_r0 : Index := Scalar.indexCast v229_r0
  let c4096_340_r0 : Index := 4096#32
  let c256_341_r0 : Index := 256#32
  ![v504_r0.toNat, 4096, 256]
def k0_off48 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v511_r0 : Index := Scalar.indexCast v229_r0
  let c4352_345_r0 : Index := 4352#32
  let c256_346_r0 : Index := 256#32
  ![v511_r0.toNat, 4352, 256]
def k0_off49 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v518_r0 : Index := Scalar.indexCast v229_r0
  let c4608_350_r0 : Index := 4608#32
  let c256_351_r0 : Index := 256#32
  ![v518_r0.toNat, 4608, 256]
def k0_off50 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v525_r0 : Index := Scalar.indexCast v229_r0
  let c4864_355_r0 : Index := 4864#32
  let c256_356_r0 : Index := 256#32
  ![v525_r0.toNat, 4864, 256]
def k0_off51 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v532_r0 : Index := Scalar.indexCast v229_r0
  let c5120_360_r0 : Index := 5120#32
  let c256_361_r0 : Index := 256#32
  ![v532_r0.toNat, 5120, 256]
def k0_mult5 (k0_t1 : Fin k0_t1_loop.trips) : BitVec 32 :=
  let c0_i32_135_r0 : BitVec 32 := 0#32
  let c1_i32_r0 : BitVec 32 := 1#32
  let arg6_r0 : BitVec 32 := Scf.iv c0_i32_135_r0 c1_i32_r0 k0_t1
  let c512_i32_367_r0 : BitVec 32 := 512#32
  let v542_r0 : BitVec 32 := Scalar.muli arg6_r0 c512_i32_367_r0
  v542_r0
def k0_off52 (k0_t1 : Fin k0_t1_loop.trips) (c0_i32_368_r0 : BitVec 32) : Fin 2 → Nat :=
  let c0_369_r0 : Index := 0#32
  let c0_i32_135_r0 : BitVec 32 := 0#32
  let c1_i32_r0 : BitVec 32 := 1#32
  let arg6_r0 : BitVec 32 := Scf.iv c0_i32_135_r0 c1_i32_r0 k0_t1
  let c512_i32_367_r0 : BitVec 32 := 512#32
  let v542_r0 : BitVec 32 := Scalar.muli arg6_r0 c512_i32_367_r0
  let v543_r0 : BitVec 32 := v542_r0
  let v544_r0 : BitVec 32 := Scalar.addi v543_r0 c0_i32_368_r0
  let v545_r0 : Index := Scalar.indexCast v544_r0
  ![0, v545_r0.toNat]
def k0_off53 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v554_r0 : Index := Scalar.indexCast v229_r0
  let c0_374_r0 : Index := 0#32
  let c0_375_r0 : Index := 0#32
  ![v554_r0.toNat, 0, 0]
def k0_off54 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v564_r0 : Index := Scalar.indexCast v229_r0
  let c32_379_r0 : Index := 32#32
  let c0_380_r0 : Index := 0#32
  ![v564_r0.toNat, 32, 0]
def k0_off55 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v574_r0 : Index := Scalar.indexCast v229_r0
  let c64_384_r0 : Index := 64#32
  let c0_385_r0 : Index := 0#32
  ![v574_r0.toNat, 64, 0]
def k0_off56 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v584_r0 : Index := Scalar.indexCast v229_r0
  let c96_389_r0 : Index := 96#32
  let c0_390_r0 : Index := 0#32
  ![v584_r0.toNat, 96, 0]
def k0_off57 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v594_r0 : Index := Scalar.indexCast v229_r0
  let c128_395_r0 : Index := 128#32
  let c0_396_r0 : Index := 0#32
  ![v594_r0.toNat, 128, 0]
def k0_off58 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v604_r0 : Index := Scalar.indexCast v229_r0
  let c160_400_r0 : Index := 160#32
  let c0_401_r0 : Index := 0#32
  ![v604_r0.toNat, 160, 0]
def k0_off59 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v614_r0 : Index := Scalar.indexCast v229_r0
  let c192_405_r0 : Index := 192#32
  let c0_406_r0 : Index := 0#32
  ![v614_r0.toNat, 192, 0]
def k0_off60 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v624_r0 : Index := Scalar.indexCast v229_r0
  let c224_410_r0 : Index := 224#32
  let c0_411_r0 : Index := 0#32
  ![v624_r0.toNat, 224, 0]
def k0_off61 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v634_r0 : Index := Scalar.indexCast v229_r0
  let c256_416_r0 : Index := 256#32
  let c0_417_r0 : Index := 0#32
  ![v634_r0.toNat, 256, 0]
def k0_off62 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v644_r0 : Index := Scalar.indexCast v229_r0
  let c288_421_r0 : Index := 288#32
  let c0_422_r0 : Index := 0#32
  ![v644_r0.toNat, 288, 0]
def k0_off63 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v654_r0 : Index := Scalar.indexCast v229_r0
  let c320_426_r0 : Index := 320#32
  let c0_427_r0 : Index := 0#32
  ![v654_r0.toNat, 320, 0]
def k0_off64 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v664_r0 : Index := Scalar.indexCast v229_r0
  let c352_431_r0 : Index := 352#32
  let c0_432_r0 : Index := 0#32
  ![v664_r0.toNat, 352, 0]
def k0_off65 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v674_r0 : Index := Scalar.indexCast v229_r0
  let c384_437_r0 : Index := 384#32
  let c0_438_r0 : Index := 0#32
  ![v674_r0.toNat, 384, 0]
def k0_off66 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v684_r0 : Index := Scalar.indexCast v229_r0
  let c416_442_r0 : Index := 416#32
  let c0_443_r0 : Index := 0#32
  ![v684_r0.toNat, 416, 0]
def k0_off67 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v694_r0 : Index := Scalar.indexCast v229_r0
  let c448_447_r0 : Index := 448#32
  let c0_448_r0 : Index := 0#32
  ![v694_r0.toNat, 448, 0]
def k0_off68 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v704_r0 : Index := Scalar.indexCast v229_r0
  let c480_452_r0 : Index := 480#32
  let c0_453_r0 : Index := 0#32
  ![v704_r0.toNat, 480, 0]
def k0_off69 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v714_r0 : Index := Scalar.indexCast v229_r0
  let c512_458_r0 : Index := 512#32
  let c0_459_r0 : Index := 0#32
  ![v714_r0.toNat, 512, 0]
def k0_off70 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v724_r0 : Index := Scalar.indexCast v229_r0
  let c544_463_r0 : Index := 544#32
  let c0_464_r0 : Index := 0#32
  ![v724_r0.toNat, 544, 0]
def k0_off71 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v734_r0 : Index := Scalar.indexCast v229_r0
  let c576_468_r0 : Index := 576#32
  let c0_469_r0 : Index := 0#32
  ![v734_r0.toNat, 576, 0]
def k0_off72 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v744_r0 : Index := Scalar.indexCast v229_r0
  let c608_473_r0 : Index := 608#32
  let c0_474_r0 : Index := 0#32
  ![v744_r0.toNat, 608, 0]
def k0_off73 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v754_r0 : Index := Scalar.indexCast v229_r0
  let c640_479_r0 : Index := 640#32
  let c0_480_r0 : Index := 0#32
  ![v754_r0.toNat, 640, 0]
def k0_off74 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v764_r0 : Index := Scalar.indexCast v229_r0
  let c672_484_r0 : Index := 672#32
  let c0_485_r0 : Index := 0#32
  ![v764_r0.toNat, 672, 0]
def k0_off75 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v774_r0 : Index := Scalar.indexCast v229_r0
  let c704_489_r0 : Index := 704#32
  let c0_490_r0 : Index := 0#32
  ![v774_r0.toNat, 704, 0]
def k0_off76 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v784_r0 : Index := Scalar.indexCast v229_r0
  let c736_494_r0 : Index := 736#32
  let c0_495_r0 : Index := 0#32
  ![v784_r0.toNat, 736, 0]
def k0_mult6 (k0_t1 : Fin k0_t1_loop.trips) : BitVec 32 :=
  let c0_i32_135_r0 : BitVec 32 := 0#32
  let c1_i32_r0 : BitVec 32 := 1#32
  let arg6_r0 : BitVec 32 := Scf.iv c0_i32_135_r0 c1_i32_r0 k0_t1
  let c512_i32_496_r0 : BitVec 32 := 512#32
  let v788_r0 : BitVec 32 := Scalar.muli arg6_r0 c512_i32_496_r0
  v788_r0
def k0_off77 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v800_r0 : Index := Scalar.indexCast v229_r0
  let c0_502_r0 : Index := 0#32
  let c128_503_r0 : Index := 128#32
  ![v800_r0.toNat, 0, 128]
def k0_off78 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v810_r0 : Index := Scalar.indexCast v229_r0
  let c32_508_r0 : Index := 32#32
  let c128_509_r0 : Index := 128#32
  ![v810_r0.toNat, 32, 128]
def k0_off79 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v820_r0 : Index := Scalar.indexCast v229_r0
  let c64_514_r0 : Index := 64#32
  let c128_515_r0 : Index := 128#32
  ![v820_r0.toNat, 64, 128]
def k0_off80 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v830_r0 : Index := Scalar.indexCast v229_r0
  let c96_520_r0 : Index := 96#32
  let c128_521_r0 : Index := 128#32
  ![v830_r0.toNat, 96, 128]
def k0_off81 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v840_r0 : Index := Scalar.indexCast v229_r0
  let c128_526_r0 : Index := 128#32
  let c128_527_r0 : Index := 128#32
  ![v840_r0.toNat, 128, 128]
def k0_off82 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v850_r0 : Index := Scalar.indexCast v229_r0
  let c160_532_r0 : Index := 160#32
  let c128_533_r0 : Index := 128#32
  ![v850_r0.toNat, 160, 128]
def k0_off83 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v860_r0 : Index := Scalar.indexCast v229_r0
  let c192_538_r0 : Index := 192#32
  let c128_539_r0 : Index := 128#32
  ![v860_r0.toNat, 192, 128]
def k0_off84 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v870_r0 : Index := Scalar.indexCast v229_r0
  let c224_544_r0 : Index := 224#32
  let c128_545_r0 : Index := 128#32
  ![v870_r0.toNat, 224, 128]
def k0_off85 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v880_r0 : Index := Scalar.indexCast v229_r0
  let c256_550_r0 : Index := 256#32
  let c128_551_r0 : Index := 128#32
  ![v880_r0.toNat, 256, 128]
def k0_off86 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v890_r0 : Index := Scalar.indexCast v229_r0
  let c288_556_r0 : Index := 288#32
  let c128_557_r0 : Index := 128#32
  ![v890_r0.toNat, 288, 128]
def k0_off87 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v900_r0 : Index := Scalar.indexCast v229_r0
  let c320_562_r0 : Index := 320#32
  let c128_563_r0 : Index := 128#32
  ![v900_r0.toNat, 320, 128]
def k0_off88 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v910_r0 : Index := Scalar.indexCast v229_r0
  let c352_568_r0 : Index := 352#32
  let c128_569_r0 : Index := 128#32
  ![v910_r0.toNat, 352, 128]
def k0_off89 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v920_r0 : Index := Scalar.indexCast v229_r0
  let c384_574_r0 : Index := 384#32
  let c128_575_r0 : Index := 128#32
  ![v920_r0.toNat, 384, 128]
def k0_off90 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v930_r0 : Index := Scalar.indexCast v229_r0
  let c416_580_r0 : Index := 416#32
  let c128_581_r0 : Index := 128#32
  ![v930_r0.toNat, 416, 128]
def k0_off91 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v940_r0 : Index := Scalar.indexCast v229_r0
  let c448_586_r0 : Index := 448#32
  let c128_587_r0 : Index := 128#32
  ![v940_r0.toNat, 448, 128]
def k0_off92 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v950_r0 : Index := Scalar.indexCast v229_r0
  let c480_592_r0 : Index := 480#32
  let c128_593_r0 : Index := 128#32
  ![v950_r0.toNat, 480, 128]
def k0_off93 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v960_r0 : Index := Scalar.indexCast v229_r0
  let c512_598_r0 : Index := 512#32
  let c128_599_r0 : Index := 128#32
  ![v960_r0.toNat, 512, 128]
def k0_off94 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v970_r0 : Index := Scalar.indexCast v229_r0
  let c544_604_r0 : Index := 544#32
  let c128_605_r0 : Index := 128#32
  ![v970_r0.toNat, 544, 128]
def k0_off95 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v980_r0 : Index := Scalar.indexCast v229_r0
  let c576_610_r0 : Index := 576#32
  let c128_611_r0 : Index := 128#32
  ![v980_r0.toNat, 576, 128]
def k0_off96 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v990_r0 : Index := Scalar.indexCast v229_r0
  let c608_616_r0 : Index := 608#32
  let c128_617_r0 : Index := 128#32
  ![v990_r0.toNat, 608, 128]
def k0_off97 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1000_r0 : Index := Scalar.indexCast v229_r0
  let c640_622_r0 : Index := 640#32
  let c128_623_r0 : Index := 128#32
  ![v1000_r0.toNat, 640, 128]
def k0_off98 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1010_r0 : Index := Scalar.indexCast v229_r0
  let c672_628_r0 : Index := 672#32
  let c128_629_r0 : Index := 128#32
  ![v1010_r0.toNat, 672, 128]
def k0_off99 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1020_r0 : Index := Scalar.indexCast v229_r0
  let c704_634_r0 : Index := 704#32
  let c128_635_r0 : Index := 128#32
  ![v1020_r0.toNat, 704, 128]
def k0_off100 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1030_r0 : Index := Scalar.indexCast v229_r0
  let c736_640_r0 : Index := 736#32
  let c128_641_r0 : Index := 128#32
  ![v1030_r0.toNat, 736, 128]
def k0_mult7 (k0_t1 : Fin k0_t1_loop.trips) : BitVec 32 :=
  let c0_i32_135_r0 : BitVec 32 := 0#32
  let c1_i32_r0 : BitVec 32 := 1#32
  let arg6_r0 : BitVec 32 := Scf.iv c0_i32_135_r0 c1_i32_r0 k0_t1
  let c512_i32_642_r0 : BitVec 32 := 512#32
  let v1034_r0 : BitVec 32 := Scalar.muli arg6_r0 c512_i32_642_r0
  v1034_r0
def k0_off101 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1046_r0 : Index := Scalar.indexCast v229_r0
  let c0_648_r0 : Index := 0#32
  let c256_649_r0 : Index := 256#32
  ![v1046_r0.toNat, 0, 256]
def k0_off102 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1056_r0 : Index := Scalar.indexCast v229_r0
  let c32_654_r0 : Index := 32#32
  let c256_655_r0 : Index := 256#32
  ![v1056_r0.toNat, 32, 256]
def k0_off103 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1066_r0 : Index := Scalar.indexCast v229_r0
  let c64_660_r0 : Index := 64#32
  let c256_661_r0 : Index := 256#32
  ![v1066_r0.toNat, 64, 256]
def k0_off104 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1076_r0 : Index := Scalar.indexCast v229_r0
  let c96_666_r0 : Index := 96#32
  let c256_667_r0 : Index := 256#32
  ![v1076_r0.toNat, 96, 256]
def k0_off105 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1086_r0 : Index := Scalar.indexCast v229_r0
  let c128_672_r0 : Index := 128#32
  let c256_673_r0 : Index := 256#32
  ![v1086_r0.toNat, 128, 256]
def k0_off106 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1096_r0 : Index := Scalar.indexCast v229_r0
  let c160_678_r0 : Index := 160#32
  let c256_679_r0 : Index := 256#32
  ![v1096_r0.toNat, 160, 256]
def k0_off107 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1106_r0 : Index := Scalar.indexCast v229_r0
  let c192_684_r0 : Index := 192#32
  let c256_685_r0 : Index := 256#32
  ![v1106_r0.toNat, 192, 256]
def k0_off108 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1116_r0 : Index := Scalar.indexCast v229_r0
  let c224_690_r0 : Index := 224#32
  let c256_691_r0 : Index := 256#32
  ![v1116_r0.toNat, 224, 256]
def k0_off109 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1126_r0 : Index := Scalar.indexCast v229_r0
  let c256_696_r0 : Index := 256#32
  let c256_697_r0 : Index := 256#32
  ![v1126_r0.toNat, 256, 256]
def k0_off110 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1136_r0 : Index := Scalar.indexCast v229_r0
  let c288_702_r0 : Index := 288#32
  let c256_703_r0 : Index := 256#32
  ![v1136_r0.toNat, 288, 256]
def k0_off111 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1146_r0 : Index := Scalar.indexCast v229_r0
  let c320_708_r0 : Index := 320#32
  let c256_709_r0 : Index := 256#32
  ![v1146_r0.toNat, 320, 256]
def k0_off112 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1156_r0 : Index := Scalar.indexCast v229_r0
  let c352_714_r0 : Index := 352#32
  let c256_715_r0 : Index := 256#32
  ![v1156_r0.toNat, 352, 256]
def k0_off113 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1166_r0 : Index := Scalar.indexCast v229_r0
  let c384_720_r0 : Index := 384#32
  let c256_721_r0 : Index := 256#32
  ![v1166_r0.toNat, 384, 256]
def k0_off114 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1176_r0 : Index := Scalar.indexCast v229_r0
  let c416_726_r0 : Index := 416#32
  let c256_727_r0 : Index := 256#32
  ![v1176_r0.toNat, 416, 256]
def k0_off115 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1186_r0 : Index := Scalar.indexCast v229_r0
  let c448_732_r0 : Index := 448#32
  let c256_733_r0 : Index := 256#32
  ![v1186_r0.toNat, 448, 256]
def k0_off116 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1196_r0 : Index := Scalar.indexCast v229_r0
  let c480_738_r0 : Index := 480#32
  let c256_739_r0 : Index := 256#32
  ![v1196_r0.toNat, 480, 256]
def k0_off117 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1206_r0 : Index := Scalar.indexCast v229_r0
  let c512_744_r0 : Index := 512#32
  let c256_745_r0 : Index := 256#32
  ![v1206_r0.toNat, 512, 256]
def k0_off118 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1216_r0 : Index := Scalar.indexCast v229_r0
  let c544_750_r0 : Index := 544#32
  let c256_751_r0 : Index := 256#32
  ![v1216_r0.toNat, 544, 256]
def k0_off119 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1226_r0 : Index := Scalar.indexCast v229_r0
  let c576_756_r0 : Index := 576#32
  let c256_757_r0 : Index := 256#32
  ![v1226_r0.toNat, 576, 256]
def k0_off120 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1236_r0 : Index := Scalar.indexCast v229_r0
  let c608_762_r0 : Index := 608#32
  let c256_763_r0 : Index := 256#32
  ![v1236_r0.toNat, 608, 256]
def k0_off121 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1246_r0 : Index := Scalar.indexCast v229_r0
  let c640_768_r0 : Index := 640#32
  let c256_769_r0 : Index := 256#32
  ![v1246_r0.toNat, 640, 256]
def k0_off122 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1256_r0 : Index := Scalar.indexCast v229_r0
  let c672_774_r0 : Index := 672#32
  let c256_775_r0 : Index := 256#32
  ![v1256_r0.toNat, 672, 256]
def k0_off123 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1266_r0 : Index := Scalar.indexCast v229_r0
  let c704_780_r0 : Index := 704#32
  let c256_781_r0 : Index := 256#32
  ![v1266_r0.toNat, 704, 256]
def k0_off124 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1276_r0 : Index := Scalar.indexCast v229_r0
  let c736_786_r0 : Index := 736#32
  let c256_787_r0 : Index := 256#32
  ![v1276_r0.toNat, 736, 256]
def k0_mult8 (k0_t1 : Fin k0_t1_loop.trips) : BitVec 32 :=
  let c0_i32_135_r0 : BitVec 32 := 0#32
  let c1_i32_r0 : BitVec 32 := 1#32
  let arg6_r0 : BitVec 32 := Scf.iv c0_i32_135_r0 c1_i32_r0 k0_t1
  let c512_i32_788_r0 : BitVec 32 := 512#32
  let v1280_r0 : BitVec 32 := Scalar.muli arg6_r0 c512_i32_788_r0
  v1280_r0
def k0_off125 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1292_r0 : Index := Scalar.indexCast v229_r0
  let c0_794_r0 : Index := 0#32
  let c384_795_r0 : Index := 384#32
  ![v1292_r0.toNat, 0, 384]
def k0_off126 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1302_r0 : Index := Scalar.indexCast v229_r0
  let c32_800_r0 : Index := 32#32
  let c384_801_r0 : Index := 384#32
  ![v1302_r0.toNat, 32, 384]
def k0_off127 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1312_r0 : Index := Scalar.indexCast v229_r0
  let c64_806_r0 : Index := 64#32
  let c384_807_r0 : Index := 384#32
  ![v1312_r0.toNat, 64, 384]
def k0_off128 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1322_r0 : Index := Scalar.indexCast v229_r0
  let c96_812_r0 : Index := 96#32
  let c384_813_r0 : Index := 384#32
  ![v1322_r0.toNat, 96, 384]
def k0_off129 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1332_r0 : Index := Scalar.indexCast v229_r0
  let c128_818_r0 : Index := 128#32
  let c384_819_r0 : Index := 384#32
  ![v1332_r0.toNat, 128, 384]
def k0_off130 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1342_r0 : Index := Scalar.indexCast v229_r0
  let c160_824_r0 : Index := 160#32
  let c384_825_r0 : Index := 384#32
  ![v1342_r0.toNat, 160, 384]
def k0_off131 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1352_r0 : Index := Scalar.indexCast v229_r0
  let c192_830_r0 : Index := 192#32
  let c384_831_r0 : Index := 384#32
  ![v1352_r0.toNat, 192, 384]
def k0_off132 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1362_r0 : Index := Scalar.indexCast v229_r0
  let c224_836_r0 : Index := 224#32
  let c384_837_r0 : Index := 384#32
  ![v1362_r0.toNat, 224, 384]
def k0_off133 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1372_r0 : Index := Scalar.indexCast v229_r0
  let c256_842_r0 : Index := 256#32
  let c384_843_r0 : Index := 384#32
  ![v1372_r0.toNat, 256, 384]
def k0_off134 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1382_r0 : Index := Scalar.indexCast v229_r0
  let c288_848_r0 : Index := 288#32
  let c384_849_r0 : Index := 384#32
  ![v1382_r0.toNat, 288, 384]
def k0_off135 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1392_r0 : Index := Scalar.indexCast v229_r0
  let c320_854_r0 : Index := 320#32
  let c384_855_r0 : Index := 384#32
  ![v1392_r0.toNat, 320, 384]
def k0_off136 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1402_r0 : Index := Scalar.indexCast v229_r0
  let c352_860_r0 : Index := 352#32
  let c384_861_r0 : Index := 384#32
  ![v1402_r0.toNat, 352, 384]
def k0_off137 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1412_r0 : Index := Scalar.indexCast v229_r0
  let c384_866_r0 : Index := 384#32
  let c384_867_r0 : Index := 384#32
  ![v1412_r0.toNat, 384, 384]
def k0_off138 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1422_r0 : Index := Scalar.indexCast v229_r0
  let c416_872_r0 : Index := 416#32
  let c384_873_r0 : Index := 384#32
  ![v1422_r0.toNat, 416, 384]
def k0_off139 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1432_r0 : Index := Scalar.indexCast v229_r0
  let c448_878_r0 : Index := 448#32
  let c384_879_r0 : Index := 384#32
  ![v1432_r0.toNat, 448, 384]
def k0_off140 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1442_r0 : Index := Scalar.indexCast v229_r0
  let c480_884_r0 : Index := 480#32
  let c384_885_r0 : Index := 384#32
  ![v1442_r0.toNat, 480, 384]
def k0_off141 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1452_r0 : Index := Scalar.indexCast v229_r0
  let c512_890_r0 : Index := 512#32
  let c384_891_r0 : Index := 384#32
  ![v1452_r0.toNat, 512, 384]
def k0_off142 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1462_r0 : Index := Scalar.indexCast v229_r0
  let c544_896_r0 : Index := 544#32
  let c384_897_r0 : Index := 384#32
  ![v1462_r0.toNat, 544, 384]
def k0_off143 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1472_r0 : Index := Scalar.indexCast v229_r0
  let c576_902_r0 : Index := 576#32
  let c384_903_r0 : Index := 384#32
  ![v1472_r0.toNat, 576, 384]
def k0_off144 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1482_r0 : Index := Scalar.indexCast v229_r0
  let c608_908_r0 : Index := 608#32
  let c384_909_r0 : Index := 384#32
  ![v1482_r0.toNat, 608, 384]
def k0_off145 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1492_r0 : Index := Scalar.indexCast v229_r0
  let c640_914_r0 : Index := 640#32
  let c384_915_r0 : Index := 384#32
  ![v1492_r0.toNat, 640, 384]
def k0_off146 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1502_r0 : Index := Scalar.indexCast v229_r0
  let c672_920_r0 : Index := 672#32
  let c384_921_r0 : Index := 384#32
  ![v1502_r0.toNat, 672, 384]
def k0_off147 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1512_r0 : Index := Scalar.indexCast v229_r0
  let c704_926_r0 : Index := 704#32
  let c384_927_r0 : Index := 384#32
  ![v1512_r0.toNat, 704, 384]
def k0_off148 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1522_r0 : Index := Scalar.indexCast v229_r0
  let c736_932_r0 : Index := 736#32
  let c384_933_r0 : Index := 384#32
  ![v1522_r0.toNat, 736, 384]
def k0_mult9 (k0_t1 : Fin k0_t1_loop.trips) : BitVec 32 :=
  let c0_i32_135_r0 : BitVec 32 := 0#32
  let c1_i32_r0 : BitVec 32 := 1#32
  let arg6_r0 : BitVec 32 := Scf.iv c0_i32_135_r0 c1_i32_r0 k0_t1
  let c512_i32_934_r0 : BitVec 32 := 512#32
  let v1526_r0 : BitVec 32 := Scalar.muli arg6_r0 c512_i32_934_r0
  v1526_r0
def k0_off149 (k0_t1 : Fin k0_t1_loop.trips) : Fin 1 → Nat :=
  let c5_i32_935_r0 : BitVec 32 := 5#32
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let v1528_r0 : BitVec 32 := Scalar.addi c5_i32_935_r0 v229_r0
  ![v1528_r0.toNat]
def k0_off150 (k0_t1 : Fin k0_t1_loop.trips) : Fin 2 → Nat :=
  let c0_i32_936_r0 : BitVec 32 := 0#32
  let c0_i32_135_r0 : BitVec 32 := 0#32
  let c1_i32_r0 : BitVec 32 := 1#32
  let arg6_r0 : BitVec 32 := Scf.iv c0_i32_135_r0 c1_i32_r0 k0_t1
  let c512_i32_934_r0 : BitVec 32 := 512#32
  let v1526_r0 : BitVec 32 := Scalar.muli arg6_r0 c512_i32_934_r0
  let v1527_r0 : BitVec 32 := v1526_r0
  ![0, v1527_r0.toNat]
def k0_off151 (k0_t1 : Fin k0_t1_loop.trips) : Fin 3 → Nat :=
  let c0_i32_135_r0 : BitVec 32 := 0#32
  let c1_i32_r0 : BitVec 32 := 1#32
  let arg6_r0 : BitVec 32 := Scf.iv c0_i32_135_r0 c1_i32_r0 k0_t1
  let c1_i32_145_r0 : BitVec 32 := 1#32
  let v229_r0 : BitVec 32 := Scalar.andi arg6_r0 c1_i32_145_r0
  let c0_i32_937_r0 : BitVec 32 := 0#32
  let c0_i32_938_r0 : BitVec 32 := 0#32
  ![v229_r0.toNat, 0, 0]
def k0_mult10 : BitVec 32 :=
  let c4096_i32_r0 : BitVec 32 := 4096#32
  c4096_i32_r0
def k0_mult11 : BitVec 32 :=
  let c4608_i32_r0 : BitVec 32 := 4608#32
  c4608_i32_r0
abbrev stage0_0 : Fin 1 → Memref sig .tc .vmem S1x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x5376 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S768x5376 : Shape := ⟨2, ![768, 5376]⟩
abbrev S768 : Shape := ⟨1, ![768]⟩
abbrev S5376x5120 : Shape := ⟨2, ![5376, 5120]⟩
abbrev S5120 : Shape := ⟨1, ![5120]⟩
abbrev S768x1 : Shape := ⟨2, ![768, 1]⟩
abbrev S1x5120 : Shape := ⟨2, ![1, 5120]⟩
abbrev S768x5120 : Shape := ⟨2, ![768, 5120]⟩

abbrev nBuf : Space → Nat
  | .hbm => 7
  | .vmem => 5
  | .smem => 0
  | _ => 0

abbrev bufTy : (tb : Table) → Fin (tcTables nBuf tb) → BufTy
  | .hbm, ⟨0, _⟩ => ⟨S768x5376, .i8⟩
  | .hbm, ⟨1, _⟩ => ⟨S768, .f32⟩
  | .hbm, ⟨2, _⟩ => ⟨S5376x5120, .i8⟩
  | .hbm, ⟨3, _⟩ => ⟨S5120, .f32⟩
  | .hbm, ⟨4, _⟩ => ⟨S768x1, .f32⟩
  | .hbm, ⟨5, _⟩ => ⟨S1x5120, .f32⟩
  | .hbm, ⟨6, _⟩ => ⟨S768x5120, .f32⟩
  | .local _ .vmem, ⟨0, _⟩ => ⟨S768x5376, .i8⟩
  | .local _ .vmem, ⟨1, _⟩ => ⟨S768x1, .f32⟩
  | .local _ .vmem, ⟨2, _⟩ => ⟨S5376x5120, .i8⟩
  | .local _ .vmem, ⟨3, _⟩ => ⟨S1x5120, .f32⟩
  | .local _ .vmem, ⟨4, _⟩ => ⟨S768x5120, .f32⟩
  | _, _ => ⟨S768x5376, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S768x5376 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5376x5120 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== UpKernel.lean ====
abbrev S768x5120 : Shape := ⟨2, ![768, 5120]⟩
abbrev S768 : Shape := ⟨1, ![768]⟩
abbrev S5120x10752 : Shape := ⟨2, ![5120, 10752]⟩
abbrev S10752 : Shape := ⟨1, ![10752]⟩
abbrev S5376 : Shape := ⟨1, ![5376]⟩
abbrev S1x5376 : Shape := ⟨2, ![1, 5376]⟩
abbrev S1x10752 : Shape := ⟨2, ![1, 10752]⟩
abbrev S768x1 : Shape := ⟨2, ![768, 1]⟩
abbrev S768x128 : Shape := ⟨2, ![768, 128]⟩
abbrev S32256x128 : Shape := ⟨2, ![32256, 128]⟩
abbrev S10 : Shape := ⟨1, ![10]⟩
abbrev S3x2x5120x256 : Shape := ⟨4, ![3, 2, 5120, 256]⟩
abbrev S768x512 : Shape := ⟨2, ![768, 512]⟩
abbrev S1 : Shape := ⟨1, ![1]⟩
abbrev S_ : Shape := ⟨0, ![]⟩
abbrev S1x1x5120x256 : Shape := ⟨4, ![1, 1, 5120, 256]⟩
abbrev S5120x256 : Shape := ⟨2, ![5120, 256]⟩
abbrev S1x128 : Shape := ⟨2, ![1, 128]⟩
abbrev S32x128 : Shape := ⟨2, ![32, 128]⟩
abbrev S1x1x256x256 : Shape := ⟨4, ![1, 1, 256, 256]⟩
abbrev S256x256 : Shape := ⟨2, ![256, 256]⟩
abbrev S768x256 : Shape := ⟨2, ![768, 256]⟩

abbrev nBuf : Space → Nat
  | .hbm => 10
  | .vmem => 8
  | .smem => 0
  | _ => 0

abbrev bufTy : (tb : Table) → Fin (tcTables nBuf tb) → BufTy
  | .hbm, ⟨0, _⟩ => ⟨S768x5120, .bf16⟩
  | .hbm, ⟨1, _⟩ => ⟨S768, .f32⟩
  | .hbm, ⟨2, _⟩ => ⟨S5120x10752, .i8⟩
  | .hbm, ⟨3, _⟩ => ⟨S10752, .f32⟩
  | .hbm, ⟨4, _⟩ => ⟨S5376, .f32⟩
  | .hbm, ⟨5, _⟩ => ⟨S1x5376, .f32⟩
  | .hbm, ⟨6, _⟩ => ⟨S1x10752, .f32⟩
  | .hbm, ⟨7, _⟩ => ⟨S768x1, .f32⟩
  | .hbm, ⟨8, _⟩ => ⟨S768x128, .f32⟩
  | .hbm, ⟨9, _⟩ => ⟨S32256x128, .f32⟩
  | .local _ .vmem, ⟨0, _⟩ => ⟨S1x5376, .f32⟩
  | .local _ .vmem, ⟨1, _⟩ => ⟨S1x10752, .f32⟩
  | .local _ .vmem, ⟨2, _⟩ => ⟨S768x5120, .bf16⟩
  | .local _ .vmem, ⟨3, _⟩ => ⟨S768x128, .f32⟩
  | .local _ .vmem, ⟨4, _⟩ => ⟨S32256x128, .f32⟩
  | .local _ .vmem, ⟨5, _⟩ => ⟨S768x128, .f32⟩
  | .local _ .vmem, ⟨6, _⟩ => ⟨S3x2x5120x256, .i8⟩
  | .local _ .vmem, ⟨7, _⟩ => ⟨S768x512, .f32⟩
  | _, _ => ⟨S768x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scoped0 : Ref sig .tc := ⟨.vmem, 6, rfl⟩
abbrev cc0_scoped1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

def k0_mult1 : BitVec 32 :=
  let c0_i32_r0 : BitVec 32 := 0#32
  c0_i32_r0
def k0_off1 (c0_i32_r0 : BitVec 32) : Fin 2 → Nat :=
  let c0_i32_12_r0 : BitVec 32 := 0#32
  let c5376_i32_r0 : BitVec 32 := 5376#32
  let v4_r0 : BitVec 32 := c0_i32_r0
  let v5_r0 : BitVec 32 := Scalar.addi c5376_i32_r0 v4_r0
  ![0, v5_r0.toNat]
def k0_mult2 : BitVec 32 :=
  let c256_i32_r0 : BitVec 32 := 256#32
  c256_i32_r0
@[reducible] def k0_t1_loop : Scf.Loop 32 :=
  let c0_i32_29_r0 : BitVec 32 := 0#32
  let c21_i32_r0 : BitVec 32 := 21#32
  let v32_r0 : BitVec 32 := Scalar.addi c0_i32_29_r0 c21_i32_r0
  let c1_i32_30_r0 : BitVec 32 := 1#32
  ⟨c0_i32_29_r0, v32_r0, c1_i32_30_r0⟩
def k0_mult3 (k0_t1 : Fin k0_t1_loop.trips) : BitVec 32 :=
  let c0_i32_29_r0 : BitVec 32 := 0#32
  let c1_i32_30_r0 : BitVec 32 := 1#32
  let arg8_r0 : BitVec 32 := Scf.iv c0_i32_29_r0 c1_i32_30_r0 k0_t1
  let c256_i32_577_r0 : BitVec 32 := 256#32
  let v1263_r0 : BitVec 32 := Scalar.muli arg8_r0 c256_i32_577_r0
  v1263_r0
def k0_off2 (k0_t1 : Fin k0_t1_loop.trips) : Fin 1 → Nat :=
  let c1_i32_578_r0 : BitVec 32 := 1#32
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v1265_r0 : BitVec 32 := Scalar.addi c1_i32_578_r0 v1262_r0
  ![v1265_r0.toNat]
def k0_off3 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let c0_i32_581_r0 : BitVec 32 := 0#32
  let c0_i32_582_r0 : BitVec 32 := 0#32
  let c0_i32_583_r0 : BitVec 32 := 0#32
  ![v1262_r0.toNat, 0, 0, 0]
def k0_off4 (k0_t1 : Fin k0_t1_loop.trips) : Fin 2 → Nat :=
  let c0_i32_584_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c256_i32_577_r0 : BitVec 32 := 256#32
  let v1263_r0 : BitVec 32 := Scalar.muli arg8_r0 c256_i32_577_r0
  let v1264_r0 : BitVec 32 := v1263_r0
  ![0, v1264_r0.toNat]
def k0_off5 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let c1_i32_585_r0 : BitVec 32 := 1#32
  let c0_i32_586_r0 : BitVec 32 := 0#32
  let c0_i32_587_r0 : BitVec 32 := 0#32
  ![v1262_r0.toNat, 1, 0, 0]
def k0_off6 (k0_t1 : Fin k0_t1_loop.trips) : Fin 2 → Nat :=
  let c0_i32_588_r0 : BitVec 32 := 0#32
  let c5376_i32_579_r0 : BitVec 32 := 5376#32
  let c0_i32_29_r0 : BitVec 32 := 0#32
  let c1_i32_30_r0 : BitVec 32 := 1#32
  let arg8_r0 : BitVec 32 := Scf.iv c0_i32_29_r0 c1_i32_30_r0 k0_t1
  let c256_i32_577_r0 : BitVec 32 := 256#32
  let v1263_r0 : BitVec 32 := Scalar.muli arg8_r0 c256_i32_577_r0
  let v1264_r0 : BitVec 32 := v1263_r0
  let v1266_r0 : BitVec 32 := Scalar.addi c5376_i32_579_r0 v1264_r0
  ![0, v1266_r0.toNat]
def k0_cond1 (k0_t1 : Fin k0_t1_loop.trips) : BitVec 1 :=
  let c0_i32_29_r0 : BitVec 32 := 0#32
  let c1_i32_30_r0 : BitVec 32 := 1#32
  let arg8_r0 : BitVec 32 := Scf.iv c0_i32_29_r0 c1_i32_30_r0 k0_t1
  let c2_i32_589_r0 : BitVec 32 := 2#32
  let v1278_r0 : BitVec 32 := Scalar.addi arg8_r0 c2_i32_589_r0
  let c21_i32_590_r0 : BitVec 32 := 21#32
  let v1279_r0 : BitVec 1 := Scalar.cmpi .slt v1278_r0 c21_i32_590_r0
  let v1280_r0 : BitVec 32 := Scalar.extui v1279_r0
  let c0_i32_591_r0 : BitVec 32 := 0#32
  let v1281_r0 : BitVec 1 := Scalar.cmpi .ne v1280_r0 c0_i32_591_r0
  v1281_r0

def k0_mult4 (k0_t1 : Fin k0_t1_loop.trips) : BitVec 32 :=
  let c0_i32_29_r0 : BitVec 32 := 0#32
  let c1_i32_30_r0 : BitVec 32 := 1#32
  let arg8_r0 : BitVec 32 := Scf.iv c0_i32_29_r0 c1_i32_30_r0 k0_t1
  let c2_i32_1418_r0 : BitVec 32 := 2#32
  let v2806_r0 : BitVec 32 := Scalar.addi arg8_r0 c2_i32_1418_r0
  let c256_i32_1421_r0 : BitVec 32 := 256#32
  let v2809_r0 : BitVec 32 := Scalar.muli v2806_r0 c256_i32_1421_r0
  v2809_r0
def k0_off7 (k0_t1 : Fin k0_t1_loop.trips) : Fin 1 → Nat :=
  let c1_i32_1422_r0 : BitVec 32 := 1#32
  let c0_i32_29_r0 : BitVec 32 := 0#32
  let c1_i32_30_r0 : BitVec 32 := 1#32
  let arg8_r0 : BitVec 32 := Scf.iv c0_i32_29_r0 c1_i32_30_r0 k0_t1
  let c2_i32_1419_r0 : BitVec 32 := 2#32
  let v2807_r0 : BitVec 32 := Scalar.addi arg8_r0 c2_i32_1419_r0
  let c3_i32_1420_r0 : BitVec 32 := 3#32
  let v2808_r0 : BitVec 32 := Scalar.remsi v2807_r0 c3_i32_1420_r0
  let v2811_r0 : BitVec 32 := Scalar.addi c1_i32_1422_r0 v2808_r0
  ![v2811_r0.toNat]
def k0_off8 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c2_i32_1419_r0 : BitVec 32 := 2#32
  let v2807_r0 : BitVec 32 := Scalar.addi arg8_r0 c2_i32_1419_r0
  let c3_i32_1420_r0 : BitVec 32 := 3#32
  let v2808_r0 : BitVec 32 := Scalar.remsi v2807_r0 c3_i32_1420_r0
  let c0_i32_1425_r0 : BitVec 32 := 0#32
  let c0_i32_1426_r0 : BitVec 32 := 0#32
  let c0_i32_1427_r0 : BitVec 32 := 0#32
  ![v2808_r0.toNat, 0, 0, 0]
def k0_off9 (k0_t1 : Fin k0_t1_loop.trips) : Fin 2 → Nat :=
  let c0_i32_1428_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c2_i32_1418_r0 : BitVec 32 := 2#32
  let v2806_r0 : BitVec 32 := Scalar.addi arg8_r0 c2_i32_1418_r0
  let c256_i32_1421_r0 : BitVec 32 := 256#32
  let v2809_r0 : BitVec 32 := Scalar.muli v2806_r0 c256_i32_1421_r0
  let v2810_r0 : BitVec 32 := v2809_r0
  ![0, v2810_r0.toNat]
def k0_off10 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c2_i32_1419_r0 : BitVec 32 := 2#32
  let v2807_r0 : BitVec 32 := Scalar.addi arg8_r0 c2_i32_1419_r0
  let c3_i32_1420_r0 : BitVec 32 := 3#32
  let v2808_r0 : BitVec 32 := Scalar.remsi v2807_r0 c3_i32_1420_r0
  let c1_i32_1429_r0 : BitVec 32 := 1#32
  let c0_i32_1430_r0 : BitVec 32 := 0#32
  let c0_i32_1431_r0 : BitVec 32 := 0#32
  ![v2808_r0.toNat, 1, 0, 0]
def k0_off11 (k0_t1 : Fin k0_t1_loop.trips) : Fin 2 → Nat :=
  let c0_i32_1432_r0 : BitVec 32 := 0#32
  let c5376_i32_1423_r0 : BitVec 32 := 5376#32
  let c0_i32_29_r0 : BitVec 32 := 0#32
  let c1_i32_30_r0 : BitVec 32 := 1#32
  let arg8_r0 : BitVec 32 := Scf.iv c0_i32_29_r0 c1_i32_30_r0 k0_t1
  let c2_i32_1418_r0 : BitVec 32 := 2#32
  let v2806_r0 : BitVec 32 := Scalar.addi arg8_r0 c2_i32_1418_r0
  let c256_i32_1421_r0 : BitVec 32 := 256#32
  let v2809_r0 : BitVec 32 := Scalar.muli v2806_r0 c256_i32_1421_r0
  let v2810_r0 : BitVec 32 := v2809_r0
  let v2812_r0 : BitVec 32 := Scalar.addi c5376_i32_1423_r0 v2810_r0
  ![0, v2812_r0.toNat]
def k0_mult5 (k0_t1 : Fin k0_t1_loop.trips) : BitVec 32 :=
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c256_i32_594_r0 : BitVec 32 := 256#32
  let v1284_r0 : BitVec 32 := Scalar.muli v1283_r0 c256_i32_594_r0
  v1284_r0
def k0_off12 (k0_t1 : Fin k0_t1_loop.trips) (c0_i32_595_r0 : BitVec 32) : Fin 2 → Nat :=
  let c0_596_r0 : Index := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c256_i32_594_r0 : BitVec 32 := 256#32
  let v1284_r0 : BitVec 32 := Scalar.muli v1283_r0 c256_i32_594_r0
  let v1285_r0 : BitVec 32 := v1284_r0
  let v1286_r0 : BitVec 32 := Scalar.addi v1285_r0 c0_i32_595_r0
  let v1287_r0 : Index := Scalar.indexCast v1286_r0
  ![0, v1287_r0.toNat]
def k0_off13 (k0_t1 : Fin k0_t1_loop.trips) (c0_i32_598_r0 : BitVec 32) : Fin 2 → Nat :=
  let c0_599_r0 : Index := 0#32
  let c5376_i32_597_r0 : BitVec 32 := 5376#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c256_i32_594_r0 : BitVec 32 := 256#32
  let v1284_r0 : BitVec 32 := Scalar.muli v1283_r0 c256_i32_594_r0
  let v1285_r0 : BitVec 32 := v1284_r0
  let v1290_r0 : BitVec 32 := Scalar.addi c5376_i32_597_r0 v1285_r0
  let v1291_r0 : BitVec 32 := Scalar.addi v1290_r0 c0_i32_598_r0
  let v1292_r0 : Index := Scalar.indexCast v1291_r0
  ![0, v1292_r0.toNat]
def k0_off14 (k0_t1 : Fin k0_t1_loop.trips) (c0_i32_600_r0 : BitVec 32) : Fin 2 → Nat :=
  let c0_601_r0 : Index := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c256_i32_594_r0 : BitVec 32 := 256#32
  let v1284_r0 : BitVec 32 := Scalar.muli v1283_r0 c256_i32_594_r0
  let v1285_r0 : BitVec 32 := v1284_r0
  let v1295_r0 : BitVec 32 := Scalar.addi v1285_r0 c0_i32_600_r0
  let v1296_r0 : Index := Scalar.indexCast v1295_r0
  ![0, v1296_r0.toNat]
def k0_mult6 (k0_t1 : Fin k0_t1_loop.trips) : BitVec 32 :=
  let c0_i32_604_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_602_r0 : BitVec 32 := 2#32
  let v1299_r0 : BitVec 32 := Scalar.muli v1283_r0 c2_i32_602_r0
  let c0_i32_603_r0 : BitVec 32 := 0#32
  let v1300_r0 : BitVec 32 := Scalar.addi v1299_r0 c0_i32_603_r0
  let c768_i32_r0 : BitVec 32 := 768#32
  let v1301_r0 : BitVec 32 := Scalar.muli v1300_r0 c768_i32_r0
  let v1302_r0 : BitVec 32 := Scalar.addi c0_i32_604_r0 v1301_r0
  v1302_r0
def k0_mult7 (k0_t1 : Fin k0_t1_loop.trips) : BitVec 32 :=
  let c0_i32_604_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_602_r0 : BitVec 32 := 2#32
  let v1299_r0 : BitVec 32 := Scalar.muli v1283_r0 c2_i32_602_r0
  let c0_i32_603_r0 : BitVec 32 := 0#32
  let v1300_r0 : BitVec 32 := Scalar.addi v1299_r0 c0_i32_603_r0
  let c768_i32_r0 : BitVec 32 := 768#32
  let v1301_r0 : BitVec 32 := Scalar.muli v1300_r0 c768_i32_r0
  let v1302_r0 : BitVec 32 := Scalar.addi c0_i32_604_r0 v1301_r0
  let v1303_r0 : BitVec 32 := v1302_r0
  let c0_i32_611_r0 : BitVec 32 := 0#32
  let v1319_r0 : BitVec 32 := Scalar.addi v1303_r0 c0_i32_611_r0
  v1319_r0
def k0_off15 (k0_t1 : Fin k0_t1_loop.trips) (c0_i32_603_r0 : BitVec 32) (c0_i32_611_r0 : BitVec 32) : Fin 2 → Nat :=
  let c0_i32_604_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_602_r0 : BitVec 32 := 2#32
  let v1299_r0 : BitVec 32 := Scalar.muli v1283_r0 c2_i32_602_r0
  let v1300_r0 : BitVec 32 := Scalar.addi v1299_r0 c0_i32_603_r0
  let c768_i32_r0 : BitVec 32 := 768#32
  let v1301_r0 : BitVec 32 := Scalar.muli v1300_r0 c768_i32_r0
  let v1302_r0 : BitVec 32 := Scalar.addi c0_i32_604_r0 v1301_r0
  let v1303_r0 : BitVec 32 := v1302_r0
  let v1319_r0 : BitVec 32 := Scalar.addi v1303_r0 c0_i32_611_r0
  let v1320_r0 : BitVec 32 := v1319_r0
  let v1321_r0 : Index := Scalar.indexCast v1320_r0
  let c0_612_r0 : Index := 0#32
  ![v1321_r0.toNat, 0]
def k0_mult8 (k0_t1 : Fin k0_t1_loop.trips) : BitVec 32 :=
  let c0_i32_604_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_602_r0 : BitVec 32 := 2#32
  let v1299_r0 : BitVec 32 := Scalar.muli v1283_r0 c2_i32_602_r0
  let c0_i32_603_r0 : BitVec 32 := 0#32
  let v1300_r0 : BitVec 32 := Scalar.addi v1299_r0 c0_i32_603_r0
  let c768_i32_r0 : BitVec 32 := 768#32
  let v1301_r0 : BitVec 32 := Scalar.muli v1300_r0 c768_i32_r0
  let v1302_r0 : BitVec 32 := Scalar.addi c0_i32_604_r0 v1301_r0
  let v1303_r0 : BitVec 32 := v1302_r0
  let c32_i32_623_r0 : BitVec 32 := 32#32
  let v1344_r0 : BitVec 32 := Scalar.addi v1303_r0 c32_i32_623_r0
  v1344_r0
def k0_mult9 (k0_t1 : Fin k0_t1_loop.trips) : BitVec 32 :=
  let c0_i32_604_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_602_r0 : BitVec 32 := 2#32
  let v1299_r0 : BitVec 32 := Scalar.muli v1283_r0 c2_i32_602_r0
  let c0_i32_603_r0 : BitVec 32 := 0#32
  let v1300_r0 : BitVec 32 := Scalar.addi v1299_r0 c0_i32_603_r0
  let c768_i32_r0 : BitVec 32 := 768#32
  let v1301_r0 : BitVec 32 := Scalar.muli v1300_r0 c768_i32_r0
  let v1302_r0 : BitVec 32 := Scalar.addi c0_i32_604_r0 v1301_r0
  let v1303_r0 : BitVec 32 := v1302_r0
  let c64_i32_635_r0 : BitVec 32 := 64#32
  let v1369_r0 : BitVec 32 := Scalar.addi v1303_r0 c64_i32_635_r0
  v1369_r0
def k0_mult10 (k0_t1 : Fin k0_t1_loop.trips) : BitVec 32 :=
  let c0_i32_604_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_602_r0 : BitVec 32 := 2#32
  let v1299_r0 : BitVec 32 := Scalar.muli v1283_r0 c2_i32_602_r0
  let c0_i32_603_r0 : BitVec 32 := 0#32
  let v1300_r0 : BitVec 32 := Scalar.addi v1299_r0 c0_i32_603_r0
  let c768_i32_r0 : BitVec 32 := 768#32
  let v1301_r0 : BitVec 32 := Scalar.muli v1300_r0 c768_i32_r0
  let v1302_r0 : BitVec 32 := Scalar.addi c0_i32_604_r0 v1301_r0
  let v1303_r0 : BitVec 32 := v1302_r0
  let c96_i32_647_r0 : BitVec 32 := 96#32
  let v1394_r0 : BitVec 32 := Scalar.addi v1303_r0 c96_i32_647_r0
  v1394_r0
def k0_mult11 (k0_t1 : Fin k0_t1_loop.trips) : BitVec 32 :=
  let c0_i32_604_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_602_r0 : BitVec 32 := 2#32
  let v1299_r0 : BitVec 32 := Scalar.muli v1283_r0 c2_i32_602_r0
  let c0_i32_603_r0 : BitVec 32 := 0#32
  let v1300_r0 : BitVec 32 := Scalar.addi v1299_r0 c0_i32_603_r0
  let c768_i32_r0 : BitVec 32 := 768#32
  let v1301_r0 : BitVec 32 := Scalar.muli v1300_r0 c768_i32_r0
  let v1302_r0 : BitVec 32 := Scalar.addi c0_i32_604_r0 v1301_r0
  let v1303_r0 : BitVec 32 := v1302_r0
  let c128_i32_659_r0 : BitVec 32 := 128#32
  let v1419_r0 : BitVec 32 := Scalar.addi v1303_r0 c128_i32_659_r0
  v1419_r0
def k0_mult12 (k0_t1 : Fin k0_t1_loop.trips) : BitVec 32 :=
  let c0_i32_604_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_602_r0 : BitVec 32 := 2#32
  let v1299_r0 : BitVec 32 := Scalar.muli v1283_r0 c2_i32_602_r0
  let c0_i32_603_r0 : BitVec 32 := 0#32
  let v1300_r0 : BitVec 32 := Scalar.addi v1299_r0 c0_i32_603_r0
  let c768_i32_r0 : BitVec 32 := 768#32
  let v1301_r0 : BitVec 32 := Scalar.muli v1300_r0 c768_i32_r0
  let v1302_r0 : BitVec 32 := Scalar.addi c0_i32_604_r0 v1301_r0
  let v1303_r0 : BitVec 32 := v1302_r0
  let c160_i32_671_r0 : BitVec 32 := 160#32
  let v1444_r0 : BitVec 32 := Scalar.addi v1303_r0 c160_i32_671_r0
  v1444_r0
def k0_mult13 (k0_t1 : Fin k0_t1_loop.trips) : BitVec 32 :=
  let c0_i32_604_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_602_r0 : BitVec 32 := 2#32
  let v1299_r0 : BitVec 32 := Scalar.muli v1283_r0 c2_i32_602_r0
  let c0_i32_603_r0 : BitVec 32 := 0#32
  let v1300_r0 : BitVec 32 := Scalar.addi v1299_r0 c0_i32_603_r0
  let c768_i32_r0 : BitVec 32 := 768#32
  let v1301_r0 : BitVec 32 := Scalar.muli v1300_r0 c768_i32_r0
  let v1302_r0 : BitVec 32 := Scalar.addi c0_i32_604_r0 v1301_r0
  let v1303_r0 : BitVec 32 := v1302_r0
  let c192_i32_683_r0 : BitVec 32 := 192#32
  let v1469_r0 : BitVec 32 := Scalar.addi v1303_r0 c192_i32_683_r0
  v1469_r0
def k0_mult14 (k0_t1 : Fin k0_t1_loop.trips) : BitVec 32 :=
  let c0_i32_604_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_602_r0 : BitVec 32 := 2#32
  let v1299_r0 : BitVec 32 := Scalar.muli v1283_r0 c2_i32_602_r0
  let c0_i32_603_r0 : BitVec 32 := 0#32
  let v1300_r0 : BitVec 32 := Scalar.addi v1299_r0 c0_i32_603_r0
  let c768_i32_r0 : BitVec 32 := 768#32
  let v1301_r0 : BitVec 32 := Scalar.muli v1300_r0 c768_i32_r0
  let v1302_r0 : BitVec 32 := Scalar.addi c0_i32_604_r0 v1301_r0
  let v1303_r0 : BitVec 32 := v1302_r0
  let c224_i32_695_r0 : BitVec 32 := 224#32
  let v1494_r0 : BitVec 32 := Scalar.addi v1303_r0 c224_i32_695_r0
  v1494_r0
def k0_mult15 (k0_t1 : Fin k0_t1_loop.trips) : BitVec 32 :=
  let c0_i32_604_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_602_r0 : BitVec 32 := 2#32
  let v1299_r0 : BitVec 32 := Scalar.muli v1283_r0 c2_i32_602_r0
  let c0_i32_603_r0 : BitVec 32 := 0#32
  let v1300_r0 : BitVec 32 := Scalar.addi v1299_r0 c0_i32_603_r0
  let c768_i32_r0 : BitVec 32 := 768#32
  let v1301_r0 : BitVec 32 := Scalar.muli v1300_r0 c768_i32_r0
  let v1302_r0 : BitVec 32 := Scalar.addi c0_i32_604_r0 v1301_r0
  let v1303_r0 : BitVec 32 := v1302_r0
  let c256_i32_707_r0 : BitVec 32 := 256#32
  let v1519_r0 : BitVec 32 := Scalar.addi v1303_r0 c256_i32_707_r0
  v1519_r0
def k0_mult16 (k0_t1 : Fin k0_t1_loop.trips) : BitVec 32 :=
  let c0_i32_604_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_602_r0 : BitVec 32 := 2#32
  let v1299_r0 : BitVec 32 := Scalar.muli v1283_r0 c2_i32_602_r0
  let c0_i32_603_r0 : BitVec 32 := 0#32
  let v1300_r0 : BitVec 32 := Scalar.addi v1299_r0 c0_i32_603_r0
  let c768_i32_r0 : BitVec 32 := 768#32
  let v1301_r0 : BitVec 32 := Scalar.muli v1300_r0 c768_i32_r0
  let v1302_r0 : BitVec 32 := Scalar.addi c0_i32_604_r0 v1301_r0
  let v1303_r0 : BitVec 32 := v1302_r0
  let c288_i32_719_r0 : BitVec 32 := 288#32
  let v1544_r0 : BitVec 32 := Scalar.addi v1303_r0 c288_i32_719_r0
  v1544_r0
def k0_mult17 (k0_t1 : Fin k0_t1_loop.trips) : BitVec 32 :=
  let c0_i32_604_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_602_r0 : BitVec 32 := 2#32
  let v1299_r0 : BitVec 32 := Scalar.muli v1283_r0 c2_i32_602_r0
  let c0_i32_603_r0 : BitVec 32 := 0#32
  let v1300_r0 : BitVec 32 := Scalar.addi v1299_r0 c0_i32_603_r0
  let c768_i32_r0 : BitVec 32 := 768#32
  let v1301_r0 : BitVec 32 := Scalar.muli v1300_r0 c768_i32_r0
  let v1302_r0 : BitVec 32 := Scalar.addi c0_i32_604_r0 v1301_r0
  let v1303_r0 : BitVec 32 := v1302_r0
  let c320_i32_731_r0 : BitVec 32 := 320#32
  let v1569_r0 : BitVec 32 := Scalar.addi v1303_r0 c320_i32_731_r0
  v1569_r0
def k0_mult18 (k0_t1 : Fin k0_t1_loop.trips) : BitVec 32 :=
  let c0_i32_604_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_602_r0 : BitVec 32 := 2#32
  let v1299_r0 : BitVec 32 := Scalar.muli v1283_r0 c2_i32_602_r0
  let c0_i32_603_r0 : BitVec 32 := 0#32
  let v1300_r0 : BitVec 32 := Scalar.addi v1299_r0 c0_i32_603_r0
  let c768_i32_r0 : BitVec 32 := 768#32
  let v1301_r0 : BitVec 32 := Scalar.muli v1300_r0 c768_i32_r0
  let v1302_r0 : BitVec 32 := Scalar.addi c0_i32_604_r0 v1301_r0
  let v1303_r0 : BitVec 32 := v1302_r0
  let c352_i32_743_r0 : BitVec 32 := 352#32
  let v1594_r0 : BitVec 32 := Scalar.addi v1303_r0 c352_i32_743_r0
  v1594_r0
def k0_mult19 (k0_t1 : Fin k0_t1_loop.trips) : BitVec 32 :=
  let c0_i32_604_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_602_r0 : BitVec 32 := 2#32
  let v1299_r0 : BitVec 32 := Scalar.muli v1283_r0 c2_i32_602_r0
  let c0_i32_603_r0 : BitVec 32 := 0#32
  let v1300_r0 : BitVec 32 := Scalar.addi v1299_r0 c0_i32_603_r0
  let c768_i32_r0 : BitVec 32 := 768#32
  let v1301_r0 : BitVec 32 := Scalar.muli v1300_r0 c768_i32_r0
  let v1302_r0 : BitVec 32 := Scalar.addi c0_i32_604_r0 v1301_r0
  let v1303_r0 : BitVec 32 := v1302_r0
  let c384_i32_755_r0 : BitVec 32 := 384#32
  let v1619_r0 : BitVec 32 := Scalar.addi v1303_r0 c384_i32_755_r0
  v1619_r0
def k0_mult20 (k0_t1 : Fin k0_t1_loop.trips) : BitVec 32 :=
  let c0_i32_604_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_602_r0 : BitVec 32 := 2#32
  let v1299_r0 : BitVec 32 := Scalar.muli v1283_r0 c2_i32_602_r0
  let c0_i32_603_r0 : BitVec 32 := 0#32
  let v1300_r0 : BitVec 32 := Scalar.addi v1299_r0 c0_i32_603_r0
  let c768_i32_r0 : BitVec 32 := 768#32
  let v1301_r0 : BitVec 32 := Scalar.muli v1300_r0 c768_i32_r0
  let v1302_r0 : BitVec 32 := Scalar.addi c0_i32_604_r0 v1301_r0
  let v1303_r0 : BitVec 32 := v1302_r0
  let c416_i32_767_r0 : BitVec 32 := 416#32
  let v1644_r0 : BitVec 32 := Scalar.addi v1303_r0 c416_i32_767_r0
  v1644_r0
def k0_mult21 (k0_t1 : Fin k0_t1_loop.trips) : BitVec 32 :=
  let c0_i32_604_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_602_r0 : BitVec 32 := 2#32
  let v1299_r0 : BitVec 32 := Scalar.muli v1283_r0 c2_i32_602_r0
  let c0_i32_603_r0 : BitVec 32 := 0#32
  let v1300_r0 : BitVec 32 := Scalar.addi v1299_r0 c0_i32_603_r0
  let c768_i32_r0 : BitVec 32 := 768#32
  let v1301_r0 : BitVec 32 := Scalar.muli v1300_r0 c768_i32_r0
  let v1302_r0 : BitVec 32 := Scalar.addi c0_i32_604_r0 v1301_r0
  let v1303_r0 : BitVec 32 := v1302_r0
  let c448_i32_779_r0 : BitVec 32 := 448#32
  let v1669_r0 : BitVec 32 := Scalar.addi v1303_r0 c448_i32_779_r0
  v1669_r0
def k0_mult22 (k0_t1 : Fin k0_t1_loop.trips) : BitVec 32 :=
  let c0_i32_604_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_602_r0 : BitVec 32 := 2#32
  let v1299_r0 : BitVec 32 := Scalar.muli v1283_r0 c2_i32_602_r0
  let c0_i32_603_r0 : BitVec 32 := 0#32
  let v1300_r0 : BitVec 32 := Scalar.addi v1299_r0 c0_i32_603_r0
  let c768_i32_r0 : BitVec 32 := 768#32
  let v1301_r0 : BitVec 32 := Scalar.muli v1300_r0 c768_i32_r0
  let v1302_r0 : BitVec 32 := Scalar.addi c0_i32_604_r0 v1301_r0
  let v1303_r0 : BitVec 32 := v1302_r0
  let c480_i32_791_r0 : BitVec 32 := 480#32
  let v1694_r0 : BitVec 32 := Scalar.addi v1303_r0 c480_i32_791_r0
  v1694_r0
def k0_mult23 (k0_t1 : Fin k0_t1_loop.trips) : BitVec 32 :=
  let c0_i32_604_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_602_r0 : BitVec 32 := 2#32
  let v1299_r0 : BitVec 32 := Scalar.muli v1283_r0 c2_i32_602_r0
  let c0_i32_603_r0 : BitVec 32 := 0#32
  let v1300_r0 : BitVec 32 := Scalar.addi v1299_r0 c0_i32_603_r0
  let c768_i32_r0 : BitVec 32 := 768#32
  let v1301_r0 : BitVec 32 := Scalar.muli v1300_r0 c768_i32_r0
  let v1302_r0 : BitVec 32 := Scalar.addi c0_i32_604_r0 v1301_r0
  let v1303_r0 : BitVec 32 := v1302_r0
  let c512_i32_803_r0 : BitVec 32 := 512#32
  let v1719_r0 : BitVec 32 := Scalar.addi v1303_r0 c512_i32_803_r0
  v1719_r0
def k0_mult24 (k0_t1 : Fin k0_t1_loop.trips) : BitVec 32 :=
  let c0_i32_604_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_602_r0 : BitVec 32 := 2#32
  let v1299_r0 : BitVec 32 := Scalar.muli v1283_r0 c2_i32_602_r0
  let c0_i32_603_r0 : BitVec 32 := 0#32
  let v1300_r0 : BitVec 32 := Scalar.addi v1299_r0 c0_i32_603_r0
  let c768_i32_r0 : BitVec 32 := 768#32
  let v1301_r0 : BitVec 32 := Scalar.muli v1300_r0 c768_i32_r0
  let v1302_r0 : BitVec 32 := Scalar.addi c0_i32_604_r0 v1301_r0
  let v1303_r0 : BitVec 32 := v1302_r0
  let c544_i32_815_r0 : BitVec 32 := 544#32
  let v1744_r0 : BitVec 32 := Scalar.addi v1303_r0 c544_i32_815_r0
  v1744_r0
def k0_mult25 (k0_t1 : Fin k0_t1_loop.trips) : BitVec 32 :=
  let c0_i32_604_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_602_r0 : BitVec 32 := 2#32
  let v1299_r0 : BitVec 32 := Scalar.muli v1283_r0 c2_i32_602_r0
  let c0_i32_603_r0 : BitVec 32 := 0#32
  let v1300_r0 : BitVec 32 := Scalar.addi v1299_r0 c0_i32_603_r0
  let c768_i32_r0 : BitVec 32 := 768#32
  let v1301_r0 : BitVec 32 := Scalar.muli v1300_r0 c768_i32_r0
  let v1302_r0 : BitVec 32 := Scalar.addi c0_i32_604_r0 v1301_r0
  let v1303_r0 : BitVec 32 := v1302_r0
  let c576_i32_827_r0 : BitVec 32 := 576#32
  let v1769_r0 : BitVec 32 := Scalar.addi v1303_r0 c576_i32_827_r0
  v1769_r0
def k0_mult26 (k0_t1 : Fin k0_t1_loop.trips) : BitVec 32 :=
  let c0_i32_604_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_602_r0 : BitVec 32 := 2#32
  let v1299_r0 : BitVec 32 := Scalar.muli v1283_r0 c2_i32_602_r0
  let c0_i32_603_r0 : BitVec 32 := 0#32
  let v1300_r0 : BitVec 32 := Scalar.addi v1299_r0 c0_i32_603_r0
  let c768_i32_r0 : BitVec 32 := 768#32
  let v1301_r0 : BitVec 32 := Scalar.muli v1300_r0 c768_i32_r0
  let v1302_r0 : BitVec 32 := Scalar.addi c0_i32_604_r0 v1301_r0
  let v1303_r0 : BitVec 32 := v1302_r0
  let c608_i32_839_r0 : BitVec 32 := 608#32
  let v1794_r0 : BitVec 32 := Scalar.addi v1303_r0 c608_i32_839_r0
  v1794_r0
def k0_mult27 (k0_t1 : Fin k0_t1_loop.trips) : BitVec 32 :=
  let c0_i32_604_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_602_r0 : BitVec 32 := 2#32
  let v1299_r0 : BitVec 32 := Scalar.muli v1283_r0 c2_i32_602_r0
  let c0_i32_603_r0 : BitVec 32 := 0#32
  let v1300_r0 : BitVec 32 := Scalar.addi v1299_r0 c0_i32_603_r0
  let c768_i32_r0 : BitVec 32 := 768#32
  let v1301_r0 : BitVec 32 := Scalar.muli v1300_r0 c768_i32_r0
  let v1302_r0 : BitVec 32 := Scalar.addi c0_i32_604_r0 v1301_r0
  let v1303_r0 : BitVec 32 := v1302_r0
  let c640_i32_851_r0 : BitVec 32 := 640#32
  let v1819_r0 : BitVec 32 := Scalar.addi v1303_r0 c640_i32_851_r0
  v1819_r0
def k0_mult28 (k0_t1 : Fin k0_t1_loop.trips) : BitVec 32 :=
  let c0_i32_604_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_602_r0 : BitVec 32 := 2#32
  let v1299_r0 : BitVec 32 := Scalar.muli v1283_r0 c2_i32_602_r0
  let c0_i32_603_r0 : BitVec 32 := 0#32
  let v1300_r0 : BitVec 32 := Scalar.addi v1299_r0 c0_i32_603_r0
  let c768_i32_r0 : BitVec 32 := 768#32
  let v1301_r0 : BitVec 32 := Scalar.muli v1300_r0 c768_i32_r0
  let v1302_r0 : BitVec 32 := Scalar.addi c0_i32_604_r0 v1301_r0
  let v1303_r0 : BitVec 32 := v1302_r0
  let c672_i32_863_r0 : BitVec 32 := 672#32
  let v1844_r0 : BitVec 32 := Scalar.addi v1303_r0 c672_i32_863_r0
  v1844_r0
def k0_mult29 (k0_t1 : Fin k0_t1_loop.trips) : BitVec 32 :=
  let c0_i32_604_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_602_r0 : BitVec 32 := 2#32
  let v1299_r0 : BitVec 32 := Scalar.muli v1283_r0 c2_i32_602_r0
  let c0_i32_603_r0 : BitVec 32 := 0#32
  let v1300_r0 : BitVec 32 := Scalar.addi v1299_r0 c0_i32_603_r0
  let c768_i32_r0 : BitVec 32 := 768#32
  let v1301_r0 : BitVec 32 := Scalar.muli v1300_r0 c768_i32_r0
  let v1302_r0 : BitVec 32 := Scalar.addi c0_i32_604_r0 v1301_r0
  let v1303_r0 : BitVec 32 := v1302_r0
  let c704_i32_875_r0 : BitVec 32 := 704#32
  let v1869_r0 : BitVec 32 := Scalar.addi v1303_r0 c704_i32_875_r0
  v1869_r0
def k0_mult30 (k0_t1 : Fin k0_t1_loop.trips) : BitVec 32 :=
  let c0_i32_604_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_602_r0 : BitVec 32 := 2#32
  let v1299_r0 : BitVec 32 := Scalar.muli v1283_r0 c2_i32_602_r0
  let c0_i32_603_r0 : BitVec 32 := 0#32
  let v1300_r0 : BitVec 32 := Scalar.addi v1299_r0 c0_i32_603_r0
  let c768_i32_r0 : BitVec 32 := 768#32
  let v1301_r0 : BitVec 32 := Scalar.muli v1300_r0 c768_i32_r0
  let v1302_r0 : BitVec 32 := Scalar.addi c0_i32_604_r0 v1301_r0
  let v1303_r0 : BitVec 32 := v1302_r0
  let c736_i32_887_r0 : BitVec 32 := 736#32
  let v1894_r0 : BitVec 32 := Scalar.addi v1303_r0 c736_i32_887_r0
  v1894_r0
def k0_mult31 (k0_t1 : Fin k0_t1_loop.trips) : BitVec 32 :=
  let c0_i32_903_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_900_r0 : BitVec 32 := 2#32
  let v1917_r0 : BitVec 32 := Scalar.muli v1283_r0 c2_i32_900_r0
  let c1_i32_901_r0 : BitVec 32 := 1#32
  let v1918_r0 : BitVec 32 := Scalar.addi v1917_r0 c1_i32_901_r0
  let c768_i32_902_r0 : BitVec 32 := 768#32
  let v1919_r0 : BitVec 32 := Scalar.muli v1918_r0 c768_i32_902_r0
  let v1920_r0 : BitVec 32 := Scalar.addi c0_i32_903_r0 v1919_r0
  v1920_r0
def k0_mult32 (k0_t1 : Fin k0_t1_loop.trips) : BitVec 32 :=
  let c0_i32_903_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_900_r0 : BitVec 32 := 2#32
  let v1917_r0 : BitVec 32 := Scalar.muli v1283_r0 c2_i32_900_r0
  let c1_i32_901_r0 : BitVec 32 := 1#32
  let v1918_r0 : BitVec 32 := Scalar.addi v1917_r0 c1_i32_901_r0
  let c768_i32_902_r0 : BitVec 32 := 768#32
  let v1919_r0 : BitVec 32 := Scalar.muli v1918_r0 c768_i32_902_r0
  let v1920_r0 : BitVec 32 := Scalar.addi c0_i32_903_r0 v1919_r0
  let v1921_r0 : BitVec 32 := v1920_r0
  let c0_i32_910_r0 : BitVec 32 := 0#32
  let v1937_r0 : BitVec 32 := Scalar.addi v1921_r0 c0_i32_910_r0
  v1937_r0
def k0_mult33 (k0_t1 : Fin k0_t1_loop.trips) : BitVec 32 :=
  let c0_i32_903_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_900_r0 : BitVec 32 := 2#32
  let v1917_r0 : BitVec 32 := Scalar.muli v1283_r0 c2_i32_900_r0
  let c1_i32_901_r0 : BitVec 32 := 1#32
  let v1918_r0 : BitVec 32 := Scalar.addi v1917_r0 c1_i32_901_r0
  let c768_i32_902_r0 : BitVec 32 := 768#32
  let v1919_r0 : BitVec 32 := Scalar.muli v1918_r0 c768_i32_902_r0
  let v1920_r0 : BitVec 32 := Scalar.addi c0_i32_903_r0 v1919_r0
  let v1921_r0 : BitVec 32 := v1920_r0
  let c32_i32_922_r0 : BitVec 32 := 32#32
  let v1962_r0 : BitVec 32 := Scalar.addi v1921_r0 c32_i32_922_r0
  v1962_r0
def k0_mult34 (k0_t1 : Fin k0_t1_loop.trips) : BitVec 32 :=
  let c0_i32_903_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_900_r0 : BitVec 32 := 2#32
  let v1917_r0 : BitVec 32 := Scalar.muli v1283_r0 c2_i32_900_r0
  let c1_i32_901_r0 : BitVec 32 := 1#32
  let v1918_r0 : BitVec 32 := Scalar.addi v1917_r0 c1_i32_901_r0
  let c768_i32_902_r0 : BitVec 32 := 768#32
  let v1919_r0 : BitVec 32 := Scalar.muli v1918_r0 c768_i32_902_r0
  let v1920_r0 : BitVec 32 := Scalar.addi c0_i32_903_r0 v1919_r0
  let v1921_r0 : BitVec 32 := v1920_r0
  let c64_i32_934_r0 : BitVec 32 := 64#32
  let v1987_r0 : BitVec 32 := Scalar.addi v1921_r0 c64_i32_934_r0
  v1987_r0
def k0_mult35 (k0_t1 : Fin k0_t1_loop.trips) : BitVec 32 :=
  let c0_i32_903_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_900_r0 : BitVec 32 := 2#32
  let v1917_r0 : BitVec 32 := Scalar.muli v1283_r0 c2_i32_900_r0
  let c1_i32_901_r0 : BitVec 32 := 1#32
  let v1918_r0 : BitVec 32 := Scalar.addi v1917_r0 c1_i32_901_r0
  let c768_i32_902_r0 : BitVec 32 := 768#32
  let v1919_r0 : BitVec 32 := Scalar.muli v1918_r0 c768_i32_902_r0
  let v1920_r0 : BitVec 32 := Scalar.addi c0_i32_903_r0 v1919_r0
  let v1921_r0 : BitVec 32 := v1920_r0
  let c96_i32_946_r0 : BitVec 32 := 96#32
  let v2012_r0 : BitVec 32 := Scalar.addi v1921_r0 c96_i32_946_r0
  v2012_r0
def k0_mult36 (k0_t1 : Fin k0_t1_loop.trips) : BitVec 32 :=
  let c0_i32_903_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_900_r0 : BitVec 32 := 2#32
  let v1917_r0 : BitVec 32 := Scalar.muli v1283_r0 c2_i32_900_r0
  let c1_i32_901_r0 : BitVec 32 := 1#32
  let v1918_r0 : BitVec 32 := Scalar.addi v1917_r0 c1_i32_901_r0
  let c768_i32_902_r0 : BitVec 32 := 768#32
  let v1919_r0 : BitVec 32 := Scalar.muli v1918_r0 c768_i32_902_r0
  let v1920_r0 : BitVec 32 := Scalar.addi c0_i32_903_r0 v1919_r0
  let v1921_r0 : BitVec 32 := v1920_r0
  let c128_i32_958_r0 : BitVec 32 := 128#32
  let v2037_r0 : BitVec 32 := Scalar.addi v1921_r0 c128_i32_958_r0
  v2037_r0
def k0_mult37 (k0_t1 : Fin k0_t1_loop.trips) : BitVec 32 :=
  let c0_i32_903_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_900_r0 : BitVec 32 := 2#32
  let v1917_r0 : BitVec 32 := Scalar.muli v1283_r0 c2_i32_900_r0
  let c1_i32_901_r0 : BitVec 32 := 1#32
  let v1918_r0 : BitVec 32 := Scalar.addi v1917_r0 c1_i32_901_r0
  let c768_i32_902_r0 : BitVec 32 := 768#32
  let v1919_r0 : BitVec 32 := Scalar.muli v1918_r0 c768_i32_902_r0
  let v1920_r0 : BitVec 32 := Scalar.addi c0_i32_903_r0 v1919_r0
  let v1921_r0 : BitVec 32 := v1920_r0
  let c160_i32_970_r0 : BitVec 32 := 160#32
  let v2062_r0 : BitVec 32 := Scalar.addi v1921_r0 c160_i32_970_r0
  v2062_r0
def k0_mult38 (k0_t1 : Fin k0_t1_loop.trips) : BitVec 32 :=
  let c0_i32_903_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_900_r0 : BitVec 32 := 2#32
  let v1917_r0 : BitVec 32 := Scalar.muli v1283_r0 c2_i32_900_r0
  let c1_i32_901_r0 : BitVec 32 := 1#32
  let v1918_r0 : BitVec 32 := Scalar.addi v1917_r0 c1_i32_901_r0
  let c768_i32_902_r0 : BitVec 32 := 768#32
  let v1919_r0 : BitVec 32 := Scalar.muli v1918_r0 c768_i32_902_r0
  let v1920_r0 : BitVec 32 := Scalar.addi c0_i32_903_r0 v1919_r0
  let v1921_r0 : BitVec 32 := v1920_r0
  let c192_i32_982_r0 : BitVec 32 := 192#32
  let v2087_r0 : BitVec 32 := Scalar.addi v1921_r0 c192_i32_982_r0
  v2087_r0
def k0_mult39 (k0_t1 : Fin k0_t1_loop.trips) : BitVec 32 :=
  let c0_i32_903_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_900_r0 : BitVec 32 := 2#32
  let v1917_r0 : BitVec 32 := Scalar.muli v1283_r0 c2_i32_900_r0
  let c1_i32_901_r0 : BitVec 32 := 1#32
  let v1918_r0 : BitVec 32 := Scalar.addi v1917_r0 c1_i32_901_r0
  let c768_i32_902_r0 : BitVec 32 := 768#32
  let v1919_r0 : BitVec 32 := Scalar.muli v1918_r0 c768_i32_902_r0
  let v1920_r0 : BitVec 32 := Scalar.addi c0_i32_903_r0 v1919_r0
  let v1921_r0 : BitVec 32 := v1920_r0
  let c224_i32_994_r0 : BitVec 32 := 224#32
  let v2112_r0 : BitVec 32 := Scalar.addi v1921_r0 c224_i32_994_r0
  v2112_r0
def k0_mult40 (k0_t1 : Fin k0_t1_loop.trips) : BitVec 32 :=
  let c0_i32_903_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_900_r0 : BitVec 32 := 2#32
  let v1917_r0 : BitVec 32 := Scalar.muli v1283_r0 c2_i32_900_r0
  let c1_i32_901_r0 : BitVec 32 := 1#32
  let v1918_r0 : BitVec 32 := Scalar.addi v1917_r0 c1_i32_901_r0
  let c768_i32_902_r0 : BitVec 32 := 768#32
  let v1919_r0 : BitVec 32 := Scalar.muli v1918_r0 c768_i32_902_r0
  let v1920_r0 : BitVec 32 := Scalar.addi c0_i32_903_r0 v1919_r0
  let v1921_r0 : BitVec 32 := v1920_r0
  let c256_i32_1006_r0 : BitVec 32 := 256#32
  let v2137_r0 : BitVec 32 := Scalar.addi v1921_r0 c256_i32_1006_r0
  v2137_r0
def k0_mult41 (k0_t1 : Fin k0_t1_loop.trips) : BitVec 32 :=
  let c0_i32_903_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_900_r0 : BitVec 32 := 2#32
  let v1917_r0 : BitVec 32 := Scalar.muli v1283_r0 c2_i32_900_r0
  let c1_i32_901_r0 : BitVec 32 := 1#32
  let v1918_r0 : BitVec 32 := Scalar.addi v1917_r0 c1_i32_901_r0
  let c768_i32_902_r0 : BitVec 32 := 768#32
  let v1919_r0 : BitVec 32 := Scalar.muli v1918_r0 c768_i32_902_r0
  let v1920_r0 : BitVec 32 := Scalar.addi c0_i32_903_r0 v1919_r0
  let v1921_r0 : BitVec 32 := v1920_r0
  let c288_i32_1018_r0 : BitVec 32 := 288#32
  let v2162_r0 : BitVec 32 := Scalar.addi v1921_r0 c288_i32_1018_r0
  v2162_r0
def k0_mult42 (k0_t1 : Fin k0_t1_loop.trips) : BitVec 32 :=
  let c0_i32_903_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_900_r0 : BitVec 32 := 2#32
  let v1917_r0 : BitVec 32 := Scalar.muli v1283_r0 c2_i32_900_r0
  let c1_i32_901_r0 : BitVec 32 := 1#32
  let v1918_r0 : BitVec 32 := Scalar.addi v1917_r0 c1_i32_901_r0
  let c768_i32_902_r0 : BitVec 32 := 768#32
  let v1919_r0 : BitVec 32 := Scalar.muli v1918_r0 c768_i32_902_r0
  let v1920_r0 : BitVec 32 := Scalar.addi c0_i32_903_r0 v1919_r0
  let v1921_r0 : BitVec 32 := v1920_r0
  let c320_i32_1030_r0 : BitVec 32 := 320#32
  let v2187_r0 : BitVec 32 := Scalar.addi v1921_r0 c320_i32_1030_r0
  v2187_r0
def k0_mult43 (k0_t1 : Fin k0_t1_loop.trips) : BitVec 32 :=
  let c0_i32_903_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_900_r0 : BitVec 32 := 2#32
  let v1917_r0 : BitVec 32 := Scalar.muli v1283_r0 c2_i32_900_r0
  let c1_i32_901_r0 : BitVec 32 := 1#32
  let v1918_r0 : BitVec 32 := Scalar.addi v1917_r0 c1_i32_901_r0
  let c768_i32_902_r0 : BitVec 32 := 768#32
  let v1919_r0 : BitVec 32 := Scalar.muli v1918_r0 c768_i32_902_r0
  let v1920_r0 : BitVec 32 := Scalar.addi c0_i32_903_r0 v1919_r0
  let v1921_r0 : BitVec 32 := v1920_r0
  let c352_i32_1042_r0 : BitVec 32 := 352#32
  let v2212_r0 : BitVec 32 := Scalar.addi v1921_r0 c352_i32_1042_r0
  v2212_r0
def k0_mult44 (k0_t1 : Fin k0_t1_loop.trips) : BitVec 32 :=
  let c0_i32_903_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_900_r0 : BitVec 32 := 2#32
  let v1917_r0 : BitVec 32 := Scalar.muli v1283_r0 c2_i32_900_r0
  let c1_i32_901_r0 : BitVec 32 := 1#32
  let v1918_r0 : BitVec 32 := Scalar.addi v1917_r0 c1_i32_901_r0
  let c768_i32_902_r0 : BitVec 32 := 768#32
  let v1919_r0 : BitVec 32 := Scalar.muli v1918_r0 c768_i32_902_r0
  let v1920_r0 : BitVec 32 := Scalar.addi c0_i32_903_r0 v1919_r0
  let v1921_r0 : BitVec 32 := v1920_r0
  let c384_i32_1054_r0 : BitVec 32 := 384#32
  let v2237_r0 : BitVec 32 := Scalar.addi v1921_r0 c384_i32_1054_r0
  v2237_r0
def k0_mult45 (k0_t1 : Fin k0_t1_loop.trips) : BitVec 32 :=
  let c0_i32_903_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_900_r0 : BitVec 32 := 2#32
  let v1917_r0 : BitVec 32 := Scalar.muli v1283_r0 c2_i32_900_r0
  let c1_i32_901_r0 : BitVec 32 := 1#32
  let v1918_r0 : BitVec 32 := Scalar.addi v1917_r0 c1_i32_901_r0
  let c768_i32_902_r0 : BitVec 32 := 768#32
  let v1919_r0 : BitVec 32 := Scalar.muli v1918_r0 c768_i32_902_r0
  let v1920_r0 : BitVec 32 := Scalar.addi c0_i32_903_r0 v1919_r0
  let v1921_r0 : BitVec 32 := v1920_r0
  let c416_i32_1066_r0 : BitVec 32 := 416#32
  let v2262_r0 : BitVec 32 := Scalar.addi v1921_r0 c416_i32_1066_r0
  v2262_r0
def k0_mult46 (k0_t1 : Fin k0_t1_loop.trips) : BitVec 32 :=
  let c0_i32_903_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_900_r0 : BitVec 32 := 2#32
  let v1917_r0 : BitVec 32 := Scalar.muli v1283_r0 c2_i32_900_r0
  let c1_i32_901_r0 : BitVec 32 := 1#32
  let v1918_r0 : BitVec 32 := Scalar.addi v1917_r0 c1_i32_901_r0
  let c768_i32_902_r0 : BitVec 32 := 768#32
  let v1919_r0 : BitVec 32 := Scalar.muli v1918_r0 c768_i32_902_r0
  let v1920_r0 : BitVec 32 := Scalar.addi c0_i32_903_r0 v1919_r0
  let v1921_r0 : BitVec 32 := v1920_r0
  let c448_i32_1078_r0 : BitVec 32 := 448#32
  let v2287_r0 : BitVec 32 := Scalar.addi v1921_r0 c448_i32_1078_r0
  v2287_r0
def k0_mult47 (k0_t1 : Fin k0_t1_loop.trips) : BitVec 32 :=
  let c0_i32_903_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_900_r0 : BitVec 32 := 2#32
  let v1917_r0 : BitVec 32 := Scalar.muli v1283_r0 c2_i32_900_r0
  let c1_i32_901_r0 : BitVec 32 := 1#32
  let v1918_r0 : BitVec 32 := Scalar.addi v1917_r0 c1_i32_901_r0
  let c768_i32_902_r0 : BitVec 32 := 768#32
  let v1919_r0 : BitVec 32 := Scalar.muli v1918_r0 c768_i32_902_r0
  let v1920_r0 : BitVec 32 := Scalar.addi c0_i32_903_r0 v1919_r0
  let v1921_r0 : BitVec 32 := v1920_r0
  let c480_i32_1090_r0 : BitVec 32 := 480#32
  let v2312_r0 : BitVec 32 := Scalar.addi v1921_r0 c480_i32_1090_r0
  v2312_r0
def k0_mult48 (k0_t1 : Fin k0_t1_loop.trips) : BitVec 32 :=
  let c0_i32_903_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_900_r0 : BitVec 32 := 2#32
  let v1917_r0 : BitVec 32 := Scalar.muli v1283_r0 c2_i32_900_r0
  let c1_i32_901_r0 : BitVec 32 := 1#32
  let v1918_r0 : BitVec 32 := Scalar.addi v1917_r0 c1_i32_901_r0
  let c768_i32_902_r0 : BitVec 32 := 768#32
  let v1919_r0 : BitVec 32 := Scalar.muli v1918_r0 c768_i32_902_r0
  let v1920_r0 : BitVec 32 := Scalar.addi c0_i32_903_r0 v1919_r0
  let v1921_r0 : BitVec 32 := v1920_r0
  let c512_i32_1102_r0 : BitVec 32 := 512#32
  let v2337_r0 : BitVec 32 := Scalar.addi v1921_r0 c512_i32_1102_r0
  v2337_r0
def k0_mult49 (k0_t1 : Fin k0_t1_loop.trips) : BitVec 32 :=
  let c0_i32_903_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_900_r0 : BitVec 32 := 2#32
  let v1917_r0 : BitVec 32 := Scalar.muli v1283_r0 c2_i32_900_r0
  let c1_i32_901_r0 : BitVec 32 := 1#32
  let v1918_r0 : BitVec 32 := Scalar.addi v1917_r0 c1_i32_901_r0
  let c768_i32_902_r0 : BitVec 32 := 768#32
  let v1919_r0 : BitVec 32 := Scalar.muli v1918_r0 c768_i32_902_r0
  let v1920_r0 : BitVec 32 := Scalar.addi c0_i32_903_r0 v1919_r0
  let v1921_r0 : BitVec 32 := v1920_r0
  let c544_i32_1114_r0 : BitVec 32 := 544#32
  let v2362_r0 : BitVec 32 := Scalar.addi v1921_r0 c544_i32_1114_r0
  v2362_r0
def k0_mult50 (k0_t1 : Fin k0_t1_loop.trips) : BitVec 32 :=
  let c0_i32_903_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_900_r0 : BitVec 32 := 2#32
  let v1917_r0 : BitVec 32 := Scalar.muli v1283_r0 c2_i32_900_r0
  let c1_i32_901_r0 : BitVec 32 := 1#32
  let v1918_r0 : BitVec 32 := Scalar.addi v1917_r0 c1_i32_901_r0
  let c768_i32_902_r0 : BitVec 32 := 768#32
  let v1919_r0 : BitVec 32 := Scalar.muli v1918_r0 c768_i32_902_r0
  let v1920_r0 : BitVec 32 := Scalar.addi c0_i32_903_r0 v1919_r0
  let v1921_r0 : BitVec 32 := v1920_r0
  let c576_i32_1126_r0 : BitVec 32 := 576#32
  let v2387_r0 : BitVec 32 := Scalar.addi v1921_r0 c576_i32_1126_r0
  v2387_r0
def k0_mult51 (k0_t1 : Fin k0_t1_loop.trips) : BitVec 32 :=
  let c0_i32_903_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_900_r0 : BitVec 32 := 2#32
  let v1917_r0 : BitVec 32 := Scalar.muli v1283_r0 c2_i32_900_r0
  let c1_i32_901_r0 : BitVec 32 := 1#32
  let v1918_r0 : BitVec 32 := Scalar.addi v1917_r0 c1_i32_901_r0
  let c768_i32_902_r0 : BitVec 32 := 768#32
  let v1919_r0 : BitVec 32 := Scalar.muli v1918_r0 c768_i32_902_r0
  let v1920_r0 : BitVec 32 := Scalar.addi c0_i32_903_r0 v1919_r0
  let v1921_r0 : BitVec 32 := v1920_r0
  let c608_i32_1138_r0 : BitVec 32 := 608#32
  let v2412_r0 : BitVec 32 := Scalar.addi v1921_r0 c608_i32_1138_r0
  v2412_r0
def k0_mult52 (k0_t1 : Fin k0_t1_loop.trips) : BitVec 32 :=
  let c0_i32_903_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_900_r0 : BitVec 32 := 2#32
  let v1917_r0 : BitVec 32 := Scalar.muli v1283_r0 c2_i32_900_r0
  let c1_i32_901_r0 : BitVec 32 := 1#32
  let v1918_r0 : BitVec 32 := Scalar.addi v1917_r0 c1_i32_901_r0
  let c768_i32_902_r0 : BitVec 32 := 768#32
  let v1919_r0 : BitVec 32 := Scalar.muli v1918_r0 c768_i32_902_r0
  let v1920_r0 : BitVec 32 := Scalar.addi c0_i32_903_r0 v1919_r0
  let v1921_r0 : BitVec 32 := v1920_r0
  let c640_i32_1150_r0 : BitVec 32 := 640#32
  let v2437_r0 : BitVec 32 := Scalar.addi v1921_r0 c640_i32_1150_r0
  v2437_r0
def k0_mult53 (k0_t1 : Fin k0_t1_loop.trips) : BitVec 32 :=
  let c0_i32_903_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_900_r0 : BitVec 32 := 2#32
  let v1917_r0 : BitVec 32 := Scalar.muli v1283_r0 c2_i32_900_r0
  let c1_i32_901_r0 : BitVec 32 := 1#32
  let v1918_r0 : BitVec 32 := Scalar.addi v1917_r0 c1_i32_901_r0
  let c768_i32_902_r0 : BitVec 32 := 768#32
  let v1919_r0 : BitVec 32 := Scalar.muli v1918_r0 c768_i32_902_r0
  let v1920_r0 : BitVec 32 := Scalar.addi c0_i32_903_r0 v1919_r0
  let v1921_r0 : BitVec 32 := v1920_r0
  let c672_i32_1162_r0 : BitVec 32 := 672#32
  let v2462_r0 : BitVec 32 := Scalar.addi v1921_r0 c672_i32_1162_r0
  v2462_r0
def k0_mult54 (k0_t1 : Fin k0_t1_loop.trips) : BitVec 32 :=
  let c0_i32_903_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_900_r0 : BitVec 32 := 2#32
  let v1917_r0 : BitVec 32 := Scalar.muli v1283_r0 c2_i32_900_r0
  let c1_i32_901_r0 : BitVec 32 := 1#32
  let v1918_r0 : BitVec 32 := Scalar.addi v1917_r0 c1_i32_901_r0
  let c768_i32_902_r0 : BitVec 32 := 768#32
  let v1919_r0 : BitVec 32 := Scalar.muli v1918_r0 c768_i32_902_r0
  let v1920_r0 : BitVec 32 := Scalar.addi c0_i32_903_r0 v1919_r0
  let v1921_r0 : BitVec 32 := v1920_r0
  let c704_i32_1174_r0 : BitVec 32 := 704#32
  let v2487_r0 : BitVec 32 := Scalar.addi v1921_r0 c704_i32_1174_r0
  v2487_r0
def k0_mult55 (k0_t1 : Fin k0_t1_loop.trips) : BitVec 32 :=
  let c0_i32_903_r0 : BitVec 32 := 0#32
  let c0_i32_29_r0 : BitVec 32 := 0#32
  let c1_i32_30_r0 : BitVec 32 := 1#32
  let arg8_r0 : BitVec 32 := Scf.iv c0_i32_29_r0 c1_i32_30_r0 k0_t1
  let c1_i32_592_r0 : BitVec 32 := 1#32
  let v1282_r0 : BitVec 32 := Scalar.subi arg8_r0 c1_i32_592_r0
  let c0_i32_593_r0 : BitVec 32 := 0#32
  let v1283_r0 : BitVec 32 := Scalar.maxsi v1282_r0 c0_i32_593_r0
  let c2_i32_900_r0 : BitVec 32 := 2#32
  let v1917_r0 : BitVec 32 := Scalar.muli v1283_r0 c2_i32_900_r0
  let c1_i32_901_r0 : BitVec 32 := 1#32
  let v1918_r0 : BitVec 32 := Scalar.addi v1917_r0 c1_i32_901_r0
  let c768_i32_902_r0 : BitVec 32 := 768#32
  let v1919_r0 : BitVec 32 := Scalar.muli v1918_r0 c768_i32_902_r0
  let v1920_r0 : BitVec 32 := Scalar.addi c0_i32_903_r0 v1919_r0
  let v1921_r0 : BitVec 32 := v1920_r0
  let c736_i32_1186_r0 : BitVec 32 := 736#32
  let v2512_r0 : BitVec 32 := Scalar.addi v1921_r0 c736_i32_1186_r0
  v2512_r0
def k0_off16 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2522_r0 : Index := Scalar.indexCast v1262_r0
  let c0_1192_r0 : Index := 0#32
  let c0_1193_r0 : Index := 0#32
  let c0_1194_r0 : Index := 0#32
  ![v2522_r0.toNat, 0, 0, 0]
def k0_off17 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2528_r0 : Index := Scalar.indexCast v1262_r0
  let c0_1198_r0 : Index := 0#32
  let c256_1199_r0 : Index := 256#32
  let c0_1200_r0 : Index := 0#32
  ![v2528_r0.toNat, 0, 256, 0]
def k0_off18 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2535_r0 : Index := Scalar.indexCast v1262_r0
  let c0_1204_r0 : Index := 0#32
  let c512_1205_r0 : Index := 512#32
  let c0_1206_r0 : Index := 0#32
  ![v2535_r0.toNat, 0, 512, 0]
def k0_off19 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2542_r0 : Index := Scalar.indexCast v1262_r0
  let c0_1210_r0 : Index := 0#32
  let c768_r0 : Index := 768#32
  let c0_1211_r0 : Index := 0#32
  ![v2542_r0.toNat, 0, 768, 0]
def k0_off20 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2549_r0 : Index := Scalar.indexCast v1262_r0
  let c0_1215_r0 : Index := 0#32
  let c1024_r0 : Index := 1024#32
  let c0_1216_r0 : Index := 0#32
  ![v2549_r0.toNat, 0, 1024, 0]
def k0_off21 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2556_r0 : Index := Scalar.indexCast v1262_r0
  let c0_1220_r0 : Index := 0#32
  let c1280_r0 : Index := 1280#32
  let c0_1221_r0 : Index := 0#32
  ![v2556_r0.toNat, 0, 1280, 0]
def k0_off22 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2563_r0 : Index := Scalar.indexCast v1262_r0
  let c0_1225_r0 : Index := 0#32
  let c1536_r0 : Index := 1536#32
  let c0_1226_r0 : Index := 0#32
  ![v2563_r0.toNat, 0, 1536, 0]
def k0_off23 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2570_r0 : Index := Scalar.indexCast v1262_r0
  let c0_1230_r0 : Index := 0#32
  let c1792_r0 : Index := 1792#32
  let c0_1231_r0 : Index := 0#32
  ![v2570_r0.toNat, 0, 1792, 0]
def k0_off24 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2577_r0 : Index := Scalar.indexCast v1262_r0
  let c0_1235_r0 : Index := 0#32
  let c2048_r0 : Index := 2048#32
  let c0_1236_r0 : Index := 0#32
  ![v2577_r0.toNat, 0, 2048, 0]
def k0_off25 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2584_r0 : Index := Scalar.indexCast v1262_r0
  let c0_1240_r0 : Index := 0#32
  let c2304_r0 : Index := 2304#32
  let c0_1241_r0 : Index := 0#32
  ![v2584_r0.toNat, 0, 2304, 0]
def k0_off26 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2591_r0 : Index := Scalar.indexCast v1262_r0
  let c0_1245_r0 : Index := 0#32
  let c2560_r0 : Index := 2560#32
  let c0_1246_r0 : Index := 0#32
  ![v2591_r0.toNat, 0, 2560, 0]
def k0_off27 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2598_r0 : Index := Scalar.indexCast v1262_r0
  let c0_1250_r0 : Index := 0#32
  let c2816_r0 : Index := 2816#32
  let c0_1251_r0 : Index := 0#32
  ![v2598_r0.toNat, 0, 2816, 0]
def k0_off28 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2605_r0 : Index := Scalar.indexCast v1262_r0
  let c0_1255_r0 : Index := 0#32
  let c3072_r0 : Index := 3072#32
  let c0_1256_r0 : Index := 0#32
  ![v2605_r0.toNat, 0, 3072, 0]
def k0_off29 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2612_r0 : Index := Scalar.indexCast v1262_r0
  let c0_1260_r0 : Index := 0#32
  let c3328_r0 : Index := 3328#32
  let c0_1261_r0 : Index := 0#32
  ![v2612_r0.toNat, 0, 3328, 0]
def k0_off30 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2619_r0 : Index := Scalar.indexCast v1262_r0
  let c0_1265_r0 : Index := 0#32
  let c3584_r0 : Index := 3584#32
  let c0_1266_r0 : Index := 0#32
  ![v2619_r0.toNat, 0, 3584, 0]
def k0_off31 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2626_r0 : Index := Scalar.indexCast v1262_r0
  let c0_1270_r0 : Index := 0#32
  let c3840_r0 : Index := 3840#32
  let c0_1271_r0 : Index := 0#32
  ![v2626_r0.toNat, 0, 3840, 0]
def k0_off32 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2633_r0 : Index := Scalar.indexCast v1262_r0
  let c0_1275_r0 : Index := 0#32
  let c4096_r0 : Index := 4096#32
  let c0_1276_r0 : Index := 0#32
  ![v2633_r0.toNat, 0, 4096, 0]
def k0_off33 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2640_r0 : Index := Scalar.indexCast v1262_r0
  let c0_1280_r0 : Index := 0#32
  let c4352_r0 : Index := 4352#32
  let c0_1281_r0 : Index := 0#32
  ![v2640_r0.toNat, 0, 4352, 0]
def k0_off34 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2647_r0 : Index := Scalar.indexCast v1262_r0
  let c0_1285_r0 : Index := 0#32
  let c4608_r0 : Index := 4608#32
  let c0_1286_r0 : Index := 0#32
  ![v2647_r0.toNat, 0, 4608, 0]
def k0_off35 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2654_r0 : Index := Scalar.indexCast v1262_r0
  let c0_1290_r0 : Index := 0#32
  let c4864_r0 : Index := 4864#32
  let c0_1291_r0 : Index := 0#32
  ![v2654_r0.toNat, 0, 4864, 0]
def k0_off36 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2664_r0 : Index := Scalar.indexCast v1262_r0
  let c1_r0 : Index := 1#32
  let c0_1297_r0 : Index := 0#32
  let c0_1298_r0 : Index := 0#32
  ![v2664_r0.toNat, 1, 0, 0]
def k0_off37 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2670_r0 : Index := Scalar.indexCast v1262_r0
  let c1_1302_r0 : Index := 1#32
  let c256_1303_r0 : Index := 256#32
  let c0_1304_r0 : Index := 0#32
  ![v2670_r0.toNat, 1, 256, 0]
def k0_off38 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2677_r0 : Index := Scalar.indexCast v1262_r0
  let c1_1308_r0 : Index := 1#32
  let c512_1309_r0 : Index := 512#32
  let c0_1310_r0 : Index := 0#32
  ![v2677_r0.toNat, 1, 512, 0]
def k0_off39 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2684_r0 : Index := Scalar.indexCast v1262_r0
  let c1_1314_r0 : Index := 1#32
  let c768_1315_r0 : Index := 768#32
  let c0_1316_r0 : Index := 0#32
  ![v2684_r0.toNat, 1, 768, 0]
def k0_off40 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2691_r0 : Index := Scalar.indexCast v1262_r0
  let c1_1320_r0 : Index := 1#32
  let c1024_1321_r0 : Index := 1024#32
  let c0_1322_r0 : Index := 0#32
  ![v2691_r0.toNat, 1, 1024, 0]
def k0_off41 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2698_r0 : Index := Scalar.indexCast v1262_r0
  let c1_1326_r0 : Index := 1#32
  let c1280_1327_r0 : Index := 1280#32
  let c0_1328_r0 : Index := 0#32
  ![v2698_r0.toNat, 1, 1280, 0]
def k0_off42 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2705_r0 : Index := Scalar.indexCast v1262_r0
  let c1_1332_r0 : Index := 1#32
  let c1536_1333_r0 : Index := 1536#32
  let c0_1334_r0 : Index := 0#32
  ![v2705_r0.toNat, 1, 1536, 0]
def k0_off43 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2712_r0 : Index := Scalar.indexCast v1262_r0
  let c1_1338_r0 : Index := 1#32
  let c1792_1339_r0 : Index := 1792#32
  let c0_1340_r0 : Index := 0#32
  ![v2712_r0.toNat, 1, 1792, 0]
def k0_off44 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2719_r0 : Index := Scalar.indexCast v1262_r0
  let c1_1344_r0 : Index := 1#32
  let c2048_1345_r0 : Index := 2048#32
  let c0_1346_r0 : Index := 0#32
  ![v2719_r0.toNat, 1, 2048, 0]
def k0_off45 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2726_r0 : Index := Scalar.indexCast v1262_r0
  let c1_1350_r0 : Index := 1#32
  let c2304_1351_r0 : Index := 2304#32
  let c0_1352_r0 : Index := 0#32
  ![v2726_r0.toNat, 1, 2304, 0]
def k0_off46 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2733_r0 : Index := Scalar.indexCast v1262_r0
  let c1_1356_r0 : Index := 1#32
  let c2560_1357_r0 : Index := 2560#32
  let c0_1358_r0 : Index := 0#32
  ![v2733_r0.toNat, 1, 2560, 0]
def k0_off47 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2740_r0 : Index := Scalar.indexCast v1262_r0
  let c1_1362_r0 : Index := 1#32
  let c2816_1363_r0 : Index := 2816#32
  let c0_1364_r0 : Index := 0#32
  ![v2740_r0.toNat, 1, 2816, 0]
def k0_off48 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2747_r0 : Index := Scalar.indexCast v1262_r0
  let c1_1368_r0 : Index := 1#32
  let c3072_1369_r0 : Index := 3072#32
  let c0_1370_r0 : Index := 0#32
  ![v2747_r0.toNat, 1, 3072, 0]
def k0_off49 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2754_r0 : Index := Scalar.indexCast v1262_r0
  let c1_1374_r0 : Index := 1#32
  let c3328_1375_r0 : Index := 3328#32
  let c0_1376_r0 : Index := 0#32
  ![v2754_r0.toNat, 1, 3328, 0]
def k0_off50 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2761_r0 : Index := Scalar.indexCast v1262_r0
  let c1_1380_r0 : Index := 1#32
  let c3584_1381_r0 : Index := 3584#32
  let c0_1382_r0 : Index := 0#32
  ![v2761_r0.toNat, 1, 3584, 0]
def k0_off51 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2768_r0 : Index := Scalar.indexCast v1262_r0
  let c1_1386_r0 : Index := 1#32
  let c3840_1387_r0 : Index := 3840#32
  let c0_1388_r0 : Index := 0#32
  ![v2768_r0.toNat, 1, 3840, 0]
def k0_off52 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2775_r0 : Index := Scalar.indexCast v1262_r0
  let c1_1392_r0 : Index := 1#32
  let c4096_1393_r0 : Index := 4096#32
  let c0_1394_r0 : Index := 0#32
  ![v2775_r0.toNat, 1, 4096, 0]
def k0_off53 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2782_r0 : Index := Scalar.indexCast v1262_r0
  let c1_1398_r0 : Index := 1#32
  let c4352_1399_r0 : Index := 4352#32
  let c0_1400_r0 : Index := 0#32
  ![v2782_r0.toNat, 1, 4352, 0]
def k0_off54 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2789_r0 : Index := Scalar.indexCast v1262_r0
  let c1_1404_r0 : Index := 1#32
  let c4608_1405_r0 : Index := 4608#32
  let c0_1406_r0 : Index := 0#32
  ![v2789_r0.toNat, 1, 4608, 0]
def k0_off55 (k0_t1 : Fin k0_t1_loop.trips) : Fin 4 → Nat :=
  let c0_i32_29_r0 : BitVec 32 := 0#32
  let c1_i32_30_r0 : BitVec 32 := 1#32
  let arg8_r0 : BitVec 32 := Scf.iv c0_i32_29_r0 c1_i32_30_r0 k0_t1
  let c3_i32_r0 : BitVec 32 := 3#32
  let v1262_r0 : BitVec 32 := Scalar.remsi arg8_r0 c3_i32_r0
  let v2796_r0 : Index := Scalar.indexCast v1262_r0
  let c1_1410_r0 : Index := 1#32
  let c4864_1411_r0 : Index := 4864#32
  let c0_1412_r0 : Index := 0#32
  ![v2796_r0.toNat, 1, 4864, 0]
def k0_mult56 : BitVec 32 :=
  let c5120_i32_r0 : BitVec 32 := 5120#32
  c5120_i32_r0
def k0_off56 (c0_i32_32_r0 : BitVec 32) : Fin 2 → Nat :=
  let c0_33_r0 : Index := 0#32
  let c5120_i32_r0 : BitVec 32 := 5120#32
  let v33_r0 : BitVec 32 := c5120_i32_r0
  let v34_r0 : BitVec 32 := Scalar.addi v33_r0 c0_i32_32_r0
  let v35_r0 : Index := Scalar.indexCast v34_r0
  ![0, v35_r0.toNat]
def k0_off57 (c0_i32_35_r0 : BitVec 32) : Fin 2 → Nat :=
  let c0_36_r0 : Index := 0#32
  let c5376_i32_34_r0 : BitVec 32 := 5376#32
  let c5120_i32_r0 : BitVec 32 := 5120#32
  let v33_r0 : BitVec 32 := c5120_i32_r0
  let v38_r0 : BitVec 32 := Scalar.addi c5376_i32_34_r0 v33_r0
  let v39_r0 : BitVec 32 := Scalar.addi v38_r0 c0_i32_35_r0
  let v40_r0 : Index := Scalar.indexCast v39_r0
  ![0, v40_r0.toNat]
def k0_off58 (c0_i32_37_r0 : BitVec 32) : Fin 2 → Nat :=
  let c0_38_r0 : Index := 0#32
  let c5120_i32_r0 : BitVec 32 := 5120#32
  let v33_r0 : BitVec 32 := c5120_i32_r0
  let v43_r0 : BitVec 32 := Scalar.addi v33_r0 c0_i32_37_r0
  let v44_r0 : Index := Scalar.indexCast v43_r0
  ![0, v44_r0.toNat]
def k0_mult57 : BitVec 32 :=
  let c30720_i32_r0 : BitVec 32 := 30720#32
  c30720_i32_r0
def k0_mult58 : BitVec 32 :=
  let c30720_i32_r0 : BitVec 32 := 30720#32
  let v47_r0 : BitVec 32 := c30720_i32_r0
  let c0_i32_44_r0 : BitVec 32 := 0#32
  let v63_r0 : BitVec 32 := Scalar.addi v47_r0 c0_i32_44_r0
  v63_r0
def k0_off59 (c30720_i32_r0 : BitVec 32) (c0_i32_44_r0 : BitVec 32) : Fin 2 → Nat :=
  let v47_r0 : BitVec 32 := c30720_i32_r0
  let v63_r0 : BitVec 32 := Scalar.addi v47_r0 c0_i32_44_r0
  let v64_r0 : BitVec 32 := v63_r0
  let v65_r0 : Index := Scalar.indexCast v64_r0
  let c0_45_r0 : Index := 0#32
  ![v65_r0.toNat, 0]
def k0_mult59 : BitVec 32 :=
  let c30720_i32_r0 : BitVec 32 := 30720#32
  let v47_r0 : BitVec 32 := c30720_i32_r0
  let c32_i32_r0 : BitVec 32 := 32#32
  let v88_r0 : BitVec 32 := Scalar.addi v47_r0 c32_i32_r0
  v88_r0
def k0_mult60 : BitVec 32 :=
  let c30720_i32_r0 : BitVec 32 := 30720#32
  let v47_r0 : BitVec 32 := c30720_i32_r0
  let c64_i32_r0 : BitVec 32 := 64#32
  let v113_r0 : BitVec 32 := Scalar.addi v47_r0 c64_i32_r0
  v113_r0
def k0_mult61 : BitVec 32 :=
  let c30720_i32_r0 : BitVec 32 := 30720#32
  let v47_r0 : BitVec 32 := c30720_i32_r0
  let c96_i32_r0 : BitVec 32 := 96#32
  let v138_r0 : BitVec 32 := Scalar.addi v47_r0 c96_i32_r0
  v138_r0
def k0_mult62 : BitVec 32 :=
  let c30720_i32_r0 : BitVec 32 := 30720#32
  let v47_r0 : BitVec 32 := c30720_i32_r0
  let c128_i32_r0 : BitVec 32 := 128#32
  let v163_r0 : BitVec 32 := Scalar.addi v47_r0 c128_i32_r0
  v163_r0
def k0_mult63 : BitVec 32 :=
  let c30720_i32_r0 : BitVec 32 := 30720#32
  let v47_r0 : BitVec 32 := c30720_i32_r0
  let c160_i32_r0 : BitVec 32 := 160#32
  let v188_r0 : BitVec 32 := Scalar.addi v47_r0 c160_i32_r0
  v188_r0
def k0_mult64 : BitVec 32 :=
  let c30720_i32_r0 : BitVec 32 := 30720#32
  let v47_r0 : BitVec 32 := c30720_i32_r0
  let c192_i32_r0 : BitVec 32 := 192#32
  let v213_r0 : BitVec 32 := Scalar.addi v47_r0 c192_i32_r0
  v213_r0
def k0_mult65 : BitVec 32 :=
  let c30720_i32_r0 : BitVec 32 := 30720#32
  let v47_r0 : BitVec 32 := c30720_i32_r0
  let c224_i32_r0 : BitVec 32 := 224#32
  let v238_r0 : BitVec 32 := Scalar.addi v47_r0 c224_i32_r0
  v238_r0
def k0_mult66 : BitVec 32 :=
  let c30720_i32_r0 : BitVec 32 := 30720#32
  let v47_r0 : BitVec 32 := c30720_i32_r0
  let c256_i32_126_r0 : BitVec 32 := 256#32
  let v263_r0 : BitVec 32 := Scalar.addi v47_r0 c256_i32_126_r0
  v263_r0
def k0_mult67 : BitVec 32 :=
  let c30720_i32_r0 : BitVec 32 := 30720#32
  let v47_r0 : BitVec 32 := c30720_i32_r0
  let c288_i32_r0 : BitVec 32 := 288#32
  let v288_r0 : BitVec 32 := Scalar.addi v47_r0 c288_i32_r0
  v288_r0
def k0_mult68 : BitVec 32 :=
  let c30720_i32_r0 : BitVec 32 := 30720#32
  let v47_r0 : BitVec 32 := c30720_i32_r0
  let c320_i32_r0 : BitVec 32 := 320#32
  let v313_r0 : BitVec 32 := Scalar.addi v47_r0 c320_i32_r0
  v313_r0
def k0_mult69 : BitVec 32 :=
  let c30720_i32_r0 : BitVec 32 := 30720#32
  let v47_r0 : BitVec 32 := c30720_i32_r0
  let c352_i32_r0 : BitVec 32 := 352#32
  let v338_r0 : BitVec 32 := Scalar.addi v47_r0 c352_i32_r0
  v338_r0
def k0_mult70 : BitVec 32 :=
  let c30720_i32_r0 : BitVec 32 := 30720#32
  let v47_r0 : BitVec 32 := c30720_i32_r0
  let c384_i32_r0 : BitVec 32 := 384#32
  let v363_r0 : BitVec 32 := Scalar.addi v47_r0 c384_i32_r0
  v363_r0
def k0_mult71 : BitVec 32 :=
  let c30720_i32_r0 : BitVec 32 := 30720#32
  let v47_r0 : BitVec 32 := c30720_i32_r0
  let c416_i32_r0 : BitVec 32 := 416#32
  let v388_r0 : BitVec 32 := Scalar.addi v47_r0 c416_i32_r0
  v388_r0
def k0_mult72 : BitVec 32 :=
  let c30720_i32_r0 : BitVec 32 := 30720#32
  let v47_r0 : BitVec 32 := c30720_i32_r0
  let c448_i32_r0 : BitVec 32 := 448#32
  let v413_r0 : BitVec 32 := Scalar.addi v47_r0 c448_i32_r0
  v413_r0
def k0_mult73 : BitVec 32 :=
  let c30720_i32_r0 : BitVec 32 := 30720#32
  let v47_r0 : BitVec 32 := c30720_i32_r0
  let c480_i32_r0 : BitVec 32 := 480#32
  let v438_r0 : BitVec 32 := Scalar.addi v47_r0 c480_i32_r0
  v438_r0
def k0_mult74 : BitVec 32 :=
  let c30720_i32_r0 : BitVec 32 := 30720#32
  let v47_r0 : BitVec 32 := c30720_i32_r0
  let c512_i32_r0 : BitVec 32 := 512#32
  let v463_r0 : BitVec 32 := Scalar.addi v47_r0 c512_i32_r0
  v463_r0
def k0_mult75 : BitVec 32 :=
  let c30720_i32_r0 : BitVec 32 := 30720#32
  let v47_r0 : BitVec 32 := c30720_i32_r0
  let c544_i32_r0 : BitVec 32 := 544#32
  let v488_r0 : BitVec 32 := Scalar.addi v47_r0 c544_i32_r0
  v488_r0
def k0_mult76 : BitVec 32 :=
  let c30720_i32_r0 : BitVec 32 := 30720#32
  let v47_r0 : BitVec 32 := c30720_i32_r0
  let c576_i32_r0 : BitVec 32 := 576#32
  let v513_r0 : BitVec 32 := Scalar.addi v47_r0 c576_i32_r0
  v513_r0
def k0_mult77 : BitVec 32 :=
  let c30720_i32_r0 : BitVec 32 := 30720#32
  let v47_r0 : BitVec 32 := c30720_i32_r0
  let c608_i32_r0 : BitVec 32 := 608#32
  let v538_r0 : BitVec 32 := Scalar.addi v47_r0 c608_i32_r0
  v538_r0
def k0_mult78 : BitVec 32 :=
  let c30720_i32_r0 : BitVec 32 := 30720#32
  let v47_r0 : BitVec 32 := c30720_i32_r0
  let c640_i32_r0 : BitVec 32 := 640#32
  let v563_r0 : BitVec 32 := Scalar.addi v47_r0 c640_i32_r0
  v563_r0
def k0_mult79 : BitVec 32 :=
  let c30720_i32_r0 : BitVec 32 := 30720#32
  let v47_r0 : BitVec 32 := c30720_i32_r0
  let c672_i32_r0 : BitVec 32 := 672#32
  let v588_r0 : BitVec 32 := Scalar.addi v47_r0 c672_i32_r0
  v588_r0
def k0_mult80 : BitVec 32 :=
  let c30720_i32_r0 : BitVec 32 := 30720#32
  let v47_r0 : BitVec 32 := c30720_i32_r0
  let c704_i32_r0 : BitVec 32 := 704#32
  let v613_r0 : BitVec 32 := Scalar.addi v47_r0 c704_i32_r0
  v613_r0
def k0_mult81 : BitVec 32 :=
  let c30720_i32_r0 : BitVec 32 := 30720#32
  let v47_r0 : BitVec 32 := c30720_i32_r0
  let c736_i32_r0 : BitVec 32 := 736#32
  let v638_r0 : BitVec 32 := Scalar.addi v47_r0 c736_i32_r0
  v638_r0
def k0_mult82 : BitVec 32 :=
  let c31488_i32_r0 : BitVec 32 := 31488#32
  c31488_i32_r0
def k0_mult83 : BitVec 32 :=
  let c31488_i32_r0 : BitVec 32 := 31488#32
  let v661_r0 : BitVec 32 := c31488_i32_r0
  let c0_i32_295_r0 : BitVec 32 := 0#32
  let v677_r0 : BitVec 32 := Scalar.addi v661_r0 c0_i32_295_r0
  v677_r0
def k0_mult84 : BitVec 32 :=
  let c31488_i32_r0 : BitVec 32 := 31488#32
  let v661_r0 : BitVec 32 := c31488_i32_r0
  let c32_i32_307_r0 : BitVec 32 := 32#32
  let v702_r0 : BitVec 32 := Scalar.addi v661_r0 c32_i32_307_r0
  v702_r0
def k0_mult85 : BitVec 32 :=
  let c31488_i32_r0 : BitVec 32 := 31488#32
  let v661_r0 : BitVec 32 := c31488_i32_r0
  let c64_i32_319_r0 : BitVec 32 := 64#32
  let v727_r0 : BitVec 32 := Scalar.addi v661_r0 c64_i32_319_r0
  v727_r0
def k0_mult86 : BitVec 32 :=
  let c31488_i32_r0 : BitVec 32 := 31488#32
  let v661_r0 : BitVec 32 := c31488_i32_r0
  let c96_i32_331_r0 : BitVec 32 := 96#32
  let v752_r0 : BitVec 32 := Scalar.addi v661_r0 c96_i32_331_r0
  v752_r0
def k0_mult87 : BitVec 32 :=
  let c31488_i32_r0 : BitVec 32 := 31488#32
  let v661_r0 : BitVec 32 := c31488_i32_r0
  let c128_i32_343_r0 : BitVec 32 := 128#32
  let v777_r0 : BitVec 32 := Scalar.addi v661_r0 c128_i32_343_r0
  v777_r0
def k0_mult88 : BitVec 32 :=
  let c31488_i32_r0 : BitVec 32 := 31488#32
  let v661_r0 : BitVec 32 := c31488_i32_r0
  let c160_i32_355_r0 : BitVec 32 := 160#32
  let v802_r0 : BitVec 32 := Scalar.addi v661_r0 c160_i32_355_r0
  v802_r0
def k0_mult89 : BitVec 32 :=
  let c31488_i32_r0 : BitVec 32 := 31488#32
  let v661_r0 : BitVec 32 := c31488_i32_r0
  let c192_i32_367_r0 : BitVec 32 := 192#32
  let v827_r0 : BitVec 32 := Scalar.addi v661_r0 c192_i32_367_r0
  v827_r0
def k0_mult90 : BitVec 32 :=
  let c31488_i32_r0 : BitVec 32 := 31488#32
  let v661_r0 : BitVec 32 := c31488_i32_r0
  let c224_i32_379_r0 : BitVec 32 := 224#32
  let v852_r0 : BitVec 32 := Scalar.addi v661_r0 c224_i32_379_r0
  v852_r0
def k0_mult91 : BitVec 32 :=
  let c31488_i32_r0 : BitVec 32 := 31488#32
  let v661_r0 : BitVec 32 := c31488_i32_r0
  let c256_i32_391_r0 : BitVec 32 := 256#32
  let v877_r0 : BitVec 32 := Scalar.addi v661_r0 c256_i32_391_r0
  v877_r0
def k0_mult92 : BitVec 32 :=
  let c31488_i32_r0 : BitVec 32 := 31488#32
  let v661_r0 : BitVec 32 := c31488_i32_r0
  let c288_i32_403_r0 : BitVec 32 := 288#32
  let v902_r0 : BitVec 32 := Scalar.addi v661_r0 c288_i32_403_r0
  v902_r0
def k0_mult93 : BitVec 32 :=
  let c31488_i32_r0 : BitVec 32 := 31488#32
  let v661_r0 : BitVec 32 := c31488_i32_r0
  let c320_i32_415_r0 : BitVec 32 := 320#32
  let v927_r0 : BitVec 32 := Scalar.addi v661_r0 c320_i32_415_r0
  v927_r0
def k0_mult94 : BitVec 32 :=
  let c31488_i32_r0 : BitVec 32 := 31488#32
  let v661_r0 : BitVec 32 := c31488_i32_r0
  let c352_i32_427_r0 : BitVec 32 := 352#32
  let v952_r0 : BitVec 32 := Scalar.addi v661_r0 c352_i32_427_r0
  v952_r0
def k0_mult95 : BitVec 32 :=
  let c31488_i32_r0 : BitVec 32 := 31488#32
  let v661_r0 : BitVec 32 := c31488_i32_r0
  let c384_i32_439_r0 : BitVec 32 := 384#32
  let v977_r0 : BitVec 32 := Scalar.addi v661_r0 c384_i32_439_r0
  v977_r0
def k0_mult96 : BitVec 32 :=
  let c31488_i32_r0 : BitVec 32 := 31488#32
  let v661_r0 : BitVec 32 := c31488_i32_r0
  let c416_i32_451_r0 : BitVec 32 := 416#32
  let v1002_r0 : BitVec 32 := Scalar.addi v661_r0 c416_i32_451_r0
  v1002_r0
def k0_mult97 : BitVec 32 :=
  let c31488_i32_r0 : BitVec 32 := 31488#32
  let v661_r0 : BitVec 32 := c31488_i32_r0
  let c448_i32_463_r0 : BitVec 32 := 448#32
  let v1027_r0 : BitVec 32 := Scalar.addi v661_r0 c448_i32_463_r0
  v1027_r0
def k0_mult98 : BitVec 32 :=
  let c31488_i32_r0 : BitVec 32 := 31488#32
  let v661_r0 : BitVec 32 := c31488_i32_r0
  let c480_i32_475_r0 : BitVec 32 := 480#32
  let v1052_r0 : BitVec 32 := Scalar.addi v661_r0 c480_i32_475_r0
  v1052_r0
def k0_mult99 : BitVec 32 :=
  let c31488_i32_r0 : BitVec 32 := 31488#32
  let v661_r0 : BitVec 32 := c31488_i32_r0
  let c512_i32_487_r0 : BitVec 32 := 512#32
  let v1077_r0 : BitVec 32 := Scalar.addi v661_r0 c512_i32_487_r0
  v1077_r0
def k0_mult100 : BitVec 32 :=
  let c31488_i32_r0 : BitVec 32 := 31488#32
  let v661_r0 : BitVec 32 := c31488_i32_r0
  let c544_i32_499_r0 : BitVec 32 := 544#32
  let v1102_r0 : BitVec 32 := Scalar.addi v661_r0 c544_i32_499_r0
  v1102_r0
def k0_mult101 : BitVec 32 :=
  let c31488_i32_r0 : BitVec 32 := 31488#32
  let v661_r0 : BitVec 32 := c31488_i32_r0
  let c576_i32_511_r0 : BitVec 32 := 576#32
  let v1127_r0 : BitVec 32 := Scalar.addi v661_r0 c576_i32_511_r0
  v1127_r0
def k0_mult102 : BitVec 32 :=
  let c31488_i32_r0 : BitVec 32 := 31488#32
  let v661_r0 : BitVec 32 := c31488_i32_r0
  let c608_i32_523_r0 : BitVec 32 := 608#32
  let v1152_r0 : BitVec 32 := Scalar.addi v661_r0 c608_i32_523_r0
  v1152_r0
def k0_mult103 : BitVec 32 :=
  let c31488_i32_r0 : BitVec 32 := 31488#32
  let v661_r0 : BitVec 32 := c31488_i32_r0
  let c640_i32_535_r0 : BitVec 32 := 640#32
  let v1177_r0 : BitVec 32 := Scalar.addi v661_r0 c640_i32_535_r0
  v1177_r0
def k0_mult104 : BitVec 32 :=
  let c31488_i32_r0 : BitVec 32 := 31488#32
  let v661_r0 : BitVec 32 := c31488_i32_r0
  let c672_i32_547_r0 : BitVec 32 := 672#32
  let v1202_r0 : BitVec 32 := Scalar.addi v661_r0 c672_i32_547_r0
  v1202_r0
def k0_mult105 : BitVec 32 :=
  let c31488_i32_r0 : BitVec 32 := 31488#32
  let v661_r0 : BitVec 32 := c31488_i32_r0
  let c704_i32_559_r0 : BitVec 32 := 704#32
  let v1227_r0 : BitVec 32 := Scalar.addi v661_r0 c704_i32_559_r0
  v1227_r0
def k0_mult106 : BitVec 32 :=
  let c31488_i32_r0 : BitVec 32 := 31488#32
  let v661_r0 : BitVec 32 := c31488_i32_r0
  let c736_i32_571_r0 : BitVec 32 := 736#32
  let v1252_r0 : BitVec 32 := Scalar.addi v661_r0 c736_i32_571_r0
  v1252_r0
abbrev stage0_0 : Fin 1 → Memref sig .tc .vmem S1x5376 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x10752 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== UpReferenceIdeal.lean ====
abbrev S768x5120 : Shape := ⟨2, ![768, 5120]⟩
abbrev S768 : Shape := ⟨1, ![768]⟩
abbrev S5120x10752 : Shape := ⟨2, ![5120, 10752]⟩
abbrev S10752 : Shape := ⟨1, ![10752]⟩
abbrev S5376 : Shape := ⟨1, ![5376]⟩
abbrev S768x1 : Shape := ⟨2, ![768, 1]⟩
abbrev S1x10752 : Shape := ⟨2, ![1, 10752]⟩
abbrev S1x5376 : Shape := ⟨2, ![1, 5376]⟩
abbrev S32256x128 : Shape := ⟨2, ![32256, 128]⟩
abbrev S768x10752 : Shape := ⟨2, ![768, 10752]⟩
abbrev S768x5376 : Shape := ⟨2, ![768, 5376]⟩
abbrev S768x42x128 : Shape := ⟨3, ![768, 42, 128]⟩
abbrev S42x768x128 : Shape := ⟨3, ![42, 768, 128]⟩

abbrev nBuf : Space → Nat
  | .hbm => 9
  | .vmem => 6
  | .smem => 0
  | _ => 0

abbrev bufTy : (tb : Table) → Fin (tcTables nBuf tb) → BufTy
  | .hbm, ⟨0, _⟩ => ⟨S768x5120, .bf16⟩
  | .hbm, ⟨1, _⟩ => ⟨S768, .f32⟩
  | .hbm, ⟨2, _⟩ => ⟨S5120x10752, .i8⟩
  | .hbm, ⟨3, _⟩ => ⟨S10752, .f32⟩
  | .hbm, ⟨4, _⟩ => ⟨S5376, .f32⟩
  | .hbm, ⟨5, _⟩ => ⟨S768x1, .f32⟩
  | .hbm, ⟨6, _⟩ => ⟨S1x10752, .f32⟩
  | .hbm, ⟨7, _⟩ => ⟨S1x5376, .f32⟩
  | .hbm, ⟨8, _⟩ => ⟨S32256x128, .f32⟩
  | .local _ .vmem, ⟨0, _⟩ => ⟨S768x5120, .bf16⟩
  | .local _ .vmem, ⟨1, _⟩ => ⟨S768x1, .f32⟩
  | .local _ .vmem, ⟨2, _⟩ => ⟨S5120x10752, .i8⟩
  | .local _ .vmem, ⟨3, _⟩ => ⟨S1x10752, .f32⟩
  | .local _ .vmem, ⟨4, _⟩ => ⟨S1x5376, .f32⟩
  | .local _ .vmem, ⟨5, _⟩ => ⟨S32256x128, .f32⟩
  | _, _ => ⟨S768x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S768x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x10752 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x10752 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5376 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== PrepKernel.lean ====
abbrev S6x128x5120 : Shape := ⟨3, ![6, 128, 5120]⟩
abbrev S5120 : Shape := ⟨1, ![5120]⟩
abbrev S1x5120 : Shape := ⟨2, ![1, 5120]⟩
abbrev S768x5120 : Shape := ⟨2, ![768, 5120]⟩
abbrev S6x128 : Shape := ⟨2, ![6, 128]⟩
abbrev S768x128 : Shape := ⟨2, ![768, 128]⟩
abbrev S10 : Shape := ⟨1, ![10]⟩
abbrev S1 : Shape := ⟨1, ![1]⟩
abbrev S_ : Shape := ⟨0, ![]⟩
abbrev S32x128 : Shape := ⟨2, ![32, 128]⟩
abbrev S32 : Shape := ⟨1, ![32]⟩
abbrev S32x1 : Shape := ⟨2, ![32, 1]⟩
abbrev S1x128 : Shape := ⟨2, ![1, 128]⟩
abbrev S32x5120 : Shape := ⟨2, ![32, 5120]⟩
abbrev S128x128 : Shape := ⟨2, ![128, 128]⟩
abbrev S128 : Shape := ⟨1, ![128]⟩

abbrev nBuf : Space → Nat
  | .hbm => 8
  | .vmem => 6
  | .smem => 0
  | _ => 0

abbrev bufTy : (tb : Table) → Fin (tcTables nBuf tb) → BufTy
  | .hbm, ⟨0, _⟩ => ⟨S6x128x5120, .bf16⟩
  | .hbm, ⟨1, _⟩ => ⟨S5120, .f32⟩
  | .hbm, ⟨2, _⟩ => ⟨S5120, .f32⟩
  | .hbm, ⟨3, _⟩ => ⟨S1x5120, .f32⟩
  | .hbm, ⟨4, _⟩ => ⟨S1x5120, .f32⟩
  | .hbm, ⟨5, _⟩ => ⟨S768x5120, .bf16⟩
  | .hbm, ⟨6, _⟩ => ⟨S768x5120, .i8⟩
  | .hbm, ⟨7, _⟩ => ⟨S6x128, .f32⟩
  | .local _ .vmem, ⟨0, _⟩ => ⟨S1x5120, .f32⟩
  | .local _ .vmem, ⟨1, _⟩ => ⟨S1x5120, .f32⟩
  | .local _ .vmem, ⟨2, _⟩ => ⟨S6x128, .f32⟩
  | .local _ .vmem, ⟨3, _⟩ => ⟨S768x128, .f32⟩
  | .local _ .vmem, ⟨4, _⟩ => ⟨S768x5120, .bf16⟩
  | .local _ .vmem, ⟨5, _⟩ => ⟨S768x5120, .i8⟩
  | _, _ => ⟨S6x128x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scoped0 : Ref sig .tc := ⟨.vmem, 4, rfl⟩
abbrev cc0_scoped1 : Ref sig .tc := ⟨.vmem, 5, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_3_r0 : BitVec 32 := 0#32
  let c24_i32_r0 : BitVec 32 := 24#32
  let v4_r0 : BitVec 32 := Scalar.addi c0_i32_3_r0 c24_i32_r0
  let c1_i32_r0 : BitVec 32 := 1#32
  ⟨c0_i32_3_r0, v4_r0, c1_i32_r0⟩
def k0_mult1 (k0_t1 : Fin k0_t1_loop.trips) : BitVec 32 :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  v45_r0
def k0_off1 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v48_r0 : Index := Scalar.indexCast v46_r0
  let c0_35_r0 : Index := 0#32
  ![v48_r0.toNat, 0]
def k0_off2 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v53_r0 : Index := Scalar.indexCast v46_r0
  let c128_36_r0 : Index := 128#32
  ![v53_r0.toNat, 128]
def k0_off3 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v58_r0 : Index := Scalar.indexCast v46_r0
  let c256_37_r0 : Index := 256#32
  ![v58_r0.toNat, 256]
def k0_off4 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v63_r0 : Index := Scalar.indexCast v46_r0
  let c384_38_r0 : Index := 384#32
  ![v63_r0.toNat, 384]
def k0_off5 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v68_r0 : Index := Scalar.indexCast v46_r0
  let c512_39_r0 : Index := 512#32
  ![v68_r0.toNat, 512]
def k0_off6 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v73_r0 : Index := Scalar.indexCast v46_r0
  let c640_40_r0 : Index := 640#32
  ![v73_r0.toNat, 640]
def k0_off7 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v78_r0 : Index := Scalar.indexCast v46_r0
  let c768_r0 : Index := 768#32
  ![v78_r0.toNat, 768]
def k0_off8 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v83_r0 : Index := Scalar.indexCast v46_r0
  let c896_r0 : Index := 896#32
  ![v83_r0.toNat, 896]
def k0_off9 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v88_r0 : Index := Scalar.indexCast v46_r0
  let c1024_r0 : Index := 1024#32
  ![v88_r0.toNat, 1024]
def k0_off10 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v93_r0 : Index := Scalar.indexCast v46_r0
  let c1152_r0 : Index := 1152#32
  ![v93_r0.toNat, 1152]
def k0_off11 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v98_r0 : Index := Scalar.indexCast v46_r0
  let c1280_r0 : Index := 1280#32
  ![v98_r0.toNat, 1280]
def k0_off12 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v103_r0 : Index := Scalar.indexCast v46_r0
  let c1408_r0 : Index := 1408#32
  ![v103_r0.toNat, 1408]
def k0_off13 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v108_r0 : Index := Scalar.indexCast v46_r0
  let c1536_r0 : Index := 1536#32
  ![v108_r0.toNat, 1536]
def k0_off14 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v113_r0 : Index := Scalar.indexCast v46_r0
  let c1664_r0 : Index := 1664#32
  ![v113_r0.toNat, 1664]
def k0_off15 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v118_r0 : Index := Scalar.indexCast v46_r0
  let c1792_r0 : Index := 1792#32
  ![v118_r0.toNat, 1792]
def k0_off16 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v123_r0 : Index := Scalar.indexCast v46_r0
  let c1920_r0 : Index := 1920#32
  ![v123_r0.toNat, 1920]
def k0_off17 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v128_r0 : Index := Scalar.indexCast v46_r0
  let c2048_r0 : Index := 2048#32
  ![v128_r0.toNat, 2048]
def k0_off18 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v133_r0 : Index := Scalar.indexCast v46_r0
  let c2176_r0 : Index := 2176#32
  ![v133_r0.toNat, 2176]
def k0_off19 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v138_r0 : Index := Scalar.indexCast v46_r0
  let c2304_r0 : Index := 2304#32
  ![v138_r0.toNat, 2304]
def k0_off20 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v143_r0 : Index := Scalar.indexCast v46_r0
  let c2432_r0 : Index := 2432#32
  ![v143_r0.toNat, 2432]
def k0_off21 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v148_r0 : Index := Scalar.indexCast v46_r0
  let c2560_r0 : Index := 2560#32
  ![v148_r0.toNat, 2560]
def k0_off22 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v153_r0 : Index := Scalar.indexCast v46_r0
  let c2688_r0 : Index := 2688#32
  ![v153_r0.toNat, 2688]
def k0_off23 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v158_r0 : Index := Scalar.indexCast v46_r0
  let c2816_r0 : Index := 2816#32
  ![v158_r0.toNat, 2816]
def k0_off24 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v163_r0 : Index := Scalar.indexCast v46_r0
  let c2944_r0 : Index := 2944#32
  ![v163_r0.toNat, 2944]
def k0_off25 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v168_r0 : Index := Scalar.indexCast v46_r0
  let c3072_r0 : Index := 3072#32
  ![v168_r0.toNat, 3072]
def k0_off26 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v173_r0 : Index := Scalar.indexCast v46_r0
  let c3200_r0 : Index := 3200#32
  ![v173_r0.toNat, 3200]
def k0_off27 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v178_r0 : Index := Scalar.indexCast v46_r0
  let c3328_r0 : Index := 3328#32
  ![v178_r0.toNat, 3328]
def k0_off28 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v183_r0 : Index := Scalar.indexCast v46_r0
  let c3456_r0 : Index := 3456#32
  ![v183_r0.toNat, 3456]
def k0_off29 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v188_r0 : Index := Scalar.indexCast v46_r0
  let c3584_r0 : Index := 3584#32
  ![v188_r0.toNat, 3584]
def k0_off30 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v193_r0 : Index := Scalar.indexCast v46_r0
  let c3712_r0 : Index := 3712#32
  ![v193_r0.toNat, 3712]
def k0_off31 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v198_r0 : Index := Scalar.indexCast v46_r0
  let c3840_r0 : Index := 3840#32
  ![v198_r0.toNat, 3840]
def k0_off32 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v203_r0 : Index := Scalar.indexCast v46_r0
  let c3968_r0 : Index := 3968#32
  ![v203_r0.toNat, 3968]
def k0_off33 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v208_r0 : Index := Scalar.indexCast v46_r0
  let c4096_r0 : Index := 4096#32
  ![v208_r0.toNat, 4096]
def k0_off34 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v213_r0 : Index := Scalar.indexCast v46_r0
  let c4224_r0 : Index := 4224#32
  ![v213_r0.toNat, 4224]
def k0_off35 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v218_r0 : Index := Scalar.indexCast v46_r0
  let c4352_r0 : Index := 4352#32
  ![v218_r0.toNat, 4352]
def k0_off36 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v223_r0 : Index := Scalar.indexCast v46_r0
  let c4480_r0 : Index := 4480#32
  ![v223_r0.toNat, 4480]
def k0_off37 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v228_r0 : Index := Scalar.indexCast v46_r0
  let c4608_r0 : Index := 4608#32
  ![v228_r0.toNat, 4608]
def k0_off38 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v233_r0 : Index := Scalar.indexCast v46_r0
  let c4736_r0 : Index := 4736#32
  ![v233_r0.toNat, 4736]
def k0_off39 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v238_r0 : Index := Scalar.indexCast v46_r0
  let c4864_r0 : Index := 4864#32
  ![v238_r0.toNat, 4864]
def k0_off40 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v243_r0 : Index := Scalar.indexCast v46_r0
  let c4992_r0 : Index := 4992#32
  ![v243_r0.toNat, 4992]
def k0_off41 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_r0 : BitVec 32 := 32#32
  let v45_r0 : BitVec 32 := Scalar.muli arg7_r0 c32_i32_r0
  let v46_r0 : BitVec 32 := v45_r0
  let v828_r0 : Index := Scalar.indexCast v46_r0
  let c0_249_r0 : Index := 0#32
  ![v828_r0.toNat, 0]
def k0_mult2 (k0_t1 : Fin k0_t1_loop.trips) : BitVec 32 :=
  let c0_i32_3_r0 : BitVec 32 := 0#32
  let c1_i32_r0 : BitVec 32 := 1#32
  let arg7_r0 : BitVec 32 := Scf.iv c0_i32_3_r0 c1_i32_r0 k0_t1
  let c32_i32_610_r0 : BitVec 32 := 32#32
  let v1952_r0 : BitVec 32 := Scalar.muli arg7_r0 c32_i32_610_r0
  v1952_r0
def k0_off42 (k0_t1 : Fin k0_t1_loop.trips) : Fin 2 → Nat :=
  let c0_i32_3_r0 : BitVec 32 := 0#32
  let c1_i32_r0 : BitVec 32 := 1#32
  let arg7_r0 : BitVec 32 := Scf.iv c0_i32_3_r0 c1_i32_r0 k0_t1
  let c32_i32_610_r0 : BitVec 32 := 32#32
  let v1952_r0 : BitVec 32 := Scalar.muli arg7_r0 c32_i32_610_r0
  let v1953_r0 : BitVec 32 := v1952_r0
  let c0_i32_611_r0 : BitVec 32 := 0#32
  ![v1953_r0.toNat, 0]
@[reducible] def k0_t2_loop : Scf.Loop 32 :=
  let c0_i32_30_r0 : BitVec 32 := 0#32
  let c24_i32_31_r0 : BitVec 32 := 24#32
  let v44_r0 : BitVec 32 := Scalar.addi c0_i32_30_r0 c24_i32_31_r0
  let c1_i32_32_r0 : BitVec 32 := 1#32
  ⟨c0_i32_30_r0, v44_r0, c1_i32_32_r0⟩
def k0_mult3 (k0_t2 : Fin k0_t2_loop.trips) : BitVec 32 :=
  let c0_i32_30_r0 : BitVec 32 := 0#32
  let c1_i32_32_r0 : BitVec 32 := 1#32
  let arg7_r0 : BitVec 32 := Scf.iv c0_i32_30_r0 c1_i32_32_r0 k0_t2
  let c32_i32_r0 : BitVec 32 := 32#32
  let v45_r0 : BitVec 32 := Scalar.muli arg7_r0 c32_i32_r0
  v45_r0
def k0_off43 (k0_t2 : Fin k0_t2_loop.trips) : Fin 2 → Nat :=
  let c0_i32_30_r0 : BitVec 32 := 0#32
  let c1_i32_32_r0 : BitVec 32 := 1#32
  let arg7_r0 : BitVec 32 := Scf.iv c0_i32_30_r0 c1_i32_32_r0 k0_t2
  let c32_i32_r0 : BitVec 32 := 32#32
  let v45_r0 : BitVec 32 := Scalar.muli arg7_r0 c32_i32_r0
  let v46_r0 : BitVec 32 := v45_r0
  let c0_i32_34_r0 : BitVec 32 := 0#32
  ![v46_r0.toNat, 0]
abbrev stage0_0 : Fin 1 → Memref sig .tc .vmem S1x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== PrepReferenceIdeal.lean ====
abbrev S6x128x5120 : Shape := ⟨3, ![6, 128, 5120]⟩
abbrev S5120 : Shape := ⟨1, ![5120]⟩
abbrev S768x5120 : Shape := ⟨2, ![768, 5120]⟩
abbrev S1x5120 : Shape := ⟨2, ![1, 5120]⟩
abbrev S6x128 : Shape := ⟨2, ![6, 128]⟩
abbrev S768 : Shape := ⟨1, ![768]⟩
abbrev S768x1 : Shape := ⟨2, ![768, 1]⟩

abbrev nBuf : Space → Nat
  | .hbm => 8
  | .vmem => 5
  | .smem => 0
  | _ => 0

abbrev bufTy : (tb : Table) → Fin (tcTables nBuf tb) → BufTy
  | .hbm, ⟨0, _⟩ => ⟨S6x128x5120, .bf16⟩
  | .hbm, ⟨1, _⟩ => ⟨S5120, .f32⟩
  | .hbm, ⟨2, _⟩ => ⟨S5120, .f32⟩
  | .hbm, ⟨3, _⟩ => ⟨S768x5120, .bf16⟩
  | .hbm, ⟨4, _⟩ => ⟨S1x5120, .f32⟩
  | .hbm, ⟨5, _⟩ => ⟨S1x5120, .f32⟩
  | .hbm, ⟨6, _⟩ => ⟨S768x5120, .i8⟩
  | .hbm, ⟨7, _⟩ => ⟨S6x128, .f32⟩
  | .local _ .vmem, ⟨0, _⟩ => ⟨S768x5120, .bf16⟩
  | .local _ .vmem, ⟨1, _⟩ => ⟨S1x5120, .f32⟩
  | .local _ .vmem, ⟨2, _⟩ => ⟨S1x5120, .f32⟩
  | .local _ .vmem, ⟨3, _⟩ => ⟨S768x5120, .i8⟩
  | .local _ .vmem, ⟨4, _⟩ => ⟨S6x128, .f32⟩
  | _, _ => ⟨S6x128x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S768x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x5120 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.BaseKI.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Ring.WriteBehind
public import Idealize.ShloMosaic.Lib.Affine
public import Idealize.ShloMosaic.Lib.Tactic

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## Canonical names -/

abbrev wM : Memref sig .tc .hbm S5376x5120 .i8 := Memref.whole main_arg2
abbrev oM : Memref sig .tc .hbm S768x5120 .f32 := Memref.whole main_v3
abbrev lhsM : Memref sig .tc .vmem S768x5376 .bf16 := Memref.whole cc0_scoped0
abbrev wbM : Memref sig .tc .vmem S2x5376x512 .i8 := Memref.whole cc0_scoped1
abbrev accM : Memref sig .tc .vmem S768x512 .f32 := Memref.whole cc0_scoped2
abbrev sobM : Memref sig .tc .vmem S2x768x512 .f32 := Memref.whole cc0_scoped3

abbrev colOff (b : Fin 10) : Fin 2 → Nat := ![0, 512 * b.val]
theorem wcol_inb (b : Fin 10) : ∀ a, colOff b a + S5376x512.size a ≤ S5376x5120.size a := by
  have := b.isLt; intro a; fin_cases a
  · show 0 + 5376 ≤ 5376; omega
  · show 512 * b.val + 512 ≤ 5120; omega
theorem ocol_inb (b : Fin 10) : ∀ a, colOff b a + S768x512.size a ≤ S768x5120.size a := by
  have := b.isLt; intro a; fin_cases a
  · show 0 + 768 ≤ 768; omega
  · show 512 * b.val + 512 ≤ 5120; omega
abbrev boxOff (s : Fin 2) (a b : Nat) : Fin 3 → Nat := ![s.val, a, b]
abbrev slotOff (s : Fin 2) : Fin 3 → Nat := ![s.val, 0, 0]
theorem wslot_inb (s : Fin 2) : ∀ a, slotOff s a + S1x5376x512.size a ≤ S2x5376x512.size a := by
  have := s.isLt; intro a; fin_cases a
  · show s.val + 1 ≤ 2; omega
  · show 0 + 5376 ≤ 5376; omega
  · show 0 + 512 ≤ 512; omega
theorem oslot_inb (s : Fin 2) : ∀ a, slotOff s a + S1x768x512.size a ≤ S2x768x512.size a := by
  have := s.isLt; intro a; fin_cases a
  · show s.val + 1 ≤ 2; omega
  · show 0 + 768 ≤ 768; omega
  · show 0 + 512 ≤ 512; omega
abbrev wsemOff (s : Fin 2) : Fin 1 → Nat := ![s.val]
theorem wsem_inb (s : Fin 2) : ∀ a, wsemOff s a + S1.size a ≤ S10.size a := by
  have := s.isLt; intro a; fin_cases a; show s.val + 1 ≤ 10; omega
abbrev osemOff (s : Fin 2) : Fin 1 → Nat := ![5 + s.val]
theorem osem_inb (s : Fin 2) : ∀ a, osemOff s a + S1.size a ≤ S10.size a := by
  have := s.isLt; intro a; fin_cases a; show 5 + s.val + 1 ≤ 10; omega

/-- Column block `b` of the weights. -/
def wcol (b : Fin 10) : Memref sig .tc .hbm S5376x512 .i8 :=
  wM.slice (Rect.unit (s := S5376x5120) (colOff b) S5376x512.size (wcol_inb b)) (fun _ => rfl)
/-- Column block `b` of the result. -/
def ocol (b : Fin 10) : Memref sig .tc .hbm S768x512 .f32 :=
  oM.slice (Rect.unit (s := S768x5120) (colOff b) S768x512.size (ocol_inb b)) (fun _ => rfl)
/-- Slot `s` of the weight buffer. -/
def wslot (s : Fin 2) : Memref sig .tc .vmem S5376x512 .i8 :=
  (wbM.slice (Rect.unit (s := S2x5376x512) (slotOff s) S1x5376x512.size (wslot_inb s)) (fun _ => rfl)).squeeze S5376x512 squeezes_S1x5376x512_S5376x512
/-- Slot `s` of the output buffer. -/
def oslot (s : Fin 2) : Memref sig .tc .vmem S768x512 .f32 :=
  (sobM.slice (Rect.unit (s := S2x768x512) (slotOff s) S1x768x512.size (oslot_inb s)) (fun _ => rfl)).squeeze S768x512 squeezes_S1x768x512_S768x512
/-- The weight slots' DMA semaphores. -/
def wsm (s : Fin 2) : DmaSems sig S_ := (cc0_scratch0.slice (Rect.unit (s := S10) (wsemOff s) S1.size (wsem_inb s))).squeeze S_ squeezes_S1_S_
/-- The output slots' DMA semaphores. -/
def osm (s : Fin 2) : DmaSems sig S_ := (cc0_scratch0.slice (Rect.unit (s := S10) (osemOff s) S1.size (osem_inb s))).squeeze S_ squeezes_S1_S_

instance (s : Fin 2) : ClosedOff (slotOff s) := ⟨slotOff s, rfl⟩
instance (b : Fin 10) : ClosedOff (colOff b) := ⟨colOff b, rfl⟩

/-! ## Offsets in closed form -/

abbrev Trip := Fin k0_t1_loop.trips

theorem off1_eq : ∀ k : Trip, k0_off1 k = wsemOff (Ring.sl 2 k.val) := by decide +kernel
theorem off2_eq : ∀ k : Trip, k0_off2 k = slotOff (Ring.sl 2 k.val) := by decide +kernel
theorem off3_eq : ∀ k : Trip, k0_off3 k = colOff (Ring.bk 10 k.val) := by decide +kernel
theorem off4_eq : ∀ k : Trip, k0_off4 k = wsemOff (Ring.sl 2 (k.val + 1)) := by decide +kernel
theorem off5_eq : ∀ k : Trip, k0_off5 k = slotOff (Ring.sl 2 (k.val + 1)) := by decide +kernel
theorem off6_eq : ∀ k : Trip, k.val < 9 → k0_off6 k = colOff (Ring.bk 10 (k.val + 1)) := by decide +kernel
theorem off7_eq : ∀ k : Trip, k0_off7 k = osemOff (Ring.sl 2 k.val) := by decide +kernel
theorem off8_eq : ∀ k : Trip, 1 < k.val → k0_off8 k = colOff (Ring.bk 10 (k.val - 2)) := by decide +kernel
theorem off9_eq : ∀ k : Trip, k0_off9 k = slotOff (Ring.sl 2 k.val) := by decide +kernel
theorem off149_eq : ∀ k : Trip, k0_off149 k = osemOff (Ring.sl 2 k.val) := by decide +kernel
theorem off150_eq : ∀ k : Trip, k0_off150 k = colOff (Ring.bk 10 k.val) := by decide +kernel
theorem off151_eq : ∀ k : Trip, k0_off151 k = slotOff (Ring.sl 2 k.val) := by decide +kernel
theorem cond1_iff : ∀ k : Trip, k0_cond1 k = 1#1 ↔ k.val < 9 := by decide +kernel
theorem cond2_iff : ∀ k : Trip, k0_cond2 k = 1#1 ↔ 1 < k.val := by decide +kernel
theorem box_eq (a b : Nat) : ∀ k : Trip, (![(Scalar.andi (Scf.iv 0#32 1#32 k.val) 1#32).toNat, a, b] : Fin 3 → Nat) = ![(Ring.sl 2 k.val).val, a, b] := by
  intro k
  have h : ∀ k : Trip, (Scalar.andi (Scf.iv 0#32 1#32 k.val) 1#32).toNat = (Ring.sl 2 k.val).val := by decide +kernel
  rw [h]

instance (k : Trip) : ClosedOff (k0_off10 k) := ⟨_, box_eq 0 0 k⟩
instance (k : Trip) : ClosedOff (k0_off11 k) := ⟨_, box_eq 256 0 k⟩
instance (k : Trip) : ClosedOff (k0_off12 k) := ⟨_, box_eq 512 0 k⟩
instance (k : Trip) : ClosedOff (k0_off13 k) := ⟨_, box_eq 768 0 k⟩
instance (k : Trip) : ClosedOff (k0_off14 k) := ⟨_, box_eq 1024 0 k⟩
instance (k : Trip) : ClosedOff (k0_off15 k) := ⟨_, box_eq 1280 0 k⟩
instance (k : Trip) : ClosedOff (k0_off16 k) := ⟨_, box_eq 1536 0 k⟩
instance (k : Trip) : ClosedOff (k0_off17 k) := ⟨_, box_eq 1792 0 k⟩
instance (k : Trip) : ClosedOff (k0_off18 k) := ⟨_, box_eq 2048 0 k⟩
instance (k : Trip) : ClosedOff (k0_off19 k) := ⟨_, box_eq 2304 0 k⟩
instance (k : Trip) : ClosedOff (k0_off20 k) := ⟨_, box_eq 2560 0 k⟩
instance (k : Trip) : ClosedOff (k0_off21 k) := ⟨_, box_eq 2816 0 k⟩
instance (k : Trip) : ClosedOff (k0_off22 k) := ⟨_, box_eq 3072 0 k⟩
instance (k : Trip) : ClosedOff (k0_off23 k) := ⟨_, box_eq 3328 0 k⟩
instance (k : Trip) : ClosedOff (k0_off24 k) := ⟨_, box_eq 3584 0 k⟩
instance (k : Trip) : ClosedOff (k0_off25 k) := ⟨_, box_eq 3840 0 k⟩
instance (k : Trip) : ClosedOff (k0_off26 k) := ⟨_, box_eq 4096 0 k⟩
instance (k : Trip) : ClosedOff (k0_off27 k) := ⟨_, box_eq 4352 0 k⟩
instance (k : Trip) : ClosedOff (k0_off28 k) := ⟨_, box_eq 4608 0 k⟩
instance (k : Trip) : ClosedOff (k0_off29 k) := ⟨_, box_eq 4864 0 k⟩
instance (k : Trip) : ClosedOff (k0_off30 k) := ⟨_, box_eq 5120 0 k⟩
instance (k : Trip) : ClosedOff (k0_off31 k) := ⟨_, box_eq 0 256 k⟩
instance (k : Trip) : ClosedOff (k0_off32 k) := ⟨_, box_eq 256 256 k⟩
instance (k : Trip) : ClosedOff (k0_off33 k) := ⟨_, box_eq 512 256 k⟩
instance (k : Trip) : ClosedOff (k0_off34 k) := ⟨_, box_eq 768 256 k⟩
instance (k : Trip) : ClosedOff (k0_off35 k) := ⟨_, box_eq 1024 256 k⟩
instance (k : Trip) : ClosedOff (k0_off36 k) := ⟨_, box_eq 1280 256 k⟩
instance (k : Trip) : ClosedOff (k0_off37 k) := ⟨_, box_eq 1536 256 k⟩
instance (k : Trip) : ClosedOff (k0_off38 k) := ⟨_, box_eq 1792 256 k⟩
instance (k : Trip) : ClosedOff (k0_off39 k) := ⟨_, box_eq 2048 256 k⟩
instance (k : Trip) : ClosedOff (k0_off40 k) := ⟨_, box_eq 2304 256 k⟩
instance (k : Trip) : ClosedOff (k0_off41 k) := ⟨_, box_eq 2560 256 k⟩
instance (k : Trip) : ClosedOff (k0_off42 k) := ⟨_, box_eq 2816 256 k⟩
instance (k : Trip) : ClosedOff (k0_off43 k) := ⟨_, box_eq 3072 256 k⟩
instance (k : Trip) : ClosedOff (k0_off44 k) := ⟨_, box_eq 3328 256 k⟩
instance (k : Trip) : ClosedOff (k0_off45 k) := ⟨_, box_eq 3584 256 k⟩
instance (k : Trip) : ClosedOff (k0_off46 k) := ⟨_, box_eq 3840 256 k⟩
instance (k : Trip) : ClosedOff (k0_off47 k) := ⟨_, box_eq 4096 256 k⟩
instance (k : Trip) : ClosedOff (k0_off48 k) := ⟨_, box_eq 4352 256 k⟩
instance (k : Trip) : ClosedOff (k0_off49 k) := ⟨_, box_eq 4608 256 k⟩
instance (k : Trip) : ClosedOff (k0_off50 k) := ⟨_, box_eq 4864 256 k⟩
instance (k : Trip) : ClosedOff (k0_off51 k) := ⟨_, box_eq 5120 256 k⟩
instance (k : Trip) : ClosedOff (k0_off53 k) := ⟨_, box_eq 0 0 k⟩
instance (k : Trip) : ClosedOff (k0_off54 k) := ⟨_, box_eq 32 0 k⟩
instance (k : Trip) : ClosedOff (k0_off55 k) := ⟨_, box_eq 64 0 k⟩
instance (k : Trip) : ClosedOff (k0_off56 k) := ⟨_, box_eq 96 0 k⟩
instance (k : Trip) : ClosedOff (k0_off57 k) := ⟨_, box_eq 128 0 k⟩
instance (k : Trip) : ClosedOff (k0_off58 k) := ⟨_, box_eq 160 0 k⟩
instance (k : Trip) : ClosedOff (k0_off59 k) := ⟨_, box_eq 192 0 k⟩
instance (k : Trip) : ClosedOff (k0_off60 k) := ⟨_, box_eq 224 0 k⟩
instance (k : Trip) : ClosedOff (k0_off61 k) := ⟨_, box_eq 256 0 k⟩
instance (k : Trip) : ClosedOff (k0_off62 k) := ⟨_, box_eq 288 0 k⟩
instance (k : Trip) : ClosedOff (k0_off63 k) := ⟨_, box_eq 320 0 k⟩
instance (k : Trip) : ClosedOff (k0_off64 k) := ⟨_, box_eq 352 0 k⟩
instance (k : Trip) : ClosedOff (k0_off65 k) := ⟨_, box_eq 384 0 k⟩
instance (k : Trip) : ClosedOff (k0_off66 k) := ⟨_, box_eq 416 0 k⟩
instance (k : Trip) : ClosedOff (k0_off67 k) := ⟨_, box_eq 448 0 k⟩
instance (k : Trip) : ClosedOff (k0_off68 k) := ⟨_, box_eq 480 0 k⟩
instance (k : Trip) : ClosedOff (k0_off69 k) := ⟨_, box_eq 512 0 k⟩
instance (k : Trip) : ClosedOff (k0_off70 k) := ⟨_, box_eq 544 0 k⟩
instance (k : Trip) : ClosedOff (k0_off71 k) := ⟨_, box_eq 576 0 k⟩
instance (k : Trip) : ClosedOff (k0_off72 k) := ⟨_, box_eq 608 0 k⟩
instance (k : Trip) : ClosedOff (k0_off73 k) := ⟨_, box_eq 640 0 k⟩
instance (k : Trip) : ClosedOff (k0_off74 k) := ⟨_, box_eq 672 0 k⟩
instance (k : Trip) : ClosedOff (k0_off75 k) := ⟨_, box_eq 704 0 k⟩
instance (k : Trip) : ClosedOff (k0_off76 k) := ⟨_, box_eq 736 0 k⟩
instance (k : Trip) : ClosedOff (k0_off77 k) := ⟨_, box_eq 0 128 k⟩
instance (k : Trip) : ClosedOff (k0_off78 k) := ⟨_, box_eq 32 128 k⟩
instance (k : Trip) : ClosedOff (k0_off79 k) := ⟨_, box_eq 64 128 k⟩
instance (k : Trip) : ClosedOff (k0_off80 k) := ⟨_, box_eq 96 128 k⟩
instance (k : Trip) : ClosedOff (k0_off81 k) := ⟨_, box_eq 128 128 k⟩
instance (k : Trip) : ClosedOff (k0_off82 k) := ⟨_, box_eq 160 128 k⟩
instance (k : Trip) : ClosedOff (k0_off83 k) := ⟨_, box_eq 192 128 k⟩
instance (k : Trip) : ClosedOff (k0_off84 k) := ⟨_, box_eq 224 128 k⟩
instance (k : Trip) : ClosedOff (k0_off85 k) := ⟨_, box_eq 256 128 k⟩
instance (k : Trip) : ClosedOff (k0_off86 k) := ⟨_, box_eq 288 128 k⟩
instance (k : Trip) : ClosedOff (k0_off87 k) := ⟨_, box_eq 320 128 k⟩
instance (k : Trip) : ClosedOff (k0_off88 k) := ⟨_, box_eq 352 128 k⟩
instance (k : Trip) : ClosedOff (k0_off89 k) := ⟨_, box_eq 384 128 k⟩
instance (k : Trip) : ClosedOff (k0_off90 k) := ⟨_, box_eq 416 128 k⟩
instance (k : Trip) : ClosedOff (k0_off91 k) := ⟨_, box_eq 448 128 k⟩
instance (k : Trip) : ClosedOff (k0_off92 k) := ⟨_, box_eq 480 128 k⟩
instance (k : Trip) : ClosedOff (k0_off93 k) := ⟨_, box_eq 512 128 k⟩
instance (k : Trip) : ClosedOff (k0_off94 k) := ⟨_, box_eq 544 128 k⟩
instance (k : Trip) : ClosedOff (k0_off95 k) := ⟨_, box_eq 576 128 k⟩
instance (k : Trip) : ClosedOff (k0_off96 k) := ⟨_, box_eq 608 128 k⟩
instance (k : Trip) : ClosedOff (k0_off97 k) := ⟨_, box_eq 640 128 k⟩
instance (k : Trip) : ClosedOff (k0_off98 k) := ⟨_, box_eq 672 128 k⟩
instance (k : Trip) : ClosedOff (k0_off99 k) := ⟨_, box_eq 704 128 k⟩
instance (k : Trip) : ClosedOff (k0_off100 k) := ⟨_, box_eq 736 128 k⟩
instance (k : Trip) : ClosedOff (k0_off101 k) := ⟨_, box_eq 0 256 k⟩
instance (k : Trip) : ClosedOff (k0_off102 k) := ⟨_, box_eq 32 256 k⟩
instance (k : Trip) : ClosedOff (k0_off103 k) := ⟨_, box_eq 64 256 k⟩
instance (k : Trip) : ClosedOff (k0_off104 k) := ⟨_, box_eq 96 256 k⟩
instance (k : Trip) : ClosedOff (k0_off105 k) := ⟨_, box_eq 128 256 k⟩
instance (k : Trip) : ClosedOff (k0_off106 k) := ⟨_, box_eq 160 256 k⟩
instance (k : Trip) : ClosedOff (k0_off107 k) := ⟨_, box_eq 192 256 k⟩
instance (k : Trip) : ClosedOff (k0_off108 k) := ⟨_, box_eq 224 256 k⟩
instance (k : Trip) : ClosedOff (k0_off109 k) := ⟨_, box_eq 256 256 k⟩
instance (k : Trip) : ClosedOff (k0_off110 k) := ⟨_, box_eq 288 256 k⟩
instance (k : Trip) : ClosedOff (k0_off111 k) := ⟨_, box_eq 320 256 k⟩
instance (k : Trip) : ClosedOff (k0_off112 k) := ⟨_, box_eq 352 256 k⟩
instance (k : Trip) : ClosedOff (k0_off113 k) := ⟨_, box_eq 384 256 k⟩
instance (k : Trip) : ClosedOff (k0_off114 k) := ⟨_, box_eq 416 256 k⟩
instance (k : Trip) : ClosedOff (k0_off115 k) := ⟨_, box_eq 448 256 k⟩
instance (k : Trip) : ClosedOff (k0_off116 k) := ⟨_, box_eq 480 256 k⟩
instance (k : Trip) : ClosedOff (k0_off117 k) := ⟨_, box_eq 512 256 k⟩
instance (k : Trip) : ClosedOff (k0_off118 k) := ⟨_, box_eq 544 256 k⟩
instance (k : Trip) : ClosedOff (k0_off119 k) := ⟨_, box_eq 576 256 k⟩
instance (k : Trip) : ClosedOff (k0_off120 k) := ⟨_, box_eq 608 256 k⟩
instance (k : Trip) : ClosedOff (k0_off121 k) := ⟨_, box_eq 640 256 k⟩
instance (k : Trip) : ClosedOff (k0_off122 k) := ⟨_, box_eq 672 256 k⟩
instance (k : Trip) : ClosedOff (k0_off123 k) := ⟨_, box_eq 704 256 k⟩
instance (k : Trip) : ClosedOff (k0_off124 k) := ⟨_, box_eq 736 256 k⟩
instance (k : Trip) : ClosedOff (k0_off125 k) := ⟨_, box_eq 0 384 k⟩
instance (k : Trip) : ClosedOff (k0_off126 k) := ⟨_, box_eq 32 384 k⟩
instance (k : Trip) : ClosedOff (k0_off127 k) := ⟨_, box_eq 64 384 k⟩
instance (k : Trip) : ClosedOff (k0_off128 k) := ⟨_, box_eq 96 384 k⟩
instance (k : Trip) : ClosedOff (k0_off129 k) := ⟨_, box_eq 128 384 k⟩
instance (k : Trip) : ClosedOff (k0_off130 k) := ⟨_, box_eq 160 384 k⟩
instance (k : Trip) : ClosedOff (k0_off131 k) := ⟨_, box_eq 192 384 k⟩
instance (k : Trip) : ClosedOff (k0_off132 k) := ⟨_, box_eq 224 384 k⟩
instance (k : Trip) : ClosedOff (k0_off133 k) := ⟨_, box_eq 256 384 k⟩
instance (k : Trip) : ClosedOff (k0_off134 k) := ⟨_, box_eq 288 384 k⟩
instance (k : Trip) : ClosedOff (k0_off135 k) := ⟨_, box_eq 320 384 k⟩
instance (k : Trip) : ClosedOff (k0_off136 k) := ⟨_, box_eq 352 384 k⟩
instance (k : Trip) : ClosedOff (k0_off137 k) := ⟨_, box_eq 384 384 k⟩
instance (k : Trip) : ClosedOff (k0_off138 k) := ⟨_, box_eq 416 384 k⟩
instance (k : Trip) : ClosedOff (k0_off139 k) := ⟨_, box_eq 448 384 k⟩
instance (k : Trip) : ClosedOff (k0_off140 k) := ⟨_, box_eq 480 384 k⟩
instance (k : Trip) : ClosedOff (k0_off141 k) := ⟨_, box_eq 512 384 k⟩
instance (k : Trip) : ClosedOff (k0_off142 k) := ⟨_, box_eq 544 384 k⟩
instance (k : Trip) : ClosedOff (k0_off143 k) := ⟨_, box_eq 576 384 k⟩
instance (k : Trip) : ClosedOff (k0_off144 k) := ⟨_, box_eq 608 384 k⟩
instance (k : Trip) : ClosedOff (k0_off145 k) := ⟨_, box_eq 640 384 k⟩
instance (k : Trip) : ClosedOff (k0_off146 k) := ⟨_, box_eq 672 384 k⟩
instance (k : Trip) : ClosedOff (k0_off147 k) := ⟨_, box_eq 704 384 k⟩
instance (k : Trip) : ClosedOff (k0_off148 k) := ⟨_, box_eq 736 384 k⟩

/-! ### The canonical-name equations -/

section Canon

theorem wsm_congr {off : Fin 1 → Nat} {s : Fin 2} (e : off = wsemOff s) (hh) :
    (cc0_scratch0.slice (Rect.unit (s := S10) off S1.size hh)).squeeze S_ squeezes_S1_S_ = wsm s :=
  congrArg (fun A : DmaSems sig S1 => A.squeeze S_ squeezes_S1_S_) (SemArray.slice_unit_congr _ e _ _)
theorem osm_congr {off : Fin 1 → Nat} {s : Fin 2} (e : off = osemOff s) (hh) :
    (cc0_scratch0.slice (Rect.unit (s := S10) off S1.size hh)).squeeze S_ squeezes_S1_S_ = osm s :=
  congrArg (fun A : DmaSems sig S1 => A.squeeze S_ squeezes_S1_S_) (SemArray.slice_unit_congr _ e _ _)
theorem wslot_congr {off : Fin 3 → Nat} {s : Fin 2} (e : off = slotOff s) (hh hs) :
    (wbM.slice (Rect.unit (s := S2x5376x512) off S1x5376x512.size hh) hs).squeeze S5376x512 squeezes_S1x5376x512_S5376x512 = wslot s :=
  congrArg (fun M : Memref sig .tc .vmem S1x5376x512 .i8 => M.squeeze S5376x512 squeezes_S1x5376x512_S5376x512) (Memref.slice_unit_congr _ e _ _ _ _)
theorem oslot_congr {off : Fin 3 → Nat} {s : Fin 2} (e : off = slotOff s) (hh hs) :
    (sobM.slice (Rect.unit (s := S2x768x512) off S1x768x512.size hh) hs).squeeze S768x512 squeezes_S1x768x512_S768x512 = oslot s :=
  congrArg (fun M : Memref sig .tc .vmem S1x768x512 .f32 => M.squeeze S768x512 squeezes_S1x768x512_S768x512) (Memref.slice_unit_congr _ e _ _ _ _)
theorem wcol_congr {off : Fin 2 → Nat} {b : Fin 10} (e : off = colOff b) (hh hs) :
    wM.slice (Rect.unit (s := S5376x5120) off S5376x512.size hh) hs = wcol b := Memref.slice_unit_congr _ e _ _ _ (fun _ => rfl)
theorem ocol_congr {off : Fin 2 → Nat} {b : Fin 10} (e : off = colOff b) (hh hs) :
    oM.slice (Rect.unit (s := S768x5120) off S768x512.size hh) hs = ocol b := Memref.slice_unit_congr _ e _ _ _ (fun _ => rfl)

@[sl_canon] theorem c_wsem0 (hh) : (cc0_scratch0.slice (Rect.unit (s := S10) ![0] S1.size hh)).squeeze S_ squeezes_S1_S_ = wsm 0 := wsm_congr (by decide) _
@[sl_canon] theorem c_osem0 (hh) : (cc0_scratch0.slice (Rect.unit (s := S10) ![5] S1.size hh)).squeeze S_ squeezes_S1_S_ = osm 0 := osm_congr (by decide) _
@[sl_canon] theorem c_osem1 (hh) : (cc0_scratch0.slice (Rect.unit (s := S10) ![6] S1.size hh)).squeeze S_ squeezes_S1_S_ = osm 1 := osm_congr (by decide) _
@[sl_canon] theorem c_wslot0 (hh hs) : (wbM.slice (Rect.unit (s := S2x5376x512) ![0, 0, 0] S1x5376x512.size hh) hs).squeeze S5376x512 squeezes_S1x5376x512_S5376x512 = wslot 0 := wslot_congr (by decide) _ _
@[sl_canon] theorem c_oslot0 (hh hs) : (sobM.slice (Rect.unit (s := S2x768x512) ![0, 0, 0] S1x768x512.size hh) hs).squeeze S768x512 squeezes_S1x768x512_S768x512 = oslot 0 := oslot_congr (by decide) _ _
@[sl_canon] theorem c_oslot1 (hh hs) : (sobM.slice (Rect.unit (s := S2x768x512) ![1, 0, 0] S1x768x512.size hh) hs).squeeze S768x512 squeezes_S1x768x512_S768x512 = oslot 1 := oslot_congr (by decide) _ _
@[sl_canon] theorem c_wcol0 (hh hs) : wM.slice (Rect.unit (s := S5376x5120) ![0, 0] S5376x512.size hh) hs = wcol 0 := wcol_congr (by decide) _ _
@[sl_canon] theorem c_ocol8 (hh hs) : oM.slice (Rect.unit (s := S768x5120) ![0, 4096] S768x512.size hh) hs = ocol 8 := ocol_congr (by decide) _ _
@[sl_canon] theorem c_ocol9 (hh hs) : oM.slice (Rect.unit (s := S768x5120) ![0, 4608] S768x512.size hh) hs = ocol 9 := ocol_congr (by decide) _ _

variable (k : Trip)
@[sl_canon] theorem k_wsem (hh) : (cc0_scratch0.slice (Rect.unit (s := S10) (k0_off1 k) S1.size hh)).squeeze S_ squeezes_S1_S_ = wsm (Ring.sl 2 k.val) := wsm_congr (off1_eq k) _
@[sl_canon] theorem k_wslot (hh hs) : (wbM.slice (Rect.unit (s := S2x5376x512) (k0_off2 k) S1x5376x512.size hh) hs).squeeze S5376x512 squeezes_S1x5376x512_S5376x512 = wslot (Ring.sl 2 k.val) := wslot_congr (off2_eq k) _ _
@[sl_canon] theorem k_wcol (hh hs) : wM.slice (Rect.unit (s := S5376x5120) (k0_off3 k) S5376x512.size hh) hs = wcol (Ring.bk 10 k.val) := wcol_congr (off3_eq k) _ _
@[sl_canon] theorem k_wsem' (hh) : (cc0_scratch0.slice (Rect.unit (s := S10) (k0_off4 k) S1.size hh)).squeeze S_ squeezes_S1_S_ = wsm (Ring.sl 2 (k.val + 1)) := wsm_congr (off4_eq k) _
@[sl_canon] theorem k_wslot' (hh hs) : (wbM.slice (Rect.unit (s := S2x5376x512) (k0_off5 k) S1x5376x512.size hh) hs).squeeze S5376x512 squeezes_S1x5376x512_S5376x512 = wslot (Ring.sl 2 (k.val + 1)) := wslot_congr (off5_eq k) _ _
@[sl_canon] theorem k_wcol' (hk : k.val < 9) (hh hs) : wM.slice (Rect.unit (s := S5376x5120) (k0_off6 k) S5376x512.size hh) hs = wcol (Ring.bk 10 (k.val + 1)) := wcol_congr (off6_eq k hk) _ _
@[sl_canon] theorem k_osem (hh) : (cc0_scratch0.slice (Rect.unit (s := S10) (k0_off7 k) S1.size hh)).squeeze S_ squeezes_S1_S_ = osm (Ring.sl 2 k.val) := osm_congr (off7_eq k) _
@[sl_canon] theorem k_ocol (hk : 1 < k.val) (hh hs) : oM.slice (Rect.unit (s := S768x5120) (k0_off8 k) S768x512.size hh) hs = ocol (Ring.bk 10 (k.val - 2)) := ocol_congr (off8_eq k hk) _ _
@[sl_canon] theorem k_oslot (hh hs) : (sobM.slice (Rect.unit (s := S2x768x512) (k0_off9 k) S1x768x512.size hh) hs).squeeze S768x512 squeezes_S1x768x512_S768x512 = oslot (Ring.sl 2 k.val) := oslot_congr (off9_eq k) _ _
@[sl_canon] theorem k_osem' (hh) : (cc0_scratch0.slice (Rect.unit (s := S10) (k0_off149 k) S1.size hh)).squeeze S_ squeezes_S1_S_ = osm (Ring.sl 2 k.val) := osm_congr (off149_eq k) _
@[sl_canon] theorem k_ocol' (hh hs) : oM.slice (Rect.unit (s := S768x5120) (k0_off150 k) S768x512.size hh) hs = ocol (Ring.bk 10 k.val) := ocol_congr (off150_eq k) _ _
@[sl_canon] theorem k_oslot' (hh hs) : (sobM.slice (Rect.unit (s := S2x768x512) (k0_off151 k) S1x768x512.size hh) hs).squeeze S768x512 squeezes_S1x768x512_S768x512 = oslot (Ring.sl 2 k.val) := oslot_congr (off151_eq k) _ _

end Canon

/-! ## The pieces -/

section Pieces
variable (c : Dev nD) (XW : Buf (Elt F) (wM.view.loc (c : Thread nD τ)))

abbrev wcellP (s : Fin 2) : sProp 𝕄 := semVal ((c : Thread nD τ), SemLoc.dma (wsm s).sem) 0
abbrev ocellP (s : Fin 2) : sProp 𝕄 := semVal ((c : Thread nD τ), SemLoc.dma (osm s).sem) 0
abbrev wslotP (s : Fin 2) (f : Buf (Elt F) ((wslot s).view.loc (c : Thread nD τ))) : sProp 𝕄 :=
  (wslot s).view.loc (c : Thread nD τ) ↦[(wslot s).view.set]{fullShare} f
abbrev oslotP (s : Fin 2) (f : Buf (Elt F) ((oslot s).view.loc (c : Thread nD τ))) : sProp 𝕄 :=
  (oslot s).view.loc (c : Thread nD τ) ↦[(oslot s).view.set]{fullShare} f
/-- Column block `b` of the weights at home. -/
abbrev wHome (b : Fin 10) : sProp 𝕄 := (wcol b).view.loc (c : Thread nD τ) ↦[(wcol b).view.set]{fullShare} XW
abbrev ocolP (b : Fin 10) (f : Buf (Elt F) ((ocol b).view.loc (c : Thread nD τ))) : sProp 𝕄 :=
  (ocol b).view.loc (c : Thread nD τ) ↦[(ocol b).view.set]{fullShare} f
abbrev wLanded (s : Fin 2) (b : Fin 10) (f : Buf (Elt F) ((wslot s).view.loc (c : Thread nD τ))) : Buf (Elt F) ((wslot s).view.loc (c : Thread nD τ)) :=
  (wslot s).view.writes (Elt F) f [⟨Rect.whole S5376x512, ReadAs.same.apply ((wcol b).view.read (Elt F) XW)⟩]
abbrev oLanded (s : Fin 2) (b : Fin 10) (fs : Buf (Elt F) ((oslot s).view.loc (c : Thread nD τ))) (fo : Buf (Elt F) ((ocol b).view.loc (c : Thread nD τ))) : Buf (Elt F) ((ocol b).view.loc (c : Thread nD τ)) :=
  (ocol b).view.writes (Elt F) fo [⟨Rect.whole S768x512, ReadAs.same.apply ((oslot s).view.read (Elt F) fs)⟩]
abbrev NW : ℕ := 86016
abbrev NO : ℕ := 49152
abbrev wFlight (s : Fin 2) (b : Fin 10) (f : Buf (Elt F) ((wslot s).view.loc (c : Thread nD τ))) : sProp 𝕄 :=
  Transfers.Flight countersEmb (c : Thread nD τ) (SemLoc.dma (wsm s).sem) () NW iprop(wslotP c s (wLanded c XW s b f) ∗ wHome c XW b)
abbrev oFlight (s : Fin 2) (b : Fin 10) (fs : Buf (Elt F) ((oslot s).view.loc (c : Thread nD τ))) (fo : Buf (Elt F) ((ocol b).view.loc (c : Thread nD τ))) : sProp 𝕄 :=
  Transfers.Flight countersEmb (c : Thread nD τ) (SemLoc.dma (osm s).sem) () NO iprop(ocolP c b (oLanded c s b fs fo) ∗ oslotP c s fs)
end Pieces

/-! ## What one trip leaves in the output slot -/

section Out

/-- One product of a 768 by 256 tile of activations with a 256 by 256 tile of weights. -/
def mm (l : Vec F S768x256 .bf16) (w : Vec F S1x256x256 .i8) : FVec F S768x256 .f32 :=
  matmul dot_S768x256_S256x256_S768x256_1_0_0_1_n_n none l
    (sitofp .bf16 (shapeCast S256x256 w shapeCasts_S1x256x256_S256x256 : IVec S256x256 8) : FVec F S256x256 .bf16)
    (constant S768x256 .f32 0x00000000#32)
/-- The chain of the first `n + 1` products, added from the left. -/
def chain (L : ℕ → Vec F S768x256 .bf16) (R : ℕ → Vec F S1x256x256 .i8) : ℕ → FVec F S768x256 .f32
  | 0 => mm (L 0) (R 0)
  | n + 1 => addf (chain L R n) (mm (L (n + 1)) (R (n + 1)))

variable (c : Dev nD) (XW : Buf (Elt F) (wM.view.loc (c : Thread nD τ)))
  (arg0 : Memref sig .tc .vmem S1x5120 .f32) (arg2 : Memref sig .tc .vmem S768x128 .f32) (k : Trip)
  (f0 : Buf (Elt F) (arg0.view.loc (c : Thread nD τ))) (f2 : Buf (Elt F) (arg2.view.loc (c : Thread nD τ)))
  (fl : Buf (Elt F) (lhsM.view.loc (c : Thread nD τ)))

/-- The offsets at which the trip meets a slot: the slot, a row, a column. -/
abbrev kOff (a b : ℕ) : Fin 3 → ℕ := ![(Scalar.andi (Scf.iv 0#32 1#32 k.val) 1#32).toNat, a, b]
theorem kslot_lt : ∀ k : Trip, (Scalar.andi (Scf.iv 0#32 1#32 k.val) 1#32).toNat < 2 := by decide +kernel

theorem lt_inb (n : ℕ) : ∀ a, (![0, 256 * (n % 21)] : Fin 2 → ℕ) a + S768x256.size a ≤ S768x5376.size a := by
  have := Nat.mod_lt n (show 0 < 21 by decide); intro a; fin_cases a
  · show 0 + 768 ≤ 768; omega
  · show 256 * (n % 21) + 256 ≤ 5376; omega
theorem rt_inb (n h : ℕ) : ∀ a, kOff k (256 * (n % 21)) (256 * (h % 2)) a + S1x256x256.size a ≤ S2x5376x512.size a := by
  have := Nat.mod_lt n (show 0 < 21 by decide); have := Nat.mod_lt h (show 0 < 2 by decide); have := kslot_lt k
  intro a; fin_cases a
  · show (Scalar.andi (Scf.iv 0#32 1#32 k.val) 1#32).toNat + 1 ≤ 2; omega
  · show 256 * (n % 21) + 256 ≤ 5376; omega
  · show 256 * (h % 2) + 256 ≤ 512; omega
theorem ac_inb (h : ℕ) : ∀ a, (![0, 256 * (h % 2)] : Fin 2 → ℕ) a + S768x256.size a ≤ S768x512.size a := by
  have := Nat.mod_lt h (show 0 < 2 by decide); intro a; fin_cases a
  · show 0 + 768 ≤ 768; omega
  · show 256 * (h % 2) + 256 ≤ 512; omega
theorem ab_inb (n : ℕ) : ∀ a, (![32 * (n % 24), 128 * (n / 24 % 4)] : Fin 2 → ℕ) a + S32x128.size a ≤ S768x512.size a := by
  have := Nat.mod_lt n (show 0 < 24 by decide); have := Nat.mod_lt (n / 24) (show 0 < 4 by decide); intro a; fin_cases a
  · show 32 * (n % 24) + 32 ≤ 768; omega
  · show 128 * (n / 24 % 4) + 128 ≤ 512; omega
theorem sb_inb (n : ℕ) : ∀ a, (![32 * (n % 24), 0] : Fin 2 → ℕ) a + S32x128.size a ≤ S768x128.size a := by
  have := Nat.mod_lt n (show 0 < 24 by decide); intro a; fin_cases a
  · show 32 * (n % 24) + 32 ≤ 768; omega
  · show 0 + 128 ≤ 128; omega
theorem ob_inb (n : ℕ) : ∀ a, kOff k (32 * (n % 24)) (128 * (n / 24 % 4)) a + S1x32x128.size a ≤ S2x768x512.size a := by
  have := Nat.mod_lt n (show 0 < 24 by decide); have := Nat.mod_lt (n / 24) (show 0 < 4 by decide); have := kslot_lt k
  intro a; fin_cases a
  · show (Scalar.andi (Scf.iv 0#32 1#32 k.val) 1#32).toNat + 1 ≤ 2; omega
  · show 32 * (n % 24) + 32 ≤ 768; omega
  · show 128 * (n / 24 % 4) + 128 ≤ 512; omega

/-- The activations' tile `n`, as the trip reads it. -/
def lt (n : ℕ) : Vec F S768x256 .bf16 := lhsM.view.readAt (Elt F) (Rect.unit (s := S768x5376) ![0, 256 * (n % 21)] S768x256.size (lt_inb n)).toLoadRect fl
/-- The weights' tile `n` in column half `h`, as the trip reads it from the slot its copy landed in. -/
def rt (h n : ℕ) : Vec F S1x256x256 .i8 :=
  wbM.view.readAt (Elt F) (Rect.unit (s := S2x5376x512) (kOff k (256 * (n % 21)) (256 * (h % 2))) S1x256x256.size (rt_inb k n h)).toLoadRect
    (wLanded c XW (Ring.sl 2 k.val) (Ring.bk 10 k.val) (wslot (Ring.sl 2 k.val)).view.junk)
/-- Half `h` of the accumulator. -/
def accHalf (h : ℕ) : FVec F S768x256 .f32 := shapeCast S768x256 (chain (lt c fl) (rt c XW k h) 20) shapeCasts_S768x256_S768x256
/-- The accumulator's two stores. -/
def accPieces : List (View.Piece (Elt F) S768x512 .f32) :=
  [⟨Rect.unit ![0, 256 * (1 % 2)] S768x256.size (ac_inb 1), accHalf c XW k fl 1⟩,
    ⟨Rect.unit ![0, 256 * (0 % 2)] S768x256.size (ac_inb 0), accHalf c XW k fl 0⟩]
/-- A block of the result: the accumulator times the rows' scales times the columns' scales. -/
def outPay (s : Vec F S1x128 .f32) (a : Vec F S32x128 .f32) (r : Vec F S32x128 .f32) : FVec F S1x32x128 .f32 :=
  shapeCast S1x32x128 (mulf (mulf a (shapeCast S32x128 r shapeCasts_S32x128_S32x128))
    (broadcastTo S32x128 (shapeCast S1x128 s shapeCasts_S1x128_S1x128 : FVec F S1x128 .f32) broadcasts_S1x128_S32x128) : FVec F S32x128 .f32) shapeCasts_S32x128_S1x32x128
/-- The block that store `n` writes. -/
def outBlock (n : ℕ) : FVec F S1x32x128 .f32 :=
  outPay (arg0.view.readAt (Elt F) (Rect.unit (s := S1x5120) (k0_off52 k (BitVec.ofNat 32 (128 * (n / 24 % 4)))) S1x128.size
      (k0_off52_inb k ⟨n / 24 % 4, Nat.mod_lt _ (by decide)⟩)).toLoadRect f0)
    (accM.view.readCov (accPieces c XW k fl) (Rect.unit (s := S768x512) ![32 * (n % 24), 128 * (n / 24 % 4)] S32x128.size (ab_inb n)).toLoadRect)
    (arg2.view.readAt (Elt F) (Rect.unit (s := S768x128) ![32 * (n % 24), 0] S32x128.size (sb_inb n)).toLoadRect f2)
/-- The output slots after the trip's first `n` stores. -/
def outW (fs : Buf (Elt F) (sobM.view.loc (c : Thread nD τ))) : ℕ → Buf (Elt F) (sobM.view.loc (c : Thread nD τ))
  | 0 => fs
  | n + 1 => View.write (Elt F) (sobM.access (Rect.unit (s := S2x768x512) (kOff k (32 * (n % 24)) (128 * (n / 24 % 4))) S1x32x128.size (ob_inb k n)))
      (outW fs n) (outBlock c XW arg0 arg2 k f0 f2 fl n) Finset.univ
end Out

end Cert.Proof.KernelIdeal

end
-- ==== Proof.TripKI.lean ====
module

public import proofs.«01_k».proof.Defs
public import proofs.«01_k».proof.Proof.BaseKI
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Ring.WriteBehind
public import Idealize.ShloMosaic.Lib.Affine
public import Idealize.ShloMosaic.Lib.Tactic

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ
section Trip
variable (c : Dev nD) (XW : Buf (Elt F) (wM.view.loc (c : Thread nD τ)))
  (arg0 : Memref sig .tc .vmem S1x5120 .f32) (harg0 : arg0.IsWhole)
  (arg1 : Memref sig .tc .vmem S768x5376 .i8) (harg1 : arg1.IsWhole)
  (arg2 : Memref sig .tc .vmem S768x128 .f32) (harg2 : arg2.IsWhole)

abbrev tripG (k : Trip) : Prog (TpuEff nD τ sig (Elt F) Λ₀ .tc) Unit :=
  k0_t1_body (F := F) arg0 harg0 arg1 harg1 arg2 harg2 wM (Memref.isWhole_whole _) oM (Memref.isWhole_whole _) cc0_scratch0
    lhsM (Memref.isWhole_whole _) wbM (Memref.isWhole_whole _) accM (Memref.isWhole_whole _) sobM (Memref.isWhole_whole _) k ()

/-- A trip in the middle: it waits for its own weights, asks for the next ones, waits for the block of two trips before, and sends its own block. -/
theorem trip_mid (k : Trip) (h1 : 1 < k.val) (h9 : k.val < 9)
    (f0 : Buf (Elt F) (arg0.view.loc (c : Thread nD τ))) (f2 : Buf (Elt F) (arg2.view.loc (c : Thread nD τ)))
    (fl : Buf (Elt F) (lhsM.view.loc (c : Thread nD τ))) (fa : Buf (Elt F) (accM.view.loc (c : Thread nD τ)))
    (fw fw' fs fo fn W) :
    iprop((arg0.view.loc (c : Thread nD τ) ↦[arg0.view.set]{fullShare} f0)
      ∗ (arg2.view.loc (c : Thread nD τ) ↦[arg2.view.set]{fullShare} f2)
      ∗ (lhsM.view.loc (c : Thread nD τ) ↦[lhsM.view.set]{fullShare} fl)
      ∗ (accM.view.loc (c : Thread nD τ) ↦[accM.view.set]{fullShare} fa)
      ∗ owes (c : Thread nD τ) 0 W
      ∗ wFlight c XW (Ring.sl 2 k.val) (Ring.bk 10 k.val) fw
      ∗ wcellP c (Ring.sl 2 (k.val + 1)) ∗ wslotP c (Ring.sl 2 (k.val + 1)) fw' ∗ wHome c XW (Ring.bk 10 (k.val + 1))
      ∗ oFlight c (Ring.sl 2 k.val) (Ring.bk 10 (k.val - 2)) fs fo
      ∗ ocolP c (Ring.bk 10 k.val) fn)
      ⊢ wp frame (wpE (defs₀ (F := F)) 𝒱₀ (c : Thread nD τ) none) Set.univ (tripG arg0 harg0 arg1 harg1 arg2 harg2 k)
        (fun _ => iprop((arg0.view.loc (c : Thread nD τ) ↦[arg0.view.set]{fullShare} f0)
          ∗ (arg2.view.loc (c : Thread nD τ) ↦[arg2.view.set]{fullShare} f2)
          ∗ (lhsM.view.loc (c : Thread nD τ) ↦[lhsM.view.set]{fullShare} fl)
          ∗ (∃ fa, accM.view.loc (c : Thread nD τ) ↦[accM.view.set]{fullShare} fa)
          ∗ (∃ W, owes (c : Thread nD τ) 0 W)
          ∗ wcellP c (Ring.sl 2 k.val) ∗ (∃ f, wslotP c (Ring.sl 2 k.val) f) ∗ wHome c XW (Ring.bk 10 k.val)
          ∗ wFlight c XW (Ring.sl 2 (k.val + 1)) (Ring.bk 10 (k.val + 1)) fw'
          ∗ ocolP c (Ring.bk 10 (k.val - 2)) (oLanded c (Ring.sl 2 k.val) (Ring.bk 10 (k.val - 2)) fs fo)
          ∗ oFlight c (Ring.sl 2 k.val) (Ring.bk 10 k.val) (outW c XW arg0 arg2 k f0 f2 fl fs 96) fn)) := by
  have hc1 := (cond1_iff k).2 h9
  have hc2 := (cond2_iff k).2 h1
  iintro ⟨H0, H2, HL, HA, HW, HF, Hc, Hs, Hh, HO, Hn⟩
  sl_unfold [tripG, k0_t1_body]
  sl_exec_parts
  sl_step
  have e : trip_mid.sl.HO_src_w96 c XW arg0 arg2 k f0 f2 fl fs = outW c XW arg0 arg2 k f0 f2 fl fs 96 := rfl
  isplitl [H0]
  · iexact H0
  isplitl [H2]
  · iexact H2
  isplitl [HL]
  · iexact HL
  isplitl [HA]
  · iexists _; iexact HA
  isplitl [HW]
  · iexists _; iexact HW
  isplitl [HF]
  · iexact HF
  isplitl [HF_dst]
  · iexists _; iexact HF_dst
  isplitl [HF_src]
  · iexact HF_src
  isplitl [Hc]
  · iexact Hc
  isplitl [HO_dst]
  · iexact HO_dst
  rw [← e]
  iexact HO

/-- One of the first two trips: no block of the result is on its way out of the slot yet. -/
theorem trip_lo (k : Trip) (h1 : ¬ 1 < k.val) (h9 : k.val < 9)
    (f0 : Buf (Elt F) (arg0.view.loc (c : Thread nD τ))) (f2 : Buf (Elt F) (arg2.view.loc (c : Thread nD τ)))
    (fl : Buf (Elt F) (lhsM.view.loc (c : Thread nD τ))) (fa : Buf (Elt F) (accM.view.loc (c : Thread nD τ)))
    (fw fw' fs fn W) :
    iprop((arg0.view.loc (c : Thread nD τ) ↦[arg0.view.set]{fullShare} f0)
      ∗ (arg2.view.loc (c : Thread nD τ) ↦[arg2.view.set]{fullShare} f2)
      ∗ (lhsM.view.loc (c : Thread nD τ) ↦[lhsM.view.set]{fullShare} fl)
      ∗ (accM.view.loc (c : Thread nD τ) ↦[accM.view.set]{fullShare} fa)
      ∗ owes (c : Thread nD τ) 0 W
      ∗ wFlight c XW (Ring.sl 2 k.val) (Ring.bk 10 k.val) fw
      ∗ wcellP c (Ring.sl 2 (k.val + 1)) ∗ wslotP c (Ring.sl 2 (k.val + 1)) fw' ∗ wHome c XW (Ring.bk 10 (k.val + 1))
      ∗ ocellP c (Ring.sl 2 k.val) ∗ oslotP c (Ring.sl 2 k.val) fs
      ∗ ocolP c (Ring.bk 10 k.val) fn)
      ⊢ wp frame (wpE (defs₀ (F := F)) 𝒱₀ (c : Thread nD τ) none) Set.univ (tripG arg0 harg0 arg1 harg1 arg2 harg2 k)
        (fun _ => iprop((arg0.view.loc (c : Thread nD τ) ↦[arg0.view.set]{fullShare} f0)
          ∗ (arg2.view.loc (c : Thread nD τ) ↦[arg2.view.set]{fullShare} f2)
          ∗ (lhsM.view.loc (c : Thread nD τ) ↦[lhsM.view.set]{fullShare} fl)
          ∗ (∃ fa, accM.view.loc (c : Thread nD τ) ↦[accM.view.set]{fullShare} fa)
          ∗ (∃ W, owes (c : Thread nD τ) 0 W)
          ∗ wcellP c (Ring.sl 2 k.val) ∗ (∃ f, wslotP c (Ring.sl 2 k.val) f) ∗ wHome c XW (Ring.bk 10 k.val)
          ∗ wFlight c XW (Ring.sl 2 (k.val + 1)) (Ring.bk 10 (k.val + 1)) fw'
          ∗ oFlight c (Ring.sl 2 k.val) (Ring.bk 10 k.val) (outW c XW arg0 arg2 k f0 f2 fl fs 96) fn)) := by
  have hc1 := (cond1_iff k).2 h9
  have hc2 : ¬ k0_cond2 k = 1#1 := fun h => h1 ((cond2_iff k).1 h)
  iintro ⟨H0, H2, HL, HA, HW, HF, Hc, Hs, Hh, HO, Ho, Hn⟩
  sl_unfold [tripG, k0_t1_body]
  sl_exec_parts
  sl_step
  have e : trip_lo.sl.Ho_w96 c XW arg0 arg2 k f0 f2 fl fs = outW c XW arg0 arg2 k f0 f2 fl fs 96 := rfl
  isplitl [H0]
  · iexact H0
  isplitl [H2]
  · iexact H2
  isplitl [HL]
  · iexact HL
  isplitl [HA]
  · iexists _; iexact HA
  isplitl [HW]
  · iexists _; iexact HW
  isplitl [HF]
  · iexact HF
  isplitl [HF_dst]
  · iexists _; iexact HF_dst
  isplitl [HF_src]
  · iexact HF_src
  isplitl [Hc]
  · iexact Hc
  rw [← e]
  iexact HO

/-- The last trip: there are no further weights to ask for. -/
theorem trip_hi (k : Trip) (h9 : ¬ k.val < 9)
    (f0 : Buf (Elt F) (arg0.view.loc (c : Thread nD τ))) (f2 : Buf (Elt F) (arg2.view.loc (c : Thread nD τ)))
    (fl : Buf (Elt F) (lhsM.view.loc (c : Thread nD τ))) (fa : Buf (Elt F) (accM.view.loc (c : Thread nD τ)))
    (fw fs fo fn W) :
    iprop((arg0.view.loc (c : Thread nD τ) ↦[arg0.view.set]{fullShare} f0)
      ∗ (arg2.view.loc (c : Thread nD τ) ↦[arg2.view.set]{fullShare} f2)
      ∗ (lhsM.view.loc (c : Thread nD τ) ↦[lhsM.view.set]{fullShare} fl)
      ∗ (accM.view.loc (c : Thread nD τ) ↦[accM.view.set]{fullShare} fa)
      ∗ owes (c : Thread nD τ) 0 W
      ∗ wFlight c XW (Ring.sl 2 k.val) (Ring.bk 10 k.val) fw
      ∗ oFlight c (Ring.sl 2 k.val) (Ring.bk 10 (k.val - 2)) fs fo
      ∗ ocolP c (Ring.bk 10 k.val) fn)
      ⊢ wp frame (wpE (defs₀ (F := F)) 𝒱₀ (c : Thread nD τ) none) Set.univ (tripG arg0 harg0 arg1 harg1 arg2 harg2 k)
        (fun _ => iprop((arg0.view.loc (c : Thread nD τ) ↦[arg0.view.set]{fullShare} f0)
          ∗ (arg2.view.loc (c : Thread nD τ) ↦[arg2.view.set]{fullShare} f2)
          ∗ (lhsM.view.loc (c : Thread nD τ) ↦[lhsM.view.set]{fullShare} fl)
          ∗ (∃ fa, accM.view.loc (c : Thread nD τ) ↦[accM.view.set]{fullShare} fa)
          ∗ (∃ W, owes (c : Thread nD τ) 0 W)
          ∗ wcellP c (Ring.sl 2 k.val) ∗ (∃ f, wslotP c (Ring.sl 2 k.val) f) ∗ wHome c XW (Ring.bk 10 k.val)
          ∗ ocolP c (Ring.bk 10 (k.val - 2)) (oLanded c (Ring.sl 2 k.val) (Ring.bk 10 (k.val - 2)) fs fo)
          ∗ oFlight c (Ring.sl 2 k.val) (Ring.bk 10 k.val) (outW c XW arg0 arg2 k f0 f2 fl fs 96) fn)) := by
  have h1 : 1 < k.val := by omega
  have hc1 : ¬ k0_cond1 k = 1#1 := fun h => h9 ((cond1_iff k).1 h)
  have hc2 := (cond2_iff k).2 h1
  iintro ⟨H0, H2, HL, HA, HW, HF, HO, Hn⟩
  sl_unfold [tripG, k0_t1_body]
  sl_exec_parts
  sl_step
  have e : trip_hi.sl.HO_src_w96 c XW arg0 arg2 k f0 f2 fl fs = outW c XW arg0 arg2 k f0 f2 fl fs 96 := rfl
  isplitl [H0]
  · iexact H0
  isplitl [H2]
  · iexact H2
  isplitl [HL]
  · iexact HL
  isplitl [HA]
  · iexists _; iexact HA
  isplitl [HW]
  · iexists _; iexact HW
  isplitl [HF]
  · iexact HF
  isplitl [HF_dst]
  · iexists _; iexact HF_dst
  isplitl [HF_src]
  · iexact HF_src
  isplitl [HO_dst]
  · iexact HO_dst
  rw [← e]
  iexact HO

end Trip

end Cert.Proof.KernelIdeal

end
-- ==== Proof.ValKI.lean ====
module

public import proofs.«01_k».proof.Defs
public import proofs.«01_k».proof.Proof.BaseKI
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Ring.WriteBehind
public import Idealize.ShloMosaic.Lib.Affine
public import Idealize.ShloMosaic.Lib.Tactic
public import Idealize.ShloMosaic.Lib.Pipeline.Value
public import Idealize.ShloMosaic.Lib.ValueLayout
public import Idealize.ShloMosaic.Lib.Pointwise.ElementwiseCore

@[expose] public section

set_option maxRecDepth 16384

noncomputable section

namespace Cert.Proof.KernelIdeal

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## What a column block of the result holds -/

/-- The place at a row and a column. -/
def at2 (n m : ℕ) [NeZero n] [NeZero m] (x y : ℕ) : (⟨2, ![n, m]⟩ : Shape).Idx := ix2 (Fin.ofNat n x) (Fin.ofNat m y)
theorem at2_eq {n m : ℕ} [NeZero n] [NeZero m] (j : (⟨2, ![n, m]⟩ : Shape).Idx) {x y : ℕ} (hx : (j 0).val = x) (hy : (j 1).val = y) :
    j = at2 n m x y := by
  have h0 : (j 0).val < n := (j 0).isLt
  have h1 : (j 1).val < m := (j 1).isLt
  funext a
  match a with
  | ⟨0, _⟩ => exact Fin.ext (hx.trans (Nat.mod_eq_of_lt (hx ▸ h0) : x % n = x).symm)
  | ⟨1, _⟩ => exact Fin.ext (hy.trans (Nat.mod_eq_of_lt (hy ▸ h1) : y % m = y).symm)
theorem at2_0 {n m : ℕ} [NeZero n] [NeZero m] {x y : ℕ} (h : x < n) : (at2 n m x y 0).val = x := Nat.mod_eq_of_lt h
theorem at2_1 {n m : ℕ} [NeZero n] [NeZero m] {x y : ℕ} (h : y < m) : (at2 n m x y 1).val = y := Nat.mod_eq_of_lt h

section Val
variable (c : Dev nD) (XW : Buf (Elt F) (wM.view.loc (c : Thread nD τ)))
  (arg0 : Memref sig .tc .vmem S1x5120 .f32) (arg2 : Memref sig .tc .vmem S768x128 .f32)
  (f0 : Buf (Elt F) (arg0.view.loc (c : Thread nD τ))) (f2 : Buf (Elt F) (arg2.view.loc (c : Thread nD τ)))
  (fl : Buf (Elt F) (lhsM.view.loc (c : Thread nD τ)))

/-- Tile `n` of the activations. -/
def LT (n : ℕ) : Vec F S768x256 .bf16 := fun i => lhsM.view.read (Elt F) fl (at2 768 5376 (i 0).val (256 * n + (i 1).val))
/-- Tile `n` of half `h` of column block `b` of the weights. -/
def RT (b : Fin 10) (h n : ℕ) : Vec F S1x256x256 .i8 := fun i =>
  wM.view.read (Elt F) XW (at2 5376 5120 (256 * n + (i 1).val) (512 * b.val + (256 * h + (i 2).val)))
/-- Half `h` of the products' sum for column block `b`. -/
def ACC (b : Fin 10) (h : ℕ) : FVec F S768x256 .f32 := chain (LT c fl) (RT c XW b h) 20
/-- The sum at a row and a column of the block. -/
def ACCat (b : Fin 10) (j : S768x512.Idx) : Elt F .f32 := ACC c XW fl b ((j 1).val / 256) (at2 768 256 (j 0).val ((j 1).val % 256))
/-- Column block `b` of the result: the sum times the row's scale times the column's scale. -/
def VO (b : Fin 10) : S768x512.Idx → Elt F .f32 := fun j =>
  FloatOps.mulf (FloatOps.mulf (ACCat c XW fl b j) (arg2.view.read (Elt F) f2 (at2 768 128 (j 0).val ((j 1).val % 128))))
    (arg0.view.read (Elt F) f0 (at2 1 5120 0 (512 * b.val + (j 1).val)))

theorem whole_emb {s : Shape} (x : s.Idx) : (Rect.whole s).emb x = x := by
  funext a; exact Fin.ext (by show 0 + 1 * (x a).val = (x a).val; omega)

theorem wslot_read (s : Fin 2) (f : Buf (Elt F) (wbM.view.loc (c : Thread nD τ))) (j : S5376x512.Idx) :
    (wslot s).view.read (Elt F) f j = wbM.view.read (Elt F) f (ix3 s (j 0) (j 1)) := by
  have e : (wslot s).view.read (Elt F) f = shapeCast S5376x512 (wbM.view.readAt (Elt F) (Rect.unit (s := S2x5376x512) (slotOff s) S1x5376x512.size (wslot_inb s)).toLoadRect f) (show S1x5376x512.ShapeCasts S5376x512 by decide) := rfl
  rw [e]
  refine (shapeCast_dropUnit_apply ![5376, 512] _ _ j).trans ?_
  rw [View.readAt_apply]
  congr 1
  funext a
  match a with
  | ⟨0, _⟩ => exact Fin.ext (by show s.val + 1 * 0 = s.val; omega)
  | ⟨1, _⟩ => exact Fin.ext (by show 0 + 1 * (j 0).val = (j 0).val; omega)
  | ⟨2, _⟩ => exact Fin.ext (by show 0 + 1 * (j 1).val = (j 1).val; omega)

theorem oslot_read (s : Fin 2) (f : Buf (Elt F) (sobM.view.loc (c : Thread nD τ))) (j : S768x512.Idx) :
    (oslot s).view.read (Elt F) f j = sobM.view.read (Elt F) f (ix3 s (j 0) (j 1)) := by
  have e : (oslot s).view.read (Elt F) f = shapeCast S768x512 (sobM.view.readAt (Elt F) (Rect.unit (s := S2x768x512) (slotOff s) S1x768x512.size (oslot_inb s)).toLoadRect f) (show S1x768x512.ShapeCasts S768x512 by decide) := rfl
  rw [e]
  refine (shapeCast_dropUnit_apply ![768, 512] _ _ j).trans ?_
  rw [View.readAt_apply]
  congr 1
  funext a
  match a with
  | ⟨0, _⟩ => exact Fin.ext (by show s.val + 1 * 0 = s.val; omega)
  | ⟨1, _⟩ => exact Fin.ext (by show 0 + 1 * (j 0).val = (j 0).val; omega)
  | ⟨2, _⟩ => exact Fin.ext (by show 0 + 1 * (j 1).val = (j 1).val; omega)

theorem wcol_read (b : Fin 10) (j : S5376x512.Idx) :
    (wcol b).view.read (Elt F) XW j = wM.view.read (Elt F) XW (at2 5376 5120 (j 0).val (512 * b.val + (j 1).val)) := by
  have e : (wcol b).view.read (Elt F) XW j = wM.view.read (Elt F) XW ((Rect.unit (s := S5376x5120) (colOff b) S5376x512.size (wcol_inb b)).emb j) := rfl
  rw [e]; congr 1
  refine at2_eq (n := 5376) (m := 5120) _ ?_ ?_
  · show 0 + 1 * (j 0).val = (j 0).val; omega
  · show 512 * b.val + 1 * (j 1).val = _; omega

variable (k : Trip)

theorem kslot_eq : ∀ k : Trip, (Scalar.andi (Scf.iv 0#32 1#32 k.val) 1#32).toNat = (Ring.sl 2 k.val).val := by decide +kernel
theorem trips_lt (k : Trip) : k.val < 10 := lt_of_lt_of_eq k.isLt (by decide)

/-- The tile a trip reads from the landed block is the weights' own. -/
theorem rt_eq (h n : ℕ) (hn : n < 21) (hh : h < 2) : rt c XW k h n = RT c XW (Ring.bk 10 k.val) h n := by
  funext i
  have h0 : (i 0).val < 1 := (i 0).isLt
  have h1 : (i 1).val < 256 := (i 1).isLt
  have h2 : (i 2).val < 256 := (i 2).isLt
  have hw := wslot_read c (Ring.sl 2 k.val) (wLanded c XW (Ring.sl 2 k.val) (Ring.bk 10 k.val) (wslot (Ring.sl 2 k.val)).view.junk)
    (at2 5376 512 (256 * n + (i 1).val) (256 * h + (i 2).val))
  unfold rt RT
  refine (congrArg (wbM.view.read (Elt F) (wLanded c XW (Ring.sl 2 k.val) (Ring.bk 10 k.val) (wslot (Ring.sl 2 k.val)).view.junk)) ?_).trans (hw.symm.trans ?_)
  · funext a
    match a with
    | ⟨0, _⟩ => exact Fin.ext (by show (Scalar.andi (Scf.iv 0#32 1#32 k.val) 1#32).toNat + 1 * (i 0).val = (Ring.sl 2 k.val).val; rw [kslot_eq]; omega)
    | ⟨1, _⟩ => exact Fin.ext (by show 256 * (n % 21) + 1 * (i 1).val = (at2 5376 512 (256 * n + (i 1).val) (256 * h + (i 2).val) 0).val; rw [at2_0 (by omega), Nat.mod_eq_of_lt hn]; omega)
    | ⟨2, _⟩ => exact Fin.ext (by show 256 * (h % 2) + 1 * (i 2).val = (at2 5376 512 (256 * n + (i 1).val) (256 * h + (i 2).val) 1).val; rw [at2_1 (by omega), Nat.mod_eq_of_lt hh]; omega)
  · refine (congrArg _ (whole_emb (s := S5376x512) _).symm).trans ((View.read_writes_cons_emb (wslot (Ring.sl 2 k.val)).view _ (Rect.whole S5376x512) _ []
        (at2 5376 512 (256 * n + (i 1).val) (256 * h + (i 2).val))).trans ?_)
    show (wcol (Ring.bk 10 k.val)).view.read (Elt F) XW _ = _
    rw [wcol_read, at2_0 (by omega), at2_1 (by omega)]

theorem lt_eq (n : ℕ) (hn : n < 21) : lt c fl n = LT c fl n := by
  funext i
  have h0 : (i 0).val < 768 := (i 0).isLt
  have h1 : (i 1).val < 256 := (i 1).isLt
  unfold lt LT
  rw [View.readAt_apply]
  congr 1
  refine at2_eq (n := 768) (m := 5376) _ ?_ ?_
  · show 0 + 1 * (i 0).val = _; omega
  · show 256 * (n % 21) + 1 * (i 1).val = _; rw [Nat.mod_eq_of_lt hn]; omega

theorem chain_congr {L L' : ℕ → Vec F S768x256 .bf16} {R R' : ℕ → Vec F S1x256x256 .i8} (N : ℕ) :
    ∀ n < N, (∀ i < N, L i = L' i) → (∀ i < N, R i = R' i) → chain L R n = chain L' R' n
  | 0, h, hL, hR => by simp only [chain]; rw [hL 0 h, hR 0 h]
  | n + 1, h, hL, hR => by simp only [chain]; rw [chain_congr N n (by omega) hL hR, hL _ h, hR _ h]

theorem accHalf_eq (h : ℕ) (hh : h < 2) : accHalf c XW k fl h = ACC c XW fl (Ring.bk 10 k.val) h := by
  unfold accHalf ACC
  rw [shapeCast_self]
  exact chain_congr 21 20 (by omega) (fun i hi => lt_eq c fl i hi) (fun i hi => rt_eq c XW k h i hi hh)

/-- The accumulator, wherever it is read, holds the products' sum. -/
theorem acc_canon (y : S768x512.Idx) : View.canon (accPieces c XW k fl) y = ACCat c XW fl (Ring.bk 10 k.val) y := by
  have hh (h : ℕ) (hh : h < 2) (x : S768x256.Idx) : accHalf c XW k fl h x = ACCat c XW fl (Ring.bk 10 k.val)
      ((Rect.unit (s := S768x512) ![0, 256 * (h % 2)] S768x256.size (ac_inb h)).emb x) := by
    have h0 : (x 0).val < 768 := (x 0).isLt
    have h1 : (x 1).val < 256 := (x 1).isLt
    have e1 : (((Rect.unit (s := S768x512) ![0, 256 * (h % 2)] S768x256.size (ac_inb h)).emb x) 1).val = 256 * h + (x 1).val := by
      show 256 * (h % 2) + 1 * (x 1).val = _; rw [Nat.mod_eq_of_lt hh]; omega
    have e0 : (((Rect.unit (s := S768x512) ![0, 256 * (h % 2)] S768x256.size (ac_inb h)).emb x) 0).val = (x 0).val := by
      show 0 + 1 * (x 0).val = _; omega
    unfold ACCat
    rw [e0, e1, show (256 * h + (x 1).val) / 256 = h by omega, show (256 * h + (x 1).val) % 256 = (x 1).val by omega, accHalf_eq c XW fl k h hh]
    exact congrArg _ (at2_eq (n := 768) (m := 256) x rfl rfl)
  have hy0 : (y 0).val < 768 := (y 0).isLt
  have hy1 : (y 1).val < 512 := (y 1).isLt
  refine View.canon_apply_of_pieces _ _ ?_ y ?_
  · intro p hp
    unfold accPieces at hp
    rcases List.mem_cons.mp hp with rfl | hp
    · exact fun x => hh 1 (by omega) x
    · rcases List.mem_cons.mp hp with rfl | hp
      · exact fun x => hh 0 (by omega) x
      · exact absurd hp List.not_mem_nil
  · by_cases hy : (y 1).val < 256
    · refine ⟨_, List.mem_cons_of_mem _ List.mem_cons_self, (Rect.mem_set_unit (inb := ac_inb 0)).mpr fun a => ?_⟩
      match a with
      | ⟨0, _⟩ => exact (by show 0 ≤ (y 0).val ∧ (y 0).val < 0 + 768; omega)
      | ⟨1, _⟩ => exact (by show 256 * (0 % 2) ≤ (y 1).val ∧ (y 1).val < 256 * (0 % 2) + 256; omega)
    · refine ⟨_, List.mem_cons_self, (Rect.mem_set_unit (inb := ac_inb 1)).mpr fun a => ?_⟩
      match a with
      | ⟨0, _⟩ => exact (by show 0 ≤ (y 0).val ∧ (y 0).val < 0 + 768; omega)
      | ⟨1, _⟩ => exact (by show 256 * (1 % 2) ≤ (y 1).val ∧ (y 1).val < 256 * (1 % 2) + 256; omega)

/-- The block that a store writes, place by place. -/
theorem outBlock_eq (n : ℕ) (x : S1x32x128.Idx) :
    outBlock c XW arg0 arg2 k f0 f2 fl n x
      = VO c XW arg0 arg2 f0 f2 fl (Ring.bk 10 k.val) (at2 768 512 (32 * (n % 24) + (x 1).val) (128 * (n / 24 % 4) + (x 2).val)) := by
  have h0 : (x 0).val < 1 := (x 0).isLt
  have h1 : (x 1).val < 32 := (x 1).isLt
  have h2 : (x 2).val < 128 := (x 2).isLt
  have hn : n % 24 < 24 := Nat.mod_lt _ (by decide)
  have hm : n / 24 % 4 < 4 := Nat.mod_lt _ (by decide)
  have hk := trips_lt k
  unfold outBlock outPay VO
  rw [shapeCast_self, shapeCast_self]
  refine (shapeCast_addUnit_apply ![32, 128] _ _ x).trans ?_
  refine Eq.trans (b := FloatOps.mulf (FloatOps.mulf (accM.view.readCov (accPieces c XW k fl) (Rect.unit (s := S768x512) ![32 * (n % 24), 128 * (n / 24 % 4)] S32x128.size (ab_inb n)).toLoadRect (Fin.tail x))
    (arg2.view.readAt (Elt F) (Rect.unit (s := S768x128) ![32 * (n % 24), 0] S32x128.size (sb_inb n)).toLoadRect f2 (Fin.tail x)))
    (broadcastTo S32x128 _ broadcasts_S1x128_S32x128 (Fin.tail x))) rfl ?_
  rw [at2_0 (by omega), at2_1 (by omega),
    show (128 * (n / 24 % 4) + (x 2).val) % 128 = (x 2).val by omega]
  have e1 := k0_off52_eq k ⟨n / 24 % 4, hm⟩
  congr 1
  · congr 1
    · refine (congrFun (View.readCov_eq_canon' accM.view (accPieces c XW k fl) _) _).trans ((acc_canon c XW fl k _).trans (congrArg (ACCat c XW fl (Ring.bk 10 k.val)) (at2_eq (n := 768) (m := 512) _ ?_ ?_)))
      · show 32 * (n % 24) + 1 * (x 1).val = _; omega
      · show 128 * (n / 24 % 4) + 1 * (x 2).val = _; omega
    · refine congrArg (arg2.view.read (Elt F) f2) (at2_eq (n := 768) (m := 128) _ ?_ ?_)
      · show 32 * (n % 24) + 1 * (x 1).val = _; omega
      · show 0 + 1 * (x 2).val = _; omega
  · refine (broadcastTo_apply _ _ _ (at2 1 128 0 (x 2).val) ?_).trans ?_
    · intro a
      match a with
      | ⟨0, _⟩ => rfl
      | ⟨1, _⟩ => exact at2_1 h2
    · rw [View.readAt_apply]
      refine congrArg _ (at2_eq (n := 1) (m := 5120) _ ?_ ?_)
      · show k0_off52 k (BitVec.ofNat 32 (128 * (n / 24 % 4))) 0 + 1 * 0 = 0
        have := congrFun e1 0; exact this
      · show k0_off52 k (BitVec.ofNat 32 (128 * (n / 24 % 4))) 1 + 1 * ((x 2).val % 128) = _
        have e := congrFun e1 1
        rw [Ring.bk_val hk, show k0_off52 k (BitVec.ofNat 32 (128 * (n / 24 % 4))) 1 = 512 * k.val + 128 * (n / 24 % 4) from e, Nat.mod_eq_of_lt h2]; omega

/-- The trip's stores as a list, the last first. -/
def outPieces : ℕ → List (View.Piece (Elt F) S2x768x512 .f32)
  | 0 => []
  | n + 1 => ⟨Rect.unit (s := S2x768x512) (kOff k (32 * (n % 24)) (128 * (n / 24 % 4))) S1x32x128.size (ob_inb k n), outBlock c XW arg0 arg2 k f0 f2 fl n⟩ :: outPieces n

theorem outW_eq (fs : Buf (Elt F) (sobM.view.loc (c : Thread nD τ))) :
    ∀ n, outW c XW arg0 arg2 k f0 f2 fl fs n = sobM.view.writes (Elt F) fs (outPieces c XW arg0 arg2 f0 f2 fl k n)
  | 0 => rfl
  | n + 1 => by rw [outW, outPieces, View.writes_cons, outW_eq fs n]

theorem outPieces_mem (n : ℕ) : ∀ m < n, (⟨Rect.unit (s := S2x768x512) (kOff k (32 * (m % 24)) (128 * (m / 24 % 4))) S1x32x128.size (ob_inb k m), outBlock c XW arg0 arg2 k f0 f2 fl m⟩ : View.Piece (Elt F) S2x768x512 .f32)
    ∈ outPieces c XW arg0 arg2 f0 f2 fl k n := by
  induction n with
  | zero => intro m hm; omega
  | succ n ih =>
    intro m hm
    rw [outPieces]
    by_cases h : m = n
    · subst h; exact List.mem_cons_self
    · exact List.mem_cons_of_mem _ (ih m (by omega))

theorem outPieces_val (n : ℕ) : ∀ p ∈ outPieces c XW arg0 arg2 f0 f2 fl k n, ∀ x : p.1.shape.Idx,
    p.2 x = VO c XW arg0 arg2 f0 f2 fl (Ring.bk 10 k.val) (at2 768 512 (p.1.emb x 1).val (p.1.emb x 2).val) := by
  induction n with
  | zero => intro p hp; exact absurd hp List.not_mem_nil
  | succ n ih =>
    intro p hp
    rw [outPieces] at hp
    rcases List.mem_cons.mp hp with rfl | hp
    · intro x
      refine (outBlock_eq c XW arg0 arg2 f0 f2 fl k n x).trans ?_
      congr 2
      · show _ = 32 * (n % 24) + 1 * (x 1).val; omega
      · show _ = 128 * (n / 24 % 4) + 1 * (x 2).val; omega
    · exact ih p hp

/-- After a trip the output slot holds the trip's column block of the result. -/
theorem out_read (fs : Buf (Elt F) (sobM.view.loc (c : Thread nD τ))) :
    (oslot (Ring.sl 2 k.val)).view.read (Elt F) (outW c XW arg0 arg2 k f0 f2 fl fs 96) = VO c XW arg0 arg2 f0 f2 fl (Ring.bk 10 k.val) := by
  funext j
  have h0 : (j 0).val < 768 := (j 0).isLt
  have h1 : (j 1).val < 512 := (j 1).isLt
  rw [oslot_read, outW_eq]
  refine (View.read_writes_apply_of_pieces sobM.view fs (fun y => VO c XW arg0 arg2 f0 f2 fl (Ring.bk 10 k.val) (at2 768 512 (y 1).val (y 2).val)) _
    (outPieces_val c XW arg0 arg2 f0 f2 fl k 96) _ ⟨_, outPieces_mem c XW arg0 arg2 f0 f2 fl k 96 (24 * ((j 1).val / 128) + (j 0).val / 32) (by omega), ?_⟩).trans ?_
  · refine (Rect.mem_set_unit (inb := ob_inb k _)).mpr fun a => ?_
    match a with
    | ⟨0, _⟩ => exact (by
        show (Scalar.andi (Scf.iv 0#32 1#32 k.val) 1#32).toNat ≤ (Ring.sl 2 k.val).val ∧ (Ring.sl 2 k.val).val < (Scalar.andi (Scf.iv 0#32 1#32 k.val) 1#32).toNat + 1
        rw [kslot_eq]; omega)
    | ⟨1, _⟩ => exact (by show 32 * ((24 * ((j 1).val / 128) + (j 0).val / 32) % 24) ≤ (j 0).val ∧ (j 0).val < 32 * ((24 * ((j 1).val / 128) + (j 0).val / 32) % 24) + 32; omega)
    | ⟨2, _⟩ => exact (by show 128 * ((24 * ((j 1).val / 128) + (j 0).val / 32) / 24 % 4) ≤ (j 1).val ∧ (j 1).val < 128 * ((24 * ((j 1).val / 128) + (j 0).val / 32) / 24 % 4) + 128; omega)
  · exact congrArg _ (at2_eq (n := 768) (m := 512) j rfl rfl).symm
end Val

end Cert.Proof.KernelIdeal

end
-- ==== Proof.InvKI.lean ====
module

public import proofs.«01_k».proof.Defs
public import proofs.«01_k».proof.Proof.BaseKI
public import proofs.«01_k».proof.Proof.TripKI
public import proofs.«01_k».proof.Proof.ValKI
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Ring.WriteBehind
public import Idealize.ShloMosaic.Lib.Affine
public import Idealize.ShloMosaic.Lib.Tactic

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The loop's invariant -/

section Inv
variable (c : Dev nD) (XW : Buf (Elt F) (wM.view.loc (c : Thread nD τ)))
  (arg0 : Memref sig .tc .vmem S1x5120 .f32) (harg0 : arg0.IsWhole)
  (arg1 : Memref sig .tc .vmem S768x5376 .i8) (harg1 : arg1.IsWhole)
  (arg2 : Memref sig .tc .vmem S768x128 .f32) (harg2 : arg2.IsWhole)
  (f0 : Buf (Elt F) (arg0.view.loc (c : Thread nD τ))) (f2 : Buf (Elt F) (arg2.view.loc (c : Thread nD τ)))
  (fl : Buf (Elt F) (lhsM.view.loc (c : Thread nD τ)))

/-- A weight slot with nothing on its way. -/
abbrev wFree (s : Fin 2) : sProp 𝕄 := iprop(wcellP c s ∗ ∃ f, wslotP c s f)
/-- An output slot with nothing on its way. -/
abbrev oFree (s : Fin 2) : sProp 𝕄 := iprop(ocellP c s ∗ ∃ f, oslotP c s f)
/-- The weights before trip `k`: block `k` on its way in, the others at home, the other slot free. -/
def wMid (k : ℕ) : sProp 𝕄 :=
  iprop(bigSep (Finset.univ.erase (Ring.bk 10 k)) (wHome c XW) ∗ (∃ f, wFlight c XW (Ring.sl 2 k) (Ring.bk 10 k) f) ∗ wFree c (Ring.sl 2 (k + 1)))
/-- The weights after the last trip: all at home. -/
def wEnd (k : ℕ) : sProp 𝕄 := iprop(bigSep Finset.univ (wHome c XW) ∗ wFree c (Ring.sl 2 k) ∗ wFree c (Ring.sl 2 (k + 1)))
def wPart (k : ℕ) : sProp 𝕄 := if k < 10 then wMid c XW k else wEnd c XW k

/-- An output slot with block `b` of the result on its way out. -/
def oBusy (s : Fin 2) (b : Fin 10) : sProp 𝕄 :=
  iprop(∃ fs fo, oFlight c s b fs fo ∗ ⌜(oslot s).view.read (Elt F) fs = VO c XW arg0 arg2 f0 f2 fl b⌝)
/-- The output slot that trip `t` will use. -/
def oRole (t : ℕ) : sProp 𝕄 := if 2 ≤ t then oBusy c XW arg0 arg2 f0 f2 fl (Ring.sl 2 t) (Ring.bk 10 (t - 2)) else oFree c (Ring.sl 2 t)
/-- A block of the result's array, whatever it holds. -/
abbrev oAny (b : Fin 10) : sProp 𝕄 := iprop(∃ f, ocolP (F := F) c b f)
/-- A block of the result's array that holds the result. -/
def oDone (b : Fin 10) : sProp 𝕄 := iprop(∃ f, ocolP c b f ∗ ⌜(ocol b).view.read (Elt F) f = VO c XW arg0 arg2 f0 f2 fl b⌝)

/-- What a trip keeps: the scales, the activations, the accumulator, the core's waits. -/
def base : sProp 𝕄 :=
  iprop((arg0.view.loc (c : Thread nD τ) ↦[arg0.view.set]{fullShare} f0)
    ∗ (arg2.view.loc (c : Thread nD τ) ↦[arg2.view.set]{fullShare} f2)
    ∗ (lhsM.view.loc (c : Thread nD τ) ↦[lhsM.view.set]{fullShare} fl)
    ∗ (∃ fa, accM.view.loc (c : Thread nD τ) ↦[accM.view.set]{fullShare} fa)
    ∗ (∃ W, owes (c : Thread nD τ) 0 W))

/-- Everything before trip `k`. -/
def Inv (k : ℕ) : sProp 𝕄 :=
  iprop(base c arg0 arg2 f0 f2 fl ∗ wPart c XW k
    ∗ bigSep (Ring.aheadSet k) (oAny c) ∗ bigSep (Ring.behindSet 2 k) (oDone c XW arg0 arg2 f0 f2 fl)
    ∗ oRole c XW arg0 arg2 f0 f2 fl k ∗ oRole c XW arg0 arg2 f0 f2 fl (k + 1))

/-- A block that has landed reads as its slot did. -/
theorem landed_read (s : Fin 2) (b : Fin 10) (fs fo) :
    (ocol b).view.read (Elt F) (oLanded c s b fs fo) = (oslot s).view.read (Elt F) fs := by
  funext j
  exact (congrArg _ (whole_emb (s := S768x512) j).symm).trans (View.read_writes_cons_emb (ocol b).view _ (Rect.whole S768x512) _ [] j)

theorem busy_done (s : Fin 2) (b : Fin 10) (fs fo) (h : (oslot s).view.read (Elt F) fs = VO c XW arg0 arg2 f0 f2 fl b) :
    ocolP c b (oLanded c s b fs fo) ⊢ oDone c XW arg0 arg2 f0 f2 fl b := by
  unfold oDone
  iintro H
  iexists _
  isplitl [H]; · iexact H
  ipureintro; exact (landed_read c s b fs fo).trans h

theorem role_lo (t : ℕ) (h : ¬ 2 ≤ t) : oRole c XW arg0 arg2 f0 f2 fl t = oFree c (Ring.sl 2 t) := if_neg h
theorem role_hi (t : ℕ) (h : 2 ≤ t) : oRole c XW arg0 arg2 f0 f2 fl t = oBusy c XW arg0 arg2 f0 f2 fl (Ring.sl 2 t) (Ring.bk 10 (t - 2)) := if_pos h

theorem slot2 (k : ℕ) : Ring.sl 2 (k + 1 + 1) = Ring.sl 2 k := by rw [show k + 1 + 1 = k + 2 from rfl, Ring.sl_add]

/-- The weights at home before trip `k` are block `k + 1` and the rest; -/
theorem home_here (k : ℕ) (h : k < 9) : bigSep (Finset.univ.erase (Ring.bk 10 k)) (wHome c XW)
    = iprop(wHome c XW (Ring.bk 10 (k + 1)) ∗ bigSep ((Finset.univ.erase (Ring.bk 10 k)).erase (Ring.bk 10 (k + 1))) (wHome c XW)) := by
  refine Ring.bigSep_take ?_ _
  rw [Finset.mem_erase]
  exact ⟨fun e => by have := congrArg Fin.val e; rw [Ring.bk_val (by omega), Ring.bk_val (by omega)] at this; omega, Finset.mem_univ _⟩
/-- and before trip `k + 1` they are block `k` and that rest. -/
theorem home_next (k : ℕ) (h : k < 9) : bigSep (Finset.univ.erase (Ring.bk 10 (k + 1))) (wHome c XW)
    = iprop(wHome c XW (Ring.bk 10 k) ∗ bigSep ((Finset.univ.erase (Ring.bk 10 k)).erase (Ring.bk 10 (k + 1))) (wHome c XW)) := by
  rw [Finset.erase_right_comm]
  refine Ring.bigSep_take ?_ _
  rw [Finset.mem_erase]
  exact ⟨fun e => by have := congrArg Fin.val e; rw [Ring.bk_val (by omega), Ring.bk_val (by omega)] at this; omega, Finset.mem_univ _⟩
theorem home_last (k : ℕ) : bigSep Finset.univ (wHome c XW) = iprop(wHome c XW (Ring.bk 10 k) ∗ bigSep (Finset.univ.erase (Ring.bk 10 k)) (wHome c XW)) :=
  Ring.bigSep_take (Finset.mem_univ _) _

theorem ahead_open (k : ℕ) (h : k < 10) : bigSep (Ring.aheadSet k) (oAny (F := F) c) = iprop(oAny c (Ring.bk 10 k) ∗ bigSep (Ring.aheadSet (k + 1)) (oAny c)) := by
  rw [Ring.aheadSet_open k h, Ring.bigSep_put (Ring.bk_not_mem_aheadSet_succ k h)]
theorem behind_close (k : ℕ) (h2 : 2 ≤ k) (h : k < 10) (Φ : Fin 10 → sProp 𝕄) : bigSep (Ring.behindSet 2 (k + 1)) Φ = iprop(Φ (Ring.bk 10 (k - 2)) ∗ bigSep (Ring.behindSet 2 k) Φ) := by
  rw [Ring.behindSet_close 2 k h2 h, Ring.bigSep_put (Ring.bk_not_mem_behindSet 2 k h2 h)]

/-- The slot the trip fills is busy with the trip's block. -/
theorem busy_intro (k : Trip) (fs fn) : oFlight c (Ring.sl 2 k.val) (Ring.bk 10 k.val) (outW c XW arg0 arg2 k f0 f2 fl fs 96) fn
    ⊢ oRole c XW arg0 arg2 f0 f2 fl (k.val + 1 + 1) := by
  rw [role_hi c XW arg0 arg2 f0 f2 fl _ (by omega), slot2]
  unfold oBusy
  iintro H
  iexists _; iexists fn
  isplitl [H]; · iexact H
  ipureintro; exact out_read c XW arg0 arg2 f0 f2 fl k fs

theorem step_lo (k : Trip) (h1 : ¬ 1 < k.val) (h9 : k.val < 9) : Inv c XW arg0 arg2 f0 f2 fl k.val
    ⊢ wp frame (wpE (defs₀ (F := F)) 𝒱₀ (c : Thread nD τ) none) Set.univ (tripG arg0 harg0 arg1 harg1 arg2 harg2 k) (fun _ => Inv c XW arg0 arg2 f0 f2 fl (k.val + 1)) := by
  unfold Inv base wPart
  rw [if_pos (by omega), if_pos (by omega)]
  unfold wMid
  rw [home_here c XW k.val h9, home_next c XW k.val h9, ahead_open c k.val (by omega), role_lo c XW arg0 arg2 f0 f2 fl k.val (by omega),
    Ring.behindSet_boot 2 k.val (by omega), Ring.behindSet_boot 2 (k.val + 1) (by omega)]
  iintro ⟨⟨H0, H2, HL, ⟨%fa, HA⟩, ⟨%W, HW⟩⟩, ⟨⟨Hh, Hr⟩, ⟨%fw, HF⟩, Hc, ⟨%fw', Hs⟩⟩, ⟨⟨%fn, Hn⟩, Hah⟩, Hbh, ⟨Hoc, ⟨%fs, Hos⟩⟩, Hro⟩
  iapply (wp_wand_r Idealize.ShloMosaic.frame (wpE (defs₀ (F := F)) 𝒱₀ (c : Thread nD τ) none) Set.univ)
  isplitl [H0 H2 HL HA HW Hh HF Hc Hs Hn Hoc Hos]
  · iapply (trip_lo c XW arg0 harg0 arg1 harg1 arg2 harg2 k h1 h9 f0 f2 fl fa fw fw' fs fn W)
    isplitl [H0]; · iexact H0
    isplitl [H2]; · iexact H2
    isplitl [HL]; · iexact HL
    isplitl [HA]; · iexact HA
    isplitl [HW]; · iexact HW
    isplitl [HF]; · iexact HF
    isplitl [Hc]; · iexact Hc
    isplitl [Hs]; · iexact Hs
    isplitl [Hh]; · iexact Hh
    isplitl [Hoc]; · iexact Hoc
    isplitl [Hos]; · iexact Hos
    iexact Hn
  · iintro %_ ⟨H0, H2, HL, HA, HW, Hc, Hs, Hh, HF, HO⟩
    isplitl [H0 H2 HL HA HW]
    · isplitl [H0]; · iexact H0
      isplitl [H2]; · iexact H2
      isplitl [HL]; · iexact HL
      isplitl [HA]; · iexact HA
      iexact HW
    isplitl [Hh Hr HF Hc Hs]
    · isplitl [Hh Hr]
      · isplitl [Hh]; · iexact Hh
        iexact Hr
      isplitl [HF]; · iexists _; iexact HF
      rw [slot2]
      isplitl [Hc]; · iexact Hc
      iexact Hs
    isplitl [Hah]; · iexact Hah
    isplitl [Hbh]; · iexact Hbh
    isplitl [Hro]; · iexact Hro
    iapply (busy_intro c XW arg0 arg2 f0 f2 fl k fs fn); iexact HO

theorem step_mid (k : Trip) (h1 : 1 < k.val) (h9 : k.val < 9) : Inv c XW arg0 arg2 f0 f2 fl k.val
    ⊢ wp frame (wpE (defs₀ (F := F)) 𝒱₀ (c : Thread nD τ) none) Set.univ (tripG arg0 harg0 arg1 harg1 arg2 harg2 k) (fun _ => Inv c XW arg0 arg2 f0 f2 fl (k.val + 1)) := by
  unfold Inv base wPart
  rw [if_pos (by omega), if_pos (by omega)]
  unfold wMid
  rw [home_here c XW k.val h9, home_next c XW k.val h9, ahead_open c k.val (by omega), role_hi c XW arg0 arg2 f0 f2 fl k.val (by omega),
    behind_close k.val (by omega) (by omega)]
  unfold oBusy
  iintro ⟨⟨H0, H2, HL, ⟨%fa, HA⟩, ⟨%W, HW⟩⟩, ⟨⟨Hh, Hr⟩, ⟨%fw, HF⟩, Hc, ⟨%fw', Hs⟩⟩, ⟨⟨%fn, Hn⟩, Hah⟩, Hbh, ⟨%fs, %fo, Ho, %hfs⟩, Hro⟩
  iapply (wp_wand_r Idealize.ShloMosaic.frame (wpE (defs₀ (F := F)) 𝒱₀ (c : Thread nD τ) none) Set.univ)
  isplitl [H0 H2 HL HA HW Hh HF Hc Hs Hn Ho]
  · iapply (trip_mid c XW arg0 harg0 arg1 harg1 arg2 harg2 k h1 h9 f0 f2 fl fa fw fw' fs fo fn W)
    isplitl [H0]; · iexact H0
    isplitl [H2]; · iexact H2
    isplitl [HL]; · iexact HL
    isplitl [HA]; · iexact HA
    isplitl [HW]; · iexact HW
    isplitl [HF]; · iexact HF
    isplitl [Hc]; · iexact Hc
    isplitl [Hs]; · iexact Hs
    isplitl [Hh]; · iexact Hh
    isplitl [Ho]; · iexact Ho
    iexact Hn
  · iintro %_ ⟨H0, H2, HL, HA, HW, Hc, Hs, Hh, HF, Hb, HO⟩
    isplitl [H0 H2 HL HA HW]
    · isplitl [H0]; · iexact H0
      isplitl [H2]; · iexact H2
      isplitl [HL]; · iexact HL
      isplitl [HA]; · iexact HA
      iexact HW
    isplitl [Hh Hr HF Hc Hs]
    · isplitl [Hh Hr]
      · isplitl [Hh]; · iexact Hh
        iexact Hr
      isplitl [HF]; · iexists _; iexact HF
      rw [slot2]
      isplitl [Hc]; · iexact Hc
      iexact Hs
    isplitl [Hah]; · iexact Hah
    isplitl [Hb Hbh]
    · isplitl [Hb]
      · iapply (busy_done c XW arg0 arg2 f0 f2 fl _ _ fs fo hfs); iexact Hb
      iexact Hbh
    isplitl [Hro]; · iexact Hro
    iapply (busy_intro c XW arg0 arg2 f0 f2 fl k fs fn); iexact HO

theorem step_hi (k : Trip) (h9 : ¬ k.val < 9) : Inv c XW arg0 arg2 f0 f2 fl k.val
    ⊢ wp frame (wpE (defs₀ (F := F)) 𝒱₀ (c : Thread nD τ) none) Set.univ (tripG arg0 harg0 arg1 harg1 arg2 harg2 k) (fun _ => Inv c XW arg0 arg2 f0 f2 fl (k.val + 1)) := by
  have hk := trips_lt k
  unfold Inv base wPart
  rw [if_pos (by omega), if_neg (by omega)]
  unfold wMid wEnd
  rw [home_last c XW k.val, ahead_open c k.val (by omega), role_hi c XW arg0 arg2 f0 f2 fl k.val (by omega),
    behind_close k.val (by omega) (by omega), slot2]
  unfold oBusy
  iintro ⟨⟨H0, H2, HL, ⟨%fa, HA⟩, ⟨%W, HW⟩⟩, ⟨Hr, ⟨%fw, HF⟩, Hfr⟩, ⟨⟨%fn, Hn⟩, Hah⟩, Hbh, ⟨%fs, %fo, Ho, %hfs⟩, Hro⟩
  iapply (wp_wand_r Idealize.ShloMosaic.frame (wpE (defs₀ (F := F)) 𝒱₀ (c : Thread nD τ) none) Set.univ)
  isplitl [H0 H2 HL HA HW HF Hn Ho]
  · iapply (trip_hi c XW arg0 harg0 arg1 harg1 arg2 harg2 k h9 f0 f2 fl fa fw fs fo fn W)
    isplitl [H0]; · iexact H0
    isplitl [H2]; · iexact H2
    isplitl [HL]; · iexact HL
    isplitl [HA]; · iexact HA
    isplitl [HW]; · iexact HW
    isplitl [HF]; · iexact HF
    isplitl [Ho]; · iexact Ho
    iexact Hn
  · iintro %_ ⟨H0, H2, HL, HA, HW, Hc, Hs, Hh, Hb, HO⟩
    isplitl [H0 H2 HL HA HW]
    · isplitl [H0]; · iexact H0
      isplitl [H2]; · iexact H2
      isplitl [HL]; · iexact HL
      isplitl [HA]; · iexact HA
      iexact HW
    isplitl [Hh Hr Hfr Hc Hs]
    · isplitl [Hh Hr]
      · isplitl [Hh]; · iexact Hh
        iexact Hr
      isplitl [Hfr]; · iexact Hfr
      isplitl [Hc]; · iexact Hc
      iexact Hs
    isplitl [Hah]; · iexact Hah
    isplitl [Hb Hbh]
    · isplitl [Hb]
      · iapply (busy_done c XW arg0 arg2 f0 f2 fl _ _ fs fo hfs); iexact Hb
      iexact Hbh
    isplitl [Hro]; · iexact Hro
    iapply (busy_intro c XW arg0 arg2 f0 f2 fl k fs fn); iexact HO

/-- A trip keeps the invariant. -/
theorem step_all (k : Trip) : Inv c XW arg0 arg2 f0 f2 fl k.val
    ⊢ wp frame (wpE (defs₀ (F := F)) 𝒱₀ (c : Thread nD τ) none) Set.univ (tripG arg0 harg0 arg1 harg1 arg2 harg2 k) (fun _ => Inv c XW arg0 arg2 f0 f2 fl (k.val + 1)) := by
  by_cases h9 : k.val < 9
  · by_cases h1 : 1 < k.val
    · exact step_mid c XW arg0 harg0 arg1 harg1 arg2 harg2 f0 f2 fl k h1 h9
    · exact step_lo c XW arg0 harg0 arg1 harg1 arg2 harg2 f0 f2 fl k h1 h9
  · exact step_hi c XW arg0 harg0 arg1 harg1 arg2 harg2 f0 f2 fl k h9

set_option warn.classDefReducibility false in
/-- The loop keeps the invariant. -/
def loopInv1 : LoopInvTy_k0_t1 (F := F) Unit ℕ (UU nD τ) ℕ 𝒱₀ c none Set.univ arg0 harg0 arg1 harg1 arg2 harg2 wM (Memref.isWhole_whole _) oM (Memref.isWhole_whole _) cc0_scratch0
    lhsM (Memref.isWhole_whole _) wbM (Memref.isWhole_whole _) accM (Memref.isWhole_whole _) sobM (Memref.isWhole_whole _) where
  inv k _ := Inv c XW arg0 arg2 f0 f2 fl k
  step k _ := by
    iintro H
    iapply (step_all c XW arg0 harg0 arg1 harg1 arg2 harg2 f0 f2 fl k)
    iexact H
end Inv

end Cert.Proof.KernelIdeal

end
-- ==== Proof.BodyKI.lean ====
module

public import proofs.«01_k».proof.Defs
public import proofs.«01_k».proof.Proof.BaseKI
public import proofs.«01_k».proof.Proof.InvKI
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Ring.WriteBehind
public import Idealize.ShloMosaic.Lib.Affine
public import Idealize.ShloMosaic.Lib.Tactic

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The kernel's body -/

theorem sl2_0 : Ring.sl 2 0 = 0 := Fin.ext (by rfl)
theorem sl2_1 : Ring.sl 2 (0 + 1) = 1 := Fin.ext (by rfl)
theorem bk10_0 : Ring.bk 10 0 = 0 := Fin.ext (by rfl)

section Body
variable (c : Dev nD) (XW : Buf (Elt F) (wM.view.loc (c : Thread nD τ)))
  (arg0 : Memref sig .tc .vmem S1x5120 .f32) (harg0 : arg0.IsWhole)
  (arg1 : Memref sig .tc .vmem S768x5376 .i8) (harg1 : arg1.IsWhole)
  (arg2 : Memref sig .tc .vmem S768x128 .f32) (harg2 : arg2.IsWhole)
  (f0 : Buf (Elt F) (arg0.view.loc (c : Thread nD τ))) (f1 : Buf (Elt F) (arg1.view.loc (c : Thread nD τ)))
  (f2 : Buf (Elt F) (arg2.view.loc (c : Thread nD τ)))

abbrev bodyG : Prog (TpuEff nD τ sig (Elt F) Λ₀ .tc) PUnit :=
  cc0_moe_ffn arg0 harg0 arg1 harg1 arg2 harg2 wM (Memref.isWhole_whole _) oM (Memref.isWhole_whole _) cc0_scratch0
    lhsM (Memref.isWhole_whole _) wbM (Memref.isWhole_whole _) accM (Memref.isWhole_whole _) sobM (Memref.isWhole_whole _)

theorem lc_inb (n : ℕ) : ∀ a, (![0, 128 * (n % 42)] : Fin 2 → ℕ) a + S768x128.size a ≤ S768x5376.size a := by
  have := Nat.mod_lt n (show 0 < 42 by decide); intro a; fin_cases a
  · show 0 + 768 ≤ 768; omega
  · show 128 * (n % 42) + 128 ≤ 5376; omega

theorem home_first : bigSep Finset.univ (wHome c XW) = iprop(wHome c XW 0 ∗ bigSep (Finset.univ.erase (Ring.bk 10 0)) (wHome c XW)) := by
  rw [home_last c XW 0]; simp only [bk10_0]

/-- What the body is handed. -/
abbrev PRE (W : Waits sig Unit) : sProp 𝕄 :=
  iprop((arg0.view.loc (c : Thread nD τ) ↦[arg0.view.set]{fullShare} f0)
    ∗ (arg1.view.loc (c : Thread nD τ) ↦[arg1.view.set]{fullShare} f1)
    ∗ (arg2.view.loc (c : Thread nD τ) ↦[arg2.view.set]{fullShare} f2)
    ∗ (∃ f, lhsM.view.loc (c : Thread nD τ) ↦[lhsM.view.set]{fullShare} f)
    ∗ (∃ fa, accM.view.loc (c : Thread nD τ) ↦[accM.view.set]{fullShare} fa)
    ∗ owes (c : Thread nD τ) 0 W
    ∗ bigSep Finset.univ (wHome c XW) ∗ (wFree c 0 ∗ wFree c 1)
    ∗ bigSep Finset.univ (oAny c) ∗ (oFree c 0 ∗ oFree c 1))

/-- The block of activations that the body's store `n` writes: the codes, converted. -/
def lhsBlock (n : ℕ) : FVec F S768x128 .bf16 :=
  shapeCast S768x128 (sitofp .bf16 (arg1.view.readAt (Elt F) (Rect.unit (s := S768x5376) ![0, 128 * (n % 42)] S768x128.size (lc_inb n)).toLoadRect f1 : Vec F S768x128 .i8)) shapeCasts_S768x128_S768x128
/-- The first `n` of those stores, the last first. -/
def lhsPieces : ℕ → List (View.Piece (Elt F) S768x5376 .bf16)
  | 0 => []
  | n + 1 => ⟨Rect.unit (s := S768x5376) ![0, 128 * (n % 42)] S768x128.size (lc_inb n), lhsBlock c arg1 f1 n⟩ :: lhsPieces n
/-- The activations' buffer once it is filled. -/
def lhsB : Buf (Elt F) (lhsM.view.loc (c : Thread nD τ)) := lhsM.view.writes (Elt F) lhsM.view.junk (lhsPieces c arg1 f1 42)

theorem lhsBlock_eq (n : ℕ) : lhsBlock c arg1 f1 n = sitofp .bf16 (arg1.view.readAt (Elt F) (Rect.unit (s := S768x5376) ![0, 128 * (n % 42)] S768x128.size (lc_inb n)).toLoadRect f1 : Vec F S768x128 .i8) :=
  shapeCast_self _ _
theorem lhsPieces_mem (n : ℕ) : ∀ m < n, (⟨Rect.unit (s := S768x5376) ![0, 128 * (m % 42)] S768x128.size (lc_inb m), lhsBlock c arg1 f1 m⟩ : View.Piece (Elt F) S768x5376 .bf16)
    ∈ lhsPieces c arg1 f1 n := by
  induction n with
  | zero => intro m hm; omega
  | succ n ih =>
    intro m hm
    rw [lhsPieces]
    by_cases h : m = n
    · subst h; exact List.mem_cons_self
    · exact List.mem_cons_of_mem _ (ih m (by omega))
theorem lhsPieces_val (n : ℕ) : ∀ p ∈ lhsPieces c arg1 f1 n, ∀ x : p.1.shape.Idx,
    p.2 x = FloatOps.sitofp .bf16 (arg1.view.read (Elt F) f1 (p.1.emb x)) := by
  induction n with
  | zero => intro p hp; exact absurd hp List.not_mem_nil
  | succ n ih =>
    intro p hp
    rw [lhsPieces] at hp
    rcases List.mem_cons.mp hp with rfl | hp
    · intro x
      exact (congrFun (lhsBlock_eq c arg1 f1 n) x).trans rfl
    · exact ih p hp
/-- The filled buffer holds the codes, converted. -/
theorem lhs_read (j : S768x5376.Idx) : lhsM.view.read (Elt F) (lhsB c arg1 f1) j = FloatOps.sitofp .bf16 (arg1.view.read (Elt F) f1 j) := by
  have h0 : (j 0).val < 768 := (j 0).isLt
  have h1 : (j 1).val < 5376 := (j 1).isLt
  refine View.read_writes_apply_of_pieces lhsM.view _ (fun y => FloatOps.sitofp .bf16 (arg1.view.read (Elt F) f1 y)) _
    (lhsPieces_val c arg1 f1 42) j ⟨_, lhsPieces_mem c arg1 f1 42 ((j 1).val / 128) (by omega), ?_⟩
  refine (Rect.mem_set_unit (inb := lc_inb _)).mpr fun a => ?_
  match a with
  | ⟨0, _⟩ => exact (by show 0 ≤ (j 0).val ∧ (j 0).val < 0 + 768; omega)
  | ⟨1, _⟩ => exact (by show 128 * ((j 1).val / 128 % 42) ≤ (j 1).val ∧ (j 1).val < 128 * ((j 1).val / 128 % 42) + 128; omega)

/-- What the body hands back: the same, with the result's blocks done. -/
abbrev POST : sProp 𝕄 :=
  iprop((arg0.view.loc (c : Thread nD τ) ↦[arg0.view.set]{fullShare} f0)
    ∗ (arg1.view.loc (c : Thread nD τ) ↦[arg1.view.set]{fullShare} f1)
    ∗ (arg2.view.loc (c : Thread nD τ) ↦[arg2.view.set]{fullShare} f2)
    ∗ (∃ f, lhsM.view.loc (c : Thread nD τ) ↦[lhsM.view.set]{fullShare} f)
    ∗ (∃ fa, accM.view.loc (c : Thread nD τ) ↦[accM.view.set]{fullShare} fa)
    ∗ (∃ W, owes (c : Thread nD τ) 0 W)
    ∗ bigSep Finset.univ (wHome c XW) ∗ (wFree c 0 ∗ wFree c 1)
    ∗ bigSep Finset.univ (oDone c XW arg0 arg2 f0 f2 (lhsB c arg1 f1)) ∗ (oFree c 0 ∗ oFree c 1))

/-- Before the first trip. -/
theorem inv_zero (fl : Buf (Elt F) (lhsM.view.loc (c : Thread nD τ))) :
    iprop(base c arg0 arg2 f0 f2 fl ∗ (bigSep (Finset.univ.erase (Ring.bk 10 0)) (wHome c XW) ∗ (∃ f, wFlight c XW 0 0 f) ∗ wFree c 1)
      ∗ bigSep Finset.univ (oAny c) ∗ oFree c 0 ∗ oFree c 1) ⊢ Inv c XW arg0 arg2 f0 f2 fl 0 := by
  unfold Inv wPart
  rw [if_pos (by omega)]
  unfold wMid
  rw [Ring.aheadSet_zero, Ring.behindSet_boot 2 0 (by omega), role_lo _ _ _ _ _ _ _ 0 (by omega), role_lo _ _ _ _ _ _ _ (0 + 1) (by omega), sl2_0, sl2_1, bk10_0]
  iintro ⟨Hb, Hw, Hout, H0, H1⟩
  isplitl [Hb]; · iexact Hb
  isplitl [Hw]; · iexact Hw
  isplitl [Hout]; · iexact Hout
  isplitr [H0 H1]
  · rw [bigSep_empty]; iempintro
  isplitl [H0]; · iexact H0
  iexact H1

theorem sl2_10 : Ring.sl 2 10 = 0 := Fin.ext (by rfl)
theorem sl2_11 : Ring.sl 2 (10 + 1) = 1 := Fin.ext (by rfl)
theorem bk10_8 : Ring.bk 10 (10 - 2) = 8 := Fin.ext (by rfl)
theorem bk10_9 : Ring.bk 10 (10 + 1 - 2) = 9 := Fin.ext (by rfl)

/-- After the last trip. -/
theorem inv_last (fl : Buf (Elt F) (lhsM.view.loc (c : Thread nD τ))) :
    Inv c XW arg0 arg2 f0 f2 fl 10 ⊢ iprop(base c arg0 arg2 f0 f2 fl ∗ (bigSep Finset.univ (wHome c XW) ∗ wFree c 0 ∗ wFree c 1)
      ∗ bigSep (Ring.behindSet 2 10) (oDone c XW arg0 arg2 f0 f2 fl) ∗ oBusy c XW arg0 arg2 f0 f2 fl 0 8 ∗ oBusy c XW arg0 arg2 f0 f2 fl 1 9) := by
  unfold Inv wPart
  rw [if_neg (by omega)]
  unfold wEnd
  rw [role_hi _ _ _ _ _ _ _ 10 (by omega), role_hi _ _ _ _ _ _ _ (10 + 1) (by omega), sl2_10, sl2_11, bk10_8, bk10_9]
  iintro ⟨Hb, Hw, -, Hd, H0, H1⟩
  isplitl [Hb]; · iexact Hb
  isplitl [Hw]; · iexact Hw
  isplitl [Hd]; · iexact Hd
  isplitl [H0]; · iexact H0
  iexact H1

/-- The last two blocks join the ones done before. -/
theorem done_all (Φ : Fin 10 → sProp 𝕄) : bigSep Finset.univ Φ = iprop(Φ 8 ∗ Φ 9 ∗ bigSep (Ring.behindSet 2 10) Φ) := by
  have e : (Finset.univ : Finset (Fin 10)) = insert 8 (insert 9 (Ring.behindSet 2 10)) := by decide
  rw [e, bigSep_insert (by decide), bigSep_insert (by decide)]; rfl

/-- The body: it converts the codes, runs the trips, and waits for the last two blocks. -/
theorem bodyRun (W : Waits sig Unit) (Q : PUnit → sProp 𝕄) :
    iprop(PRE c XW arg0 arg1 arg2 f0 f1 f2 W ∗ (POST c XW arg0 arg1 arg2 f0 f1 f2 -∗ Q ⟨⟩))
      ⊢ wp frame (wpE (defs₀ (F := F)) 𝒱₀ (c : Thread nD τ) none) Set.univ (bodyG arg0 harg0 arg1 harg1 arg2 harg2) Q := by
  iintro ⟨⟨H0, H1, H2, ⟨%fl, HL⟩, ⟨%fa, HA⟩, HW, Hall, ⟨⟨Hc0, ⟨%fw0, Hs0⟩⟩, Hf1⟩, Hout, Ho0, Ho1⟩, Hk⟩
  ihave Hall2 := (entails_of_eq (home_first c XW)) $$ Hall
  icases Hall2 with ⟨Hh, Hr⟩
  sl_exec
  have e : bodyRun.sl.HL_42 c arg1 f1 = lhsPieces c arg1 f1 42 := rfl
  rw [e]
  ihave HI := (inv_zero c XW arg0 arg2 f0 f2 (lhsB c arg1 f1)) $$ [H0 H2 HL HA HW Hc0 Hr Hf1 Hout Ho0 Ho1]
  · isplitl [H0 H2 HL HA HW]
    · unfold base
      isplitl [H0]; · iexact H0
      isplitl [H2]; · iexact H2
      isplitl [HL]; · iexact HL
      isplitl [HA]; · iexists _; iexact HA
      iexists _; iexact HW
    isplitl [Hc0 Hr Hf1]
    · isplitl [Hr]; · iexact Hr
      isplitl [Hc0]; · iexists fw0; iexact Hc0
      iexact Hf1
    isplitl [Hout]; · iexact Hout
    isplitl [Ho0]; · iexact Ho0
    iexact Ho1
  iapply (exec_loop _ _ _ _ _ _ _ _ _ (loopInv1 c XW arg0 harg0 arg1 harg1 arg2 harg2 f0 f2 (lhsB c arg1 f1))) $$ [HI]
  · iapply (entails_of_eq (show Inv c XW arg0 arg2 f0 f2 (lhsB c arg1 f1) 0 = (loopInv1 c XW arg0 harg0 arg1 harg1 arg2 harg2 f0 f2 (lhsB c arg1 f1)).inv 0 () from rfl))
    iexact HI
  iintro %u HI
  ihave HI2 := (inv_last c XW arg0 arg2 f0 f2 (lhsB c arg1 f1)) $$ [HI]
  · iapply (entails_of_eq (show (loopInv1 c XW arg0 harg0 arg1 harg1 arg2 harg2 f0 f2 (lhsB c arg1 f1)).inv (Scf.trips k0_t1_loop.lb k0_t1_loop.ub k0_t1_loop.st) u
      = Inv c XW arg0 arg2 f0 f2 (lhsB c arg1 f1) 10 from congrArg (Inv c XW arg0 arg2 f0 f2 (lhsB c arg1 f1)) (by decide)))
    iexact HI
  unfold base oBusy
  icases HI2 with ⟨⟨H0, H2, HL, HA, ⟨%W', HW⟩⟩, ⟨Hh, Hf0, Hf1⟩, Hd, ⟨%fs0, %fo0, Ho0, %h0⟩, ⟨%fs1, %fo1, Ho1, %h1⟩⟩
  sl_exec
  sl_step
  iapply Hk
  isplitl [H0]; · iexact H0
  isplitl [H1]; · iexact H1
  isplitl [H2]; · iexact H2
  isplitl [HL]; · iexists _; iexact HL
  isplitl [HA]; · iexact HA
  isplitl [HW]; · iexists _; iexact HW
  isplitl [Hh]; · iexact Hh
  isplitl [Hf0 Hf1]
  · isplitl [Hf0]; · iexact Hf0
    iexact Hf1
  isplitl [Hd Ho0_dst Ho1_dst]
  · iapply (entails_of_eq (done_all (oDone c XW arg0 arg2 f0 f2 (lhsB c arg1 f1))).symm)
    isplitl [Ho0_dst]
    · iapply (busy_done c XW arg0 arg2 f0 f2 (lhsB c arg1 f1) 0 8 fs0 fo0 h0); iexact Ho0_dst
    isplitl [Ho1_dst]
    · iapply (busy_done c XW arg0 arg2 f0 f2 (lhsB c arg1 f1) 1 9 fs1 fo1 h1); iexact Ho1_dst
    iexact Hd
  isplitl [Ho0 Ho0_src]
  · isplitl [Ho0]; · iexact Ho0
    iexists _; iexact Ho0_src
  isplitl [Ho1]; · iexact Ho1
  iexists _; iexact Ho1_src
end Body

end Cert.Proof.KernelIdeal

end
-- ==== Proof.ArrKI.lean ====
module

public import proofs.«01_k».proof.Defs
public import proofs.«01_k».proof.Proof.BaseKI
public import proofs.«01_k».proof.Proof.BodyKI
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Ring.WriteBehind
public import Idealize.ShloMosaic.Lib.Affine
public import Idealize.ShloMosaic.Lib.Tactic

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## Buffers and their blocks -/

abbrev WB (b : Fin 10) : Finset S5376x5120.Idx := (Rect.unit (s := S5376x5120) (colOff b) S5376x512.size (wcol_inb b)).set
abbrev OB (b : Fin 10) : Finset S768x5120.Idx := (Rect.unit (s := S768x5120) (colOff b) S768x512.size (ocol_inb b)).set
abbrev WS (s : Fin 2) : Finset S2x5376x512.Idx := (Rect.unit (s := S2x5376x512) (slotOff s) S1x5376x512.size (wslot_inb s)).set
abbrev OS (s : Fin 2) : Finset S2x768x512.Idx := (Rect.unit (s := S2x768x512) (slotOff s) S1x768x512.size (oslot_inb s)).set

theorem wcol_set (b : Fin 10) : (wcol b).view.set = WB b := View.set_slice_whole _ _
theorem ocol_set (b : Fin 10) : (ocol b).view.set = OB b := View.set_slice_whole _ _
theorem wslot_set (s : Fin 2) : (wslot s).view.set = WS s := (View.set_reshape _ _).trans (View.set_slice_whole _ _)
theorem oslot_set (s : Fin 2) : (oslot s).view.set = OS s := (View.set_reshape _ _).trans (View.set_slice_whole _ _)

theorem mem_WB (b : Fin 10) (y : S5376x5120.Idx) : y ∈ WB b ↔ (y 1).val / 512 = b.val := by
  refine (Rect.mem_set_unit (inb := wcol_inb b)).trans ?_
  have h0 : (y 0).val < 5376 := (y 0).isLt
  have h1 : (y 1).val < 5120 := (y 1).isLt
  constructor
  · intro H; have a1 : 512 * b.val ≤ (y 1).val ∧ (y 1).val < 512 * b.val + 512 := H 1; omega
  · intro H i
    match i with
    | ⟨0, _⟩ => exact (by show 0 ≤ (y 0).val ∧ (y 0).val < 0 + 5376; omega)
    | ⟨1, _⟩ => exact (by show 512 * b.val ≤ (y 1).val ∧ (y 1).val < 512 * b.val + 512; omega)
theorem mem_OB (b : Fin 10) (y : S768x5120.Idx) : y ∈ OB b ↔ (y 1).val / 512 = b.val := by
  refine (Rect.mem_set_unit (inb := ocol_inb b)).trans ?_
  have h0 : (y 0).val < 768 := (y 0).isLt
  have h1 : (y 1).val < 5120 := (y 1).isLt
  constructor
  · intro H; have a1 : 512 * b.val ≤ (y 1).val ∧ (y 1).val < 512 * b.val + 512 := H 1; omega
  · intro H i
    match i with
    | ⟨0, _⟩ => exact (by show 0 ≤ (y 0).val ∧ (y 0).val < 0 + 768; omega)
    | ⟨1, _⟩ => exact (by show 512 * b.val ≤ (y 1).val ∧ (y 1).val < 512 * b.val + 512; omega)
theorem mem_WS (s : Fin 2) (y : S2x5376x512.Idx) : y ∈ WS s ↔ (y 0).val = s.val := by
  refine (Rect.mem_set_unit (inb := wslot_inb s)).trans ?_
  have h1 : (y 1).val < 5376 := (y 1).isLt
  have h2 : (y 2).val < 512 := (y 2).isLt
  constructor
  · intro H; have a0 : s.val ≤ (y 0).val ∧ (y 0).val < s.val + 1 := H 0; omega
  · intro H i
    match i with
    | ⟨0, _⟩ => exact (by show s.val ≤ (y 0).val ∧ (y 0).val < s.val + 1; omega)
    | ⟨1, _⟩ => exact (by show 0 ≤ (y 1).val ∧ (y 1).val < 0 + 5376; omega)
    | ⟨2, _⟩ => exact (by show 0 ≤ (y 2).val ∧ (y 2).val < 0 + 512; omega)
theorem mem_OS (s : Fin 2) (y : S2x768x512.Idx) : y ∈ OS s ↔ (y 0).val = s.val := by
  refine (Rect.mem_set_unit (inb := oslot_inb s)).trans ?_
  have h1 : (y 1).val < 768 := (y 1).isLt
  have h2 : (y 2).val < 512 := (y 2).isLt
  constructor
  · intro H; have a0 : s.val ≤ (y 0).val ∧ (y 0).val < s.val + 1 := H 0; omega
  · intro H i
    match i with
    | ⟨0, _⟩ => exact (by show s.val ≤ (y 0).val ∧ (y 0).val < s.val + 1; omega)
    | ⟨1, _⟩ => exact (by show 0 ≤ (y 1).val ∧ (y 1).val < 0 + 768; omega)
    | ⟨2, _⟩ => exact (by show 0 ≤ (y 2).val ∧ (y 2).val < 0 + 512; omega)

theorem WB_disjoint : ∀ b b' : Fin 10, b ≠ b' → Disjoint (WB b) (WB b') := by
  intro b b' hne; rw [Finset.disjoint_left]; intro y hy hy'; rw [mem_WB] at hy hy'; exact hne (Fin.ext (hy.symm.trans hy'))
theorem OB_disjoint : ∀ b b' : Fin 10, b ≠ b' → Disjoint (OB b) (OB b') := by
  intro b b' hne; rw [Finset.disjoint_left]; intro y hy hy'; rw [mem_OB] at hy hy'; exact hne (Fin.ext (hy.symm.trans hy'))
theorem WS_disjoint : ∀ s s' : Fin 2, s ≠ s' → Disjoint (WS s) (WS s') := by
  intro s s' hne; rw [Finset.disjoint_left]; intro y hy hy'; rw [mem_WS] at hy hy'; exact hne (Fin.ext (hy.symm.trans hy'))
theorem OS_disjoint : ∀ s s' : Fin 2, s ≠ s' → Disjoint (OS s) (OS s') := by
  intro s s' hne; rw [Finset.disjoint_left]; intro y hy hy'; rw [mem_OS] at hy hy'; exact hne (Fin.ext (hy.symm.trans hy'))
theorem WB_cover : (Finset.univ : Finset (Fin 10)).biUnion WB = Finset.univ := by
  ext y; simp only [Finset.mem_biUnion, Finset.mem_univ, true_and, iff_true]
  have h1 : (y 1).val < 5120 := (y 1).isLt
  exact ⟨⟨(y 1).val / 512, by omega⟩, by rw [mem_WB]⟩
theorem OB_cover : (Finset.univ : Finset (Fin 10)).biUnion OB = Finset.univ := by
  ext y; simp only [Finset.mem_biUnion, Finset.mem_univ, true_and, iff_true]
  have h1 : (y 1).val < 5120 := (y 1).isLt
  exact ⟨⟨(y 1).val / 512, by omega⟩, by rw [mem_OB]⟩
theorem WS_cover : (Finset.univ : Finset (Fin 2)).biUnion WS = Finset.univ := by
  ext y; simp only [Finset.mem_biUnion, Finset.mem_univ, true_and, iff_true]; exact ⟨(y 0).cast (by decide), by rw [mem_WS]; rfl⟩
theorem OS_cover : (Finset.univ : Finset (Fin 2)).biUnion OS = Finset.univ := by
  ext y; simp only [Finset.mem_biUnion, Finset.mem_univ, true_and, iff_true]; exact ⟨(y 0).cast (by decide), by rw [mem_OS]; rfl⟩

theorem bigSep_fin2 (Φ : Fin 2 → sProp 𝕄) : bigSep Finset.univ Φ = iprop(Φ 0 ∗ Φ 1) :=
  bigSep_univ_eq_bigSepL [(0 : Fin 2), (1 : Fin 2)] (by decide) (by decide) Φ

/-- The weights' array whole is its column blocks. -/
theorem w_eq (c : Dev nD) (f : Buf (Elt F) ((c : Thread nD τ).loc main_arg2)) :
    (((c : Thread nD τ).loc main_arg2) ↦{fullShare} f : sProp 𝕄) = bigSep Finset.univ (wHome c f) := by
  rw [Ring.pointsTo_blocks (ℓ := (c : Thread nD τ).loc main_arg2) WB WB_disjoint WB_cover]
  exact bigSep_congr fun b _ => by rw [← wcol_set]; rfl
/-- The result's array whole is its column blocks. -/
theorem o_eq (c : Dev nD) (f : Buf (Elt F) ((c : Thread nD τ).loc main_v3)) :
    (((c : Thread nD τ).loc main_v3) ↦{fullShare} f : sProp 𝕄) = bigSep Finset.univ (fun b => ocolP c b f) := by
  rw [Ring.pointsTo_blocks (ℓ := (c : Thread nD τ).loc main_v3) OB OB_disjoint OB_cover]
  exact bigSep_congr fun b _ => by rw [← ocol_set]; rfl
theorem oAny_intro (c : Dev nD) (b : Fin 10) (f : Buf (Elt F) ((ocol b).view.loc (c : Thread nD τ))) : (ocolP c b f : sProp 𝕄) ⊢ oAny c b := by
  iintro H; iexists f; iexact H
theorem o_any (c : Dev nD) (f : Buf (Elt F) ((c : Thread nD τ).loc main_v3)) :
    (((c : Thread nD τ).loc main_v3) ↦{fullShare} f : sProp 𝕄) ⊢ bigSep Finset.univ (oAny c) := by
  rw [o_eq]
  exact bigSep_mono fun b _ => oAny_intro c b f

theorem wslotP_eq (c : Dev nD) (s : Fin 2) (f) : wslotP c s f = (((c : Thread nD τ).loc cc0_scoped1) ↦[WS s]{fullShare} f : sProp 𝕄) :=
  congrArg (fun S => (_ ↦[S]{fullShare} f : sProp 𝕄)) (wslot_set s)
theorem oslotP_eq (c : Dev nD) (s : Fin 2) (f) : oslotP c s f = (((c : Thread nD τ).loc cc0_scoped3) ↦[OS s]{fullShare} f : sProp 𝕄) :=
  congrArg (fun S => (_ ↦[S]{fullShare} f : sProp 𝕄)) (oslot_set s)

/-- The weights' buffer whole is its two slots, and back. -/
theorem wbuf_split (c : Dev nD) :
    iprop(∃ f : Buf (Elt F) ((c : Thread nD τ).loc cc0_scoped1), ((c : Thread nD τ).loc cc0_scoped1) ↦{fullShare} f)
      ⊢ (iprop((∃ f, wslotP c 0 f) ∗ ∃ f, wslotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped1) WS WS_disjoint WS_cover f).trans (bigSep_fin2 _))) $$ H
  icases H2 with ⟨H0, H1⟩
  isplitl [H0]
  · iexists f; iapply (entails_of_eq (wslotP_eq c 0 f).symm); iexact H0
  · iexists f; iapply (entails_of_eq (wslotP_eq c 1 f).symm); iexact H1
theorem wbuf_join (c : Dev nD) :
    iprop((∃ f, wslotP c 0 f) ∗ ∃ f, wslotP c 1 f)
      ⊢ (iprop(∃ f : Buf (Elt F) ((c : Thread nD τ).loc cc0_scoped1), ((c : Thread nD τ).loc cc0_scoped1) ↦{fullShare} f) : sProp 𝕄) := by
  iintro ⟨⟨%f0, H0⟩, ⟨%f1, H1⟩⟩
  iapply (Ring.pointsTo_blocks_join_exists (ℓ := (c : Thread nD τ).loc cc0_scoped1) WS WS_disjoint WS_cover f0)
  irw [bigSep_fin2]
  isplitl [H0]
  · iexists f0; iapply (entails_of_eq (wslotP_eq c 0 f0)); iexact H0
  · iexists f1; iapply (entails_of_eq (wslotP_eq c 1 f1)); iexact H1
/-- The output buffer whole is its two slots, and back. -/
theorem obuf_split (c : Dev nD) :
    iprop(∃ f : Buf (Elt F) ((c : Thread nD τ).loc cc0_scoped3), ((c : Thread nD τ).loc cc0_scoped3) ↦{fullShare} f)
      ⊢ (iprop((∃ f, oslotP c 0 f) ∗ ∃ f, oslotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped3) OS OS_disjoint OS_cover f).trans (bigSep_fin2 _))) $$ H
  icases H2 with ⟨H0, H1⟩
  isplitl [H0]
  · iexists f; iapply (entails_of_eq (oslotP_eq c 0 f).symm); iexact H0
  · iexists f; iapply (entails_of_eq (oslotP_eq c 1 f).symm); iexact H1
theorem obuf_join (c : Dev nD) :
    iprop((∃ f, oslotP c 0 f) ∗ ∃ f, oslotP c 1 f)
      ⊢ (iprop(∃ f : Buf (Elt F) ((c : Thread nD τ).loc cc0_scoped3), ((c : Thread nD τ).loc cc0_scoped3) ↦{fullShare} f) : sProp 𝕄) := by
  iintro ⟨⟨%f0, H0⟩, ⟨%f1, H1⟩⟩
  iapply (Ring.pointsTo_blocks_join_exists (ℓ := (c : Thread nD τ).loc cc0_scoped3) OS OS_disjoint OS_cover f0)
  irw [bigSep_fin2]
  isplitl [H0]
  · iexists f0; iapply (entails_of_eq (oslotP_eq c 0 f0)); iexact H0
  · iexists f1; iapply (entails_of_eq (oslotP_eq c 1 f1)); iexact H1

/-- The activations' buffer and the accumulator, whole. -/
theorem lhs_whole (c : Dev nD) (f : Buf (Elt F) ((c : Thread nD τ).loc cc0_scoped0)) :
    (((c : Thread nD τ).loc cc0_scoped0) ↦{fullShare} f : sProp 𝕄) = (lhsM.view.loc (c : Thread nD τ) ↦[lhsM.view.set]{fullShare} f) :=
  congrArg (fun S => (((c : Thread nD τ).loc cc0_scoped0) ↦[S]{fullShare} f : sProp 𝕄)) (View.set_whole cc0_scoped0).symm
theorem acc_whole (c : Dev nD) (f : Buf (Elt F) ((c : Thread nD τ).loc cc0_scoped2)) :
    (((c : Thread nD τ).loc cc0_scoped2) ↦{fullShare} f : sProp 𝕄) = (accM.view.loc (c : Thread nD τ) ↦[accM.view.set]{fullShare} f) :=
  congrArg (fun S => (((c : Thread nD τ).loc cc0_scoped2) ↦[S]{fullShare} f : sProp 𝕄)) (View.set_whole cc0_scoped2).symm

/-! ## The result -/

/-- The result at row `r` and column `l`: the products summed a tile at a time, times the row's scale, times the
    column's scale — of the column scales `x0`, the codes `x1`, the row scales `x2` and the weights `w`. -/
def RESat (x0 : S1x5120.Idx → Elt F .f32) (x1 : S768x5376.Idx → Elt F .i8) (x2 : S768x128.Idx → Elt F .f32)
    (w : S5376x5120.Idx → Elt F .i8) (r l : ℕ) : Elt F .f32 :=
  FloatOps.mulf (FloatOps.mulf
    (chain (fun n => (fun a => FloatOps.sitofp .bf16 (x1 (at2 768 5376 (a 0).val (256 * n + (a 1).val))) : Vec F S768x256 .bf16))
      (fun n => (fun a => w (at2 5376 5120 (256 * n + (a 1).val) (256 * (l / 256) + (a 2).val)) : Vec F S1x256x256 .i8)) 20
      (at2 768 256 r (l % 256)))
    (x2 (at2 768 128 r (l % 128)))) (x0 (at2 1 5120 0 l))
/-- The result. -/
def RES (x0 : S1x5120.Idx → Elt F .f32) (x1 : S768x5376.Idx → Elt F .i8) (x2 : S768x128.Idx → Elt F .f32)
    (w : S5376x5120.Idx → Elt F .i8) : S768x5120.Idx → Elt F .f32 := fun i => RESat x0 x1 x2 w (i 0).val (i 1).val

section Final
variable (c : Dev nD) (XW : Buf (Elt F) (wM.view.loc (c : Thread nD τ)))
  (arg0 : Memref sig .tc .vmem S1x5120 .f32) (arg1 : Memref sig .tc .vmem S768x5376 .i8) (arg2 : Memref sig .tc .vmem S768x128 .f32)
  (f0 : Buf (Elt F) (arg0.view.loc (c : Thread nD τ))) (f1 : Buf (Elt F) (arg1.view.loc (c : Thread nD τ)))
  (f2 : Buf (Elt F) (arg2.view.loc (c : Thread nD τ)))

theorem LT_lhsB : LT c (lhsB c arg1 f1)
    = fun n => (fun a => FloatOps.sitofp .bf16 (arg1.view.read (Elt F) f1 (at2 768 5376 (a 0).val (256 * n + (a 1).val))) : Vec F S768x256 .bf16) := by
  funext n a; exact lhs_read c arg1 f1 _
theorem RT_eq (b : Fin 10) (h l : ℕ) (hl : 256 * (l / 256) = 512 * b.val + 256 * h) : RT c XW b h
    = fun n => (fun a => wM.view.read (Elt F) XW (at2 5376 5120 (256 * n + (a 1).val) (256 * (l / 256) + (a 2).val)) : Vec F S1x256x256 .i8) := by
  funext n a; unfold RT; rw [hl, Nat.add_assoc]

theorem VO_eq (b : Fin 10) (j : S768x512.Idx) :
    VO c XW arg0 arg2 f0 f2 (lhsB c arg1 f1) b j
      = RESat (arg0.view.read (Elt F) f0) (arg1.view.read (Elt F) f1) (arg2.view.read (Elt F) f2) (wM.view.read (Elt F) XW)
          (j 0).val (512 * b.val + (j 1).val) := by
  have h1 : (j 1).val < 512 := (j 1).isLt
  unfold VO RESat ACCat ACC
  rw [LT_lhsB, RT_eq c XW b ((j 1).val / 256) (512 * b.val + (j 1).val) (by omega), show (512 * b.val + (j 1).val) % 128 = (j 1).val % 128 by omega,
    show (512 * b.val + (j 1).val) % 256 = (j 1).val % 256 by omega]
end Final

/-- A done block is the block of any contents that read as the result. -/
theorem done_final (c : Dev nD) (XW : Buf (Elt F) (wM.view.loc (c : Thread nD τ)))
    (arg0 : Memref sig .tc .vmem S1x5120 .f32) (arg2 : Memref sig .tc .vmem S768x128 .f32)
    (f0 : Buf (Elt F) (arg0.view.loc (c : Thread nD τ)))
    (f2 : Buf (Elt F) (arg2.view.loc (c : Thread nD τ))) (fl : Buf (Elt F) (lhsM.view.loc (c : Thread nD τ)))
    (G : Buf (Elt F) ((c : Thread nD τ).loc main_v3)) (b : Fin 10) (hG : (ocol b).view.read (Elt F) G = VO c XW arg0 arg2 f0 f2 fl b) :
    oDone c XW arg0 arg2 f0 f2 fl b ⊢ (ocolP c b G : sProp 𝕄) := by
  unfold oDone
  iintro ⟨%f, H, %h⟩
  have e : (ocolP c b f : sProp 𝕄) = ocolP c b G := by
    refine pointsTo_congr fun i hi => ?_
    obtain ⟨z, -, rfl⟩ := Finset.mem_map.mp hi
    exact congrFun (h.trans hG.symm) z
  iapply (entails_of_eq e); iexact H

theorem ocol_read (c : Dev nD) (G : Buf (Elt F) ((c : Thread nD τ).loc main_v3)) (b : Fin 10) (j : S768x512.Idx) :
    (ocol b).view.read (Elt F) G j = oM.view.read (Elt F) G (at2 768 5120 (j 0).val (512 * b.val + (j 1).val)) := by
  have e : (ocol b).view.read (Elt F) G j = oM.view.read (Elt F) G ((Rect.unit (s := S768x5120) (colOff b) S768x512.size (ocol_inb b)).emb j) := rfl
  rw [e]; congr 1
  refine at2_eq (n := 768) (m := 5120) _ ?_ ?_
  · show 0 + 1 * (j 0).val = (j 0).val; omega
  · show 512 * b.val + 1 * (j 1).val = _; omega

end Cert.Proof.KernelIdeal

end
-- ==== Proof.LaunchKI.lean ====
module

public import proofs.«01_k».proof.Defs
public import proofs.«01_k».proof.Proof.BaseKI
public import proofs.«01_k».proof.Proof.ArrKI
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Ring.WriteBehind
public import Idealize.ShloMosaic.Lib.Affine
public import Idealize.ShloMosaic.Lib.Tactic

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! # The launch -/

section Launch
variable (m : (ℓ : Loc nD τ sig) → Buf (Elt F) ℓ) (ρ : Dev nD → PrngReg)

/-! ## The kernel's own semaphores -/

theorem cell_inb (s : Fin 10) : ∀ a, (![s.val] : Fin 1 → Nat) a + S1.size a ≤ S10.size a := by
  have := s.isLt; intro a; fin_cases a; show s.val + 1 ≤ 10; omega
abbrev osemc : Fin 10 → SemLoc sig := fun s => .dma ((cc0_scratch0.slice (Rect.unit (s := S10) ![s.val] S1.size (cell_inb s))).squeeze S_ squeezes_S1_S_).sem
theorem ownSemFacts : Pipeline.OwnSemFacts spec0 osemc := by decide

/-- A cell that nothing signals. -/
abbrev idle (c : Dev nD) (s : Fin 10) : sProp 𝕄 := semVal ((c : Thread nD τ), osemc s) 0
/-- The six of them. -/
def idles (c : Dev nD) : sProp 𝕄 := iprop(idle c 2 ∗ idle c 3 ∗ idle c 4 ∗ idle c 7 ∗ idle c 8 ∗ idle c 9)

theorem ownSems0_eq (c : Dev nD) : (Pipeline.ownSems0 (Ix := Unit) (Name := ℕ) (U := UU nD τ) (Lvl := ℕ) (Val := Elt F) (τ := τ) osemc c : sProp 𝕄)
    = iprop(wcellP c 0 ∗ wcellP c 1 ∗ idle c 2 ∗ idle c 3 ∗ idle c 4 ∗ ocellP c 0 ∗ ocellP c 1 ∗ idle c 7 ∗ idle c 8 ∗ idle c 9) := by
  unfold Pipeline.ownSems0
  exact bigSep_univ_eq_bigSepL [(0 : Fin 10), 1, 2, 3, 4, 5, 6, 7, 8, 9] (by decide) (by decide) _

/-! ## The pipeline's proof data -/

abbrev st0 (t : Fin cfg0.N) : Memref sig .tc .vmem S1x5120 .f32 := win0_0.stage (cfg0.slots t 0)
abbrev st1 (t : Fin cfg0.N) : Memref sig .tc .vmem S768x5376 .i8 := win0_1.stage (cfg0.slots t 1)
abbrev st2 (t : Fin cfg0.N) : Memref sig .tc .vmem S768x128 .f32 := win0_2.stage (cfg0.slots t 2)
abbrev hst0 (t : Fin cfg0.N) : (st0 t).IsWhole := hstage0_0 0
abbrev hst1 (t : Fin cfg0.N) : (st1 t).IsWhole := hstage0_1 0
abbrev hst2 (t : Fin cfg0.N) : (st2 t).IsWhole := hstage0_2 0

/-- The weights as the kernel finds them. -/
abbrev XWc (c : Dev nD) : Buf (Elt F) (wM.view.loc (c : Thread nD τ)) := V m c main_arg2

/-- The result's array at the end. -/
def outG (c : Dev nD) : Buf (Elt F) ((c : Thread nD τ).loc main_v3) :=
  RES (iblk m c 0 t0_0) (iblk m c 1 t0_0) (iblk m c 2 t0_0) (wM.view.read (Elt F) (XWc m c))

/-- The buffers at hand that no transfer leaves changed. -/
def keep (c : Dev nD) : sProp 𝕄 :=
  iprop(bigSep Finset.univ (wHome c (XWc m c)) ∗ (wFree c 0 ∗ wFree c 1) ∗ (oFree c 0 ∗ oFree c 1)
    ∗ (∃ f, lhsM.view.loc (c : Thread nD τ) ↦[lhsM.view.set]{fullShare} f)
    ∗ (∃ fa, accM.view.loc (c : Thread nD τ) ↦[accM.view.set]{fullShare} fa) ∗ idles c)
/-- Before the one point: the result's array at anything. -/
def ΦI (c : Dev nD) : sProp 𝕄 := iprop(bigSep Finset.univ (oAny c) ∗ keep m c)
/-- After it: the result's array at the result. -/
def ΦO (c : Dev nD) : sProp 𝕄 := iprop(bigSep Finset.univ (fun b => ocolP c b (outG m c)) ∗ keep m c)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := if t.val = 0 then ΦI m c else ΦO m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]

theorem Φ_first (c : Dev nD) : (dats m 0 c).Φ t0_0.castSucc = ΦI m c := by
  show (if (0 : ℕ) = 0 then ΦI m c else ΦO m c) = _
  exact if_pos rfl
theorem Φ_last (c : Dev nD) : (dats m 0 c).Φ t0_0.succ = ΦO m c := by
  show (if (0 : ℕ) + 1 = 0 then ΦI m c else ΦO m c) = _
  exact if_neg (by omega)

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0) := rfl
theorem prog_eq (t : Fin cfg0.N) : (defs₀ (F := F)) .tc cfg0.body (cfg0.bodyArgs t (cfg0.slots t)) = bodyG (st0 t) (hst0 t) (st1 t) (hst1 t) (st2 t) (hst2 t) :=
  (congrFun defs_tc _).trans rfl

/-- The done blocks are the blocks of the result's final contents. -/
theorem done_out (c : Dev nD) :
    bigSep Finset.univ (oDone c (XWc m c) (st0 t0_0) (st2 t0_0) ((st0 t0_0).view.rep (iblk m c 0 t0_0)) ((st2 t0_0).view.rep (iblk m c 2 t0_0))
        (lhsB c (st1 t0_0) ((st1 t0_0).view.rep (iblk m c 1 t0_0))))
      ⊢ (bigSep Finset.univ (fun b => ocolP c b (outG m c)) : sProp 𝕄) := by
  refine bigSep_mono fun b _ => done_final c _ _ _ _ _ _ _ b ?_
  funext j
  have h0 : (j 0).val < 768 := (j 0).isLt
  have h1 : (j 1).val < 512 := (j 1).isLt
  have hb := b.isLt
  rw [ocol_read, VO_eq, View.read_rep, View.read_rep, View.read_rep]
  show RESat _ _ _ _ (at2 768 5120 (j 0).val (512 * b.val + (j 1).val) 0).val (at2 768 5120 (j 0).val (512 * b.val + (j 1).val) 1).val = _
  rw [at2_0 h0, at2_1 (by omega)]

set_option backward.isDefEq.respectTransparency.types false in
theorem body_obligation (c : Dev nD) : BodyObligation (dats (F := F) m 0 c) (defs₀ (F := F)) 𝒱₀ () Set.univ := fun t => by
  obtain rfl : t = t0_0 := fin_N0 t
  rw [bigSep_W0, bigSep_W0]
  dsimp only
  simp only [before_w0, before_w1, before_w2, after_w0, after_w1, after_w2]
  rw [Φ_first, Φ_last]
  unfold Dat.owesAt Pipeline.owesWithin
  rw [show (dats m 0 c).owed t0_0.castSucc = 0 from rfl, show (dats m 0 c).owed t0_0.succ = 0 from rfl]
  unfold owns ΦI ΦO keep
  iintro ⟨⟨Hout, Hh, Hwf, Hof, HL, HA, Hid⟩, ⟨%W, -, HW⟩, ⟨%d0, %g0, %hg0, H0⟩, ⟨%d1, %g1, %hg1, H1⟩, ⟨%d2, %g2, %hg2, H2⟩⟩
  ihave H0' := (pointsTo_rep_entails (c : Thread nD τ) (st0 t0_0) g0 fullShare) $$ H0
  ihave H1' := (pointsTo_rep_entails (c : Thread nD τ) (st1 t0_0) g1 fullShare) $$ H1
  ihave H2' := (pointsTo_rep_entails (c : Thread nD τ) (st2 t0_0) g2 fullShare) $$ H2
  rw [hg0, hg1, hg2]
  sl_rw [prog_eq t0_0]
  iapply (bodyRun c (XWc m c) (st0 t0_0) (hst0 t0_0) (st1 t0_0) (hst1 t0_0) (st2 t0_0) (hst2 t0_0) _ _ _ W)
  isplitr [Hid]
  · isplitl [H0']; · iexact H0'
    isplitl [H1']; · iexact H1'
    isplitl [H2']; · iexact H2'
    isplitl [HL]; · iexact HL
    isplitl [HA]; · iexact HA
    isplitl [HW]; · iexact HW
    isplitl [Hh]; · iexact Hh
    isplitl [Hwf]; · iexact Hwf
    isplitl [Hout]; · iexact Hout
    iexact Hof
  · iintro ⟨H0, H1, H2, HL, HA, ⟨%W', HW⟩, Hh, Hwf, Hout, Hof⟩
    isplitl [HL HA Hh Hwf Hout Hof Hid]
    · isplitl [Hout]; · iapply (done_out m c); iexact Hout
      isplitl [Hh]; · iexact Hh
      isplitl [Hwf]; · iexact Hwf
      isplitl [Hof]; · iexact Hof
      isplitl [HL]; · iexact HL
      isplitl [HA]; · iexact HA
      iexact Hid
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    iexists _; isplitr; · ipureintro; exact View.read_rep _ _
    iexact H2

/-! ## The run -/

def intoΦ (c : Dev nD) : sProp 𝕄 :=
  iprop((((c : Thread nD τ).loc main_arg2) ↦{fullShare} V m c main_arg2) ∗ (((c : Thread nD τ).loc main_v3) ↦{fullShare} V m c main_v3) ∗ Pipeline.ownSems0 osemc c)
def outOfΦ (c : Dev nD) : sProp 𝕄 :=
  iprop((((c : Thread nD τ).loc main_arg2) ↦{fullShare} V m c main_arg2) ∗ (((c : Thread nD τ).loc main_v3) ↦{fullShare} outG m c))
def aside (c : Dev nD) : sProp 𝕄 :=
  iprop((((c : Thread nD τ).loc main_arg1) ↦{fullShare} V m c main_arg1) ∗ (((c : Thread nD τ).loc main_arg3) ↦{fullShare} V m c main_arg3))
def u₀ : UU nD τ := (initOf (Pipeline.cells cfgs Gen.cellOf_inj) (Pipeline.launchToks cfgs Gen.cellOf_inj), 1)
def finalA (c : Dev nD) (w : Fin cfg0.W) : Buf (Elt F) ((cfg0.win w).arr.view.loc (c : Thread nD τ)) := (dats m 0 c).arrAt w cfg0.N
def QY (c : Dev nD) (s : MemSt nD τ sig (Elt F)) : Prop :=
  s.mem ((c : Thread nD τ).loc main_arg1) = V m c main_arg1 ∧ s.mem ((c : Thread nD τ).loc main_arg2) = V m c main_arg2
    ∧ s.mem ((c : Thread nD τ).loc main_arg3) = V m c main_arg3 ∧ s.mem ((c : Thread nD τ).loc main_v3) = outG m c
def QC : PUnit × MemSt nD τ sig (Elt F) → Prop := fun r =>
  ∀ c : Dev nD, (∀ w : Fin cfg0.W, r.2.mem ((cfg0.win w).arr.view.loc (c : Thread nD τ)) = finalA m c w) ∧ QY m c r.2

set_option maxHeartbeats 800000 in
theorem hmainU : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- What the region's buffers give the invariant. -/
theorem enter (c : Dev nD) : iprop(intoΦ m c ∗ Pipeline.scopedRest spec0 c) ⊢ (ΦI m c : sProp 𝕄) := by
  rw [scopedRest0_eq]
  unfold intoΦ ΦI keep idles
  rw [ownSems0_eq, w_eq]
  iintro ⟨⟨H2, H3, w0, w1, i2, i3, i4, o0, o1, i7, i8, i9⟩, ⟨%fl, HL⟩, HB, ⟨%fa, HA⟩, HO⟩
  ihave Hw := (wbuf_split c) $$ HB
  icases Hw with ⟨Hw0, Hw1⟩
  ihave Ho := (obuf_split c) $$ HO
  icases Ho with ⟨Ho0, Ho1⟩
  isplitl [H3]; · iapply (o_any c _); iexact H3
  isplitl [H2]; · iexact H2
  isplitl [w0 w1 Hw0 Hw1]
  · isplitl [w0 Hw0]
    · isplitl [w0]; · iexact w0
      iexact Hw0
    isplitl [w1]; · iexact w1
    iexact Hw1
  isplitl [o0 o1 Ho0 Ho1]
  · isplitl [o0 Ho0]
    · isplitl [o0]; · iexact o0
      iexact Ho0
    isplitl [o1]; · iexact o1
    iexact Ho1
  isplitl [HL]; · iexists fl; iapply (entails_of_eq (lhs_whole c fl)); iexact HL
  isplitl [HA]; · iexists fa; iapply (entails_of_eq (acc_whole c fa)); iexact HA
  isplitl [i2]; · iexact i2
  isplitl [i3]; · iexact i3
  isplitl [i4]; · iexact i4
  isplitl [i7]; · iexact i7
  isplitl [i8]; · iexact i8
  iexact i9

/-- What the invariant gives back. -/
theorem leave (c : Dev nD) : (ΦO m c : sProp 𝕄) ⊢ iprop(outOfΦ m c ∗ Pipeline.ownSems0 osemc c ∗ Pipeline.scopedRest spec0 c) := by
  rw [scopedRest0_eq]
  unfold outOfΦ ΦO keep idles
  rw [ownSems0_eq, w_eq, o_eq]
  iintro ⟨H3, H2, ⟨⟨w0, Hw0⟩, ⟨w1, Hw1⟩⟩, ⟨⟨o0, Ho0⟩, ⟨o1, Ho1⟩⟩, ⟨%fl, HL⟩, ⟨%fa, HA⟩, i2, i3, i4, i7, i8, i9⟩
  isplitl [H2 H3]
  · isplitl [H2]; · iexact H2
    iexact H3
  isplitl [w0 w1 o0 o1 i2 i3 i4 i7 i8 i9]
  · isplitl [w0]; · iexact w0
    isplitl [w1]; · iexact w1
    isplitl [i2]; · iexact i2
    isplitl [i3]; · iexact i3
    isplitl [i4]; · iexact i4
    isplitl [o0]; · iexact o0
    isplitl [o1]; · iexact o1
    isplitl [i7]; · iexact i7
    isplitl [i8]; · iexact i8
    iexact i9
  isplitl [HL]; · iexists fl; iapply (entails_of_eq (lhs_whole c fl).symm); iexact HL
  isplitl [Hw0 Hw1]
  · iapply (wbuf_join c)
    isplitl [Hw0]; · iexact Hw0
    iexact Hw1
  isplitl [HA]; · iexists fa; iapply (entails_of_eq (acc_whole c fa).symm); iexact HA
  iapply (obuf_join c)
  isplitl [Ho0]; · iexact Ho0
  iexact Ho1

set_option backward.isDefEq.respectTransparency.types false in
/-- Every run of @main, from any memory with zero counters, ends with the result's array at `outG`, the arguments
    unchanged and every counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m) (hmain := hmainU m)
    (hA := fun _ _ => rfl)
    (X := intoΦ m) (Y := outOfΦ m) (Z := aside m)
    (hX := fun c => by
      rw [unscopedRest0_eq]
      unfold intoΦ aside
      iintro ⟨⟨H1, H2, H3, -, H5⟩, HS, -, -, -⟩; imodintro
      isplitl [H2 H5 HS]
      · isplitl [H2]; · iexact H2
        isplitl [H5]; · iexact H5
        iexact HS
      isplitl [H1]; · iexact H1
      iexact H3)
    (hin := fun c => enter m c)
    (hout := fun c => leave m c)
    (QY := QY m)
    (hY := fun c s' => by
      unfold outOfΦ aside
      iintro ⟨⟨H2, H5⟩, ⟨H1, H3⟩, HSI⟩
      icombine HSI H2 gives %h2
      icombine HSI H5 gives %h5
      icombine HSI H1 gives %h1
      icombine HSI H3 gives %h3
      imodintro
      isplitr
      · ipureintro
        exact ⟨Buf.eq_of_forall_mem_univ h1, Buf.eq_of_forall_mem_univ h2, Buf.eq_of_forall_mem_univ h3, Buf.eq_of_forall_mem_univ h5⟩
      iexact HSI)
    (hQ := fun _ hh hz => ⟨hh, hz⟩)

/-- The run, read at the arguments and the result. -/
theorem run_post : θ_run defs (onTc (τ := τ) (main (F := F))) (s₀ m ρ) (fun r => (∀ c : Dev nD,
      r.2.mem ((c.tc : Thread nD τ).loc main_v3) = outG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ hh => ⟨fun c => ⟨(hh.1 c).2.2.2.2,
    ((hh.1 c).1 1).trans (((dats m 0 c).arrAt_in 1 rfl _).trans (V_main_arg0 m c)),
    (hh.1 c).2.1.trans (V_main_arg1 m c), (hh.1 c).2.2.1.trans (V_main_arg2 m c), (hh.1 c).2.2.2.1.trans (V_main_arg3 m c)⟩, hh.2⟩) (run_main m ρ)

end Launch

end Cert.Proof.KernelIdeal

end
-- ==== Proof.EqRes.lean ====
module

public import proofs.«01_k».proof.Defs
public import proofs.«01_k».proof.Proof.LaunchKI
public import proofs.«01_k».proof.Proof.Gen.ReferenceIdeal.Value
public import Idealize.ShloMosaic.Lib.Pointwise
public import Idealize.ShloMosaic.Lib.StableHlo.ReadAt

@[expose] public section

set_option maxRecDepth 16384

noncomputable section

namespace Cert.Proof.KernelIdeal

open Cert.KernelIdeal Cert.KernelIdeal.Gen
open Idealize.ShloMosaic Idealize.ShloMosaic.TcCoe

/-- One product at a row and a column. -/
theorem mm_apply (l : Vec Ideal S768x256 .bf16) (w : Vec Ideal S1x256x256 .i8) (j : S768x256.Idx) :
    mm (F := Ideal) l w j = ∑ k : Fin 256, (l (ix2 (j 0) k) * FloatOps.sitofp (F := Ideal) .bf16 (w (ix3 0 k (j 1))) : EReal) := by
  unfold mm
  pointwise

/-- The chain of products at a row and a column: the sum of the products' sums. -/
theorem chain_apply (L : ℕ → Vec Ideal S768x256 .bf16) (R : ℕ → Vec Ideal S1x256x256 .i8) (j : S768x256.Idx) (n : ℕ) :
    chain (F := Ideal) L R n j = (∑ t ∈ Finset.range (n + 1), ∑ k : Fin 256, (L t (ix2 (j 0) k) * FloatOps.sitofp (F := Ideal) .bf16 (R t (ix3 0 k (j 1))) : EReal) : EReal) := by
  induction n with
  | zero => rw [chain, mm_apply, Finset.sum_range_one]
  | succ n ih =>
    rw [Finset.sum_range_succ, ← ih, ← mm_apply]
    rfl

/-- A sum cut into `n` runs of 256. -/
theorem sum_runs (g : ℕ → EReal) (n : ℕ) : (∑ t ∈ Finset.range n, ∑ k : Fin 256, g (256 * t + k.val)) = ∑ s ∈ Finset.range (256 * n), g s := by
  induction n with
  | zero => simp
  | succ n ih => rw [Finset.sum_range_succ, ih, Nat.mul_succ, Finset.sum_range_add]; exact congrArg _ (Finset.sum_range (fun x => g (256 * n + x))).symm

/-- The mathematics: the product's sum, times the row's scale, times the column's scale. -/
def MATH (x1 : S768x5376.Idx → Elt Ideal .i8) (s : S768.Idx → Elt Ideal .f32) (w : S5376x5120.Idx → Elt Ideal .i8) (t : S5120.Idx → Elt Ideal .f32)
    (i : S768x5120.Idx) : EReal :=
  (∑ k : Fin 5376, (FloatOps.sitofp (F := Ideal) .bf16 (x1 (ix2 (i 0) k)) * FloatOps.sitofp (F := Ideal) .bf16 (w (ix2 k (i 1))) : EReal))
    * s (ix1 (i 0)) * t (ix1 (i 1))

/-- The kernel's result is the mathematics. -/
theorem RES_eq (x0 : S1x5120.Idx → Elt Ideal .f32) (x1 : S768x5376.Idx → Elt Ideal .i8) (x2 : S768x128.Idx → Elt Ideal .f32)
    (w : S5376x5120.Idx → Elt Ideal .i8) (s : S768.Idx → Elt Ideal .f32) (t : S5120.Idx → Elt Ideal .f32)
    (h0 : ∀ j, x0 j = t (ix1 (j 1))) (h2 : ∀ j, x2 j = s (ix1 (j 0))) (i : S768x5120.Idx) :
    RES x0 x1 x2 w i = MATH x1 s w t i := by
  have hi0 : (i 0).val < 768 := (i 0).isLt
  have hi1 : (i 1).val < 5120 := (i 1).isLt
  let g : ℕ → EReal := fun k => FloatOps.sitofp (F := Ideal) .bf16 (x1 (at2 768 5376 (i 0).val k)) * FloatOps.sitofp (F := Ideal) .bf16 (w (at2 5376 5120 k (i 1).val))
  have hs : ∀ k : Fin 5376, (FloatOps.sitofp (F := Ideal) .bf16 (x1 (ix2 (i 0) k)) * FloatOps.sitofp (F := Ideal) .bf16 (w (ix2 k (i 1))) : EReal) = g k.val := fun k =>
    congrArg₂ (fun a b => (FloatOps.sitofp (F := Ideal) .bf16 (x1 a) * FloatOps.sitofp (F := Ideal) .bf16 (w b) : EReal))
      (at2_eq (n := 768) (m := 5376) (ix2 (i 0) k) rfl rfl) (at2_eq (n := 5376) (m := 5120) (ix2 k (i 1)) rfl rfl)
  have hsum : (∑ k : Fin 5376, (FloatOps.sitofp (F := Ideal) .bf16 (x1 (ix2 (i 0) k)) * FloatOps.sitofp (F := Ideal) .bf16 (w (ix2 k (i 1))) : EReal))
      = ∑ t ∈ Finset.range 21, ∑ k : Fin 256, g (256 * t + k.val) :=
    (Finset.sum_congr rfl (fun k _ => hs k)).trans ((sum_runs g 21).trans (Finset.sum_range (n := 5376) g)).symm
  unfold RES RESat MATH
  refine Eq.trans ?_ (congrArg (fun a : EReal => a * s (ix1 (i 0)) * t (ix1 (i 1))) hsum.symm)
  rw [chain_apply, h0, h2]
  show (_ * _ * _ : EReal) = _
  refine congrArg₂ (fun a b : EReal => a * b) (congrArg₂ (fun a b : EReal => a * b) (Finset.sum_congr rfl fun t _ => Finset.sum_congr rfl fun k _ => ?_) ?_) ?_
  · have hk := k.isLt
    show FloatOps.sitofp (F := Ideal) .bf16 (x1 (at2 768 5376 (at2 768 256 (i 0).val ((i 1).val % 256) 0).val (256 * t + k.val)))
        * FloatOps.sitofp (F := Ideal) .bf16 (w (at2 5376 5120 (256 * t + k.val) (256 * ((i 1).val / 256) + (at2 768 256 (i 0).val ((i 1).val % 256) 1).val))) = _
    rw [at2_0 hi0, at2_1 (Nat.mod_lt _ (by omega)), Nat.div_add_mod]
  · refine congrArg s (funext fun a => ?_)
    match a with
    | ⟨0, _⟩ => exact Fin.ext (at2_0 (n := 768) (m := 256) (y := (i 1).val % 256) hi0)
  · refine congrArg t (funext fun a => ?_)
    match a with
    | ⟨0, _⟩ => exact Fin.ext (at2_1 (n := 1) (m := 5120) (x := 0) hi1)

variable (m : (ℓ : Loc nD τ sig) → Buf (Elt Ideal) ℓ)
theorem V_v0 (c : Dev nD) (j : S1x5120.Idx) : V m c main_v0 j = m ((c.tc : Thread nD τ).loc main_arg3) (ix1 (j 1)) := by
  unfold V
  after_reads_at
theorem V_v2 (c : Dev nD) (j : S768x128.Idx) : V m c main_v2 j = m ((c.tc : Thread nD τ).loc main_arg1) (ix1 (j 0)) := by
  unfold V
  after_reads_at
theorem iblk0 (c : Dev nD) (j : S1x5120.Idx) : iblk m c 0 t0_0 j = V m c main_v0 j := by
  unfold iblk
  rw [View.read_apply]
  show V m c main_v0 (((cfg0.win 0).blk t0_0).view.emb j) = _
  congr 1
  funext a
  match a with
  | ⟨0, _⟩ => exact Fin.ext (by show 0 * 1 + 1 * (j 0).val = (j 0).val; omega)
  | ⟨1, _⟩ => exact Fin.ext (by show 0 * 5120 + 1 * (j 1).val = (j 1).val; omega)
theorem iblk1 (c : Dev nD) (j : S768x5376.Idx) : iblk m c 1 t0_0 j = V m c main_arg0 j := by
  unfold iblk
  rw [View.read_apply]
  show V m c main_arg0 (((cfg0.win 1).blk t0_0).view.emb j) = _
  congr 1
  funext a
  match a with
  | ⟨0, _⟩ => exact Fin.ext (by show 0 * 768 + 1 * (j 0).val = (j 0).val; omega)
  | ⟨1, _⟩ => exact Fin.ext (by show 0 * 5376 + 1 * (j 1).val = (j 1).val; omega)
theorem iblk2 (c : Dev nD) (j : S768x128.Idx) : iblk m c 2 t0_0 j = V m c main_v2 j := by
  unfold iblk
  rw [View.read_apply]
  show V m c main_v2 (((cfg0.win 2).blk t0_0).view.emb j) = _
  congr 1
  funext a
  match a with
  | ⟨0, _⟩ => exact Fin.ext (by show 0 * 768 + 1 * (j 0).val = (j 0).val; omega)
  | ⟨1, _⟩ => exact Fin.ext (by show 0 * 128 + 1 * (j 1).val = (j 1).val; omega)

/-- The result's array at the end is the mathematics of the arguments. -/
theorem outG_eq (c : Dev nD) (i : S768x5120.Idx) : outG m c i = MATH (m ((c.tc : Thread nD τ).loc main_arg0)) (m ((c.tc : Thread nD τ).loc main_arg1))
    (m ((c.tc : Thread nD τ).loc main_arg2)) (m ((c.tc : Thread nD τ).loc main_arg3)) i := by
  have e1 : iblk m c 1 t0_0 = m ((c.tc : Thread nD τ).loc main_arg0) := (funext (iblk1 m c)).trans (V_main_arg0 m c)
  have e2 : (wM.view.read (Elt Ideal) (XWc m c)) = m ((c.tc : Thread nD τ).loc main_arg2) := V_main_arg2 m c
  unfold outG
  rw [e1, e2]
  exact RES_eq _ _ _ _ _ _ (fun j => (iblk0 m c j).trans (V_v0 m c j)) (fun j => (iblk2 m c j).trans (V_v2 m c j)) i

end Cert.Proof.KernelIdeal

namespace Cert.Proof.ReferenceIdeal

open Cert.ReferenceIdeal Cert.ReferenceIdeal.Gen
open Idealize.ShloMosaic Idealize.ShloMosaic.TcCoe

/-- The reference's payload at a row and a column. -/
theorem pay_apply (v0 : Vec Ideal S768x5376 .i8) (v2 : Vec Ideal S5376x5120 .i8) (v5 : Vec Ideal S768x1 .f32) (v9 : Vec Ideal S1x5120 .f32) (i : S768x5120.Idx) :
    k0_pay1 v0 v2 v5 v9 i
      = (∑ k : Fin 5376, (FloatOps.sitofp (F := Ideal) .bf16 (v0 (ix2 (i 0) k)) * FloatOps.sitofp (F := Ideal) .bf16 (v2 (ix2 k (i 1))) : EReal))
          * v5 (ix2 (i 0) 0) * v9 (ix2 0 (i 1)) := by
  unfold k0_pay1
  pointwise

variable (m : (ℓ : Loc nD τ sig) → Buf (Elt Ideal) ℓ)
theorem V_v0 (c : Dev nD) (j : S768x1.Idx) : V m c main_v0 j = m ((c.tc : Thread nD τ).loc main_arg1) (ix1 (j 0)) := by
  unfold V
  after_reads_at
theorem V_v1 (c : Dev nD) (j : S1x5120.Idx) : V m c main_v1 j = m ((c.tc : Thread nD τ).loc main_arg3) (ix1 (j 1)) := by
  unfold V
  after_reads_at
theorem iblk0 (c : Dev nD) (j : S768x5376.Idx) : iblk m c 0 t0_0 j = V m c main_arg0 j := by
  unfold iblk
  rw [View.read_apply]
  show V m c main_arg0 (((cfg0.win 0).blk t0_0).view.emb j) = _
  congr 1
  funext a
  match a with
  | ⟨0, _⟩ => exact Fin.ext (by show 0 * 768 + 1 * (j 0).val = (j 0).val; omega)
  | ⟨1, _⟩ => exact Fin.ext (by show 0 * 5376 + 1 * (j 1).val = (j 1).val; omega)
theorem iblk1 (c : Dev nD) (j : S768x1.Idx) : iblk m c 1 t0_0 j = V m c main_v0 j := by
  unfold iblk
  rw [View.read_apply]
  show V m c main_v0 (((cfg0.win 1).blk t0_0).view.emb j) = _
  congr 1
  funext a
  match a with
  | ⟨0, _⟩ => exact Fin.ext (by show 0 * 768 + 1 * (j 0).val = (j 0).val; omega)
  | ⟨1, _⟩ => exact Fin.ext (by show 0 * 1 + 1 * (j 1).val = (j 1).val; omega)
theorem iblk2 (c : Dev nD) (j : S5376x5120.Idx) : iblk m c 2 t0_0 j = V m c main_arg2 j := by
  unfold iblk
  rw [View.read_apply]
  show V m c main_arg2 (((cfg0.win 2).blk t0_0).view.emb j) = _
  congr 1
  funext a
  match a with
  | ⟨0, _⟩ => exact Fin.ext (by show 0 * 5376 + 1 * (j 0).val = (j 0).val; omega)
  | ⟨1, _⟩ => exact Fin.ext (by show 0 * 5120 + 1 * (j 1).val = (j 1).val; omega)
theorem iblk3 (c : Dev nD) (j : S1x5120.Idx) : iblk m c 3 t0_0 j = V m c main_v1 j := by
  unfold iblk
  rw [View.read_apply]
  show V m c main_v1 (((cfg0.win 3).blk t0_0).view.emb j) = _
  congr 1
  funext a
  match a with
  | ⟨0, _⟩ => exact Fin.ext (by show 0 * 1 + 1 * (j 0).val = (j 0).val; omega)
  | ⟨1, _⟩ => exact Fin.ext (by show 0 * 5120 + 1 * (j 1).val = (j 1).val; omega)

/-- Where the result's one block lies in its array. -/
theorem emb4 (j : S768x5120.Idx) : ((cfg0.win 4).blk t0_0).view.emb j = j := by
  funext a
  match a with
  | ⟨0, _⟩ => exact Fin.ext (by show 0 * 768 + 1 * (j 0).val = (j 0).val; omega)
  | ⟨1, _⟩ => exact Fin.ext (by show 0 * 5120 + 1 * (j 1).val = (j 1).val; omega)

theorem hz2 : (![0, 0] : Fin 2 → ℕ) = fun _ => 0 := by decide

/-- The reference's result is the mathematics of the arguments. -/
theorem out_eq (c : Dev nD) (i : S768x5120.Idx) : (dats m 0 c).arrAt 4 cfg0.N i
    = Cert.Proof.KernelIdeal.MATH (m ((c.tc : Thread nD τ).loc main_arg0)) (m ((c.tc : Thread nD τ).loc main_arg1))
    (m ((c.tc : Thread nD τ).loc main_arg2)) (m ((c.tc : Thread nD τ).loc main_arg3)) i := by
  have h := congrFun (Value.blocks4 m c t0_0 (by decide)) i
  rw [View.read_apply, Value.flushed4] at h
  refine (congrArg ((dats m 0 c).arrAt 4 cfg0.N) (emb4 i)).symm.trans (h.trans ?_)
  show out0_4 (iblk m c 0 t0_0) (iblk m c 1 t0_0) (iblk m c 2 t0_0) (iblk m c 3 t0_0) i = _
  unfold out0_4
  rw [View.canon_unit_zero (S := S768x5120) hz2, View.ld_unit_zero (S := S768x5376) hz2, View.ld_unit_zero (S := S5376x5120) hz2,
    View.ld_unit_zero (S := S768x1) hz2, View.ld_unit_zero (S := S1x5120) hz2, pay_apply]
  have e0 : iblk m c 0 t0_0 = m ((c.tc : Thread nD τ).loc main_arg0) := (funext (iblk0 m c)).trans (V_main_arg0 m c)
  have e2 : iblk m c 2 t0_0 = m ((c.tc : Thread nD τ).loc main_arg2) := (funext (iblk2 m c)).trans (V_main_arg2 m c)
  rw [e0, e2, (iblk1 m c _).trans (V_v0 m c _), (iblk3 m c _).trans (V_v1 m c _)]
  rfl

end Cert.Proof.ReferenceIdeal

end
-- ==== Proof.UBaseKI.lean ====
module

public import proofs.«01_k».proof.Defs
public import proofs.«01_k».proof.Proof.Gen.UpKernelIdeal.Launch
public import proofs.«01_k».proof.Proof.Gen.UpKernelIdeal.Skeleton
public import proofs.«01_k».proof.Proof.Gen.UpKernelIdeal.Loops
public import proofs.«01_k».proof.Proof.Gen.UpKernelIdeal.Points
public import proofs.«01_k».proof.Proof.Gen.UpKernelIdeal.Frame
public import Idealize.ShloMosaic.Lib.Pipeline.KitQuiescent
public import Idealize.ShloMosaic.Lib.Ring
public import Idealize.ShloMosaic.Lib.Ring.WriteBehind
public import Idealize.ShloMosaic.Lib.Affine
public import Idealize.ShloMosaic.Lib.Tactic
public import Idealize.ShloMosaic.Lib.Batch

@[expose] public section

set_option maxRecDepth 16384

noncomputable section

namespace Cert.Proof.UpKernelIdeal

open Cert.UpKernelIdeal Cert.UpKernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## Canonical names -/

abbrev wM : Memref sig .tc .hbm S5120x10752 .i8 := Memref.whole main_arg2
abbrev rmM : Memref sig .tc .vmem S768x128 .f32 := Memref.whole cc0_scratch0
abbrev wbM : Memref sig .tc .vmem S3x2x5120x256 .i8 := Memref.whole cc0_scoped0
abbrev accM : Memref sig .tc .vmem S768x512 .f32 := Memref.whole cc0_scoped1

abbrev colOff (m : Fin 2) (b : Fin 21) : Fin 2 → Nat := ![0, 256 * b.val + 5376 * m.val]
theorem wcol_inb (m : Fin 2) (b : Fin 21) : ∀ a, colOff m b a + S5120x256.size a ≤ S5120x10752.size a := by
  have := b.isLt; have := m.isLt; intro a; fin_cases a
  · show 0 + 5120 ≤ 5120; omega
  · show 256 * b.val + 5376 * m.val + 256 ≤ 10752; omega
abbrev slotOff (s : Fin 3) (m : Fin 2) : Fin 4 → Nat := ![s.val, m.val, 0, 0]
theorem wslot_inb (s : Fin 3) (m : Fin 2) : ∀ a, slotOff s m a + S1x1x5120x256.size a ≤ S3x2x5120x256.size a := by
  have := s.isLt; have := m.isLt; intro a; fin_cases a
  · show s.val + 1 ≤ 3; omega
  · show m.val + 1 ≤ 2; omega
  · show 0 + 5120 ≤ 5120; omega
  · show 0 + 256 ≤ 256; omega
abbrev wsemOff (s : Fin 3) : Fin 1 → Nat := ![s.val + 1]
theorem wsem_inb (s : Fin 3) : ∀ a, wsemOff s a + S1.size a ≤ S10.size a := by
  have := s.isLt; intro a; fin_cases a; show s.val + 1 + 1 ≤ 10; omega

/-- Column block `b` of the weights: of its gate half (`m = 0`) or of its up half (`m = 1`). -/
def wcol (m : Fin 2) (b : Fin 21) : Memref sig .tc .hbm S5120x256 .i8 :=
  wM.slice (Rect.unit (s := S5120x10752) (colOff m b) S5120x256.size (wcol_inb m b)) (fun _ => rfl)
/-- Half `m` of slot `s` of the weight buffer. -/
def wslot (s : Fin 3) (m : Fin 2) : Memref sig .tc .vmem S5120x256 .i8 :=
  (wbM.slice (Rect.unit (s := S3x2x5120x256) (slotOff s m) S1x1x5120x256.size (wslot_inb s m)) (fun _ => rfl)).squeeze S5120x256 squeezes_S1x1x5120x256_S5120x256
/-- The weight slots' DMA semaphores. -/
def wsm (s : Fin 3) : DmaSems sig S_ := (cc0_scratch1.slice (Rect.unit (s := S10) (wsemOff s) S1.size (wsem_inb s))).squeeze S_ squeezes_S1_S_

instance (s : Fin 3) (m : Fin 2) : ClosedOff (slotOff s m) := ⟨slotOff s m, rfl⟩
instance (m : Fin 2) (b : Fin 21) : ClosedOff (colOff m b) := ⟨colOff m b, rfl⟩

/-! ## Offsets in closed form -/

abbrev Trip := Fin k0_t1_loop.trips

theorem off2_eq : ∀ k : Trip, k0_off2 k = wsemOff (Ring.sl 3 k.val) := by decide +kernel
theorem off3_eq : ∀ k : Trip, k0_off3 k = slotOff (Ring.sl 3 k.val) 0 := by decide +kernel
theorem off4_eq : ∀ k : Trip, k0_off4 k = colOff 0 (Ring.bk 21 k.val) := by decide +kernel
theorem off5_eq : ∀ k : Trip, k0_off5 k = slotOff (Ring.sl 3 k.val) 1 := by decide +kernel
theorem off6_eq : ∀ k : Trip, k0_off6 k = colOff 1 (Ring.bk 21 k.val) := by decide +kernel
theorem off7_eq : ∀ k : Trip, k0_off7 k = wsemOff (Ring.sl 3 (k.val + 2)) := by decide +kernel
theorem off8_eq : ∀ k : Trip, k0_off8 k = slotOff (Ring.sl 3 (k.val + 2)) 0 := by decide +kernel
theorem off9_eq : ∀ k : Trip, k.val < 19 → k0_off9 k = colOff 0 (Ring.bk 21 (k.val + 2)) := by decide +kernel
theorem off10_eq : ∀ k : Trip, k0_off10 k = slotOff (Ring.sl 3 (k.val + 2)) 1 := by decide +kernel
theorem off11_eq : ∀ k : Trip, k.val < 19 → k0_off11 k = colOff 1 (Ring.bk 21 (k.val + 2)) := by decide +kernel
theorem cond1_iff : ∀ k : Trip, k0_cond1 k = 1#1 ↔ k.val < 19 := by decide +kernel
theorem off12_eq : ∀ k : Trip, ∀ r : Fin 2, k0_off12 k (BitVec.ofNat 32 (128 * r.val)) = ![0, 256 * (k.val - 1) + 128 * r.val] := by decide +kernel
theorem off13_eq : ∀ k : Trip, ∀ r : Fin 2, k0_off13 k (BitVec.ofNat 32 (128 * r.val)) = ![0, 5376 + 256 * (k.val - 1) + 128 * r.val] := by decide +kernel
theorem off14_eq : ∀ k : Trip, ∀ r : Fin 2, k0_off14 k (BitVec.ofNat 32 (128 * r.val)) = ![0, 256 * (k.val - 1) + 128 * r.val] := by decide +kernel
theorem off15_eq : ∀ k : Trip, ∀ (h : Fin 2) (r : Fin 24), k0_off15 k (BitVec.ofNat 32 h.val) (BitVec.ofNat 32 (32 * r.val)) = ![1536 * (k.val - 1) + 768 * h.val + 32 * r.val, 0] := by decide +kernel

/-- The weight tiles' offsets, through the slot the trip reads. -/
theorem tile_eq {off : Trip → Fin 4 → Nat} (m a : ℕ) (h : ∀ k : Trip, off k = ![k.val % 3, m, a, 0]) (k : Trip) :
    off k = ![(Ring.sl 3 k.val).val, m, a, 0] := h k
instance (k : Trip) : ClosedOff (k0_off16 k) := ⟨![(Ring.sl 3 k.val).val, 0, 0, 0], tile_eq 0 0 k0_off16_eq k⟩
instance (k : Trip) : ClosedOff (k0_off17 k) := ⟨![(Ring.sl 3 k.val).val, 0, 256, 0], tile_eq 0 256 k0_off17_eq k⟩
instance (k : Trip) : ClosedOff (k0_off18 k) := ⟨![(Ring.sl 3 k.val).val, 0, 512, 0], tile_eq 0 512 k0_off18_eq k⟩
instance (k : Trip) : ClosedOff (k0_off19 k) := ⟨![(Ring.sl 3 k.val).val, 0, 768, 0], tile_eq 0 768 k0_off19_eq k⟩
instance (k : Trip) : ClosedOff (k0_off20 k) := ⟨![(Ring.sl 3 k.val).val, 0, 1024, 0], tile_eq 0 1024 k0_off20_eq k⟩
instance (k : Trip) : ClosedOff (k0_off21 k) := ⟨![(Ring.sl 3 k.val).val, 0, 1280, 0], tile_eq 0 1280 k0_off21_eq k⟩
instance (k : Trip) : ClosedOff (k0_off22 k) := ⟨![(Ring.sl 3 k.val).val, 0, 1536, 0], tile_eq 0 1536 k0_off22_eq k⟩
instance (k : Trip) : ClosedOff (k0_off23 k) := ⟨![(Ring.sl 3 k.val).val, 0, 1792, 0], tile_eq 0 1792 k0_off23_eq k⟩
instance (k : Trip) : ClosedOff (k0_off24 k) := ⟨![(Ring.sl 3 k.val).val, 0, 2048, 0], tile_eq 0 2048 k0_off24_eq k⟩
instance (k : Trip) : ClosedOff (k0_off25 k) := ⟨![(Ring.sl 3 k.val).val, 0, 2304, 0], tile_eq 0 2304 k0_off25_eq k⟩
instance (k : Trip) : ClosedOff (k0_off26 k) := ⟨![(Ring.sl 3 k.val).val, 0, 2560, 0], tile_eq 0 2560 k0_off26_eq k⟩
instance (k : Trip) : ClosedOff (k0_off27 k) := ⟨![(Ring.sl 3 k.val).val, 0, 2816, 0], tile_eq 0 2816 k0_off27_eq k⟩
instance (k : Trip) : ClosedOff (k0_off28 k) := ⟨![(Ring.sl 3 k.val).val, 0, 3072, 0], tile_eq 0 3072 k0_off28_eq k⟩
instance (k : Trip) : ClosedOff (k0_off29 k) := ⟨![(Ring.sl 3 k.val).val, 0, 3328, 0], tile_eq 0 3328 k0_off29_eq k⟩
instance (k : Trip) : ClosedOff (k0_off30 k) := ⟨![(Ring.sl 3 k.val).val, 0, 3584, 0], tile_eq 0 3584 k0_off30_eq k⟩
instance (k : Trip) : ClosedOff (k0_off31 k) := ⟨![(Ring.sl 3 k.val).val, 0, 3840, 0], tile_eq 0 3840 k0_off31_eq k⟩
instance (k : Trip) : ClosedOff (k0_off32 k) := ⟨![(Ring.sl 3 k.val).val, 0, 4096, 0], tile_eq 0 4096 k0_off32_eq k⟩
instance (k : Trip) : ClosedOff (k0_off33 k) := ⟨![(Ring.sl 3 k.val).val, 0, 4352, 0], tile_eq 0 4352 k0_off33_eq k⟩
instance (k : Trip) : ClosedOff (k0_off34 k) := ⟨![(Ring.sl 3 k.val).val, 0, 4608, 0], tile_eq 0 4608 k0_off34_eq k⟩
instance (k : Trip) : ClosedOff (k0_off35 k) := ⟨![(Ring.sl 3 k.val).val, 0, 4864, 0], tile_eq 0 4864 k0_off35_eq k⟩
instance (k : Trip) : ClosedOff (k0_off36 k) := ⟨![(Ring.sl 3 k.val).val, 1, 0, 0], tile_eq 1 0 k0_off36_eq k⟩
instance (k : Trip) : ClosedOff (k0_off37 k) := ⟨![(Ring.sl 3 k.val).val, 1, 256, 0], tile_eq 1 256 k0_off37_eq k⟩
instance (k : Trip) : ClosedOff (k0_off38 k) := ⟨![(Ring.sl 3 k.val).val, 1, 512, 0], tile_eq 1 512 k0_off38_eq k⟩
instance (k : Trip) : ClosedOff (k0_off39 k) := ⟨![(Ring.sl 3 k.val).val, 1, 768, 0], tile_eq 1 768 k0_off39_eq k⟩
instance (k : Trip) : ClosedOff (k0_off40 k) := ⟨![(Ring.sl 3 k.val).val, 1, 1024, 0], tile_eq 1 1024 k0_off40_eq k⟩
instance (k : Trip) : ClosedOff (k0_off41 k) := ⟨![(Ring.sl 3 k.val).val, 1, 1280, 0], tile_eq 1 1280 k0_off41_eq k⟩
instance (k : Trip) : ClosedOff (k0_off42 k) := ⟨![(Ring.sl 3 k.val).val, 1, 1536, 0], tile_eq 1 1536 k0_off42_eq k⟩
instance (k : Trip) : ClosedOff (k0_off43 k) := ⟨![(Ring.sl 3 k.val).val, 1, 1792, 0], tile_eq 1 1792 k0_off43_eq k⟩
instance (k : Trip) : ClosedOff (k0_off44 k) := ⟨![(Ring.sl 3 k.val).val, 1, 2048, 0], tile_eq 1 2048 k0_off44_eq k⟩
instance (k : Trip) : ClosedOff (k0_off45 k) := ⟨![(Ring.sl 3 k.val).val, 1, 2304, 0], tile_eq 1 2304 k0_off45_eq k⟩
instance (k : Trip) : ClosedOff (k0_off46 k) := ⟨![(Ring.sl 3 k.val).val, 1, 2560, 0], tile_eq 1 2560 k0_off46_eq k⟩
instance (k : Trip) : ClosedOff (k0_off47 k) := ⟨![(Ring.sl 3 k.val).val, 1, 2816, 0], tile_eq 1 2816 k0_off47_eq k⟩
instance (k : Trip) : ClosedOff (k0_off48 k) := ⟨![(Ring.sl 3 k.val).val, 1, 3072, 0], tile_eq 1 3072 k0_off48_eq k⟩
instance (k : Trip) : ClosedOff (k0_off49 k) := ⟨![(Ring.sl 3 k.val).val, 1, 3328, 0], tile_eq 1 3328 k0_off49_eq k⟩
instance (k : Trip) : ClosedOff (k0_off50 k) := ⟨![(Ring.sl 3 k.val).val, 1, 3584, 0], tile_eq 1 3584 k0_off50_eq k⟩
instance (k : Trip) : ClosedOff (k0_off51 k) := ⟨![(Ring.sl 3 k.val).val, 1, 3840, 0], tile_eq 1 3840 k0_off51_eq k⟩
instance (k : Trip) : ClosedOff (k0_off52 k) := ⟨![(Ring.sl 3 k.val).val, 1, 4096, 0], tile_eq 1 4096 k0_off52_eq k⟩
instance (k : Trip) : ClosedOff (k0_off53 k) := ⟨![(Ring.sl 3 k.val).val, 1, 4352, 0], tile_eq 1 4352 k0_off53_eq k⟩
instance (k : Trip) : ClosedOff (k0_off54 k) := ⟨![(Ring.sl 3 k.val).val, 1, 4608, 0], tile_eq 1 4608 k0_off54_eq k⟩
instance (k : Trip) : ClosedOff (k0_off55 k) := ⟨![(Ring.sl 3 k.val).val, 1, 4864, 0], tile_eq 1 4864 k0_off55_eq k⟩

/-! ### The canonical-name equations -/

section Canon

theorem wsm_congr {off : Fin 1 → Nat} {s : Fin 3} (e : off = wsemOff s) (hh) :
    (cc0_scratch1.slice (Rect.unit (s := S10) off S1.size hh)).squeeze S_ squeezes_S1_S_ = wsm s :=
  congrArg (fun A : DmaSems sig S1 => A.squeeze S_ squeezes_S1_S_) (SemArray.slice_unit_congr _ e _ _)
theorem wslot_congr {off : Fin 4 → Nat} {s : Fin 3} {m : Fin 2} (e : off = slotOff s m) (hh hs) :
    (wbM.slice (Rect.unit (s := S3x2x5120x256) off S1x1x5120x256.size hh) hs).squeeze S5120x256 squeezes_S1x1x5120x256_S5120x256 = wslot s m :=
  congrArg (fun M : Memref sig .tc .vmem S1x1x5120x256 .i8 => M.squeeze S5120x256 squeezes_S1x1x5120x256_S5120x256) (Memref.slice_unit_congr _ e _ _ _ _)
theorem wcol_congr {off : Fin 2 → Nat} {m : Fin 2} {b : Fin 21} (e : off = colOff m b) (hh hs) :
    wM.slice (Rect.unit (s := S5120x10752) off S5120x256.size hh) hs = wcol m b := Memref.slice_unit_congr _ e _ _ _ (fun _ => rfl)

@[sl_canon] theorem c_wsem0 (hh) : (cc0_scratch1.slice (Rect.unit (s := S10) ![1] S1.size hh)).squeeze S_ squeezes_S1_S_ = wsm 0 := wsm_congr (by decide) _
@[sl_canon] theorem c_wsem1 (hh) : (cc0_scratch1.slice (Rect.unit (s := S10) ![2] S1.size hh)).squeeze S_ squeezes_S1_S_ = wsm 1 := wsm_congr (by decide) _
@[sl_canon] theorem c_wslot00 (hh hs) : (wbM.slice (Rect.unit (s := S3x2x5120x256) ![0, 0, 0, 0] S1x1x5120x256.size hh) hs).squeeze S5120x256 squeezes_S1x1x5120x256_S5120x256 = wslot 0 0 := wslot_congr (by decide) _ _
@[sl_canon] theorem c_wslot01 (hh hs) : (wbM.slice (Rect.unit (s := S3x2x5120x256) ![0, 1, 0, 0] S1x1x5120x256.size hh) hs).squeeze S5120x256 squeezes_S1x1x5120x256_S5120x256 = wslot 0 1 := wslot_congr (by decide) _ _
@[sl_canon] theorem c_wslot10 (hh hs) : (wbM.slice (Rect.unit (s := S3x2x5120x256) ![1, 0, 0, 0] S1x1x5120x256.size hh) hs).squeeze S5120x256 squeezes_S1x1x5120x256_S5120x256 = wslot 1 0 := wslot_congr (by decide) _ _
@[sl_canon] theorem c_wslot11 (hh hs) : (wbM.slice (Rect.unit (s := S3x2x5120x256) ![1, 1, 0, 0] S1x1x5120x256.size hh) hs).squeeze S5120x256 squeezes_S1x1x5120x256_S5120x256 = wslot 1 1 := wslot_congr (by decide) _ _
@[sl_canon] theorem c_wcol00 (hh hs) : wM.slice (Rect.unit (s := S5120x10752) ![0, 0] S5120x256.size hh) hs = wcol 0 0 := wcol_congr (by decide) _ _
@[sl_canon] theorem c_wcol01 (hh hs) : wM.slice (Rect.unit (s := S5120x10752) ![0, 256] S5120x256.size hh) hs = wcol 0 1 := wcol_congr (by decide) _ _
@[sl_canon] theorem c_wcol10 (hh hs) : wM.slice (Rect.unit (s := S5120x10752) (k0_off1 0#32) S5120x256.size hh) hs = wcol 1 0 := wcol_congr (by decide) _ _
@[sl_canon] theorem c_wcol11 (hh hs) : wM.slice (Rect.unit (s := S5120x10752) (k0_off1 256#32) S5120x256.size hh) hs = wcol 1 1 := wcol_congr (by decide) _ _

variable (k : Trip)
@[sl_canon] theorem k_wsem (hh) : (cc0_scratch1.slice (Rect.unit (s := S10) (k0_off2 k) S1.size hh)).squeeze S_ squeezes_S1_S_ = wsm (Ring.sl 3 k.val) := wsm_congr (off2_eq k) _
@[sl_canon] theorem k_wslot0 (hh hs) : (wbM.slice (Rect.unit (s := S3x2x5120x256) (k0_off3 k) S1x1x5120x256.size hh) hs).squeeze S5120x256 squeezes_S1x1x5120x256_S5120x256 = wslot (Ring.sl 3 k.val) 0 := wslot_congr (off3_eq k) _ _
@[sl_canon] theorem k_wcol0 (hh hs) : wM.slice (Rect.unit (s := S5120x10752) (k0_off4 k) S5120x256.size hh) hs = wcol 0 (Ring.bk 21 k.val) := wcol_congr (off4_eq k) _ _
@[sl_canon] theorem k_wslot1 (hh hs) : (wbM.slice (Rect.unit (s := S3x2x5120x256) (k0_off5 k) S1x1x5120x256.size hh) hs).squeeze S5120x256 squeezes_S1x1x5120x256_S5120x256 = wslot (Ring.sl 3 k.val) 1 := wslot_congr (off5_eq k) _ _
@[sl_canon] theorem k_wcol1 (hh hs) : wM.slice (Rect.unit (s := S5120x10752) (k0_off6 k) S5120x256.size hh) hs = wcol 1 (Ring.bk 21 k.val) := wcol_congr (off6_eq k) _ _
@[sl_canon] theorem k_wsem' (hh) : (cc0_scratch1.slice (Rect.unit (s := S10) (k0_off7 k) S1.size hh)).squeeze S_ squeezes_S1_S_ = wsm (Ring.sl 3 (k.val + 2)) := wsm_congr (off7_eq k) _
@[sl_canon] theorem k_wslot0' (hh hs) : (wbM.slice (Rect.unit (s := S3x2x5120x256) (k0_off8 k) S1x1x5120x256.size hh) hs).squeeze S5120x256 squeezes_S1x1x5120x256_S5120x256 = wslot (Ring.sl 3 (k.val + 2)) 0 := wslot_congr (off8_eq k) _ _
@[sl_canon] theorem k_wcol0' (hk : k.val < 19) (hh hs) : wM.slice (Rect.unit (s := S5120x10752) (k0_off9 k) S5120x256.size hh) hs = wcol 0 (Ring.bk 21 (k.val + 2)) := wcol_congr (off9_eq k hk) _ _
@[sl_canon] theorem k_wslot1' (hh hs) : (wbM.slice (Rect.unit (s := S3x2x5120x256) (k0_off10 k) S1x1x5120x256.size hh) hs).squeeze S5120x256 squeezes_S1x1x5120x256_S5120x256 = wslot (Ring.sl 3 (k.val + 2)) 1 := wslot_congr (off10_eq k) _ _
@[sl_canon] theorem k_wcol1' (hk : k.val < 19) (hh hs) : wM.slice (Rect.unit (s := S5120x10752) (k0_off11 k) S5120x256.size hh) hs = wcol 1 (Ring.bk 21 (k.val + 2)) := wcol_congr (off11_eq k hk) _ _

end Canon

/-! ## The pieces -/

section Pieces
variable (c : Dev nD) (XW : Buf (Elt F) (wM.view.loc (c : Thread nD τ)))

abbrev wcellP (s : Fin 3) : sProp 𝕄 := semVal ((c : Thread nD τ), SemLoc.dma (wsm s).sem) 0
abbrev wslotP (s : Fin 3) (m : Fin 2) (f : Buf (Elt F) ((wslot s m).view.loc (c : Thread nD τ))) : sProp 𝕄 :=
  (wslot s m).view.loc (c : Thread nD τ) ↦[(wslot s m).view.set]{fullShare} f
/-- A column block of the weights at home. -/
abbrev wHome (m : Fin 2) (b : Fin 21) : sProp 𝕄 := (wcol m b).view.loc (c : Thread nD τ) ↦[(wcol m b).view.set]{fullShare} XW
abbrev wLanded (s : Fin 3) (b : Fin 21) (m : Fin 2) (f : Buf (Elt F) ((wslot s m).view.loc (c : Thread nD τ))) : Buf (Elt F) ((wslot s m).view.loc (c : Thread nD τ)) :=
  (wslot s m).view.writes (Elt F) f [⟨Rect.whole S5120x256, ReadAs.same.apply ((wcol m b).view.read (Elt F) XW)⟩]
abbrev NW : ℕ := 40960
instance wHome_storable (m : Fin 2) (b : Fin 21) : BI.Storable (upEmb : UEmb _ 𝕄) (wHome c XW m b) := by
  have h : ∀ g : Buf (Elt F) ((wcol m b).view.loc (c : Thread nD τ)), BI.Storable (upEmb : UEmb _ 𝕄)
      iprop((wcol m b).view.loc (c : Thread nD τ) ↦[(wcol m b).view.set]{fullShare} g) := fun g => inferInstance
  exact h XW
/-- What the copy of half `m` of block `b` into slot `s` delivers. -/
abbrev wDel (s : Fin 3) (b : Fin 21) (m : Fin 2) : sProp 𝕄 := iprop(wslotP c s m (wLanded c XW s b m (wslot s m).view.junk) ∗ wHome c XW m b)
/-- What the two copies of block `b` into slot `s` deliver. -/
abbrev wD (s : Fin 3) (b : Fin 21) : Fin 2 → sProp 𝕄 := fun m => if m.val = 0 then wDel c XW s b 0 else wDel c XW s b 1
instance ite_storable (p : Prop) [Decidable p] (A B : sProp 𝕄) [BI.Storable (upEmb : UEmb _ 𝕄) A] [BI.Storable (upEmb : UEmb _ 𝕄) B] :
    BI.Storable (upEmb : UEmb _ 𝕄) (if p then A else B) := by
  split <;> infer_instance
/-- The two copies of block `b` into slot `s`, `j` of them started. -/
abbrev wBatch (s : Fin 3) (b : Fin 21) (j : ℕ) : sProp 𝕄 :=
  Transfers.Batch (countersEmb (U := UU nD τ)) (c : Thread nD τ) (SemLoc.dma (wsm s).sem) () NW (wD c XW s b) j 0
end Pieces

/-! ## What one trip leaves in the accumulator and in the result -/

section Out

/-- One product of a 768 by 256 tile of activations with a 256 by 256 tile of weights. -/
def mm (l : Vec F S768x256 .bf16) (w : Vec F S1x1x256x256 .i8) : FVec F S768x256 .f32 :=
  matmul dot_S768x256_S256x256_S768x256_1_0_0_1_n_n none l
    (sitofp .bf16 (shapeCast S256x256 w shapeCasts_S1x1x256x256_S256x256 : IVec S256x256 8) : FVec F S256x256 .bf16)
    (constant S768x256 .f32 0x00000000#32)
/-- The chain of the first `n + 1` products, added from the left. -/
def chain (L : ℕ → Vec F S768x256 .bf16) (R : ℕ → Vec F S1x1x256x256 .i8) : ℕ → FVec F S768x256 .f32
  | 0 => mm (L 0) (R 0)
  | n + 1 => addf (chain L R n) (mm (L (n + 1)) (R (n + 1)))

variable (c : Dev nD) (XW : Buf (Elt F) (wM.view.loc (c : Thread nD τ)))
  (arg0 : Memref sig .tc .vmem S1x5376 .f32) (arg1 : Memref sig .tc .vmem S1x10752 .f32)
  (arg2 : Memref sig .tc .vmem S768x5120 .bf16) (arg3 : Memref sig .tc .vmem S768x128 .f32) (k : Trip)
  (f0 : Buf (Elt F) (arg0.view.loc (c : Thread nD τ))) (f1 : Buf (Elt F) (arg1.view.loc (c : Thread nD τ)))
  (f2 : Buf (Elt F) (arg2.view.loc (c : Thread nD τ))) (f3 : Buf (Elt F) (arg3.view.loc (c : Thread nD τ)))
  (fa : Buf (Elt F) (accM.view.loc (c : Thread nD τ)))

theorem lt_inb (n : ℕ) : ∀ a, (![0, 256 * (n % 20)] : Fin 2 → ℕ) a + S768x256.size a ≤ S768x5120.size a := by
  have := Nat.mod_lt n (show 0 < 20 by decide); intro a; fin_cases a
  · show 0 + 768 ≤ 768; omega
  · show 256 * (n % 20) + 256 ≤ 5120; omega
/-- The offsets at which the trip meets a slot: the slot, its half, a row. -/
abbrev kOff (m a : ℕ) : Fin 4 → ℕ := ![(Scalar.remsi (Scf.iv 0#32 1#32 k.val) 3#32).toNat, m, a, 0]
theorem kslot_eq : ∀ k : Trip, (Scalar.remsi (Scf.iv 0#32 1#32 k.val) 3#32).toNat = (Ring.sl 3 k.val).val := by decide +kernel
theorem rt_inb (m n : ℕ) : ∀ a, kOff k (m % 2) (256 * (n % 20)) a + S1x1x256x256.size a ≤ S3x2x5120x256.size a := by
  have := Nat.mod_lt n (show 0 < 20 by decide); have := Nat.mod_lt m (show 0 < 2 by decide); have := (Ring.sl 3 k.val).isLt
  intro a; fin_cases a
  · show (Scalar.remsi (Scf.iv 0#32 1#32 k.val) 3#32).toNat + 1 ≤ 3; rw [kslot_eq]; omega
  · show m % 2 + 1 ≤ 2; omega
  · show 256 * (n % 20) + 256 ≤ 5120; omega
  · show 0 + 256 ≤ 256; omega
theorem ac_inb (m : ℕ) : ∀ a, (![0, 256 * (m % 2)] : Fin 2 → ℕ) a + S768x256.size a ≤ S768x512.size a := by
  have := Nat.mod_lt m (show 0 < 2 by decide); intro a; fin_cases a
  · show 0 + 768 ≤ 768; omega
  · show 256 * (m % 2) + 256 ≤ 512; omega
theorem ab_inb (m n : ℕ) : ∀ a, (![32 * (n % 24), 256 * (m % 2) + 128 * (n / 24 % 2)] : Fin 2 → ℕ) a + S32x128.size a ≤ S768x512.size a := by
  have := Nat.mod_lt n (show 0 < 24 by decide); have := Nat.mod_lt (n / 24) (show 0 < 2 by decide); have := Nat.mod_lt m (show 0 < 2 by decide)
  intro a; fin_cases a
  · show 32 * (n % 24) + 32 ≤ 768; omega
  · show 256 * (m % 2) + 128 * (n / 24 % 2) + 128 ≤ 512; omega
theorem sb_inb (n : ℕ) : ∀ a, (![32 * (n % 24), 0] : Fin 2 → ℕ) a + S32x128.size a ≤ S768x128.size a := by
  have := Nat.mod_lt n (show 0 < 24 by decide); intro a; fin_cases a
  · show 32 * (n % 24) + 32 ≤ 768; omega
  · show 0 + 128 ≤ 128; omega

/-- The activations' tile `n`, as the trip reads it. -/
def lt (n : ℕ) : Vec F S768x256 .bf16 := arg2.view.readAt (Elt F) (Rect.unit (s := S768x5120) ![0, 256 * (n % 20)] S768x256.size (lt_inb n)).toLoadRect f2
/-- The weights' tile `n` of half `m`, as the trip reads it from the slot its copy landed in. -/
def rt (m : Fin 2) (n : ℕ) : Vec F S1x1x256x256 .i8 :=
  wbM.view.readAt (Elt F) (Rect.unit (s := S3x2x5120x256) (kOff k (m.val % 2) (256 * (n % 20))) S1x1x256x256.size (rt_inb k m.val n)).toLoadRect
    (wLanded c XW (Ring.sl 3 k.val) (Ring.bk 21 k.val) m (wslot (Ring.sl 3 k.val) m).view.junk)
/-- Half `m` of the accumulator. -/
def accHalf (m : Fin 2) : FVec F S768x256 .f32 := shapeCast S768x256 (chain (lt c arg2 f2) (rt c XW k m) 19) shapeCasts_S768x256_S768x256
/-- The accumulator's two stores. -/
def accPieces : List (View.Piece (Elt F) S768x512 .f32) :=
  [⟨Rect.unit ![0, 256 * (1 % 2)] S768x256.size (ac_inb 1), accHalf c XW arg2 k f2 1⟩,
    ⟨Rect.unit ![0, 256 * (0 % 2)] S768x256.size (ac_inb 0), accHalf c XW arg2 k f2 0⟩]

/-- A block of the result: gate times its logistic times up times the smoothing factors, each product first scaled by row and column. -/
def outPay (sg su s2 : Vec F S1x128 .f32) (g u sc : Vec F S32x128 .f32) : FVec F S32x128 .f32 :=
  have sc' : FVec F S32x128 .f32 := shapeCast S32x128 sc shapeCasts_S32x128_S32x128
  have bg : FVec F S32x128 .f32 := broadcastTo S32x128 (shapeCast S1x128 sg shapeCasts_S1x128_S1x128 : FVec F S1x128 .f32) broadcasts_S1x128_S32x128
  have bu : FVec F S32x128 .f32 := broadcastTo S32x128 (shapeCast S1x128 su shapeCasts_S1x128_S1x128 : FVec F S1x128 .f32) broadcasts_S1x128_S32x128
  have b2 : FVec F S32x128 .f32 := broadcastTo S32x128 (shapeCast S1x128 s2 shapeCasts_S1x128_S1x128 : FVec F S1x128 .f32) broadcasts_S1x128_S32x128
  have gv : FVec F S32x128 .f32 := mulf (mulf g sc') bg
  have uv : FVec F S32x128 .f32 := mulf (mulf u sc') bu
  mulf (mulf (mulf gv (logistic gv)) uv) b2

/-- Where an epilogue reads its column scales and smoothing factors and where it writes its blocks, by half `h` and row tile `r`. -/
structure EpOffs where
  og : ℕ → Fin 2 → ℕ
  ou : ℕ → Fin 2 → ℕ
  o2 : ℕ → Fin 2 → ℕ
  ob : ℕ → ℕ → Fin 2 → ℕ
  ig : ∀ h, ∀ a, og (h % 2) a + S1x128.size a ≤ S1x10752.size a
  iu : ∀ h, ∀ a, ou (h % 2) a + S1x128.size a ≤ S1x10752.size a
  i2 : ∀ h, ∀ a, o2 (h % 2) a + S1x128.size a ≤ S1x5376.size a
  ib : ∀ h r, ∀ a, ob (h % 2) (r % 24) a + S32x128.size a ≤ S32256x128.size a

/-- The block that store `n` of an epilogue writes. -/
def outBlock (o : EpOffs) (n : ℕ) : FVec F S32x128 .f32 :=
  outPay (arg1.view.readAt (Elt F) (Rect.unit (s := S1x10752) (o.og (n / 24 % 2)) S1x128.size (o.ig (n / 24))).toLoadRect f1)
    (arg1.view.readAt (Elt F) (Rect.unit (s := S1x10752) (o.ou (n / 24 % 2)) S1x128.size (o.iu (n / 24))).toLoadRect f1)
    (arg0.view.readAt (Elt F) (Rect.unit (s := S1x5376) (o.o2 (n / 24 % 2)) S1x128.size (o.i2 (n / 24))).toLoadRect f0)
    (accM.view.readAt (Elt F) (Rect.unit (s := S768x512) ![32 * (n % 24), 256 * (0 % 2) + 128 * (n / 24 % 2)] S32x128.size (ab_inb 0 n)).toLoadRect fa)
    (accM.view.readAt (Elt F) (Rect.unit (s := S768x512) ![32 * (n % 24), 256 * (1 % 2) + 128 * (n / 24 % 2)] S32x128.size (ab_inb 1 n)).toLoadRect fa)
    (arg3.view.readAt (Elt F) (Rect.unit (s := S768x128) ![32 * (n % 24), 0] S32x128.size (sb_inb n)).toLoadRect f3)
/-- An epilogue's first `n` stores into the result, newest first. -/
def outPieces (o : EpOffs) : ℕ → List (View.Piece (Elt F) S32256x128 .f32)
  | 0 => []
  | n + 1 => ⟨Rect.unit (o.ob (n / 24 % 2) (n % 24)) S32x128.size (o.ib (n / 24) n), outBlock c arg0 arg1 arg3 f0 f1 f3 fa o n⟩ :: outPieces o n

/-- The offsets of a trip's epilogue. -/
def tripOffs (k : Trip) : EpOffs where
  og h := k0_off12 k (BitVec.ofNat 32 (128 * h))
  ou h := k0_off13 k (BitVec.ofNat 32 (128 * h))
  o2 h := k0_off14 k (BitVec.ofNat 32 (128 * h))
  ob h r := k0_off15 k (BitVec.ofNat 32 h) (BitVec.ofNat 32 (32 * r))
  ig h := k0_off12_inb k ⟨h % 2, Nat.mod_lt _ (by decide)⟩
  iu h := k0_off13_inb k ⟨h % 2, Nat.mod_lt _ (by decide)⟩
  i2 h := k0_off14_inb k ⟨h % 2, Nat.mod_lt _ (by decide)⟩
  ib h r := k0_off15_inb k ⟨h % 2, Nat.mod_lt _ (by decide)⟩ ⟨r % 24, Nat.mod_lt _ (by decide)⟩

end Out

end Cert.Proof.UpKernelIdeal

end
-- ==== Proof.UTripKI.lean ====
module

public import proofs.«01_k».proof.Defs
public import proofs.«01_k».proof.Proof.UBaseKI
public import proofs.«01_k».proof.Proof.Gen.UpKernelIdeal.Launch
public import proofs.«01_k».proof.Proof.Gen.UpKernelIdeal.Skeleton
public import proofs.«01_k».proof.Proof.Gen.UpKernelIdeal.Loops
public import proofs.«01_k».proof.Proof.Gen.UpKernelIdeal.Points
public import proofs.«01_k».proof.Proof.Gen.UpKernelIdeal.Frame
public import Idealize.ShloMosaic.Lib.Pipeline.KitQuiescent
public import Idealize.ShloMosaic.Lib.Ring
public import Idealize.ShloMosaic.Lib.Ring.WriteBehind
public import Idealize.ShloMosaic.Lib.Affine
public import Idealize.ShloMosaic.Lib.Tactic
public import Idealize.ShloMosaic.Lib.Batch

@[expose] public section

set_option maxRecDepth 16384

noncomputable section

namespace Cert.Proof.UpKernelIdeal

open Cert.UpKernelIdeal Cert.UpKernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ
section Trip
variable (c : Dev nD) (XW : Buf (Elt F) (wM.view.loc (c : Thread nD τ)))
  (arg0 : Memref sig .tc .vmem S1x5376 .f32) (harg0 : arg0.IsWhole)
  (arg1 : Memref sig .tc .vmem S1x10752 .f32) (harg1 : arg1.IsWhole)
  (arg2 : Memref sig .tc .vmem S768x5120 .bf16) (harg2 : arg2.IsWhole)
  (arg3 : Memref sig .tc .vmem S768x128 .f32) (harg3 : arg3.IsWhole)
  (arg5 : Memref sig .tc .vmem S32256x128 .f32) (harg5 : arg5.IsWhole)

abbrev tripG (k : Trip) : Prog (TpuEff nD τ sig (Elt F) Λ₀ .tc) Unit :=
  k0_t1_body (F := F) arg0 harg0 arg1 harg1 arg2 harg2 arg3 harg3 wM (Memref.isWhole_whole _) arg5 harg5 rmM (Memref.isWhole_whole _) cc0_scratch1
    wbM (Memref.isWhole_whole _) accM (Memref.isWhole_whole _) k ()

/-- A trip that asks for the weights of two trips later: it writes the result's block of the trip before from the accumulator, and then the
    accumulator with its own block's products. -/
theorem trip_mid (k : Trip) (h19 : k.val < 19)
    (f0 : Buf (Elt F) (arg0.view.loc (c : Thread nD τ))) (f1 : Buf (Elt F) (arg1.view.loc (c : Thread nD τ)))
    (f2 : Buf (Elt F) (arg2.view.loc (c : Thread nD τ))) (f3 : Buf (Elt F) (arg3.view.loc (c : Thread nD τ)))
    (f5 : Buf (Elt F) (arg5.view.loc (c : Thread nD τ))) (fr : Buf (Elt F) (rmM.view.loc (c : Thread nD τ)))
    (fa : Buf (Elt F) (accM.view.loc (c : Thread nD τ)))
    (fw0 fw1 W) :
    iprop((arg0.view.loc (c : Thread nD τ) ↦[arg0.view.set]{fullShare} f0)
      ∗ (arg1.view.loc (c : Thread nD τ) ↦[arg1.view.set]{fullShare} f1)
      ∗ (arg2.view.loc (c : Thread nD τ) ↦[arg2.view.set]{fullShare} f2)
      ∗ (arg3.view.loc (c : Thread nD τ) ↦[arg3.view.set]{fullShare} f3)
      ∗ (arg5.view.loc (c : Thread nD τ) ↦[arg5.view.set]{fullShare} f5)
      ∗ (rmM.view.loc (c : Thread nD τ) ↦[rmM.view.set]{fullShare} fr)
      ∗ (accM.view.loc (c : Thread nD τ) ↦[accM.view.set]{fullShare} fa)
      ∗ owes (c : Thread nD τ) 0 W
      ∗ wBatch c XW (Ring.sl 3 k.val) (Ring.bk 21 k.val) 2
      ∗ wcellP c (Ring.sl 3 (k.val + 2)) ∗ wslotP c (Ring.sl 3 (k.val + 2)) 0 fw0 ∗ wslotP c (Ring.sl 3 (k.val + 2)) 1 fw1
      ∗ wHome c XW 0 (Ring.bk 21 (k.val + 2)) ∗ wHome c XW 1 (Ring.bk 21 (k.val + 2)))
      ⊢ wp frame (wpE (defs₀ (F := F)) 𝒱₀ (c : Thread nD τ) none) Set.univ (tripG arg0 harg0 arg1 harg1 arg2 harg2 arg3 harg3 arg5 harg5 k)
        (fun _ => iprop((arg0.view.loc (c : Thread nD τ) ↦[arg0.view.set]{fullShare} f0)
          ∗ (arg1.view.loc (c : Thread nD τ) ↦[arg1.view.set]{fullShare} f1)
          ∗ (arg2.view.loc (c : Thread nD τ) ↦[arg2.view.set]{fullShare} f2)
          ∗ (arg3.view.loc (c : Thread nD τ) ↦[arg3.view.set]{fullShare} f3)
          ∗ (arg5.view.loc (c : Thread nD τ) ↦[arg5.view.set]{fullShare} arg5.view.writes (Elt F) f5 (outPieces c arg0 arg1 arg3 f0 f1 f3 fa (tripOffs k) 48))
          ∗ (∃ fr, rmM.view.loc (c : Thread nD τ) ↦[rmM.view.set]{fullShare} fr)
          ∗ (accM.view.loc (c : Thread nD τ) ↦[accM.view.set]{fullShare} accM.view.writes (Elt F) fa (accPieces c XW arg2 k f2))
          ∗ (∃ W, owes (c : Thread nD τ) 0 W)
          ∗ wBatch c XW (Ring.sl 3 (k.val + 2)) (Ring.bk 21 (k.val + 2)) 2
          ∗ wcellP c (Ring.sl 3 k.val) ∗ (∃ f, wslotP c (Ring.sl 3 k.val) 0 f) ∗ (∃ f, wslotP c (Ring.sl 3 k.val) 1 f)
          ∗ wHome c XW 0 (Ring.bk 21 k.val) ∗ wHome c XW 1 (Ring.bk 21 k.val))) := by
  have hc1 := (cond1_iff k).2 h19
  iintro ⟨H0, H1, H2, H3, H5, HR, HA, HW, HB, Hc, Hs0, Hs1, Hh0, Hh1⟩
  imod (Transfers.batch_alloc' (countersEmb (U := UU nD τ)) (c : Thread nD τ) () NW (wD c XW (Ring.sl 3 (k.val + 2)) (Ring.bk 21 (k.val + 2))) (sm := SemLoc.dma (wsm (Ring.sl 3 (k.val + 2))).sem) (E := Set.univ)) $$ Hc with HN
  sl_unfold [tripG, k0_t1_body]
  sl_exec_parts
  have eB : trip_mid.sl.H5_48 c arg0 arg1 arg3 k f0 f1 f3 fa = outPieces c arg0 arg1 arg3 f0 f1 f3 fa (tripOffs k) 48 := rfl
  sl_step
  rw [eB]
  isplitl [H0]
  · iexact H0
  isplitl [H1]
  · iexact H1
  isplitl [H2]
  · iexact H2
  isplitl [H3]
  · iexact H3
  isplitl [H5]
  · iexact H5
  isplitl [HR]
  · iexists _; iexact HR
  isplitl [HA]
  · iexact HA
  isplitl [HW]
  · iexists _; iexact HW
  isplitl [HN]
  · iexact HN
  isplitl [HB]
  · iexact HB
  isplitl [HB_dst0]
  · iexists _; iexact HB_dst0
  isplitl [HB_dst1]
  · iexists _; iexact HB_dst1
  isplitl [HB_src0]
  · iexact HB_src0
  iexact HB_src1

/-- A trip that asks for no further weights. -/
theorem trip_hi (k : Trip) (h19 : 19 ≤ k.val)
    (f0 : Buf (Elt F) (arg0.view.loc (c : Thread nD τ))) (f1 : Buf (Elt F) (arg1.view.loc (c : Thread nD τ)))
    (f2 : Buf (Elt F) (arg2.view.loc (c : Thread nD τ))) (f3 : Buf (Elt F) (arg3.view.loc (c : Thread nD τ)))
    (f5 : Buf (Elt F) (arg5.view.loc (c : Thread nD τ))) (fr : Buf (Elt F) (rmM.view.loc (c : Thread nD τ)))
    (fa : Buf (Elt F) (accM.view.loc (c : Thread nD τ)))
    (W) :
    iprop((arg0.view.loc (c : Thread nD τ) ↦[arg0.view.set]{fullShare} f0)
      ∗ (arg1.view.loc (c : Thread nD τ) ↦[arg1.view.set]{fullShare} f1)
      ∗ (arg2.view.loc (c : Thread nD τ) ↦[arg2.view.set]{fullShare} f2)
      ∗ (arg3.view.loc (c : Thread nD τ) ↦[arg3.view.set]{fullShare} f3)
      ∗ (arg5.view.loc (c : Thread nD τ) ↦[arg5.view.set]{fullShare} f5)
      ∗ (rmM.view.loc (c : Thread nD τ) ↦[rmM.view.set]{fullShare} fr)
      ∗ (accM.view.loc (c : Thread nD τ) ↦[accM.view.set]{fullShare} fa)
      ∗ owes (c : Thread nD τ) 0 W
      ∗ wBatch c XW (Ring.sl 3 k.val) (Ring.bk 21 k.val) 2)
      ⊢ wp frame (wpE (defs₀ (F := F)) 𝒱₀ (c : Thread nD τ) none) Set.univ (tripG arg0 harg0 arg1 harg1 arg2 harg2 arg3 harg3 arg5 harg5 k)
        (fun _ => iprop((arg0.view.loc (c : Thread nD τ) ↦[arg0.view.set]{fullShare} f0)
          ∗ (arg1.view.loc (c : Thread nD τ) ↦[arg1.view.set]{fullShare} f1)
          ∗ (arg2.view.loc (c : Thread nD τ) ↦[arg2.view.set]{fullShare} f2)
          ∗ (arg3.view.loc (c : Thread nD τ) ↦[arg3.view.set]{fullShare} f3)
          ∗ (arg5.view.loc (c : Thread nD τ) ↦[arg5.view.set]{fullShare} arg5.view.writes (Elt F) f5 (outPieces c arg0 arg1 arg3 f0 f1 f3 fa (tripOffs k) 48))
          ∗ (∃ fr, rmM.view.loc (c : Thread nD τ) ↦[rmM.view.set]{fullShare} fr)
          ∗ (accM.view.loc (c : Thread nD τ) ↦[accM.view.set]{fullShare} accM.view.writes (Elt F) fa (accPieces c XW arg2 k f2))
          ∗ (∃ W, owes (c : Thread nD τ) 0 W)
          ∗ wcellP c (Ring.sl 3 k.val) ∗ (∃ f, wslotP c (Ring.sl 3 k.val) 0 f) ∗ (∃ f, wslotP c (Ring.sl 3 k.val) 1 f)
          ∗ wHome c XW 0 (Ring.bk 21 k.val) ∗ wHome c XW 1 (Ring.bk 21 k.val))) := by
  have hc1 : ¬ k0_cond1 k = 1#1 := fun h => absurd ((cond1_iff k).1 h) (by omega)
  iintro ⟨H0, H1, H2, H3, H5, HR, HA, HW, HB⟩
  sl_unfold [tripG, k0_t1_body]
  sl_exec_parts
  have eB : trip_hi.sl.H5_48 c arg0 arg1 arg3 k f0 f1 f3 fa = outPieces c arg0 arg1 arg3 f0 f1 f3 fa (tripOffs k) 48 := rfl
  sl_step
  rw [eB]
  isplitl [H0]
  · iexact H0
  isplitl [H1]
  · iexact H1
  isplitl [H2]
  · iexact H2
  isplitl [H3]
  · iexact H3
  isplitl [H5]
  · iexact H5
  isplitl [HR]
  · iexists _; iexact HR
  isplitl [HA]
  · iexact HA
  isplitl [HW]
  · iexists _; iexact HW
  isplitl [HB]
  · iexact HB
  isplitl [HB_dst0]
  · iexists _; iexact HB_dst0
  isplitl [HB_dst1]
  · iexists _; iexact HB_dst1
  isplitl [HB_src0]
  · iexact HB_src0
  iexact HB_src1

end Trip

end Cert.Proof.UpKernelIdeal

end
-- ==== Proof.UValKI.lean ====
module

public import proofs.«01_k».proof.Defs
public import proofs.«01_k».proof.Proof.UBaseKI
public import Idealize.ShloMosaic.Lib.Pipeline.Value
public import Idealize.ShloMosaic.Lib.ValueLayout
public import Idealize.ShloMosaic.Lib.WritesUnit
public import Idealize.ShloMosaic.Lib.Pointwise.ElementwiseCore
public import proofs.«01_k».proof.Proof.Gen.UpKernelIdeal.Launch
public import proofs.«01_k».proof.Proof.Gen.UpKernelIdeal.Skeleton
public import proofs.«01_k».proof.Proof.Gen.UpKernelIdeal.Loops
public import proofs.«01_k».proof.Proof.Gen.UpKernelIdeal.Points
public import proofs.«01_k».proof.Proof.Gen.UpKernelIdeal.Frame
public import Idealize.ShloMosaic.Lib.Pipeline.KitQuiescent
public import Idealize.ShloMosaic.Lib.Ring
public import Idealize.ShloMosaic.Lib.Ring.WriteBehind
public import Idealize.ShloMosaic.Lib.Affine
public import Idealize.ShloMosaic.Lib.Tactic
public import Idealize.ShloMosaic.Lib.Batch

@[expose] public section

set_option maxRecDepth 16384

noncomputable section

namespace Cert.Proof.UpKernelIdeal

open Cert.UpKernelIdeal Cert.UpKernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## What a block of the result holds -/

/-- The place at a row and a column. -/
def at2 (n m : ℕ) [NeZero n] [NeZero m] (x y : ℕ) : (⟨2, ![n, m]⟩ : Shape).Idx := ix2 (Fin.ofNat n x) (Fin.ofNat m y)
theorem at2_eq {n m : ℕ} [NeZero n] [NeZero m] (j : (⟨2, ![n, m]⟩ : Shape).Idx) {x y : ℕ} (hx : (j 0).val = x) (hy : (j 1).val = y) :
    j = at2 n m x y := by
  have h0 : (j 0).val < n := (j 0).isLt
  have h1 : (j 1).val < m := (j 1).isLt
  funext a
  match a with
  | ⟨0, _⟩ => exact Fin.ext (hx.trans (Nat.mod_eq_of_lt (hx ▸ h0) : x % n = x).symm)
  | ⟨1, _⟩ => exact Fin.ext (hy.trans (Nat.mod_eq_of_lt (hy ▸ h1) : y % m = y).symm)
theorem at2_0 {n m : ℕ} [NeZero n] [NeZero m] {x y : ℕ} (h : x < n) : (at2 n m x y 0).val = x := Nat.mod_eq_of_lt h
theorem at2_1 {n m : ℕ} [NeZero n] [NeZero m] {x y : ℕ} (h : y < m) : (at2 n m x y 1).val = y := Nat.mod_eq_of_lt h

/-- Dropping two leading axes of length one. -/
theorem drop2 {h w : ℕ} {α : Type} (v : (⟨4, ![1, 1, h, w]⟩ : Shape).Idx → α) (hc : (⟨4, ![1, 1, h, w]⟩ : Shape).ShapeCasts ⟨2, ![h, w]⟩)
    (j : (⟨2, ![h, w]⟩ : Shape).Idx) : shapeCast ⟨2, ![h, w]⟩ v hc j = v (ix4 0 0 (j 0) (j 1)) := by
  refine shapeCast_apply v hc j _ ?_
  rw [Shape.rowMajor_val_four, Shape.rowMajor_val_two]
  show ((0 * 1 + 0) * h + (j 0).val) * w + (j 1).val = (j 0).val * w + (j 1).val
  simp

section Val
variable (c : Dev nD) (XW : Buf (Elt F) (wM.view.loc (c : Thread nD τ)))
  (arg0 : Memref sig .tc .vmem S1x5376 .f32) (arg1 : Memref sig .tc .vmem S1x10752 .f32)
  (arg2 : Memref sig .tc .vmem S768x5120 .bf16) (arg3 : Memref sig .tc .vmem S768x128 .f32)
  (arg5 : Memref sig .tc .vmem S32256x128 .f32)
  (f0 : Buf (Elt F) (arg0.view.loc (c : Thread nD τ))) (f1 : Buf (Elt F) (arg1.view.loc (c : Thread nD τ)))
  (f2 : Buf (Elt F) (arg2.view.loc (c : Thread nD τ))) (f3 : Buf (Elt F) (arg3.view.loc (c : Thread nD τ)))
  (fa : Buf (Elt F) (accM.view.loc (c : Thread nD τ)))

/-- Tile `n` of the activations. -/
def LT (n : ℕ) : Vec F S768x256 .bf16 := fun i => arg2.view.read (Elt F) f2 (at2 768 5120 (i 0).val (256 * n + (i 1).val))
/-- Tile `n` of half `m` of column block `b` of the weights. -/
def RT (b m n : ℕ) : Vec F S1x1x256x256 .i8 := fun i =>
  wM.view.read (Elt F) XW (at2 5120 10752 (256 * n + (i 2).val) (256 * b + 5376 * m + (i 3).val))
/-- Half `m` of the products' sum for column block `b`. -/
def ACC (b m : ℕ) : FVec F S768x256 .f32 := chain (LT c arg2 f2) (RT c XW b m) 19
/-- The sum at a row and a column of the block's two halves side by side. -/
def ACCat (b : ℕ) (j : S768x512.Idx) : Elt F .f32 := ACC c XW arg2 f2 b ((j 1).val / 256) (at2 768 256 (j 0).val ((j 1).val % 256))
/-- One entry of the result from the two sums, the row's scale, the two columns' scales and the smoothing factor. -/
def outVal (g u sc sg su s2 : Elt F .f32) : Elt F .f32 :=
  FloatOps.mulf (FloatOps.mulf (FloatOps.mulf (FloatOps.mulf (FloatOps.mulf g sc) sg) (FloatOps.logistic (FloatOps.mulf (FloatOps.mulf g sc) sg)))
    (FloatOps.mulf (FloatOps.mulf u sc) su)) s2
/-- The result: 42 groups of 768 rows, group `q` holding columns `128 q` to `128 q + 127` of the activations. -/
def VO : S32256x128.Idx → Elt F .f32 := fun y =>
  outVal (ACCat c XW arg2 f2 ((y 0).val / 1536) (at2 768 512 ((y 0).val % 768) (128 * ((y 0).val / 768 % 2) + (y 1).val)))
    (ACCat c XW arg2 f2 ((y 0).val / 1536) (at2 768 512 ((y 0).val % 768) (256 + 128 * ((y 0).val / 768 % 2) + (y 1).val)))
    (arg3.view.read (Elt F) f3 (at2 768 128 ((y 0).val % 768) (y 1).val))
    (arg1.view.read (Elt F) f1 (at2 1 10752 0 (128 * ((y 0).val / 768) + (y 1).val)))
    (arg1.view.read (Elt F) f1 (at2 1 10752 0 (5376 + 128 * ((y 0).val / 768) + (y 1).val)))
    (arg0.view.read (Elt F) f0 (at2 1 5376 0 (128 * ((y 0).val / 768) + (y 1).val)))

theorem whole_emb {s : Shape} (x : s.Idx) : (Rect.whole s).emb x = x := by
  funext a; exact Fin.ext (by show 0 + 1 * (x a).val = (x a).val; omega)

theorem wslot_read (s : Fin 3) (m : Fin 2) (f : Buf (Elt F) (wbM.view.loc (c : Thread nD τ))) (j : S5120x256.Idx) :
    (wslot s m).view.read (Elt F) f j = wbM.view.read (Elt F) f (ix4 s m (j 0) (j 1)) := by
  have e : (wslot s m).view.read (Elt F) f = shapeCast S5120x256 (wbM.view.readAt (Elt F) (Rect.unit (s := S3x2x5120x256) (slotOff s m) S1x1x5120x256.size (wslot_inb s m)).toLoadRect f) (show S1x1x5120x256.ShapeCasts S5120x256 by decide) := rfl
  rw [e]
  refine (drop2 _ _ j).trans ?_
  rw [View.readAt_apply]
  congr 1
  funext a
  match a with
  | ⟨0, _⟩ => exact Fin.ext (by show s.val + 1 * 0 = s.val; omega)
  | ⟨1, _⟩ => exact Fin.ext (by show m.val + 1 * 0 = m.val; omega)
  | ⟨2, _⟩ => exact Fin.ext (by show 0 + 1 * (j 0).val = (j 0).val; omega)
  | ⟨3, _⟩ => exact Fin.ext (by show 0 + 1 * (j 1).val = (j 1).val; omega)

theorem wcol_read (m : Fin 2) (b : Fin 21) (j : S5120x256.Idx) :
    (wcol m b).view.read (Elt F) XW j = wM.view.read (Elt F) XW (at2 5120 10752 (j 0).val (256 * b.val + 5376 * m.val + (j 1).val)) := by
  have e : (wcol m b).view.read (Elt F) XW j = wM.view.read (Elt F) XW ((Rect.unit (s := S5120x10752) (colOff m b) S5120x256.size (wcol_inb m b)).emb j) := rfl
  rw [e]; congr 1
  refine at2_eq (n := 5120) (m := 10752) _ ?_ ?_
  · show 0 + 1 * (j 0).val = (j 0).val; omega
  · show 256 * b.val + 5376 * m.val + 1 * (j 1).val = _; omega

theorem trips_lt (k : Trip) : k.val < 21 := lt_of_lt_of_eq k.isLt (by decide)

section Acc
variable (k : Trip)

/-- The tile a trip reads from the landed block is the weights' own. -/
theorem rt_eq (m : Fin 2) (n : ℕ) (hn : n < 20) : rt c XW k m n = RT c XW k.val m.val n := by
  funext i
  have h0 : (i 0).val < 1 := (i 0).isLt
  have h1 : (i 1).val < 1 := (i 1).isLt
  have h2 : (i 2).val < 256 := (i 2).isLt
  have h3 : (i 3).val < 256 := (i 3).isLt
  have hw := wslot_read c (Ring.sl 3 k.val) m (wLanded c XW (Ring.sl 3 k.val) (Ring.bk 21 k.val) m (wslot (Ring.sl 3 k.val) m).view.junk)
    (at2 5120 256 (256 * n + (i 2).val) (i 3).val)
  unfold rt RT
  refine (congrArg (wbM.view.read (Elt F) (wLanded c XW (Ring.sl 3 k.val) (Ring.bk 21 k.val) m (wslot (Ring.sl 3 k.val) m).view.junk)) ?_).trans (hw.symm.trans ?_)
  · funext a
    match a with
    | ⟨0, _⟩ => exact Fin.ext (by show (Scalar.remsi (Scf.iv 0#32 1#32 k.val) 3#32).toNat + 1 * (i 0).val = (Ring.sl 3 k.val).val; rw [kslot_eq]; omega)
    | ⟨1, _⟩ => exact Fin.ext (by show m.val % 2 + 1 * (i 1).val = m.val; omega)
    | ⟨2, _⟩ => exact Fin.ext (by show 256 * (n % 20) + 1 * (i 2).val = (at2 5120 256 (256 * n + (i 2).val) (i 3).val 0).val; rw [at2_0 (by omega), Nat.mod_eq_of_lt hn]; omega)
    | ⟨3, _⟩ => exact Fin.ext (by show 0 + 1 * (i 3).val = (at2 5120 256 (256 * n + (i 2).val) (i 3).val 1).val; rw [at2_1 (by omega)]; omega)
  · refine (congrArg _ (whole_emb (s := S5120x256) _).symm).trans ((View.read_writes_cons_emb (wslot (Ring.sl 3 k.val) m).view _ (Rect.whole S5120x256) _ []
        (at2 5120 256 (256 * n + (i 2).val) (i 3).val)).trans ?_)
    show (wcol m (Ring.bk 21 k.val)).view.read (Elt F) XW _ = _
    rw [wcol_read, at2_0 (by omega), at2_1 (by omega), Ring.bk_val (trips_lt k)]

theorem lt_eq (n : ℕ) (hn : n < 20) : lt c arg2 f2 n = LT c arg2 f2 n := by
  funext i
  have h0 : (i 0).val < 768 := (i 0).isLt
  have h1 : (i 1).val < 256 := (i 1).isLt
  unfold lt LT
  rw [View.readAt_apply]
  congr 1
  refine at2_eq (n := 768) (m := 5120) _ ?_ ?_
  · show 0 + 1 * (i 0).val = _; omega
  · show 256 * (n % 20) + 1 * (i 1).val = _; rw [Nat.mod_eq_of_lt hn]; omega

theorem chain_congr {L L' : ℕ → Vec F S768x256 .bf16} {R R' : ℕ → Vec F S1x1x256x256 .i8} (N : ℕ) :
    ∀ n < N, (∀ i < N, L i = L' i) → (∀ i < N, R i = R' i) → chain L R n = chain L' R' n
  | 0, h, hL, hR => by simp only [chain]; rw [hL 0 h, hR 0 h]
  | n + 1, h, hL, hR => by simp only [chain]; rw [chain_congr N n (by omega) hL hR, hL _ h, hR _ h]

theorem accHalf_eq (m : Fin 2) : accHalf c XW arg2 k f2 m = ACC c XW arg2 f2 k.val m.val := by
  unfold accHalf ACC
  rw [shapeCast_self]
  exact chain_congr 20 19 (by omega) (fun i hi => lt_eq c arg2 f2 i hi) (fun i hi => rt_eq c XW k m i hi)

/-- After a trip the accumulator holds the trip's block of products. -/
theorem acc_read (y : S768x512.Idx) : accM.view.read (Elt F) (accM.view.writes (Elt F) fa (accPieces c XW arg2 k f2)) y = ACCat c XW arg2 f2 k.val y := by
  have hh (m : Fin 2) (x : S768x256.Idx) : accHalf c XW arg2 k f2 m x = ACCat c XW arg2 f2 k.val
      ((Rect.unit (s := S768x512) ![0, 256 * (m.val % 2)] S768x256.size (ac_inb m.val)).emb x) := by
    have h0 : (x 0).val < 768 := (x 0).isLt
    have h1 : (x 1).val < 256 := (x 1).isLt
    have e1 : (((Rect.unit (s := S768x512) ![0, 256 * (m.val % 2)] S768x256.size (ac_inb m.val)).emb x) 1).val = 256 * m.val + (x 1).val := by
      show 256 * (m.val % 2) + 1 * (x 1).val = _; rw [Nat.mod_eq_of_lt m.isLt]; omega
    have e0 : (((Rect.unit (s := S768x512) ![0, 256 * (m.val % 2)] S768x256.size (ac_inb m.val)).emb x) 0).val = (x 0).val := by
      show 0 + 1 * (x 0).val = _; omega
    unfold ACCat
    rw [e0, e1, show (256 * m.val + (x 1).val) / 256 = m.val by omega, show (256 * m.val + (x 1).val) % 256 = (x 1).val by omega, accHalf_eq c XW arg2 f2 k m]
    exact congrArg _ (at2_eq (n := 768) (m := 256) x rfl rfl)
  have hy0 : (y 0).val < 768 := (y 0).isLt
  have hy1 : (y 1).val < 512 := (y 1).isLt
  refine View.read_writes_apply_of_pieces accM.view fa (ACCat c XW arg2 f2 k.val) _ ?_ y ?_
  · intro p hp
    unfold accPieces at hp
    rcases List.mem_cons.mp hp with rfl | hp
    · exact fun x => hh 1 x
    · rcases List.mem_cons.mp hp with rfl | hp
      · exact fun x => hh 0 x
      · exact absurd hp List.not_mem_nil
  · by_cases hy : (y 1).val < 256
    · refine ⟨_, List.mem_cons_of_mem _ List.mem_cons_self, (Rect.mem_set_unit (inb := ac_inb 0)).mpr fun a => ?_⟩
      match a with
      | ⟨0, _⟩ => exact (by show 0 ≤ (y 0).val ∧ (y 0).val < 0 + 768; omega)
      | ⟨1, _⟩ => exact (by show 256 * (0 % 2) ≤ (y 1).val ∧ (y 1).val < 256 * (0 % 2) + 256; omega)
    · refine ⟨_, List.mem_cons_self, (Rect.mem_set_unit (inb := ac_inb 1)).mpr fun a => ?_⟩
      match a with
      | ⟨0, _⟩ => exact (by show 0 ≤ (y 0).val ∧ (y 0).val < 0 + 768; omega)
      | ⟨1, _⟩ => exact (by show 256 * (1 % 2) ≤ (y 1).val ∧ (y 1).val < 256 * (1 % 2) + 256; omega)
end Acc

/-- An epilogue's offsets are those of block `b`. -/
structure EpAt (o : EpOffs) (b : ℕ) : Prop where
  lt : b < 21
  g : ∀ h < 2, o.og h = ![0, 256 * b + 128 * h]
  u : ∀ h < 2, o.ou h = ![0, 5376 + 256 * b + 128 * h]
  s : ∀ h < 2, o.o2 h = ![0, 256 * b + 128 * h]
  b : ∀ h < 2, ∀ r < 24, o.ob h r = ![1536 * b + 768 * h + 32 * r, 0]

theorem bc_apply {R C : ℕ} (arg : Memref sig .tc .vmem (⟨2, ![1, C]⟩ : Shape) .f32) [NeZero C] (f : Buf (Elt F) (arg.view.loc (c : Thread nD τ)))
    (off : Fin 2 → ℕ) (inb : ∀ a, off a + S1x128.size a ≤ (⟨2, ![1, C]⟩ : Shape).size a) (o : ℕ) (e : off = ![0, o]) (x : S32x128.Idx) :
    broadcastTo S32x128 (arg.view.readAt (Elt F) (Rect.unit (s := (⟨2, ![1, C]⟩ : Shape)) off S1x128.size inb).toLoadRect f) broadcasts_S1x128_S32x128 x
      = arg.view.read (Elt F) f (at2 1 C 0 (o + (x 1).val)) := by
  subst e
  have h2 : (x 1).val < 128 := (x 1).isLt
  refine (broadcastTo_apply _ _ _ (at2 1 128 0 (x 1).val) ?_).trans ?_
  · intro a
    match a with
    | ⟨0, _⟩ => rfl
    | ⟨1, _⟩ => exact at2_1 h2
  · rw [View.readAt_apply]
    refine congrArg _ (at2_eq (n := 1) (m := C) _ ?_ ?_)
    · rfl
    · show o + 1 * ((x 1).val % 128) = _; rw [Nat.mod_eq_of_lt h2]; omega

/-- The block that a store writes, place by place. -/
theorem outBlock_eq (o : EpOffs) (b : ℕ) (ho : EpAt o b) (ha : ∀ y, accM.view.read (Elt F) fa y = ACCat c XW arg2 f2 b y) (n : ℕ) (x : S32x128.Idx) :
    outBlock c arg0 arg1 arg3 f0 f1 f3 fa o n x
      = VO c XW arg0 arg1 arg2 arg3 f0 f1 f2 f3 (at2 32256 128 (1536 * b + 768 * (n / 24 % 2) + 32 * (n % 24) + (x 0).val) (x 1).val) := by
  have h0 : (x 0).val < 32 := (x 0).isLt
  have h1 : (x 1).val < 128 := (x 1).isLt
  have hn : n % 24 < 24 := Nat.mod_lt _ (by decide)
  have hm : n / 24 % 2 < 2 := Nat.mod_lt _ (by decide)
  have hb := ho.lt
  unfold outBlock outPay VO
  rw [shapeCast_self, shapeCast_self, shapeCast_self, shapeCast_self]
  rw [at2_0 (by omega), at2_1 (by omega)]
  rw [show (1536 * b + 768 * (n / 24 % 2) + 32 * (n % 24) + (x 0).val) / 1536 = b by omega,
    show (1536 * b + 768 * (n / 24 % 2) + 32 * (n % 24) + (x 0).val) % 768 = 32 * (n % 24) + (x 0).val by omega,
    show (1536 * b + 768 * (n / 24 % 2) + 32 * (n % 24) + (x 0).val) / 768 = 2 * b + n / 24 % 2 by omega,
    show (2 * b + n / 24 % 2) % 2 = n / 24 % 2 by omega]
  have eg := (ha _).symm.trans (congrArg (accM.view.read (Elt F) fa) (at2_eq (n := 768) (m := 512)
    ((Rect.unit (s := S768x512) ![32 * (n % 24), 256 * (0 % 2) + 128 * (n / 24 % 2)] S32x128.size (ab_inb 0 n)).emb x)
    (x := 32 * (n % 24) + (x 0).val) (y := 128 * (n / 24 % 2) + (x 1).val) (by show 32 * (n % 24) + 1 * (x 0).val = _; omega)
      (by show 256 * (0 % 2) + 128 * (n / 24 % 2) + 1 * (x 1).val = _; omega)).symm)
  have eu := (ha _).symm.trans (congrArg (accM.view.read (Elt F) fa) (at2_eq (n := 768) (m := 512)
    ((Rect.unit (s := S768x512) ![32 * (n % 24), 256 * (1 % 2) + 128 * (n / 24 % 2)] S32x128.size (ab_inb 1 n)).emb x)
    (x := 32 * (n % 24) + (x 0).val) (y := 256 + 128 * (n / 24 % 2) + (x 1).val) (by show 32 * (n % 24) + 1 * (x 0).val = _; omega)
      (by show 256 * (1 % 2) + 128 * (n / 24 % 2) + 1 * (x 1).val = _; omega)).symm)
  have es := (congrArg (arg3.view.read (Elt F) f3) (at2_eq (n := 768) (m := 128)
    ((Rect.unit (s := S768x128) ![32 * (n % 24), 0] S32x128.size (sb_inb n)).emb x)
    (x := 32 * (n % 24) + (x 0).val) (y := (x 1).val) (by show 32 * (n % 24) + 1 * (x 0).val = _; omega)
      (by show 0 + 1 * (x 1).val = _; omega)).symm)
  have bg := bc_apply (R := 32) c arg1 f1 (o.og (n / 24 % 2)) (o.ig (n / 24)) _ (ho.g _ hm) x
  have bu := bc_apply (R := 32) c arg1 f1 (o.ou (n / 24 % 2)) (o.iu (n / 24)) _ (ho.u _ hm) x
  have b2 := bc_apply (R := 32) c arg0 f0 (o.o2 (n / 24 % 2)) (o.i2 (n / 24)) _ (ho.s _ hm) x
  rw [eg, eu, es]
  rw [show 128 * (2 * b + n / 24 % 2) = 256 * b + 128 * (n / 24 % 2) by omega,
    show 5376 + (256 * b + 128 * (n / 24 % 2)) = 5376 + 256 * b + 128 * (n / 24 % 2) by omega, ← bg, ← bu, ← b2]
  rfl

theorem outPieces_mem (o : EpOffs) (n : ℕ) : ∀ m < n, (⟨Rect.unit (s := S32256x128) (o.ob (m / 24 % 2) (m % 24)) S32x128.size (o.ib (m / 24) m), outBlock c arg0 arg1 arg3 f0 f1 f3 fa o m⟩ : View.Piece (Elt F) S32256x128 .f32)
    ∈ outPieces c arg0 arg1 arg3 f0 f1 f3 fa o n := by
  induction n with
  | zero => intro m hm; omega
  | succ n ih =>
    intro m hm
    rw [outPieces]
    by_cases h : m = n
    · subst h; exact List.mem_cons_self
    · exact List.mem_cons_of_mem _ (ih m (by omega))

theorem outPieces_val (o : EpOffs) (b : ℕ) (ho : EpAt o b) (ha : ∀ y, accM.view.read (Elt F) fa y = ACCat c XW arg2 f2 b y) (n : ℕ) :
    ∀ p ∈ outPieces c arg0 arg1 arg3 f0 f1 f3 fa o n, ∀ x : p.1.shape.Idx,
      p.2 x = VO c XW arg0 arg1 arg2 arg3 f0 f1 f2 f3 (p.1.emb x) := by
  induction n with
  | zero => intro p hp; exact absurd hp List.not_mem_nil
  | succ n ih =>
    intro p hp
    rw [outPieces] at hp
    rcases List.mem_cons.mp hp with rfl | hp
    · intro x
      refine (outBlock_eq c XW arg0 arg1 arg2 arg3 f0 f1 f2 f3 fa o b ho ha n x).trans (congrArg _ (at2_eq (n := 32256) (m := 128) _ ?_ ?_).symm)
      · have e : o.ob (n / 24 % 2) (n % 24) 0 = 1536 * b + 768 * (n / 24 % 2) + 32 * (n % 24) :=
          congrFun (ho.b _ (Nat.mod_lt _ (by decide)) _ (Nat.mod_lt _ (by decide))) 0
        exact (congrArg (· + 1 * (x 0).val) e).trans (by show _ + 1 * (x 0).val = _; omega)
      · have e : o.ob (n / 24 % 2) (n % 24) 1 = 0 :=
          congrFun (ho.b _ (Nat.mod_lt _ (by decide)) _ (Nat.mod_lt _ (by decide))) 1
        exact (congrArg (· + 1 * (x 1).val) e).trans (by show _ + 1 * (x 1).val = _; omega)
    · exact ih p hp

/-- An epilogue leaves its block's values in its own rows of the result; -/
theorem out_read (o : EpOffs) (b : ℕ) (ho : EpAt o b) (ha : ∀ y, accM.view.read (Elt F) fa y = ACCat c XW arg2 f2 b y)
    (f5 : Buf (Elt F) (arg5.view.loc (c : Thread nD τ))) (y : S32256x128.Idx) (hy : (y 0).val / 1536 = b) :
    arg5.view.read (Elt F) (arg5.view.writes (Elt F) f5 (outPieces c arg0 arg1 arg3 f0 f1 f3 fa o 48)) y = VO c XW arg0 arg1 arg2 arg3 f0 f1 f2 f3 y := by
  have h0 : (y 0).val < 32256 := (y 0).isLt
  have h1 : (y 1).val < 128 := (y 1).isLt
  have hn : 24 * ((y 0).val / 768 % 2) + (y 0).val % 768 / 32 < 48 := by omega
  have hd : (24 * ((y 0).val / 768 % 2) + (y 0).val % 768 / 32) / 24 % 2 = (y 0).val / 768 % 2 := by omega
  have hr : (24 * ((y 0).val / 768 % 2) + (y 0).val % 768 / 32) % 24 = (y 0).val % 768 / 32 := by omega
  refine View.read_writes_apply_of_pieces arg5.view f5 (VO c XW arg0 arg1 arg2 arg3 f0 f1 f2 f3) _
    (outPieces_val c XW arg0 arg1 arg2 arg3 f0 f1 f2 f3 fa o b ho ha 48) y ⟨_, outPieces_mem c arg0 arg1 arg3 f0 f1 f3 fa o 48 _ hn, ?_⟩
  refine (Rect.mem_set_unit (inb := o.ib _ _)).mpr fun a => ?_
  rw [hd, hr, ho.b _ (by omega) _ (by omega)]
  match a with
  | ⟨0, _⟩ => exact (by
      show 1536 * b + 768 * ((y 0).val / 768 % 2) + 32 * ((y 0).val % 768 / 32) ≤ (y 0).val ∧ (y 0).val < 1536 * b + 768 * ((y 0).val / 768 % 2) + 32 * ((y 0).val % 768 / 32) + 32
      omega)
  | ⟨1, _⟩ => exact (by show 0 ≤ (y 1).val ∧ (y 1).val < 0 + 128; omega)

/-- and the other rows as they were. -/
theorem out_keep (o : EpOffs) (b : ℕ) (ho : EpAt o b)
    (f5 : Buf (Elt F) (arg5.view.loc (c : Thread nD τ))) (y : S32256x128.Idx) (hy : (y 0).val / 1536 ≠ b) :
    ∀ n, arg5.view.read (Elt F) (arg5.view.writes (Elt F) f5 (outPieces c arg0 arg1 arg3 f0 f1 f3 fa o n)) y = arg5.view.read (Elt F) f5 y
  | 0 => by rw [outPieces, View.writes_nil]
  | n + 1 => by
    have h0 : (y 0).val < 32256 := (y 0).isLt
    have hn : n % 24 < 24 := Nat.mod_lt _ (by decide)
    have hm : n / 24 % 2 < 2 := Nat.mod_lt _ (by decide)
    rw [outPieces]
    refine (View.read_writes_cons_unit_of_not_mem arg5.view f5 _ _ _ y (ho.b _ hm _ hn) 0 ?_).trans (out_keep o b ho f5 y hy n)
    show (y 0).val < 1536 * b + 768 * (n / 24 % 2) + 32 * (n % 24) ∨ 1536 * b + 768 * (n / 24 % 2) + 32 * (n % 24) + 32 ≤ (y 0).val
    omega

/-- The offsets of trip `k`'s epilogue are those of the block before. -/
theorem tripOffs_at (k : Trip) (h : 0 < k.val) : EpAt (tripOffs k) (k.val - 1) where
  lt := by have := trips_lt k; omega
  g h hh := (off12_eq k ⟨h, hh⟩)
  u h hh := (off13_eq k ⟨h, hh⟩)
  s h hh := (off14_eq k ⟨h, hh⟩)
  b h hh r hr := (off15_eq k ⟨h, hh⟩ ⟨r, hr⟩)

end Val

end Cert.Proof.UpKernelIdeal

end
-- ==== Proof.UInvKI.lean ====
module

public import proofs.«01_k».proof.Defs
public import proofs.«01_k».proof.Proof.UTripKI
public import proofs.«01_k».proof.Proof.UValKI
public import proofs.«01_k».proof.Proof.Gen.UpKernelIdeal.Launch
public import proofs.«01_k».proof.Proof.Gen.UpKernelIdeal.Skeleton
public import proofs.«01_k».proof.Proof.Gen.UpKernelIdeal.Loops
public import proofs.«01_k».proof.Proof.Gen.UpKernelIdeal.Points
public import proofs.«01_k».proof.Proof.Gen.UpKernelIdeal.Frame
public import Idealize.ShloMosaic.Lib.Pipeline.KitQuiescent
public import Idealize.ShloMosaic.Lib.Ring
public import Idealize.ShloMosaic.Lib.Ring.WriteBehind
public import Idealize.ShloMosaic.Lib.Affine
public import Idealize.ShloMosaic.Lib.Tactic
public import Idealize.ShloMosaic.Lib.Batch

@[expose] public section

set_option maxRecDepth 16384

noncomputable section

namespace Cert.Proof.UpKernelIdeal

open Cert.UpKernelIdeal Cert.UpKernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The loop's invariant -/

section Inv
variable (c : Dev nD) (XW : Buf (Elt F) (wM.view.loc (c : Thread nD τ)))
  (arg0 : Memref sig .tc .vmem S1x5376 .f32) (harg0 : arg0.IsWhole)
  (arg1 : Memref sig .tc .vmem S1x10752 .f32) (harg1 : arg1.IsWhole)
  (arg2 : Memref sig .tc .vmem S768x5120 .bf16) (harg2 : arg2.IsWhole)
  (arg3 : Memref sig .tc .vmem S768x128 .f32) (harg3 : arg3.IsWhole)
  (arg5 : Memref sig .tc .vmem S32256x128 .f32) (harg5 : arg5.IsWhole)
  (f0 : Buf (Elt F) (arg0.view.loc (c : Thread nD τ))) (f1 : Buf (Elt F) (arg1.view.loc (c : Thread nD τ)))
  (f2 : Buf (Elt F) (arg2.view.loc (c : Thread nD τ))) (f3 : Buf (Elt F) (arg3.view.loc (c : Thread nD τ)))

/-- A weight slot with nothing on its way. -/
abbrev wFree (s : Fin 3) : sProp 𝕄 := iprop(wcellP c s ∗ (∃ f, wslotP c s 0 f) ∗ (∃ f, wslotP c s 1 f))
/-- Both halves of a column block of the weights at home. -/
def wH (b : Fin 21) : sProp 𝕄 := iprop(wHome c XW 0 b ∗ wHome c XW 1 b)
/-- The weights before trip `k`, two blocks on their way; -/
def wMid (k : ℕ) : sProp 𝕄 :=
  iprop(bigSep (Ring.homeSet 2 k) (wH c XW) ∗ wBatch c XW (Ring.sl 3 k) (Ring.bk 21 k) 2 ∗ wBatch c XW (Ring.sl 3 (k + 1)) (Ring.bk 21 (k + 1)) 2
    ∗ wFree c (Ring.sl 3 (k + 2)))
/-- one block on its way; -/
def wLast (k : ℕ) : sProp 𝕄 :=
  iprop(bigSep (Ring.homeSet 2 k) (wH c XW) ∗ wBatch c XW (Ring.sl 3 k) (Ring.bk 21 k) 2 ∗ wFree c (Ring.sl 3 (k + 1)) ∗ wFree c (Ring.sl 3 (k + 2)))
/-- none. -/
def wEnd (k : ℕ) : sProp 𝕄 :=
  iprop(bigSep (Ring.homeSet 2 k) (wH c XW) ∗ wFree c (Ring.sl 3 k) ∗ wFree c (Ring.sl 3 (k + 1)) ∗ wFree c (Ring.sl 3 (k + 2)))
def wPart (k : ℕ) : sProp 𝕄 := if k < 20 then wMid c XW k else if k < 21 then wLast c XW k else wEnd c XW k

/-- Before trip `k` the blocks before `k - 1` of the result are written; -/
def bigOk (f5 : Buf (Elt F) (arg5.view.loc (c : Thread nD τ))) (k : ℕ) : Prop :=
  ∀ y : S32256x128.Idx, (y 0).val / 1536 + 1 < k → arg5.view.read (Elt F) f5 y = VO c XW arg0 arg1 arg2 arg3 f0 f1 f2 f3 y
/-- and the accumulator holds block `k - 1`'s products. -/
def accOk (fa : Buf (Elt F) (accM.view.loc (c : Thread nD τ))) (k : ℕ) : Prop :=
  0 < k → ∀ y, accM.view.read (Elt F) fa y = ACCat c XW arg2 f2 (k - 1) y

/-- What a trip keeps besides the weights. -/
def base (k : ℕ) : sProp 𝕄 :=
  iprop((arg0.view.loc (c : Thread nD τ) ↦[arg0.view.set]{fullShare} f0)
    ∗ (arg1.view.loc (c : Thread nD τ) ↦[arg1.view.set]{fullShare} f1)
    ∗ (arg2.view.loc (c : Thread nD τ) ↦[arg2.view.set]{fullShare} f2)
    ∗ (arg3.view.loc (c : Thread nD τ) ↦[arg3.view.set]{fullShare} f3)
    ∗ (∃ f5, (arg5.view.loc (c : Thread nD τ) ↦[arg5.view.set]{fullShare} f5) ∗ ⌜bigOk c XW arg0 arg1 arg2 arg3 arg5 f0 f1 f2 f3 f5 k⌝)
    ∗ (∃ fr, rmM.view.loc (c : Thread nD τ) ↦[rmM.view.set]{fullShare} fr)
    ∗ (∃ fa, (accM.view.loc (c : Thread nD τ) ↦[accM.view.set]{fullShare} fa) ∗ ⌜accOk c XW arg2 f2 fa k⌝)
    ∗ (∃ W, owes (c : Thread nD τ) 0 W))
/-- What holds before trip `k`. -/
def Inv (k : ℕ) : sProp 𝕄 := iprop(base c XW arg0 arg1 arg2 arg3 arg5 f0 f1 f2 f3 k ∗ wPart c XW k)

theorem bigOk_next (k : Trip) (f5 : Buf (Elt F) (arg5.view.loc (c : Thread nD τ))) (fa : Buf (Elt F) (accM.view.loc (c : Thread nD τ)))
    (h5 : bigOk c XW arg0 arg1 arg2 arg3 arg5 f0 f1 f2 f3 f5 k.val) (ha : accOk c XW arg2 f2 fa k.val) :
    bigOk c XW arg0 arg1 arg2 arg3 arg5 f0 f1 f2 f3 (arg5.view.writes (Elt F) f5 (outPieces c arg0 arg1 arg3 f0 f1 f3 fa (tripOffs k) 48)) (k.val + 1) := by
  intro y hy
  have hk : 0 < k.val := by omega
  by_cases h : (y 0).val / 1536 = k.val - 1
  · exact out_read c XW arg0 arg1 arg2 arg3 arg5 f0 f1 f2 f3 fa (tripOffs k) (k.val - 1) (tripOffs_at k hk) (ha hk) f5 y h
  · rw [out_keep c arg0 arg1 arg3 arg5 f0 f1 f3 fa (tripOffs k) (k.val - 1) (tripOffs_at k hk) f5 y h 48]
    exact h5 y (by omega)

theorem accOk_next (k : Trip) (fa : Buf (Elt F) (accM.view.loc (c : Thread nD τ))) :
    accOk c XW arg2 f2 (accM.view.writes (Elt F) fa (accPieces c XW arg2 k f2)) (k.val + 1) := fun _ y => acc_read c XW arg2 f2 fa k y

/-- The block that goes out at trip `k` is at home; -/
theorem home_here (k : ℕ) (h : k + 2 < 21) : bigSep (Ring.homeSet 2 k) (wH c XW)
    = iprop((wHome c XW 0 (Ring.bk 21 (k + 2)) ∗ wHome c XW 1 (Ring.bk 21 (k + 2))) ∗ bigSep ((Ring.homeSet 2 k).erase (Ring.bk 21 (k + 2))) (wH c XW)) := by
  conv_lhs => rw [Ring.homeSet_out 2 k h, bigSep_insert (Ring.bkL_not_mem_erase 2 k)]
  rfl
/-- block `k` comes back; -/
theorem home_next (k : ℕ) (h : k + 2 < 21) : bigSep (Ring.homeSet 2 (k + 1)) (wH c XW)
    = iprop((wHome c XW 0 (Ring.bk 21 k) ∗ wHome c XW 1 (Ring.bk 21 k)) ∗ bigSep ((Ring.homeSet 2 k).erase (Ring.bk 21 (k + 2))) (wH c XW)) := by
  rw [Ring.homeSet_succ 2 k h, bigSep_insert (Ring.bk_not_mem_erase 2 k (by omega) (by decide))]
  rfl
/-- and alone near the end. -/
theorem home_tail (k : ℕ) (h : 21 ≤ k + 2) (hk : k < 21) : bigSep (Ring.homeSet 2 (k + 1)) (wH c XW)
    = iprop((wHome c XW 0 (Ring.bk 21 k) ∗ wHome c XW 1 (Ring.bk 21 k)) ∗ bigSep (Ring.homeSet 2 k) (wH c XW)) := by
  rw [Ring.homeSet_succ_tail 2 k h hk, bigSep_insert (Ring.bk_not_mem_homeSet 2 k hk (by decide))]
  rfl

theorem slot3 (k : ℕ) : Ring.sl 3 (k + 1 + 2) = Ring.sl 3 k := by rw [show k + 1 + 2 = k + 3 from rfl, Ring.sl_add]

/-- A trip that asks for no further weights, with what it keeps. -/
theorem step_hi (k : Trip) (h19 : 19 ≤ k.val) (R : sProp 𝕄) :
    iprop(base c XW arg0 arg1 arg2 arg3 arg5 f0 f1 f2 f3 k.val ∗ wBatch c XW (Ring.sl 3 k.val) (Ring.bk 21 k.val) 2 ∗ R)
    ⊢ wp frame (wpE (defs₀ (F := F)) 𝒱₀ (c : Thread nD τ) none) Set.univ (tripG arg0 harg0 arg1 harg1 arg2 harg2 arg3 harg3 arg5 harg5 k)
        (fun _ => iprop(base c XW arg0 arg1 arg2 arg3 arg5 f0 f1 f2 f3 (k.val + 1) ∗ wFree c (Ring.sl 3 k.val)
          ∗ (wHome c XW 0 (Ring.bk 21 k.val) ∗ wHome c XW 1 (Ring.bk 21 k.val)) ∗ R)) := by
  unfold base
  iintro ⟨⟨H0, H1, H2, H3, ⟨%f5, H5, %h5⟩, ⟨%fr, HR⟩, ⟨%fa, HA, %ha⟩, ⟨%W, HW⟩⟩, HB, Hr⟩
  iapply (wp_wand_r Idealize.ShloMosaic.frame (wpE (defs₀ (F := F)) 𝒱₀ (c : Thread nD τ) none) Set.univ)
  isplitl [H0 H1 H2 H3 H5 HR HA HW HB]
  · iapply (trip_hi c XW arg0 harg0 arg1 harg1 arg2 harg2 arg3 harg3 arg5 harg5 k h19 f0 f1 f2 f3 f5 fr fa W)
    isplitl [H0]; · iexact H0
    isplitl [H1]; · iexact H1
    isplitl [H2]; · iexact H2
    isplitl [H3]; · iexact H3
    isplitl [H5]; · iexact H5
    isplitl [HR]; · iexact HR
    isplitl [HA]; · iexact HA
    isplitl [HW]; · iexact HW
    iexact HB
  · iintro %_ ⟨H0, H1, H2, H3, H5, HR, HA, HW, Hc, Hs0, Hs1, Hh0, Hh1⟩
    isplitl [H0 H1 H2 H3 H5 HR HA HW]
    · isplitl [H0]; · iexact H0
      isplitl [H1]; · iexact H1
      isplitl [H2]; · iexact H2
      isplitl [H3]; · iexact H3
      isplitl [H5]
      · iexists _
        isplitl [H5]; · iexact H5
        ipureintro; exact bigOk_next c XW arg0 arg1 arg2 arg3 arg5 f0 f1 f2 f3 k f5 fa h5 ha
      isplitl [HR]; · iexact HR
      isplitl [HA]
      · iexists _
        isplitl [HA]; · iexact HA
        ipureintro; exact accOk_next c XW arg2 f2 k fa
      iexact HW
    isplitl [Hc Hs0 Hs1]
    · isplitl [Hc]; · iexact Hc
      isplitl [Hs0]; · iexact Hs0
      iexact Hs1
    isplitl [Hh0 Hh1]
    · isplitl [Hh0]; · iexact Hh0
      iexact Hh1
    iexact Hr

theorem step_mid (k : Trip) (h19 : k.val < 19) : Inv c XW arg0 arg1 arg2 arg3 arg5 f0 f1 f2 f3 k.val
    ⊢ wp frame (wpE (defs₀ (F := F)) 𝒱₀ (c : Thread nD τ) none) Set.univ (tripG arg0 harg0 arg1 harg1 arg2 harg2 arg3 harg3 arg5 harg5 k)
        (fun _ => Inv c XW arg0 arg1 arg2 arg3 arg5 f0 f1 f2 f3 (k.val + 1)) := by
  unfold Inv base wPart
  rw [if_pos (by omega), if_pos (by omega)]
  unfold wMid
  rw [home_here c XW k.val (by omega), home_next c XW k.val (by omega), slot3]
  iintro ⟨⟨H0, H1, H2, H3, ⟨%f5, H5, %h5⟩, ⟨%fr, HR⟩, ⟨%fa, HA, %ha⟩, ⟨%W, HW⟩⟩, ⟨⟨Hh0, Hh1⟩, Hr⟩, HB, HB', Hc, ⟨%fw0, Hs0⟩, ⟨%fw1, Hs1⟩⟩
  iapply (wp_wand_r Idealize.ShloMosaic.frame (wpE (defs₀ (F := F)) 𝒱₀ (c : Thread nD τ) none) Set.univ)
  isplitl [H0 H1 H2 H3 H5 HR HA HW HB Hc Hs0 Hs1 Hh0 Hh1]
  · iapply (trip_mid c XW arg0 harg0 arg1 harg1 arg2 harg2 arg3 harg3 arg5 harg5 k h19 f0 f1 f2 f3 f5 fr fa fw0 fw1 W)
    isplitl [H0]; · iexact H0
    isplitl [H1]; · iexact H1
    isplitl [H2]; · iexact H2
    isplitl [H3]; · iexact H3
    isplitl [H5]; · iexact H5
    isplitl [HR]; · iexact HR
    isplitl [HA]; · iexact HA
    isplitl [HW]; · iexact HW
    isplitl [HB]; · iexact HB
    isplitl [Hc]; · iexact Hc
    isplitl [Hs0]; · iexact Hs0
    isplitl [Hs1]; · iexact Hs1
    isplitl [Hh0]; · iexact Hh0
    iexact Hh1
  · iintro %_ ⟨H0, H1, H2, H3, H5, HR, HA, HW, HN, Hc, Hs0, Hs1, Hh0, Hh1⟩
    isplitl [H0 H1 H2 H3 H5 HR HA HW]
    · isplitl [H0]; · iexact H0
      isplitl [H1]; · iexact H1
      isplitl [H2]; · iexact H2
      isplitl [H3]; · iexact H3
      isplitl [H5]
      · iexists _
        isplitl [H5]; · iexact H5
        ipureintro; exact bigOk_next c XW arg0 arg1 arg2 arg3 arg5 f0 f1 f2 f3 k f5 fa h5 ha
      isplitl [HR]; · iexact HR
      isplitl [HA]
      · iexists _
        isplitl [HA]; · iexact HA
        ipureintro; exact accOk_next c XW arg2 f2 k fa
      iexact HW
    isplitl [Hh0 Hh1 Hr]
    · isplitl [Hh0 Hh1]
      · isplitl [Hh0]; · iexact Hh0
        iexact Hh1
      iexact Hr
    isplitl [HB']; · iexact HB'
    isplitl [HN]; · iexact HN
    isplitl [Hc]; · iexact Hc
    isplitl [Hs0]; · iexact Hs0
    iexact Hs1

/-- A trip keeps the invariant. -/
theorem step_all (k : Trip) : Inv c XW arg0 arg1 arg2 arg3 arg5 f0 f1 f2 f3 k.val
    ⊢ wp frame (wpE (defs₀ (F := F)) 𝒱₀ (c : Thread nD τ) none) Set.univ (tripG arg0 harg0 arg1 harg1 arg2 harg2 arg3 harg3 arg5 harg5 k)
        (fun _ => Inv c XW arg0 arg1 arg2 arg3 arg5 f0 f1 f2 f3 (k.val + 1)) := by
  by_cases h19 : k.val < 19
  · exact step_mid c XW arg0 harg0 arg1 harg1 arg2 harg2 arg3 harg3 arg5 harg5 f0 f1 f2 f3 k h19
  have hk := trips_lt k
  unfold Inv wPart
  rw [if_neg (show ¬ k.val + 1 < 20 by omega)]
  by_cases h20 : k.val < 20
  · rw [if_pos h20, if_pos (show k.val + 1 < 21 by omega)]
    unfold wMid wLast
    rw [home_tail c XW k.val (by omega) hk, slot3]
    iintro ⟨Hb, Hr, HB, HB', Hf⟩
    iapply (wp_wand_r Idealize.ShloMosaic.frame (wpE (defs₀ (F := F)) 𝒱₀ (c : Thread nD τ) none) Set.univ)
    isplitl [Hb HB Hr HB' Hf]
    · iapply (step_hi c XW arg0 harg0 arg1 harg1 arg2 harg2 arg3 harg3 arg5 harg5 f0 f1 f2 f3 k (by omega)
        iprop(bigSep (Ring.homeSet 2 k.val) (wH c XW) ∗ wBatch c XW (Ring.sl 3 (k.val + 1)) (Ring.bk 21 (k.val + 1)) 2 ∗ wFree c (Ring.sl 3 (k.val + 2))))
      isplitl [Hb]; · iexact Hb
      isplitl [HB]; · iexact HB
      isplitl [Hr]; · iexact Hr
      isplitl [HB']; · iexact HB'
      iexact Hf
    iintro %_ ⟨Hb, Hk, Hh, Hr, HB', Hf⟩
    isplitl [Hb]; · iexact Hb
    isplitl [Hh Hr]
    · isplitl [Hh]; · iexact Hh
      iexact Hr
    isplitl [HB']; · iexact HB'
    isplitl [Hf]; · iexact Hf
    iexact Hk
  · rw [if_neg h20, if_pos hk, if_neg (show ¬ k.val + 1 < 21 by omega)]
    unfold wLast wEnd
    rw [home_tail c XW k.val (by omega) hk, slot3]
    iintro ⟨Hb, Hr, HB, Hf, Hf'⟩
    iapply (wp_wand_r Idealize.ShloMosaic.frame (wpE (defs₀ (F := F)) 𝒱₀ (c : Thread nD τ) none) Set.univ)
    isplitl [Hb HB Hr Hf Hf']
    · iapply (step_hi c XW arg0 harg0 arg1 harg1 arg2 harg2 arg3 harg3 arg5 harg5 f0 f1 f2 f3 k (by omega)
        iprop(bigSep (Ring.homeSet 2 k.val) (wH c XW) ∗ wFree c (Ring.sl 3 (k.val + 1)) ∗ wFree c (Ring.sl 3 (k.val + 2))))
      isplitl [Hb]; · iexact Hb
      isplitl [HB]; · iexact HB
      isplitl [Hr]; · iexact Hr
      isplitl [Hf]; · iexact Hf
      iexact Hf'
    iintro %_ ⟨Hb, Hk, Hh, Hr, Hf, Hf'⟩
    isplitl [Hb]; · iexact Hb
    isplitl [Hh Hr]
    · isplitl [Hh]; · iexact Hh
      iexact Hr
    isplitl [Hf]; · iexact Hf
    isplitl [Hf']; · iexact Hf'
    iexact Hk

set_option warn.classDefReducibility false in
/-- The loop keeps the invariant. -/
def loopInv1 : LoopInvTy_k0_t1 (F := F) Unit ℕ (UU nD τ) ℕ 𝒱₀ c none Set.univ arg0 harg0 arg1 harg1 arg2 harg2 arg3 harg3 wM (Memref.isWhole_whole _)
    arg5 harg5 rmM (Memref.isWhole_whole _) cc0_scratch1 wbM (Memref.isWhole_whole _) accM (Memref.isWhole_whole _) where
  inv k _ := Inv c XW arg0 arg1 arg2 arg3 arg5 f0 f1 f2 f3 k
  step k _ := by
    iintro H
    iapply (step_all c XW arg0 harg0 arg1 harg1 arg2 harg2 arg3 harg3 arg5 harg5 f0 f1 f2 f3 k)
    iexact H
end Inv

end Cert.Proof.UpKernelIdeal

end
-- ==== Proof.UBodyKI.lean ====
module

public import proofs.«01_k».proof.Defs
public import proofs.«01_k».proof.Proof.UInvKI
public import proofs.«01_k».proof.Proof.Gen.UpKernelIdeal.Launch
public import proofs.«01_k».proof.Proof.Gen.UpKernelIdeal.Skeleton
public import proofs.«01_k».proof.Proof.Gen.UpKernelIdeal.Loops
public import proofs.«01_k».proof.Proof.Gen.UpKernelIdeal.Points
public import proofs.«01_k».proof.Proof.Gen.UpKernelIdeal.Frame
public import Idealize.ShloMosaic.Lib.Pipeline.KitQuiescent
public import Idealize.ShloMosaic.Lib.Ring
public import Idealize.ShloMosaic.Lib.Ring.WriteBehind
public import Idealize.ShloMosaic.Lib.Affine
public import Idealize.ShloMosaic.Lib.Tactic
public import Idealize.ShloMosaic.Lib.Batch

@[expose] public section

set_option maxRecDepth 16384

noncomputable section

namespace Cert.Proof.UpKernelIdeal

open Cert.UpKernelIdeal Cert.UpKernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The kernel's body -/

theorem sl3_0 : Ring.sl 3 0 = 0 := Fin.ext (by rfl)
theorem sl3_1 : Ring.sl 3 (0 + 1) = 1 := Fin.ext (by rfl)
theorem sl3_2 : Ring.sl 3 (0 + 2) = 2 := Fin.ext (by rfl)
theorem bk21_0 : Ring.bk 21 0 = 0 := Fin.ext (by rfl)
theorem bk21_1 : Ring.bk 21 (0 + 1) = 1 := Fin.ext (by rfl)
theorem sl3_21 : Ring.sl 3 21 = 0 := Fin.ext (by rfl)
theorem sl3_22 : Ring.sl 3 (21 + 1) = 1 := Fin.ext (by rfl)
theorem sl3_23 : Ring.sl 3 (21 + 2) = 2 := Fin.ext (by rfl)

/-- The offsets of the epilogue after the loop. -/
def lastOffs : EpOffs where
  og h := ![0, 5120 + 128 * h]
  ou h := ![0, 10496 + 128 * h]
  o2 h := ![0, 5120 + 128 * h]
  ob h r := ![30720 + 768 * h + 32 * r, 0]
  ig h := by
    have := Nat.mod_lt h (show 0 < 2 by decide); intro a; fin_cases a
    · show 0 + 1 ≤ 1; omega
    · show 5120 + 128 * (h % 2) + 128 ≤ 10752; omega
  iu h := by
    have := Nat.mod_lt h (show 0 < 2 by decide); intro a; fin_cases a
    · show 0 + 1 ≤ 1; omega
    · show 10496 + 128 * (h % 2) + 128 ≤ 10752; omega
  i2 h := by
    have := Nat.mod_lt h (show 0 < 2 by decide); intro a; fin_cases a
    · show 0 + 1 ≤ 1; omega
    · show 5120 + 128 * (h % 2) + 128 ≤ 5376; omega
  ib h r := by
    have := Nat.mod_lt h (show 0 < 2 by decide); have := Nat.mod_lt r (show 0 < 24 by decide); intro a; fin_cases a
    · show 30720 + 768 * (h % 2) + 32 * (r % 24) + 32 ≤ 32256; omega
    · show 0 + 128 ≤ 128; omega
/-- They are those of the last block. -/
theorem lastOffs_at : EpAt lastOffs 20 where
  lt := by decide
  g h hh := rfl
  u h hh := rfl
  s h hh := rfl
  b h hh r hr := rfl

section Body
variable (c : Dev nD) (XW : Buf (Elt F) (wM.view.loc (c : Thread nD τ)))
  (arg0 : Memref sig .tc .vmem S1x5376 .f32) (harg0 : arg0.IsWhole)
  (arg1 : Memref sig .tc .vmem S1x10752 .f32) (harg1 : arg1.IsWhole)
  (arg2 : Memref sig .tc .vmem S768x5120 .bf16) (harg2 : arg2.IsWhole)
  (arg3 : Memref sig .tc .vmem S768x128 .f32) (harg3 : arg3.IsWhole)
  (arg5 : Memref sig .tc .vmem S32256x128 .f32) (harg5 : arg5.IsWhole)
  (f0 : Buf (Elt F) (arg0.view.loc (c : Thread nD τ))) (f1 : Buf (Elt F) (arg1.view.loc (c : Thread nD τ)))
  (f2 : Buf (Elt F) (arg2.view.loc (c : Thread nD τ))) (f3 : Buf (Elt F) (arg3.view.loc (c : Thread nD τ)))

abbrev bodyG : Prog (TpuEff nD τ sig (Elt F) Λ₀ .tc) PUnit :=
  cc0_moe_ffn_up arg0 harg0 arg1 harg1 arg2 harg2 arg3 harg3 wM (Memref.isWhole_whole _) arg5 harg5 rmM (Memref.isWhole_whole _) cc0_scratch1
    wbM (Memref.isWhole_whole _) accM (Memref.isWhole_whole _)

/-- The weights at home are the first two blocks and the rest. -/
theorem home_first : bigSep Finset.univ (wH c XW)
    = iprop((wHome c XW 0 0 ∗ wHome c XW 1 0) ∗ (wHome c XW 0 1 ∗ wHome c XW 1 1) ∗ bigSep (Ring.homeSet 2 0) (wH c XW)) := by
  have e : (Finset.univ : Finset (Fin 21)) = insert 0 (insert 1 (Ring.homeSet 2 0)) := by decide
  rw [e, bigSep_insert (by decide), bigSep_insert (by decide)]; rfl

/-- What the body is handed. -/
abbrev PRE (W : Waits sig Unit) : sProp 𝕄 :=
  iprop((arg0.view.loc (c : Thread nD τ) ↦[arg0.view.set]{fullShare} f0)
    ∗ (arg1.view.loc (c : Thread nD τ) ↦[arg1.view.set]{fullShare} f1)
    ∗ (arg2.view.loc (c : Thread nD τ) ↦[arg2.view.set]{fullShare} f2)
    ∗ (arg3.view.loc (c : Thread nD τ) ↦[arg3.view.set]{fullShare} f3)
    ∗ (∃ f5, arg5.view.loc (c : Thread nD τ) ↦[arg5.view.set]{fullShare} f5)
    ∗ (∃ fr, rmM.view.loc (c : Thread nD τ) ↦[rmM.view.set]{fullShare} fr)
    ∗ (∃ fa, accM.view.loc (c : Thread nD τ) ↦[accM.view.set]{fullShare} fa)
    ∗ owes (c : Thread nD τ) 0 W
    ∗ bigSep Finset.univ (wH c XW) ∗ (wFree c 0 ∗ wFree c 1 ∗ wFree c 2))

/-- What the body hands back: the same, with the result written. -/
abbrev POST : sProp 𝕄 :=
  iprop((arg0.view.loc (c : Thread nD τ) ↦[arg0.view.set]{fullShare} f0)
    ∗ (arg1.view.loc (c : Thread nD τ) ↦[arg1.view.set]{fullShare} f1)
    ∗ (arg2.view.loc (c : Thread nD τ) ↦[arg2.view.set]{fullShare} f2)
    ∗ (arg3.view.loc (c : Thread nD τ) ↦[arg3.view.set]{fullShare} f3)
    ∗ (∃ f5, (arg5.view.loc (c : Thread nD τ) ↦[arg5.view.set]{fullShare} f5)
        ∗ ⌜arg5.view.read (Elt F) f5 = VO c XW arg0 arg1 arg2 arg3 f0 f1 f2 f3⌝)
    ∗ (∃ fr, rmM.view.loc (c : Thread nD τ) ↦[rmM.view.set]{fullShare} fr)
    ∗ (∃ fa, accM.view.loc (c : Thread nD τ) ↦[accM.view.set]{fullShare} fa)
    ∗ (∃ W, owes (c : Thread nD τ) 0 W)
    ∗ bigSep Finset.univ (wH c XW) ∗ (wFree c 0 ∗ wFree c 1 ∗ wFree c 2))

/-- Before the first trip. -/
theorem inv_zero :
    iprop(base c XW arg0 arg1 arg2 arg3 arg5 f0 f1 f2 f3 0 ∗ bigSep (Ring.homeSet 2 0) (wH c XW) ∗ wBatch c XW 0 0 2 ∗ wBatch c XW 1 1 2 ∗ wFree c 2)
      ⊢ Inv c XW arg0 arg1 arg2 arg3 arg5 f0 f1 f2 f3 0 := by
  unfold Inv wPart
  rw [if_pos (by omega)]
  unfold wMid
  rw [sl3_0, sl3_1, sl3_2, bk21_0, bk21_1]

/-- After the last trip. -/
theorem inv_last : Inv c XW arg0 arg1 arg2 arg3 arg5 f0 f1 f2 f3 21
    ⊢ iprop(base c XW arg0 arg1 arg2 arg3 arg5 f0 f1 f2 f3 21 ∗ bigSep Finset.univ (wH c XW) ∗ wFree c 0 ∗ wFree c 1 ∗ wFree c 2) := by
  unfold Inv wPart
  rw [if_neg (by omega), if_neg (by omega)]
  unfold wEnd
  rw [Ring.homeSet_last 2 21 (by decide), sl3_21, sl3_22, sl3_23]

/-- With the last block the result is written whole. -/
theorem big_last (f5 : Buf (Elt F) (arg5.view.loc (c : Thread nD τ))) (fa : Buf (Elt F) (accM.view.loc (c : Thread nD τ)))
    (h5 : bigOk c XW arg0 arg1 arg2 arg3 arg5 f0 f1 f2 f3 f5 21) (ha : accOk c XW arg2 f2 fa 21) :
    arg5.view.read (Elt F) (arg5.view.writes (Elt F) f5 (outPieces c arg0 arg1 arg3 f0 f1 f3 fa lastOffs 48)) = VO c XW arg0 arg1 arg2 arg3 f0 f1 f2 f3 := by
  funext y
  have h0 : (y 0).val < 32256 := (y 0).isLt
  by_cases h : (y 0).val / 1536 = 20
  · exact out_read c XW arg0 arg1 arg2 arg3 arg5 f0 f1 f2 f3 fa lastOffs 20 lastOffs_at (ha (by omega)) f5 y h
  · rw [out_keep c arg0 arg1 arg3 arg5 f0 f1 f3 fa lastOffs 20 lastOffs_at f5 y h 48]
    exact h5 y (by omega)

/-- The body: it asks for two blocks of the weights, runs the trips, and writes the result's last block. -/
theorem bodyRun (W : Waits sig Unit) (Q : PUnit → sProp 𝕄) :
    iprop(PRE c XW arg0 arg1 arg2 arg3 arg5 f0 f1 f2 f3 W ∗ (POST c XW arg0 arg1 arg2 arg3 arg5 f0 f1 f2 f3 -∗ Q ⟨⟩))
      ⊢ wp frame (wpE (defs₀ (F := F)) 𝒱₀ (c : Thread nD τ) none) Set.univ (bodyG arg0 harg0 arg1 harg1 arg2 harg2 arg3 harg3 arg5 harg5) Q := by
  iintro ⟨⟨H0, H1, H2, H3, ⟨%f5, H5⟩, ⟨%fr, HR⟩, ⟨%fa, HA⟩, HW, Hall, ⟨Hc0, ⟨%fw00, Hs00⟩, ⟨%fw01, Hs01⟩⟩, ⟨Hc1, ⟨%fw10, Hs10⟩, ⟨%fw11, Hs11⟩⟩, Hf2⟩, Hk⟩
  ihave Hall2 := (entails_of_eq (home_first c XW)) $$ Hall
  icases Hall2 with ⟨⟨Hh00, Hh10⟩, ⟨Hh01, Hh11⟩, Hr⟩
  imod (Transfers.batch_alloc' (countersEmb (U := UU nD τ)) (c : Thread nD τ) () NW (wD c XW 0 0) (sm := SemLoc.dma (wsm 0).sem) (E := Set.univ)) $$ Hc0 with HB0
  imod (Transfers.batch_alloc' (countersEmb (U := UU nD τ)) (c : Thread nD τ) () NW (wD c XW 1 1) (sm := SemLoc.dma (wsm 1).sem) (E := Set.univ)) $$ Hc1 with HB1
  sl_unfold [bodyG]
  sl_exec_parts
  ihave HI := (inv_zero c XW arg0 arg1 arg2 arg3 arg5 f0 f1 f2 f3) $$ [H0 H1 H2 H3 H5 HR HA HW Hr HB0 HB1 Hf2]
  · isplitl [H0 H1 H2 H3 H5 HR HA HW]
    · unfold base
      isplitl [H0]; · iexact H0
      isplitl [H1]; · iexact H1
      isplitl [H2]; · iexact H2
      isplitl [H3]; · iexact H3
      isplitl [H5]
      · iexists _
        isplitl [H5]; · iexact H5
        ipureintro; exact fun y hy => absurd hy (by omega)
      isplitl [HR]; · iexists _; iexact HR
      isplitl [HA]
      · iexists _
        isplitl [HA]; · iexact HA
        ipureintro; exact fun h => absurd h (by omega)
      iexists _; iexact HW
    isplitl [Hr]; · iexact Hr
    isplitl [HB0]; · iexact HB0
    isplitl [HB1]; · iexact HB1
    iexact Hf2
  iapply (exec_loop _ _ _ _ _ _ _ _ _ (loopInv1 c XW arg0 harg0 arg1 harg1 arg2 harg2 arg3 harg3 arg5 harg5 f0 f1 f2 f3)) $$ [HI]
  · iapply (entails_of_eq (show Inv c XW arg0 arg1 arg2 arg3 arg5 f0 f1 f2 f3 0
      = (loopInv1 c XW arg0 harg0 arg1 harg1 arg2 harg2 arg3 harg3 arg5 harg5 f0 f1 f2 f3).inv 0 () from rfl))
    iexact HI
  iintro %u HI
  ihave HI2 := (inv_last c XW arg0 arg1 arg2 arg3 arg5 f0 f1 f2 f3) $$ [HI]
  · iapply (entails_of_eq (show (loopInv1 c XW arg0 harg0 arg1 harg1 arg2 harg2 arg3 harg3 arg5 harg5 f0 f1 f2 f3).inv (Scf.trips k0_t1_loop.lb k0_t1_loop.ub k0_t1_loop.st) u
      = Inv c XW arg0 arg1 arg2 arg3 arg5 f0 f1 f2 f3 21 from congrArg (Inv c XW arg0 arg1 arg2 arg3 arg5 f0 f1 f2 f3) (by decide)))
    iexact HI
  unfold base
  icases HI2 with ⟨⟨H0, H1, H2, H3, ⟨%f5', H5, %h5⟩, ⟨%fr', HR⟩, ⟨%fa', HA, %ha⟩, ⟨%W', HW⟩⟩, Hh, Hf⟩
  sl_exec_parts
  sl_step
  iapply Hk
  isplitl [H0]; · iexact H0
  isplitl [H1]; · iexact H1
  isplitl [H2]; · iexact H2
  isplitl [H3]; · iexact H3
  isplitl [H5]
  · iexists _
    isplitl [H5]; · iexact H5
    ipureintro; exact big_last c XW arg0 arg1 arg2 arg3 arg5 f0 f1 f2 f3 f5' fa' h5 ha
  isplitl [HR]; · iexists _; iexact HR
  isplitl [HA]; · iexists _; iexact HA
  isplitl [HW]; · iexists _; iexact HW
  isplitl [Hh]; · iexact Hh
  iexact Hf
end Body

end Cert.Proof.UpKernelIdeal

end
-- ==== Proof.UArrKI.lean ====
module

public import proofs.«01_k».proof.Defs
public import proofs.«01_k».proof.Proof.UBodyKI
public import Idealize.ShloMosaic.Lib.Pipeline.Value
public import proofs.«01_k».proof.Proof.Gen.UpKernelIdeal.Launch
public import proofs.«01_k».proof.Proof.Gen.UpKernelIdeal.Skeleton
public import proofs.«01_k».proof.Proof.Gen.UpKernelIdeal.Loops
public import proofs.«01_k».proof.Proof.Gen.UpKernelIdeal.Points
public import proofs.«01_k».proof.Proof.Gen.UpKernelIdeal.Frame
public import Idealize.ShloMosaic.Lib.Pipeline.KitQuiescent
public import Idealize.ShloMosaic.Lib.Ring
public import Idealize.ShloMosaic.Lib.Ring.WriteBehind
public import Idealize.ShloMosaic.Lib.Affine
public import Idealize.ShloMosaic.Lib.Tactic
public import Idealize.ShloMosaic.Lib.Batch

@[expose] public section

set_option maxRecDepth 16384

noncomputable section

namespace Cert.Proof.UpKernelIdeal

open Cert.UpKernelIdeal Cert.UpKernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## Buffers and their blocks -/

abbrev WB (m : Fin 2) (b : Fin 21) : Finset S5120x10752.Idx := (Rect.unit (s := S5120x10752) (colOff m b) S5120x256.size (wcol_inb m b)).set
abbrev WBB (b : Fin 21) : Finset S5120x10752.Idx := Finset.univ.biUnion fun m => WB m b
abbrev WS (p : Fin 3 × Fin 2) : Finset S3x2x5120x256.Idx := (Rect.unit (s := S3x2x5120x256) (slotOff p.1 p.2) S1x1x5120x256.size (wslot_inb p.1 p.2)).set

theorem wcol_set (m : Fin 2) (b : Fin 21) : (wcol m b).view.set = WB m b := View.set_slice_whole _ _
theorem wslot_set (s : Fin 3) (m : Fin 2) : (wslot s m).view.set = WS (s, m) := (View.set_reshape _ _).trans (View.set_slice_whole _ _)

theorem mem_WB (m : Fin 2) (b : Fin 21) (y : S5120x10752.Idx) : y ∈ WB m b ↔ (y 1).val / 256 = b.val + 21 * m.val := by
  refine (Rect.mem_set_unit (inb := wcol_inb m b)).trans ?_
  have h0 : (y 0).val < 5120 := (y 0).isLt
  have h1 : (y 1).val < 10752 := (y 1).isLt
  constructor
  · intro H; have a1 : 256 * b.val + 5376 * m.val ≤ (y 1).val ∧ (y 1).val < 256 * b.val + 5376 * m.val + 256 := H 1; omega
  · intro H i
    match i with
    | ⟨0, _⟩ => exact (by show 0 ≤ (y 0).val ∧ (y 0).val < 0 + 5120; omega)
    | ⟨1, _⟩ => exact (by show 256 * b.val + 5376 * m.val ≤ (y 1).val ∧ (y 1).val < 256 * b.val + 5376 * m.val + 256; omega)
theorem mem_WBB (b : Fin 21) (y : S5120x10752.Idx) : y ∈ WBB b ↔ (y 1).val / 256 % 21 = b.val := by
  have h1 : (y 1).val < 10752 := (y 1).isLt
  have hb := b.isLt
  simp only [Finset.mem_biUnion, Finset.mem_univ, true_and]
  constructor
  · rintro ⟨m, hm⟩; rw [mem_WB] at hm; have := m.isLt; omega
  · intro h; exact ⟨⟨(y 1).val / 256 / 21, by omega⟩, by rw [mem_WB]; show _ = b.val + 21 * ((y 1).val / 256 / 21); omega⟩
theorem mem_WS (p : Fin 3 × Fin 2) (y : S3x2x5120x256.Idx) : y ∈ WS p ↔ (y 0).val = p.1.val ∧ (y 1).val = p.2.val := by
  refine (Rect.mem_set_unit (inb := wslot_inb p.1 p.2)).trans ?_
  have h2 : (y 2).val < 5120 := (y 2).isLt
  have h3 : (y 3).val < 256 := (y 3).isLt
  constructor
  · intro H
    have a0 : p.1.val ≤ (y 0).val ∧ (y 0).val < p.1.val + 1 := H 0
    have a1 : p.2.val ≤ (y 1).val ∧ (y 1).val < p.2.val + 1 := H 1
    omega
  · intro H i
    match i with
    | ⟨0, _⟩ => exact (by show p.1.val ≤ (y 0).val ∧ (y 0).val < p.1.val + 1; omega)
    | ⟨1, _⟩ => exact (by show p.2.val ≤ (y 1).val ∧ (y 1).val < p.2.val + 1; omega)
    | ⟨2, _⟩ => exact (by show 0 ≤ (y 2).val ∧ (y 2).val < 0 + 5120; omega)
    | ⟨3, _⟩ => exact (by show 0 ≤ (y 3).val ∧ (y 3).val < 0 + 256; omega)

theorem WB_disjoint (b : Fin 21) : ∀ m ∈ (Finset.univ : Finset (Fin 2)), ∀ m' ∈ (Finset.univ : Finset (Fin 2)), m ≠ m' → Disjoint (WB m b) (WB m' b) := by
  intro m _ m' _ hne; rw [Finset.disjoint_left]; intro y hy hy'; rw [mem_WB] at hy hy'; exact hne (Fin.ext (by omega))
theorem WBB_disjoint : ∀ b b' : Fin 21, b ≠ b' → Disjoint (WBB b) (WBB b') := by
  intro b b' hne; rw [Finset.disjoint_left]; intro y hy hy'; rw [mem_WBB] at hy hy'; exact hne (Fin.ext (hy.symm.trans hy'))
theorem WBB_cover : (Finset.univ : Finset (Fin 21)).biUnion WBB = Finset.univ := by
  ext y; rw [Finset.mem_biUnion]; simp only [Finset.mem_univ, true_and, iff_true]
  exact ⟨⟨(y 1).val / 256 % 21, Nat.mod_lt _ (by decide)⟩, by rw [mem_WBB]⟩
theorem WS_disjoint : ∀ s s' : Fin 3 × Fin 2, s ≠ s' → Disjoint (WS s) (WS s') := by
  intro s s' hne; rw [Finset.disjoint_left]; intro y hy hy'; rw [mem_WS] at hy hy'
  exact hne (Prod.ext (Fin.ext (hy.1.symm.trans hy'.1)) (Fin.ext (hy.2.symm.trans hy'.2)))
theorem WS_cover : (Finset.univ : Finset (Fin 3 × Fin 2)).biUnion WS = Finset.univ := by
  ext y; simp only [Finset.mem_biUnion, Finset.mem_univ, true_and, iff_true]
  exact ⟨((y 0).cast (by decide), (y 1).cast (by decide)), by rw [mem_WS]; exact ⟨rfl, rfl⟩⟩

theorem bigSep_fin2 (Φ : Fin 2 → sProp 𝕄) : bigSep Finset.univ Φ = iprop(Φ 0 ∗ Φ 1) :=
  bigSep_univ_eq_bigSepL [(0 : Fin 2), (1 : Fin 2)] (by decide) (by decide) Φ
theorem bigSep_slots (Φ : Fin 3 × Fin 2 → sProp 𝕄) : bigSep Finset.univ Φ = iprop(Φ (0, 0) ∗ Φ (0, 1) ∗ Φ (1, 0) ∗ Φ (1, 1) ∗ Φ (2, 0) ∗ Φ (2, 1)) :=
  bigSep_univ_eq_bigSepL [((0 : Fin 3), (0 : Fin 2)), (0, 1), (1, 0), (1, 1), (2, 0), (2, 1)] (by decide) (by decide) Φ

/-- The weights' array whole is its column blocks. -/
theorem w_eq (c : Dev nD) (f : Buf (Elt F) ((c : Thread nD τ).loc main_arg2)) :
    (((c : Thread nD τ).loc main_arg2) ↦{fullShare} f : sProp 𝕄) = bigSep Finset.univ (wH c f) := by
  rw [Ring.pointsTo_blocks (ℓ := (c : Thread nD τ).loc main_arg2) WBB WBB_disjoint WBB_cover]
  refine bigSep_congr fun b _ => ?_
  rw [pointsTo_biUnion (ℓ := (c : Thread nD τ).loc main_arg2) Finset.univ (fun m => WB m b) (WB_disjoint b), bigSep_fin2]
  unfold wH
  rw [← wcol_set, ← wcol_set]; rfl

theorem wslotP_eq (c : Dev nD) (s : Fin 3) (m : Fin 2) (f) : wslotP c s m f = (((c : Thread nD τ).loc cc0_scoped0) ↦[WS (s, m)]{fullShare} f : sProp 𝕄) :=
  congrArg (fun S => (_ ↦[S]{fullShare} f : sProp 𝕄)) (wslot_set s m)
theorem slot_put (c : Dev nD) (s : Fin 3) (m : Fin 2) (f) : (((c : Thread nD τ).loc cc0_scoped0) ↦[WS (s, m)]{fullShare} f : sProp 𝕄) ⊢ iprop(∃ f, wslotP c s m f) := by
  iintro H; iexists f; iapply (entails_of_eq (wslotP_eq c s m f).symm); iexact H
theorem slot_take (c : Dev nD) (s : Fin 3) (m : Fin 2) : (iprop(∃ f, wslotP c s m f) : sProp 𝕄) ⊢ iprop(∃ f, ((c : Thread nD τ).loc cc0_scoped0) ↦[WS (s, m)]{fullShare} f) := by
  iintro ⟨%f, H⟩; iexists f; iapply (entails_of_eq (wslotP_eq c s m f)); iexact H

/-- The weights' buffer, in its slots' halves. -/
abbrev wSlots (c : Dev nD) : sProp 𝕄 :=
  iprop((∃ f, wslotP c 0 0 f) ∗ (∃ f, wslotP c 0 1 f) ∗ (∃ f, wslotP c 1 0 f) ∗ (∃ f, wslotP c 1 1 f) ∗ (∃ f, wslotP c 2 0 f) ∗ (∃ f, wslotP c 2 1 f))
/-- The weights' buffer whole is its slots, and back. -/
theorem wbuf_split (c : Dev nD) :
    iprop(∃ f : Buf (Elt F) ((c : Thread nD τ).loc cc0_scoped0), ((c : Thread nD τ).loc cc0_scoped0) ↦{fullShare} f) ⊢ (wSlots c : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped0) WS WS_disjoint WS_cover f).trans (bigSep_slots _))) $$ H
  icases H2 with ⟨H0, H1, H2, H3, H4, H5⟩
  isplitl [H0]; · iapply (slot_put c 0 0 f); iexact H0
  isplitl [H1]; · iapply (slot_put c 0 1 f); iexact H1
  isplitl [H2]; · iapply (slot_put c 1 0 f); iexact H2
  isplitl [H3]; · iapply (slot_put c 1 1 f); iexact H3
  isplitl [H4]; · iapply (slot_put c 2 0 f); iexact H4
  iapply (slot_put c 2 1 f); iexact H5
theorem wbuf_join (c : Dev nD) :
    wSlots c ⊢ (iprop(∃ f : Buf (Elt F) ((c : Thread nD τ).loc cc0_scoped0), ((c : Thread nD τ).loc cc0_scoped0) ↦{fullShare} f) : sProp 𝕄) := by
  iintro ⟨⟨%f0, H0⟩, H1, H2, H3, H4, H5⟩
  iapply (Ring.pointsTo_blocks_join_exists (ℓ := (c : Thread nD τ).loc cc0_scoped0) WS WS_disjoint WS_cover f0)
  irw [bigSep_slots]
  isplitl [H0]; · iexists f0; iapply (entails_of_eq (wslotP_eq c 0 0 f0)); iexact H0
  isplitl [H1]; · iapply (slot_take c 0 1); iexact H1
  isplitl [H2]; · iapply (slot_take c 1 0); iexact H2
  isplitl [H3]; · iapply (slot_take c 1 1); iexact H3
  isplitl [H4]; · iapply (slot_take c 2 0); iexact H4
  iapply (slot_take c 2 1); iexact H5

/-- The row maxima and the accumulator, whole. -/
theorem rm_whole (c : Dev nD) (f : Buf (Elt F) ((c : Thread nD τ).loc cc0_scratch0)) :
    (((c : Thread nD τ).loc cc0_scratch0) ↦{fullShare} f : sProp 𝕄) = (rmM.view.loc (c : Thread nD τ) ↦[rmM.view.set]{fullShare} f) :=
  congrArg (fun S => (((c : Thread nD τ).loc cc0_scratch0) ↦[S]{fullShare} f : sProp 𝕄)) (View.set_whole cc0_scratch0).symm
theorem acc_whole (c : Dev nD) (f : Buf (Elt F) ((c : Thread nD τ).loc cc0_scoped1)) :
    (((c : Thread nD τ).loc cc0_scoped1) ↦{fullShare} f : sProp 𝕄) = (accM.view.loc (c : Thread nD τ) ↦[accM.view.set]{fullShare} f) :=
  congrArg (fun S => (((c : Thread nD τ).loc cc0_scoped1) ↦[S]{fullShare} f : sProp 𝕄)) (View.set_whole cc0_scoped1).symm

/-! ## The result -/

/-- Half `m` of the products' sum for column block `b`, at row `r` and column `l` of the block. -/
def SUM (x2 : S768x5120.Idx → Elt F .bf16) (w : S5120x10752.Idx → Elt F .i8) (b m r l : ℕ) : Elt F .f32 :=
  chain (fun n => (fun i => x2 (at2 768 5120 (i 0).val (256 * n + (i 1).val)) : Vec F S768x256 .bf16))
    (fun n => (fun i => w (at2 5120 10752 (256 * n + (i 2).val) (256 * b + 5376 * m + (i 3).val)) : Vec F S1x1x256x256 .i8)) 19
    (at2 768 256 r l)
/-- The result at row `r` of the tokens and column `l` of the activations. -/
def RESat (x0 : S1x5376.Idx → Elt F .f32) (x1 : S1x10752.Idx → Elt F .f32) (x2 : S768x5120.Idx → Elt F .bf16) (x3 : S768x128.Idx → Elt F .f32)
    (w : S5120x10752.Idx → Elt F .i8) (r l : ℕ) : Elt F .f32 :=
  outVal (SUM x2 w (l / 256) 0 r (l % 256)) (SUM x2 w (l / 256) 1 r (l % 256))
    (x3 (at2 768 128 r (l % 128))) (x1 (at2 1 10752 0 l)) (x1 (at2 1 10752 0 (5376 + l))) (x0 (at2 1 5376 0 l))
/-- The result: 42 groups of 768 rows, group `q` holding columns `128 q` to `128 q + 127` of the activations. -/
def RES (x0 : S1x5376.Idx → Elt F .f32) (x1 : S1x10752.Idx → Elt F .f32) (x2 : S768x5120.Idx → Elt F .bf16) (x3 : S768x128.Idx → Elt F .f32)
    (w : S5120x10752.Idx → Elt F .i8) : S32256x128.Idx → Elt F .f32 := fun y =>
  RESat x0 x1 x2 x3 w ((y 0).val % 768) (128 * ((y 0).val / 768) + (y 1).val)

theorem ACCat_eq (c : Dev nD) (XW : Buf (Elt F) (wM.view.loc (c : Thread nD τ))) (arg2 : Memref sig .tc .vmem S768x5120 .bf16)
    (f2 : Buf (Elt F) (arg2.view.loc (c : Thread nD τ))) (b m r l : ℕ) (hr : r < 768) (hl : l < 256) (hm : m < 2) :
    ACCat c XW arg2 f2 b (at2 768 512 r (256 * m + l)) = SUM (arg2.view.read (Elt F) f2) (wM.view.read (Elt F) XW) b m r l := by
  unfold ACCat
  have e0 : (at2 768 512 r (256 * m + l) 0).val = r := at2_0 (n := 768) (m := 512) hr
  have e1 : (at2 768 512 r (256 * m + l) 1).val = 256 * m + l := at2_1 (n := 768) (m := 512) (by omega)
  rw [e0, e1, show (256 * m + l) / 256 = m by omega, show (256 * m + l) % 256 = l by omega]
  rfl

theorem VO_eq (c : Dev nD) (XW : Buf (Elt F) (wM.view.loc (c : Thread nD τ)))
    (arg0 : Memref sig .tc .vmem S1x5376 .f32) (arg1 : Memref sig .tc .vmem S1x10752 .f32)
    (arg2 : Memref sig .tc .vmem S768x5120 .bf16) (arg3 : Memref sig .tc .vmem S768x128 .f32)
    (f0 : Buf (Elt F) (arg0.view.loc (c : Thread nD τ))) (f1 : Buf (Elt F) (arg1.view.loc (c : Thread nD τ)))
    (f2 : Buf (Elt F) (arg2.view.loc (c : Thread nD τ))) (f3 : Buf (Elt F) (arg3.view.loc (c : Thread nD τ))) :
    VO c XW arg0 arg1 arg2 arg3 f0 f1 f2 f3
      = RES (arg0.view.read (Elt F) f0) (arg1.view.read (Elt F) f1) (arg2.view.read (Elt F) f2) (arg3.view.read (Elt F) f3) (wM.view.read (Elt F) XW) := by
  funext y
  have h0 : (y 0).val < 32256 := (y 0).isLt
  have h1 : (y 1).val < 128 := (y 1).isLt
  have hg := ACCat_eq c XW arg2 f2 ((y 0).val / 1536) 0 ((y 0).val % 768) (128 * ((y 0).val / 768 % 2) + (y 1).val) (by omega) (by omega) (by omega)
  have hu := ACCat_eq c XW arg2 f2 ((y 0).val / 1536) 1 ((y 0).val % 768) (128 * ((y 0).val / 768 % 2) + (y 1).val) (by omega) (by omega) (by omega)
  rw [show 256 * 0 + (128 * ((y 0).val / 768 % 2) + (y 1).val) = 128 * ((y 0).val / 768 % 2) + (y 1).val by omega] at hg
  rw [show 256 * 1 + (128 * ((y 0).val / 768 % 2) + (y 1).val) = 256 + 128 * ((y 0).val / 768 % 2) + (y 1).val by omega] at hu
  unfold VO RES RESat
  rw [hg, hu, show (128 * ((y 0).val / 768) + (y 1).val) / 256 = (y 0).val / 1536 by omega,
    show (128 * ((y 0).val / 768) + (y 1).val) % 256 = 128 * ((y 0).val / 768 % 2) + (y 1).val by omega,
    show (128 * ((y 0).val / 768) + (y 1).val) % 128 = (y 1).val by omega, ← Nat.add_assoc]

end Cert.Proof.UpKernelIdeal

end
-- ==== Proof.ULaunchKI.lean ====
module

public import proofs.«01_k».proof.Defs
public import proofs.«01_k».proof.Proof.UArrKI
public import Idealize.ShloMosaic.Lib.Pipeline.Value
public import proofs.«01_k».proof.Proof.Gen.UpKernelIdeal.Launch
public import proofs.«01_k».proof.Proof.Gen.UpKernelIdeal.Skeleton
public import proofs.«01_k».proof.Proof.Gen.UpKernelIdeal.Loops
public import proofs.«01_k».proof.Proof.Gen.UpKernelIdeal.Points
public import proofs.«01_k».proof.Proof.Gen.UpKernelIdeal.Frame
public import Idealize.ShloMosaic.Lib.Pipeline.KitQuiescent
public import Idealize.ShloMosaic.Lib.Ring
public import Idealize.ShloMosaic.Lib.Ring.WriteBehind
public import Idealize.ShloMosaic.Lib.Affine
public import Idealize.ShloMosaic.Lib.Tactic
public import Idealize.ShloMosaic.Lib.Batch

@[expose] public section

set_option maxRecDepth 16384

noncomputable section

namespace Cert.Proof.UpKernelIdeal

open Cert.UpKernelIdeal Cert.UpKernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! # The launch -/

section Launch
variable (m : (ℓ : Loc nD τ sig) → Buf (Elt F) ℓ) (ρ : Dev nD → PrngReg)

/-! ## The kernel's own semaphores -/

theorem cell_inb (s : Fin 10) : ∀ a, (![s.val] : Fin 1 → Nat) a + S1.size a ≤ S10.size a := by
  have := s.isLt; intro a; fin_cases a; show s.val + 1 ≤ 10; omega
abbrev osemc : Fin 10 → SemLoc sig := fun s => .dma ((cc0_scratch1.slice (Rect.unit (s := S10) ![s.val] S1.size (cell_inb s))).squeeze S_ squeezes_S1_S_).sem
theorem ownSemFacts : Pipeline.OwnSemFacts spec0 osemc := by decide

/-- A cell that nothing signals. -/
abbrev idle (c : Dev nD) (s : Fin 10) : sProp 𝕄 := semVal ((c : Thread nD τ), osemc s) 0
/-- The seven of them. -/
def idles (c : Dev nD) : sProp 𝕄 := iprop(idle c 0 ∗ idle c 4 ∗ idle c 5 ∗ idle c 6 ∗ idle c 7 ∗ idle c 8 ∗ idle c 9)

theorem ownSems0_eq (c : Dev nD) : (Pipeline.ownSems0 (Ix := Unit) (Name := ℕ) (U := UU nD τ) (Lvl := ℕ) (Val := Elt F) (τ := τ) osemc c : sProp 𝕄)
    = iprop(idle c 0 ∗ wcellP c 0 ∗ wcellP c 1 ∗ wcellP c 2 ∗ idle c 4 ∗ idle c 5 ∗ idle c 6 ∗ idle c 7 ∗ idle c 8 ∗ idle c 9) := by
  unfold Pipeline.ownSems0
  exact bigSep_univ_eq_bigSepL [(0 : Fin 10), 1, 2, 3, 4, 5, 6, 7, 8, 9] (by decide) (by decide) _

/-! ## The pipeline's proof data -/

abbrev st0 (t : Fin cfg0.N) : Memref sig .tc .vmem S1x5376 .f32 := win0_0.stage (cfg0.slots t 0)
abbrev st1 (t : Fin cfg0.N) : Memref sig .tc .vmem S1x10752 .f32 := win0_1.stage (cfg0.slots t 1)
abbrev st2 (t : Fin cfg0.N) : Memref sig .tc .vmem S768x5120 .bf16 := win0_2.stage (cfg0.slots t 2)
abbrev st3 (t : Fin cfg0.N) : Memref sig .tc .vmem S768x128 .f32 := win0_3.stage (cfg0.slots t 3)
abbrev st4 (t : Fin cfg0.N) : Memref sig .tc .vmem S32256x128 .f32 := win0_4.stage (cfg0.slots t 4)
abbrev hst0 (t : Fin cfg0.N) : (st0 t).IsWhole := hstage0_0 0
abbrev hst1 (t : Fin cfg0.N) : (st1 t).IsWhole := hstage0_1 0
abbrev hst2 (t : Fin cfg0.N) : (st2 t).IsWhole := hstage0_2 0
abbrev hst3 (t : Fin cfg0.N) : (st3 t).IsWhole := hstage0_3 0
abbrev hst4 (t : Fin cfg0.N) : (st4 t).IsWhole := hstage0_4 0

/-- The weights as the kernel finds them. -/
abbrev XWc (c : Dev nD) : Buf (Elt F) (wM.view.loc (c : Thread nD τ)) := V m c main_arg2

/-- What the body leaves in the result's block. -/
def outB (c : Dev nD) : S32256x128.Idx → Elt F .f32 :=
  RES (iblk m c 0 t0_0) (iblk m c 1 t0_0) (iblk m c 2 t0_0) (iblk m c 3 t0_0) (wM.view.read (Elt F) (XWc m c))

/-- The buffers at hand, before the body and after it. -/
def keep (c : Dev nD) : sProp 𝕄 :=
  iprop(bigSep Finset.univ (wH c (XWc m c)) ∗ (wFree c 0 ∗ wFree c 1 ∗ wFree c 2)
    ∗ (∃ f, rmM.view.loc (c : Thread nD τ) ↦[rmM.view.set]{fullShare} f)
    ∗ (∃ fa, accM.view.loc (c : Thread nD τ) ↦[accM.view.set]{fullShare} fa) ∗ idles c)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outB m c
  Φ _ := keep m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = outB m c := by dsimp only [dats]

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0)
        (win0_3.stage (a.2 3)) (hstage0_3 0) (win0_4.stage (a.2 4)) (hstage0_4 0) := rfl
theorem prog_eq (t : Fin cfg0.N) : (defs₀ (F := F)) .tc cfg0.body (cfg0.bodyArgs t (cfg0.slots t))
    = bodyG (st0 t) (hst0 t) (st1 t) (hst1 t) (st2 t) (hst2 t) (st3 t) (hst3 t) (st4 t) (hst4 t) :=
  (congrFun defs_tc _).trans rfl

/-- The body's result, over the blocks it is handed. -/
theorem out_blk (c : Dev nD) : VO c (XWc m c) (st0 t0_0) (st1 t0_0) (st2 t0_0) (st3 t0_0) ((st0 t0_0).view.rep (iblk m c 0 t0_0))
    ((st1 t0_0).view.rep (iblk m c 1 t0_0)) ((st2 t0_0).view.rep (iblk m c 2 t0_0)) ((st3 t0_0).view.rep (iblk m c 3 t0_0)) = outB m c := by
  rw [VO_eq, View.read_rep, View.read_rep, View.read_rep, View.read_rep]; rfl

set_option backward.isDefEq.respectTransparency.types false in
theorem body_obligation (c : Dev nD) : BodyObligation (dats (F := F) m 0 c) (defs₀ (F := F)) 𝒱₀ () Set.univ := fun t => by
  obtain rfl : t = t0_0 := fin_N0 t
  rw [bigSep_W0, bigSep_W0]
  dsimp only
  simp only [before_w0, before_w1, before_w2, before_w3, after_w0, after_w1, after_w2, after_w3, after_w4]
  rw [show (dats m 0 c).Φ t0_0.castSucc = keep m c from rfl, show (dats m 0 c).Φ t0_0.succ = keep m c from rfl]
  unfold Dat.owesAt Pipeline.owesWithin
  rw [show (dats m 0 c).owed t0_0.castSucc = 0 from rfl, show (dats m 0 c).owed t0_0.succ = 0 from rfl]
  unfold owns keep
  iintro ⟨⟨Hh, Hwf, HR, HA, Hid⟩, ⟨%W, -, HW⟩, ⟨%d0, %g0, %hg0, H0⟩, ⟨%d1, %g1, %hg1, H1⟩, ⟨%d2, %g2, %hg2, H2⟩, ⟨%d3, %g3, %hg3, H3⟩, ⟨%d4, %g4, -, H4⟩⟩
  ihave H0' := (pointsTo_rep_entails (c : Thread nD τ) (st0 t0_0) g0 fullShare) $$ H0
  ihave H1' := (pointsTo_rep_entails (c : Thread nD τ) (st1 t0_0) g1 fullShare) $$ H1
  ihave H2' := (pointsTo_rep_entails (c : Thread nD τ) (st2 t0_0) g2 fullShare) $$ H2
  ihave H3' := (pointsTo_rep_entails (c : Thread nD τ) (st3 t0_0) g3 fullShare) $$ H3
  rw [hg0, hg1, hg2, hg3]
  sl_rw [prog_eq t0_0]
  iapply (bodyRun c (XWc m c) (st0 t0_0) (hst0 t0_0) (st1 t0_0) (hst1 t0_0) (st2 t0_0) (hst2 t0_0) (st3 t0_0) (hst3 t0_0) (st4 t0_0) (hst4 t0_0) _ _ _ _ W)
  isplitr [Hid]
  · isplitl [H0']; · iexact H0'
    isplitl [H1']; · iexact H1'
    isplitl [H2']; · iexact H2'
    isplitl [H3']; · iexact H3'
    isplitl [H4]; · iexists g4; iexact H4
    isplitl [HR]; · iexact HR
    isplitl [HA]; · iexact HA
    isplitl [HW]; · iexact HW
    isplitl [Hh]; · iexact Hh
    iexact Hwf
  · iintro ⟨H0, H1, H2, H3, ⟨%f5, H5, %h5⟩, HR, HA, ⟨%W', HW⟩, Hh, Hwf⟩
    isplitl [HR HA Hh Hwf Hid]
    · isplitl [Hh]; · iexact Hh
      isplitl [Hwf]; · iexact Hwf
      isplitl [HR]; · iexact HR
      isplitl [HA]; · iexact HA
      iexact Hid
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    iexists f5; isplitr; · ipureintro; exact h5.trans (out_blk m c)
    iexact H5

/-! ## The run -/

def intoΦ (c : Dev nD) : sProp 𝕄 :=
  iprop((((c : Thread nD τ).loc main_arg2) ↦{fullShare} V m c main_arg2) ∗ Pipeline.ownSems0 osemc c)
def outOfΦ (c : Dev nD) : sProp 𝕄 := (((c : Thread nD τ).loc main_arg2) ↦{fullShare} V m c main_arg2)
def aside (c : Dev nD) : sProp 𝕄 :=
  iprop((((c : Thread nD τ).loc main_arg1) ↦{fullShare} V m c main_arg1) ∗ (((c : Thread nD τ).loc main_arg3) ↦{fullShare} V m c main_arg3)
    ∗ (((c : Thread nD τ).loc main_arg4) ↦{fullShare} V m c main_arg4))
def u₀ : UU nD τ := (initOf (Pipeline.cells cfgs Gen.cellOf_inj) (Pipeline.launchToks cfgs Gen.cellOf_inj), 1)
def finalA (c : Dev nD) (w : Fin cfg0.W) : Buf (Elt F) ((cfg0.win w).arr.view.loc (c : Thread nD τ)) := (dats m 0 c).arrAt w cfg0.N
def QY (c : Dev nD) (s : MemSt nD τ sig (Elt F)) : Prop :=
  s.mem ((c : Thread nD τ).loc main_arg1) = V m c main_arg1 ∧ s.mem ((c : Thread nD τ).loc main_arg2) = V m c main_arg2
    ∧ s.mem ((c : Thread nD τ).loc main_arg3) = V m c main_arg3 ∧ s.mem ((c : Thread nD τ).loc main_arg4) = V m c main_arg4
def QC : PUnit × MemSt nD τ sig (Elt F) → Prop := fun r =>
  ∀ c : Dev nD, (∀ w : Fin cfg0.W, r.2.mem ((cfg0.win w).arr.view.loc (c : Thread nD τ)) = finalA m c w) ∧ QY m c r.2

set_option maxHeartbeats 800000 in
theorem hmainU : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- What the region's buffers give the invariant. -/
theorem enter (c : Dev nD) : iprop(intoΦ m c ∗ Pipeline.scopedRest spec0 c) ⊢ (keep m c : sProp 𝕄) := by
  rw [scopedRest0_eq]
  unfold intoΦ keep idles
  rw [ownSems0_eq, w_eq]
  iintro ⟨⟨H2, i0, w0, w1, w2, i4, i5, i6, i7, i8, i9⟩, ⟨%fl, HR⟩, HB, ⟨%fa, HA⟩⟩
  ihave Hw := (wbuf_split c) $$ HB
  icases Hw with ⟨Hw00, Hw01, Hw10, Hw11, Hw20, Hw21⟩
  isplitl [H2]; · iexact H2
  isplitl [w0 w1 w2 Hw00 Hw01 Hw10 Hw11 Hw20 Hw21]
  · isplitl [w0 Hw00 Hw01]
    · isplitl [w0]; · iexact w0
      isplitl [Hw00]; · iexact Hw00
      iexact Hw01
    isplitl [w1 Hw10 Hw11]
    · isplitl [w1]; · iexact w1
      isplitl [Hw10]; · iexact Hw10
      iexact Hw11
    isplitl [w2]; · iexact w2
    isplitl [Hw20]; · iexact Hw20
    iexact Hw21
  isplitl [HR]; · iexists fl; iapply (entails_of_eq (rm_whole c fl)); iexact HR
  isplitl [HA]; · iexists fa; iapply (entails_of_eq (acc_whole c fa)); iexact HA
  isplitl [i0]; · iexact i0
  isplitl [i4]; · iexact i4
  isplitl [i5]; · iexact i5
  isplitl [i6]; · iexact i6
  isplitl [i7]; · iexact i7
  isplitl [i8]; · iexact i8
  iexact i9

/-- What the invariant gives back. -/
theorem leave (c : Dev nD) : (keep m c : sProp 𝕄) ⊢ iprop(outOfΦ m c ∗ Pipeline.ownSems0 osemc c ∗ Pipeline.scopedRest spec0 c) := by
  rw [scopedRest0_eq]
  unfold outOfΦ keep idles
  rw [ownSems0_eq, w_eq]
  iintro ⟨H2, ⟨⟨w0, Hw00, Hw01⟩, ⟨w1, Hw10, Hw11⟩, ⟨w2, Hw20, Hw21⟩⟩, ⟨%fl, HR⟩, ⟨%fa, HA⟩, i0, i4, i5, i6, i7, i8, i9⟩
  isplitl [H2]; · iexact H2
  isplitl [i0 w0 w1 w2 i4 i5 i6 i7 i8 i9]
  · isplitl [i0]; · iexact i0
    isplitl [w0]; · iexact w0
    isplitl [w1]; · iexact w1
    isplitl [w2]; · iexact w2
    isplitl [i4]; · iexact i4
    isplitl [i5]; · iexact i5
    isplitl [i6]; · iexact i6
    isplitl [i7]; · iexact i7
    isplitl [i8]; · iexact i8
    iexact i9
  isplitl [HR]; · iexists fl; iapply (entails_of_eq (rm_whole c fl).symm); iexact HR
  isplitl [Hw00 Hw01 Hw10 Hw11 Hw20 Hw21]
  · iapply (wbuf_join c)
    isplitl [Hw00]; · iexact Hw00
    isplitl [Hw01]; · iexact Hw01
    isplitl [Hw10]; · iexact Hw10
    isplitl [Hw11]; · iexact Hw11
    isplitl [Hw20]; · iexact Hw20
    iexact Hw21
  iexists fa; iapply (entails_of_eq (acc_whole c fa).symm); iexact HA

set_option backward.isDefEq.respectTransparency.types false in
/-- Every run of @main, from any memory with zero counters, ends with each window's array at `finalA`, the other
    arguments unchanged and every counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m) (hmain := hmainU m)
    (hA := fun _ _ => rfl)
    (X := intoΦ m) (Y := outOfΦ m) (Z := aside m)
    (hX := fun c => by
      rw [unscopedRest0_eq]
      unfold intoΦ aside
      iintro ⟨⟨H1, H2, H3, H4, -⟩, HS, -, -, -⟩; imodintro
      isplitl [H2 HS]
      · isplitl [H2]; · iexact H2
        iexact HS
      isplitl [H1]; · iexact H1
      isplitl [H3]; · iexact H3
      iexact H4)
    (hin := fun c => enter m c)
    (hout := fun c => leave m c)
    (QY := QY m)
    (hY := fun c s' => by
      unfold outOfΦ aside
      iintro ⟨H2, ⟨H1, H3, H4⟩, HSI⟩
      icombine HSI H2 gives %h2
      icombine HSI H1 gives %h1
      icombine HSI H3 gives %h3
      icombine HSI H4 gives %h4
      imodintro
      isplitr
      · ipureintro
        exact ⟨Buf.eq_of_forall_mem_univ h1, Buf.eq_of_forall_mem_univ h2, Buf.eq_of_forall_mem_univ h3, Buf.eq_of_forall_mem_univ h4⟩
      iexact HSI)
    (hQ := fun _ hh hz => ⟨hh, hz⟩)

/-- The result's array at the end. -/
def outG (c : Dev nD) : Buf (Elt F) ((c : Thread nD τ).loc main_v4) := (dats m 0 c).arrAt 4 cfg0.N

/-- The run, read at the arguments and the result. -/
theorem run_post : θ_run defs (onTc (τ := τ) (main (F := F))) (s₀ m ρ) (fun r => (∀ c : Dev nD,
      r.2.mem ((c.tc : Thread nD τ).loc main_v4) = outG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ hh => ⟨fun c => ⟨(hh.1 c).1 4,
    ((hh.1 c).1 2).trans (((dats m 0 c).arrAt_in 2 rfl _).trans (V_main_arg0 m c)),
    (hh.1 c).2.1.trans (V_main_arg1 m c), (hh.1 c).2.2.1.trans (V_main_arg2 m c), (hh.1 c).2.2.2.1.trans (V_main_arg3 m c),
    (hh.1 c).2.2.2.2.trans (V_main_arg4 m c)⟩, hh.2⟩) (run_main m ρ)

/-! ## The result's array, read -/

theorem idx_inj4 : ∀ t t' : Fin cfg0.N, win0_4.index t = win0_4.index t' → t = t' :=
  (by decide +kernel : ∀ t t' : Fin grid0.N, win0_4.index t = win0_4.index t' → t = t')
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)
/-- Where the result's one block lies in its array. -/
theorem emb4 (j : S32256x128.Idx) : ((cfg0.win 4).blk t0_0).view.emb j = j := by
  funext a
  match a with
  | ⟨0, _⟩ => exact Fin.ext (by show 0 * 32256 + 1 * (j 0).val = (j 0).val; omega)
  | ⟨1, _⟩ => exact Fin.ext (by show 0 * 128 + 1 * (j 1).val = (j 1).val; omega)
set_option maxRecDepth 100000 in
/-- The result's array at the end is what the body leaves. -/
theorem outG_apply (c : Dev nD) (i : S32256x128.Idx) : outG m c i = outB m c i := by
  have h := congrFun ((dats m 0 c).read_blk_arrAt_eq_flushed 4 disjoint4 cfg0.N t0_0 t0_0.isLt (flush0_4 t0_0)) i
  rw [View.read_apply] at h
  refine (congrArg ((dats m 0 c).arrAt 4 cfg0.N) (emb4 i)).symm.trans (h.trans ?_)
  show (cfg0.win 4).cut (grid0.coords t0_0) ((dats m 0 c).after 4 t0_0) i = _
  rw [after_w4]
  rfl

end Launch

end Cert.Proof.UpKernelIdeal

end
-- ==== Proof.UEqRes.lean ====
module

public import proofs.«01_k».proof.Defs
public import proofs.«01_k».proof.Proof.ULaunchKI
public import proofs.«01_k».proof.Proof.EqRes
public import proofs.«01_k».proof.Proof.Gen.UpReferenceIdeal.Value
public import Idealize.ShloMosaic.Lib.Pointwise
public import Idealize.ShloMosaic.Lib.StableHlo.ReadAt

@[expose] public section

set_option maxRecDepth 16384

noncomputable section

namespace Cert.Proof.UpKernelIdeal

open Cert.UpKernelIdeal Cert.UpKernelIdeal.Gen
open Idealize.ShloMosaic Idealize.ShloMosaic.TcCoe

/-- One product at a row and a column. -/
theorem mm_apply (l : Vec Ideal S768x256 .bf16) (w : Vec Ideal S1x1x256x256 .i8) (j : S768x256.Idx) :
    mm (F := Ideal) l w j = ∑ k : Fin 256, (l (ix2 (j 0) k) * FloatOps.sitofp (F := Ideal) .bf16 (w (ix4 0 0 k (j 1))) : EReal) := by
  unfold mm
  pointwise

/-- The chain of products at a row and a column: the sum of the products' sums. -/
theorem chain_apply (L : ℕ → Vec Ideal S768x256 .bf16) (R : ℕ → Vec Ideal S1x1x256x256 .i8) (j : S768x256.Idx) (n : ℕ) :
    chain (F := Ideal) L R n j = (∑ t ∈ Finset.range (n + 1), ∑ k : Fin 256, (L t (ix2 (j 0) k) * FloatOps.sitofp (F := Ideal) .bf16 (R t (ix4 0 0 k (j 1))) : EReal) : EReal) := by
  induction n with
  | zero => rw [chain, mm_apply, Finset.sum_range_one]
  | succ n ih =>
    rw [Finset.sum_range_succ, ← ih, ← mm_apply]
    rfl

/-- An index of one axis from a number. -/
def at1 (n : ℕ) [NeZero n] (x : ℕ) : (⟨1, ![n]⟩ : Shape).Idx := ix1 (Fin.ofNat n x)
theorem at1_eq {n : ℕ} [NeZero n] (j : (⟨1, ![n]⟩ : Shape).Idx) {x : ℕ} (hx : (j 0).val = x) : j = at1 n x := by
  have h0 : (j 0).val < n := (j 0).isLt
  funext a
  match a with
  | ⟨0, _⟩ => exact Fin.ext ((Nat.mod_eq_of_lt h0).symm.trans (congrArg (· % n) hx))

/-- The product of the tokens and the weights at a row and a column. -/
def DOT (x : S768x5120.Idx → Elt Ideal .bf16) (w : S5120x10752.Idx → Elt Ideal .i8) (r q : ℕ) : EReal :=
  ∑ k : Fin 5120, (x (at2 768 5120 r k.val) * FloatOps.sitofp (F := Ideal) .bf16 (w (at2 5120 10752 k.val q)) : EReal)
/-- The mathematics: the gate's product under its scales, times its logistic, times the up product under its scales, times the
    column's smoothing factor. -/
def MATH (x : S768x5120.Idx → Elt Ideal .bf16) (s : S768.Idx → Elt Ideal .f32) (w : S5120x10752.Idx → Elt Ideal .i8)
    (t : S10752.Idx → Elt Ideal .f32) (sm : S5376.Idx → Elt Ideal .f32) (i : S32256x128.Idx) : EReal :=
  outVal (F := Ideal) (DOT x w ((i 0).val % 768) (128 * ((i 0).val / 768) + (i 1).val)) (DOT x w ((i 0).val % 768) (5376 + (128 * ((i 0).val / 768) + (i 1).val)))
    (s (at1 768 ((i 0).val % 768))) (t (at1 10752 (128 * ((i 0).val / 768) + (i 1).val))) (t (at1 10752 (5376 + (128 * ((i 0).val / 768) + (i 1).val))))
    (sm (at1 5376 (128 * ((i 0).val / 768) + (i 1).val)))

/-- The tiles' chain is the product. -/
theorem SUM_eq (x : S768x5120.Idx → Elt Ideal .bf16) (w : S5120x10752.Idx → Elt Ideal .i8) (m r l : ℕ) (hr : r < 768) :
    SUM (F := Ideal) x w (l / 256) m r (l % 256) = DOT x w r (5376 * m + l) := by
  let g : ℕ → EReal := fun k => x (at2 768 5120 r k) * FloatOps.sitofp (F := Ideal) .bf16 (w (at2 5120 10752 k (5376 * m + l)))
  have hsum : DOT x w r (5376 * m + l) = ∑ t ∈ Finset.range 20, ∑ k : Fin 256, g (256 * t + k.val) :=
    ((Cert.Proof.KernelIdeal.sum_runs g 20).trans (Finset.sum_range (n := 5120) g)).symm
  rw [hsum]
  unfold SUM
  rw [chain_apply]
  refine Finset.sum_congr rfl fun t _ => Finset.sum_congr rfl fun k _ => ?_
  show x (at2 768 5120 (at2 768 256 r (l % 256) 0).val (256 * t + k.val))
    * FloatOps.sitofp (F := Ideal) .bf16 (w (at2 5120 10752 (256 * t + k.val) (256 * (l / 256) + 5376 * m + (at2 768 256 r (l % 256) 1).val))) = _
  rw [at2_0 hr, at2_1 (Nat.mod_lt _ (by omega)), show 256 * (l / 256) + 5376 * m + l % 256 = 5376 * m + l by omega]

/-- The kernel's result is the mathematics. -/
theorem RES_eq (x0 : S1x5376.Idx → Elt Ideal .f32) (x1 : S1x10752.Idx → Elt Ideal .f32) (x2 : S768x5120.Idx → Elt Ideal .bf16) (x3 : S768x128.Idx → Elt Ideal .f32)
    (w : S5120x10752.Idx → Elt Ideal .i8) (s : S768.Idx → Elt Ideal .f32) (t : S10752.Idx → Elt Ideal .f32) (sm : S5376.Idx → Elt Ideal .f32)
    (h0 : ∀ j, x0 j = sm (ix1 (j 1))) (h1 : ∀ j, x1 j = t (ix1 (j 1))) (h3 : ∀ j, x3 j = s (ix1 (j 0))) (i : S32256x128.Idx) :
    RES x0 x1 x2 x3 w i = MATH x2 s w t sm i := by
  have hr : (i 0).val % 768 < 768 := Nat.mod_lt _ (by omega)
  unfold RES RESat MATH
  rw [SUM_eq _ _ 0 _ _ hr, SUM_eq _ _ 1 _ _ hr, h0, h1, h1, h3, show 5376 * 0 + (128 * ((i 0).val / 768) + (i 1).val) = 128 * ((i 0).val / 768) + (i 1).val by omega,
    show 5376 * 1 = 5376 from rfl]
  rfl

variable (m : (ℓ : Loc nD τ sig) → Buf (Elt Ideal) ℓ)
theorem V_v0 (c : Dev nD) (j : S1x5376.Idx) : V m c main_v0 j = m ((c.tc : Thread nD τ).loc main_arg4) (ix1 (j 1)) := by
  unfold V
  after_reads_at
theorem V_v1 (c : Dev nD) (j : S1x10752.Idx) : V m c main_v1 j = m ((c.tc : Thread nD τ).loc main_arg3) (ix1 (j 1)) := by
  unfold V
  after_reads_at
theorem V_v3 (c : Dev nD) (j : S768x128.Idx) : V m c main_v3 j = m ((c.tc : Thread nD τ).loc main_arg1) (ix1 (j 0)) := by
  unfold V
  after_reads_at
theorem iblk0 (c : Dev nD) (j : S1x5376.Idx) : iblk m c 0 t0_0 j = V m c main_v0 j := by
  unfold iblk
  rw [View.read_apply]
  show V m c main_v0 (((cfg0.win 0).blk t0_0).view.emb j) = _
  congr 1
  funext a
  match a with
  | ⟨0, _⟩ => exact Fin.ext (by show 0 * 1 + 1 * (j 0).val = (j 0).val; omega)
  | ⟨1, _⟩ => exact Fin.ext (by show 0 * 5376 + 1 * (j 1).val = (j 1).val; omega)
theorem iblk1 (c : Dev nD) (j : S1x10752.Idx) : iblk m c 1 t0_0 j = V m c main_v1 j := by
  unfold iblk
  rw [View.read_apply]
  show V m c main_v1 (((cfg0.win 1).blk t0_0).view.emb j) = _
  congr 1
  funext a
  match a with
  | ⟨0, _⟩ => exact Fin.ext (by show 0 * 1 + 1 * (j 0).val = (j 0).val; omega)
  | ⟨1, _⟩ => exact Fin.ext (by show 0 * 10752 + 1 * (j 1).val = (j 1).val; omega)
theorem iblk2 (c : Dev nD) (j : S768x5120.Idx) : iblk m c 2 t0_0 j = V m c main_arg0 j := by
  unfold iblk
  rw [View.read_apply]
  show V m c main_arg0 (((cfg0.win 2).blk t0_0).view.emb j) = _
  congr 1
  funext a
  match a with
  | ⟨0, _⟩ => exact Fin.ext (by show 0 * 768 + 1 * (j 0).val = (j 0).val; omega)
  | ⟨1, _⟩ => exact Fin.ext (by show 0 * 5120 + 1 * (j 1).val = (j 1).val; omega)
theorem iblk3 (c : Dev nD) (j : S768x128.Idx) : iblk m c 3 t0_0 j = V m c main_v3 j := by
  unfold iblk
  rw [View.read_apply]
  show V m c main_v3 (((cfg0.win 3).blk t0_0).view.emb j) = _
  congr 1
  funext a
  match a with
  | ⟨0, _⟩ => exact Fin.ext (by show 0 * 768 + 1 * (j 0).val = (j 0).val; omega)
  | ⟨1, _⟩ => exact Fin.ext (by show 0 * 128 + 1 * (j 1).val = (j 1).val; omega)

/-- The result's array at the end is the mathematics of the arguments. -/
theorem outG_eq (c : Dev nD) (i : S32256x128.Idx) : outG m c i = MATH (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) i := by
  have e1 : iblk m c 2 t0_0 = m ((c.tc : Thread nD τ).loc main_arg0) := (funext (iblk2 m c)).trans (V_main_arg0 m c)
  have e2 : (wM.view.read (Elt Ideal) (XWc m c)) = m ((c.tc : Thread nD τ).loc main_arg2) := V_main_arg2 m c
  rw [outG_apply]
  unfold outB
  rw [e1, e2]
  exact RES_eq _ _ _ _ _ _ _ _ (fun j => (iblk0 m c j).trans (V_v0 m c j)) (fun j => (iblk1 m c j).trans (V_v1 m c j)) (fun j => (iblk3 m c j).trans (V_v3 m c j)) i

end Cert.Proof.UpKernelIdeal

namespace Cert.Proof.UpReferenceIdeal

open Cert.UpReferenceIdeal Cert.UpReferenceIdeal.Gen
open Idealize.ShloMosaic Idealize.ShloMosaic.TcCoe
open Cert.Proof.UpKernelIdeal (outVal MATH DOT at1 at1_eq at2 at2_eq)

/-- One entry of the activations, the products' sums written out, at row `r`, gate column `q`, up column `u` and smoothing column `p`. -/
abbrev entry (v0 : Vec Ideal S768x5120 .bf16) (v1 : Vec Ideal S5120x10752 .i8) (v4 : Vec Ideal S768x1 .f32) (v8 : Vec Ideal S1x10752 .f32) (v17 : Vec Ideal S1x5376 .f32)
    (r : Fin 768) (q u : Fin 10752) (p : Fin 5376) : EReal :=
  (∑ k : Fin 5120, (v0 (ix2 r k) * FloatOps.sitofp (F := Ideal) .bf16 (v1 (ix2 k q)) : EReal)) * v4 (ix2 r 0) * v8 (ix2 0 q)
    * Ideal.logistic ((∑ k : Fin 5120, (v0 (ix2 r k) * FloatOps.sitofp (F := Ideal) .bf16 (v1 (ix2 k q)) : EReal)) * v4 (ix2 r 0) * v8 (ix2 0 q))
    * ((∑ k : Fin 5120, (v0 (ix2 r k) * FloatOps.sitofp (F := Ideal) .bf16 (v1 (ix2 k u)) : EReal)) * v4 (ix2 r 0) * v8 (ix2 0 u))
    * v17 (ix2 0 p)

/-- The reference's payload is such entries. -/
theorem pay_entry (v0 : Vec Ideal S768x5120 .bf16) (v1 : Vec Ideal S5120x10752 .i8) (v4 : Vec Ideal S768x1 .f32) (v8 : Vec Ideal S1x10752 .f32) (v17 : Vec Ideal S1x5376 .f32) (i : S32256x128.Idx)
    (hr : (i 0).val % 768 < 768) (hq : (i 0).val / 768 * 128 + (i 1).val < 10752) (hu : 5376 + ((i 0).val / 768 * 128 + (i 1).val) < 10752)
    (hp : (i 0).val / 768 * 128 + (i 1).val < 5376) :
    k0_pay1 v0 v1 v4 v8 v17 i = entry v0 v1 v4 v8 v17 ⟨_, hr⟩ ⟨_, hq⟩ ⟨_, hu⟩ ⟨_, hp⟩ := by
  unfold k0_pay1
  pointwise

theorem entry_eq (v0 : Vec Ideal S768x5120 .bf16) (v1 : Vec Ideal S5120x10752 .i8) (v4 : Vec Ideal S768x1 .f32) (v8 : Vec Ideal S1x10752 .f32) (v17 : Vec Ideal S1x5376 .f32)
    (r : Fin 768) (q u : Fin 10752) (p : Fin 5376) :
    entry v0 v1 v4 v8 v17 r q u p
      = outVal (F := Ideal) (DOT v0 v1 r.val q.val) (DOT v0 v1 r.val u.val) (v4 (at2 768 1 r.val 0)) (v8 (at2 1 10752 0 q.val)) (v8 (at2 1 10752 0 u.val)) (v17 (at2 1 5376 0 p.val)) := by
  have eG : ∀ q : Fin 10752, (∑ k : Fin 5120, (v0 (ix2 r k) * FloatOps.sitofp (F := Ideal) .bf16 (v1 (ix2 k q)) : EReal)) = DOT v0 v1 r.val q.val := fun q =>
    Finset.sum_congr rfl fun k _ => congrArg₂ (fun a b => (v0 a * FloatOps.sitofp (F := Ideal) .bf16 (v1 b) : EReal))
      (at2_eq (n := 768) (m := 5120) (ix2 r k) rfl rfl) (at2_eq (n := 5120) (m := 10752) (ix2 k q) rfl rfl)
  have e4 : v4 (ix2 r 0) = v4 (at2 768 1 r.val 0) := congrArg v4 (at2_eq (n := 768) (m := 1) (ix2 r 0) rfl rfl)
  have e8 : ∀ q : Fin 10752, v8 (ix2 0 q) = v8 (at2 1 10752 0 q.val) := fun q => congrArg v8 (at2_eq (n := 1) (m := 10752) (ix2 0 q) rfl rfl)
  have e17 : v17 (ix2 0 p) = v17 (at2 1 5376 0 p.val) := congrArg v17 (at2_eq (n := 1) (m := 5376) (ix2 0 p) rfl rfl)
  have eT : ∀ g u a b c d g' u' a' b' c' d' : EReal, g = g' → u = u' → a = a' → b = b' → c = c' → d = d' →
      g * a * b * Ideal.logistic (g * a * b) * (u * a * c) * d = outVal (F := Ideal) g' u' a' b' c' d' := by
    rintro _ _ _ _ _ _ _ _ _ _ _ _ rfl rfl rfl rfl rfl rfl; rfl
  exact eT _ _ _ _ _ _ _ _ _ _ _ _ (eG q) (eG u) e4 (e8 q) (e8 u) e17

/-- The reference's payload at a row and a column. -/
theorem pay_apply (v0 : Vec Ideal S768x5120 .bf16) (v1 : Vec Ideal S5120x10752 .i8) (v4 : Vec Ideal S768x1 .f32) (v8 : Vec Ideal S1x10752 .f32) (v17 : Vec Ideal S1x5376 .f32) (i : S32256x128.Idx) :
    k0_pay1 v0 v1 v4 v8 v17 i
      = outVal (F := Ideal) (DOT v0 v1 ((i 0).val % 768) (128 * ((i 0).val / 768) + (i 1).val)) (DOT v0 v1 ((i 0).val % 768) (5376 + (128 * ((i 0).val / 768) + (i 1).val)))
        (v4 (at2 768 1 ((i 0).val % 768) 0)) (v8 (at2 1 10752 0 (128 * ((i 0).val / 768) + (i 1).val))) (v8 (at2 1 10752 0 (5376 + (128 * ((i 0).val / 768) + (i 1).val))))
        (v17 (at2 1 5376 0 (128 * ((i 0).val / 768) + (i 1).val))) := by
  have h0 : (i 0).val < 32256 := (i 0).isLt
  have h1 : (i 1).val < 128 := (i 1).isLt
  have h := (pay_entry v0 v1 v4 v8 v17 i (Nat.mod_lt _ (by omega)) (by omega) (by omega) (by omega)).trans (entry_eq v0 v1 v4 v8 v17 _ _ _ _)
  rw [Nat.mul_comm 128]
  exact h

variable (m : (ℓ : Loc nD τ sig) → Buf (Elt Ideal) ℓ)
theorem V_v0 (c : Dev nD) (j : S768x1.Idx) : V m c main_v0 j = m ((c.tc : Thread nD τ).loc main_arg1) (ix1 (j 0)) := by
  unfold V
  after_reads_at
theorem V_v1 (c : Dev nD) (j : S1x10752.Idx) : V m c main_v1 j = m ((c.tc : Thread nD τ).loc main_arg3) (ix1 (j 1)) := by
  unfold V
  after_reads_at
theorem V_v2 (c : Dev nD) (j : S1x5376.Idx) : V m c main_v2 j = m ((c.tc : Thread nD τ).loc main_arg4) (ix1 (j 1)) := by
  unfold V
  after_reads_at
theorem iblk0 (c : Dev nD) (j : S768x5120.Idx) : iblk m c 0 t0_0 j = V m c main_arg0 j := by
  unfold iblk
  rw [View.read_apply]
  show V m c main_arg0 (((cfg0.win 0).blk t0_0).view.emb j) = _
  congr 1
  funext a
  match a with
  | ⟨0, _⟩ => exact Fin.ext (by show 0 * 768 + 1 * (j 0).val = (j 0).val; omega)
  | ⟨1, _⟩ => exact Fin.ext (by show 0 * 5120 + 1 * (j 1).val = (j 1).val; omega)
theorem iblk1 (c : Dev nD) (j : S768x1.Idx) : iblk m c 1 t0_0 j = V m c main_v0 j := by
  unfold iblk
  rw [View.read_apply]
  show V m c main_v0 (((cfg0.win 1).blk t0_0).view.emb j) = _
  congr 1
  funext a
  match a with
  | ⟨0, _⟩ => exact Fin.ext (by show 0 * 768 + 1 * (j 0).val = (j 0).val; omega)
  | ⟨1, _⟩ => exact Fin.ext (by show 0 * 1 + 1 * (j 1).val = (j 1).val; omega)
theorem iblk2 (c : Dev nD) (j : S5120x10752.Idx) : iblk m c 2 t0_0 j = V m c main_arg2 j := by
  unfold iblk
  rw [View.read_apply]
  show V m c main_arg2 (((cfg0.win 2).blk t0_0).view.emb j) = _
  congr 1
  funext a
  match a with
  | ⟨0, _⟩ => exact Fin.ext (by show 0 * 5120 + 1 * (j 0).val = (j 0).val; omega)
  | ⟨1, _⟩ => exact Fin.ext (by show 0 * 10752 + 1 * (j 1).val = (j 1).val; omega)
theorem iblk3 (c : Dev nD) (j : S1x10752.Idx) : iblk m c 3 t0_0 j = V m c main_v1 j := by
  unfold iblk
  rw [View.read_apply]
  show V m c main_v1 (((cfg0.win 3).blk t0_0).view.emb j) = _
  congr 1
  funext a
  match a with
  | ⟨0, _⟩ => exact Fin.ext (by show 0 * 1 + 1 * (j 0).val = (j 0).val; omega)
  | ⟨1, _⟩ => exact Fin.ext (by show 0 * 10752 + 1 * (j 1).val = (j 1).val; omega)
theorem iblk4 (c : Dev nD) (j : S1x5376.Idx) : iblk m c 4 t0_0 j = V m c main_v2 j := by
  unfold iblk
  rw [View.read_apply]
  show V m c main_v2 (((cfg0.win 4).blk t0_0).view.emb j) = _
  congr 1
  funext a
  match a with
  | ⟨0, _⟩ => exact Fin.ext (by show 0 * 1 + 1 * (j 0).val = (j 0).val; omega)
  | ⟨1, _⟩ => exact Fin.ext (by show 0 * 5376 + 1 * (j 1).val = (j 1).val; omega)

/-- Where the result's one block lies in its array. -/
theorem emb5 (j : S32256x128.Idx) : ((cfg0.win 5).blk t0_0).view.emb j = j := by
  funext a
  match a with
  | ⟨0, _⟩ => exact Fin.ext (by show 0 * 32256 + 1 * (j 0).val = (j 0).val; omega)
  | ⟨1, _⟩ => exact Fin.ext (by show 0 * 128 + 1 * (j 1).val = (j 1).val; omega)

theorem hz2 : (![0, 0] : Fin 2 → ℕ) = fun _ => 0 := by decide

set_option maxRecDepth 100000 in
/-- The reference's result is what its body leaves. -/
theorem arr_apply (c : Dev nD) (i : S32256x128.Idx) : (dats m 0 c).arrAt 5 cfg0.N i
    = out0_5 (iblk m c 0 t0_0) (iblk m c 1 t0_0) (iblk m c 2 t0_0) (iblk m c 3 t0_0) (iblk m c 4 t0_0) i := by
  have h := congrFun (Value.blocks5 m c t0_0 (by decide)) i
  rw [View.read_apply, Value.flushed5] at h
  exact (congrArg ((dats m 0 c).arrAt 5 cfg0.N) (emb5 i)).symm.trans (h.trans rfl)

/-- The reference's result is the mathematics of the arguments. -/
theorem out_eq (c : Dev nD) (i : S32256x128.Idx) : (dats m 0 c).arrAt 5 cfg0.N i
    = MATH (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) i := by
  rw [arr_apply]
  unfold out0_5
  rw [View.canon_unit_zero (S := S32256x128) hz2, View.ld_unit_zero (S := S768x5120) hz2, View.ld_unit_zero (S := S5120x10752) hz2,
    View.ld_unit_zero (S := S768x1) hz2, View.ld_unit_zero (S := S1x10752) hz2, View.ld_unit_zero (S := S1x5376) hz2, pay_apply]
  have e0 : iblk m c 0 t0_0 = m ((c.tc : Thread nD τ).loc main_arg0) := (funext (iblk0 m c)).trans (V_main_arg0 m c)
  have e2 : iblk m c 2 t0_0 = m ((c.tc : Thread nD τ).loc main_arg2) := (funext (iblk2 m c)).trans (V_main_arg2 m c)
  rw [e0, e2, (iblk1 m c _).trans (V_v0 m c _), (iblk3 m c _).trans (V_v1 m c _), (iblk3 m c _).trans (V_v1 m c _), (iblk4 m c _).trans (V_v2 m c _)]
  rfl

end Cert.Proof.UpReferenceIdeal

end
-- ==== Proof.PBaseKI.lean ====
module

public import proofs.«01_k».proof.Defs
public import proofs.«01_k».proof.Proof.Gen.PrepKernelIdeal.Launch
public import proofs.«01_k».proof.Proof.Gen.PrepKernelIdeal.Skeleton
public import proofs.«01_k».proof.Proof.Gen.PrepKernelIdeal.Loops
public import proofs.«01_k».proof.Proof.Gen.PrepKernelIdeal.Points
public import proofs.«01_k».proof.Proof.Gen.PrepKernelIdeal.Frame
public import Idealize.ShloMosaic.Lib.Pipeline.KitQuiescent
public import Idealize.ShloMosaic.Lib.Ring
public import Idealize.ShloMosaic.Lib.Ring.WriteBehind
public import Idealize.ShloMosaic.Lib.Affine
public import Idealize.ShloMosaic.Lib.Tactic
public import Idealize.ShloMosaic.Lib.Batch
public import Idealize.ShloMosaic.Lib.Pointwise.ElementwiseCore
public import Idealize.ShloMosaic.Lib.WritesUnit
public import Idealize.ShloMosaic.Lib.ValueLayout
public import Idealize.ShloMosaic.Lib.Pipeline.Value

@[expose] public section

set_option maxRecDepth 16384

noncomputable section

namespace Cert.Proof.PrepKernelIdeal

open Cert.PrepKernelIdeal Cert.PrepKernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## Canonical names -/

abbrev xM : Memref sig .tc .hbm S768x5120 .bf16 := Memref.whole main_v2
abbrev scM : Memref sig .tc .hbm S768x5120 .i8 := Memref.whole main_v3_0
abbrev srM : Memref sig .tc .vmem S768x128 .f32 := Memref.whole cc0_scratch0
abbrev lhM : Memref sig .tc .vmem S768x5120 .bf16 := Memref.whole cc0_scoped0
abbrev saM : Memref sig .tc .vmem S768x5120 .i8 := Memref.whole cc0_scoped1

abbrev rowOff (n : ℕ) : Fin 2 → Nat := ![32 * n, 0]
theorem row_inb (n : ℕ) (h : n < 24) : ∀ a, rowOff n a + S32x5120.size a ≤ S768x5120.size a := by
  intro a; fin_cases a
  · show 32 * n + 32 ≤ 768; omega
  · show 0 + 5120 ≤ 5120; omega
theorem srow_inb (n : ℕ) (h : n < 24) : ∀ a, rowOff n a + S32x128.size a ≤ S768x128.size a := by
  intro a; fin_cases a
  · show 32 * n + 32 ≤ 768; omega
  · show 0 + 128 ≤ 128; omega
/-- Row tile `n` of a 768 by 5120 array. -/
abbrev rowR (n : ℕ) (h : n < 24) : Rect S768x5120 := Rect.unit (s := S768x5120) ![32 * n, 0] S32x5120.size (row_inb n h)
/-- Row tile `n` of the scales' buffer. -/
abbrev srowR (n : ℕ) (h : n < 24) : Rect S768x128 := Rect.unit (s := S768x128) ![32 * n, 0] S32x128.size (srow_inb n h)

/-- Row tile `n` of the codes' buffer. -/
def saT (n : ℕ) (h : n < 24) : Memref sig .tc .vmem S32x5120 .i8 := saM.slice (rowR n h) (fun _ => rfl)
/-- Row tile `n` of the codes' result. -/
def scT (n : ℕ) (h : n < 24) : Memref sig .tc .hbm S32x5120 .i8 := scM.slice (rowR n h) (fun _ => rfl)
/-- The codes' DMA semaphore. -/
def cdm : DmaSems sig S_ := (cc0_scratch1.slice (Rect.unit (s := S10) ![4] S1.size inb_S10_S1_4)).squeeze S_ squeezes_S1_S_
abbrev Trip := Fin k0_t1_loop.trips
abbrev Trip2 := Fin k0_t2_loop.trips
theorem trips1 : k0_t1_loop.trips = 24 := by decide +kernel
theorem trips2 : k0_t2_loop.trips = 24 := by decide +kernel
theorem lt1 (k : Trip) : k.val < 24 := trips1 ▸ k.isLt
theorem lt2 (k : Trip2) : k.val < 24 := trips2 ▸ k.isLt

section Canon
@[sl_canon] theorem c_cdm (hh) : (cc0_scratch1.slice (Rect.unit (s := S10) ![4] S1.size hh)).squeeze S_ squeezes_S1_S_ = cdm := rfl
@[sl_canon] theorem k_sa (k : Trip) (hh hs) : saM.slice (Rect.unit (s := S768x5120) (k0_off42 k) S32x5120.size hh) hs = saT k.val (lt1 k) := Memref.slice_unit_congr _ (k0_off42_eq k) _ _ _ (fun _ => rfl)
@[sl_canon] theorem k_sc (k : Trip) (hh hs) : scM.slice (Rect.unit (s := S768x5120) (k0_off42 k) S32x5120.size hh) hs = scT k.val (lt1 k) := Memref.slice_unit_congr _ (k0_off42_eq k) _ _ _ (fun _ => rfl)
@[sl_canon] theorem k_sa2 (k : Trip2) (hh hs) : saM.slice (Rect.unit (s := S768x5120) (k0_off43 k) S32x5120.size hh) hs = saT k.val (lt2 k) := Memref.slice_unit_congr _ (k0_off43_eq k) _ _ _ (fun _ => rfl)
@[sl_canon] theorem k_sc2 (k : Trip2) (hh hs) : scM.slice (Rect.unit (s := S768x5120) (k0_off43 k) S32x5120.size hh) hs = scT k.val (lt2 k) := Memref.slice_unit_congr _ (k0_off43_eq k) _ _ _ (fun _ => rfl)
end Canon

section Pieces
variable (c : Dev nD)

abbrev lhP (n : ℕ) (h : n < 24) (f : Buf (Elt F) (lhM.view.loc (c : Thread nD τ))) : sProp 𝕄 := lhM.view.loc (c : Thread nD τ) ↦[lhM.view.setOn (rowR n h).set]{fullShare} f
abbrev saP (n : ℕ) (h : n < 24) (f : Buf (Elt F) (saM.view.loc (c : Thread nD τ))) : sProp 𝕄 := saM.view.loc (c : Thread nD τ) ↦[saM.view.setOn (rowR n h).set]{fullShare} f
abbrev srP (n : ℕ) (h : n < 24) (f : Buf (Elt F) (srM.view.loc (c : Thread nD τ))) : sProp 𝕄 := srM.view.loc (c : Thread nD τ) ↦[srM.view.setOn (srowR n h).set]{fullShare} f
abbrev scP (n : ℕ) (h : n < 24) (f : Buf (Elt F) (scM.view.loc (c : Thread nD τ))) : sProp 𝕄 := (scT n h).view.loc (c : Thread nD τ) ↦[(scT n h).view.set]{fullShare} f
abbrev saP' (n : ℕ) (h : n < 24) (f : Buf (Elt F) (saM.view.loc (c : Thread nD τ))) : sProp 𝕄 := (saT n h).view.loc (c : Thread nD τ) ↦[(saT n h).view.set]{fullShare} f
/-- The result's tile after it is copied from a buffer. -/
abbrev scLanded (n : ℕ) (h : n < 24) (fo : Buf (Elt F) (scM.view.loc (c : Thread nD τ))) (f : Buf (Elt F) (saM.view.loc (c : Thread nD τ))) : Buf (Elt F) (scM.view.loc (c : Thread nD τ)) :=
  (scT n h).view.writes (Elt F) fo [⟨Rect.whole S32x5120, ReadAs.same.apply ((saT n h).view.read (Elt F) f)⟩]
abbrev NC : ℕ := 5120
/-- What the copy of row tile `b` of the codes delivers. -/
abbrev cD (fo : Buf (Elt F) (scM.view.loc (c : Thread nD τ))) (g : Buf (Elt F) (saM.view.loc (c : Thread nD τ))) (b : Fin 24) : sProp 𝕄 :=
  iprop(scP c b.val b.isLt (scLanded c b.val b.isLt fo g) ∗ saP' c b.val b.isLt g)
/-- The 24 copies of the codes, `j` of them started and `u` units waited for. -/
abbrev cBatch (fo : Buf (Elt F) (scM.view.loc (c : Thread nD τ))) (g : Buf (Elt F) (saM.view.loc (c : Thread nD τ))) (j u : ℕ) : sProp 𝕄 :=
  Transfers.Batch (countersEmb (U := UU nD τ)) (c : Thread nD τ) (SemLoc.dma cdm.sem) () NC (cD c fo g) j u
theorem nc_eq (n : ℕ) (h : n < 24) : (scT n h).view.amount (SemLoc.dma cdm.sem) = NC := rfl
end Pieces

section Tile
/-! ## The values of one row tile -/
variable (c : Dev nD)
  (arg0 : Memref sig .tc .vmem S1x5120 .f32) (arg1 : Memref sig .tc .vmem S1x5120 .f32)
  (f0 : Buf (Elt F) (arg0.view.loc (c : Thread nD τ))) (f1 : Buf (Elt F) (arg1.view.loc (c : Thread nD τ)))
  (fl : Buf (Elt F) (lhM.view.loc (c : Thread nD τ)))

theorem x_inb (r : ℕ) (hr : r + 32 ≤ 768) (m : ℕ) : ∀ a, (![r, 128 * (m % 40)] : Fin 2 → Nat) a + S32x128.size a ≤ S768x5120.size a := by
  have := Nat.mod_lt m (show 0 < 40 by decide)
  intro a; fin_cases a
  · show r + 32 ≤ 768; exact hr
  · show 128 * (m % 40) + 128 ≤ 5120; omega
theorem w_inb (m : ℕ) : ∀ a, (![0, 128 * (m % 40)] : Fin 2 → Nat) a + S1x128.size a ≤ S1x5120.size a := by
  have := Nat.mod_lt m (show 0 < 40 by decide)
  intro a; fin_cases a
  · show 0 + 1 ≤ 1; omega
  · show 128 * (m % 40) + 128 ≤ 5120; omega
theorem s_inb (r : ℕ) (hr : r + 32 ≤ 768) : ∀ a, (![r, 0] : Fin 2 → Nat) a + S32x128.size a ≤ S768x128.size a := by
  intro a; fin_cases a
  · show r + 32 ≤ 768; exact hr
  · show 0 + 128 ≤ 128; omega
/-- Lane group `m` of the row tile that begins at row `r`. -/
abbrev xR (r : ℕ) (hr : r + 32 ≤ 768) (m : ℕ) : Rect S768x5120 := Rect.unit (s := S768x5120) ![r, 128 * (m % 40)] S32x128.size (x_inb r hr m)
/-- That tile of the activations. -/
def xT (r : ℕ) (hr : r + 32 ≤ 768) (m : ℕ) : Vec F S32x128 .bf16 := lhM.view.readAt (Elt F) (xR r hr m).toLoadRect fl
/-- Lane group `m` of the norm's weights, -/
def nT (m : ℕ) : Vec F S1x128 .f32 := arg0.view.readAt (Elt F) (Rect.unit (s := S1x5120) ![0, 128 * (m % 40)] S1x128.size (w_inb m)).toLoadRect f0
/-- and of the smoothing factors. -/
def sT (m : ℕ) : Vec F S1x128 .f32 := arg1.view.readAt (Elt F) (Rect.unit (s := S1x5120) ![0, 128 * (m % 40)] S1x128.size (w_inb m)).toLoadRect f1
/-- The squares of the first `n` lane groups, added up. -/
def sqV (r : ℕ) (hr : r + 32 ≤ 768) : ℕ → FVec F S32x128 .f32
  | 0 => broadcast S32x128 (Scalar.ofBits .f32 0x00000000#32)
  | n + 1 => addf (sqV r hr n) (mulf (extf .f32 (xT c fl r hr n) bitsLt_bf16_f32) (extf .f32 (xT c fl r hr n) bitsLt_bf16_f32))
/-- The root of a row's mean square, on every lane. -/
def denV (r : ℕ) (hr : r + 32 ≤ 768) : FVec F S32x128 .f32 := k0_pay8 (sqV c fl r hr 39) (xT c fl r hr 39)
/-- A lane group normalised and smoothed. -/
def hV (r : ℕ) (hr : r + 32 ≤ 768) (m : ℕ) : FVec F S32x128 .f32 :=
  mulf (mulf (divf (extf .f32 (xT c fl r hr m) bitsLt_bf16_f32) (denV c fl r hr))
    (broadcastTo S32x128 (shapeCast S1x128 (nT c arg0 f0 m) shapeCasts_S1x128_S1x128) broadcasts_S1x128_S32x128))
    (broadcastTo S32x128 (shapeCast S1x128 (sT c arg1 f1 m) shapeCasts_S1x128_S1x128) broadcasts_S1x128_S32x128)
/-- The largest magnitudes of the first `n` lane groups. -/
def mxV (r : ℕ) (hr : r + 32 ≤ 768) : ℕ → FVec F S32x128 .f32
  | 0 => broadcast S32x128 (Scalar.ofBits .f32 0x00000000#32)
  | n + 1 => maximumf (mxV r hr n) (absf (hV c arg0 arg1 f0 f1 fl r hr n))
/-- A row's scale, on every lane. -/
def scV (r : ℕ) (hr : r + 32 ≤ 768) : FVec F S32x128 .f32 := k0_pay34 (mxV c arg0 arg1 f0 f1 fl r hr 40)
/-- A lane group's rounded and clipped values, -/
def qV (r : ℕ) (hr : r + 32 ≤ 768) (m : ℕ) : FVec F S32x128 .f32 :=
  minimumf (broadcast S32x128 (Scalar.ofBits .f32 0x42FE0000#32)) (maximumf (broadcast S32x128 (Scalar.ofBits .f32 0xC2FE0000#32))
    (roundeven (divf (hV c arg0 arg1 f0 f1 fl r hr m) (scV c arg0 arg1 f0 f1 fl r hr))))
/-- and its codes. -/
def codeV (r : ℕ) (hr : r + 32 ≤ 768) (m : ℕ) : IVec S32x128 8 := fptosi 8 (qV c arg0 arg1 f0 f1 fl r hr m)
/-- The first `n` stores of a step into the codes' buffer, newest first. -/
def saPieces (r : ℕ) (hr : r + 32 ≤ 768) : ℕ → List (View.Piece (Elt F) S768x5120 .i8)
  | 0 => []
  | n + 1 => ⟨xR r hr n, shapeCast S32x128 (codeV c arg0 arg1 f0 f1 fl r hr n) shapeCasts_S32x128_S32x128⟩ :: saPieces r hr n
/-- A step's store into the scales' buffer. -/
def srPieces (r : ℕ) (hr : r + 32 ≤ 768) : List (View.Piece (Elt F) S768x128 .f32) :=
  [⟨Rect.unit (s := S768x128) ![r, 0] S32x128.size (s_inb r hr), shapeCast S32x128 (scV c arg0 arg1 f0 f1 fl r hr) shapeCasts_S32x128_S32x128⟩]

theorem whole_emb {s : Shape} (x : s.Idx) : (Rect.whole s).emb x = x := by
  funext a; exact Fin.ext (by show 0 + 1 * (x a).val = (x a).val; omega)
/-- The place at a row and a column. -/
def at2 (n m : ℕ) [NeZero n] [NeZero m] (x y : ℕ) : (⟨2, ![n, m]⟩ : Shape).Idx := Idealize.ShloMosaic.ValueIdx.ix2 (Fin.ofNat n x) (Fin.ofNat m y)
theorem at2_eq {n m : ℕ} [NeZero n] [NeZero m] (j : (⟨2, ![n, m]⟩ : Shape).Idx) {x y : ℕ} (hx : (j 0).val = x) (hy : (j 1).val = y) :
    j = at2 n m x y := by
  have h0 : (j 0).val < n := (j 0).isLt
  have h1 : (j 1).val < m := (j 1).isLt
  funext a
  match a with
  | ⟨0, _⟩ => exact Fin.ext (hx.trans (Nat.mod_eq_of_lt (hx ▸ h0) : x % n = x).symm)
  | ⟨1, _⟩ => exact Fin.ext (hy.trans (Nat.mod_eq_of_lt (hy ▸ h1) : y % m = y).symm)
theorem at2_0 {n m : ℕ} [NeZero n] [NeZero m] {x y : ℕ} (h : x < n) : (at2 n m x y 0).val = x := Nat.mod_eq_of_lt h
theorem at2_1 {n m : ℕ} [NeZero n] [NeZero m] {x y : ℕ} (h : y < m) : (at2 n m x y 1).val = y := Nat.mod_eq_of_lt h

theorem row_le (x : Fin 768) : 32 * (x.val / 32) + 32 ≤ 768 := by have := x.isLt; omega
/-- All the codes, -/
def CODES : S768x5120.Idx → Elt F .i8 := fun y =>
  codeV c arg0 arg1 f0 f1 fl (32 * ((y 0).val / 32)) (row_le (y 0)) ((y 1).val / 128) (at2 32 128 ((y 0).val % 32) ((y 1).val % 128))
/-- and all the scales, on every lane. -/
def SCALES : S768x128.Idx → Elt F .f32 := fun y =>
  scV c arg0 arg1 f0 f1 fl (32 * ((y 0).val / 32)) (row_le (y 0)) (at2 32 128 ((y 0).val % 32) (y 1).val)

theorem saPieces_mem (r : ℕ) (hr : r + 32 ≤ 768) (n : ℕ) (hn : n ≤ 40) (p : View.Piece (Elt F) S768x5120 .i8)
    (hp : p ∈ saPieces c arg0 arg1 f0 f1 fl r hr n) :
    ∃ m < 40, p = ⟨xR r hr m, shapeCast S32x128 (codeV c arg0 arg1 f0 f1 fl r hr m) shapeCasts_S32x128_S32x128⟩ := by
  induction n with
  | zero => exact absurd hp List.not_mem_nil
  | succ n ih =>
    rcases List.mem_cons.mp hp with h | h
    · exact ⟨n, by omega, h⟩
    · exact ih (by omega) h
theorem saPieces_of (r : ℕ) (hr : r + 32 ≤ 768) (n m : ℕ) (hm : m < n) :
    (⟨xR r hr m, shapeCast S32x128 (codeV c arg0 arg1 f0 f1 fl r hr m) shapeCasts_S32x128_S32x128⟩ : View.Piece (Elt F) S768x5120 .i8)
      ∈ saPieces c arg0 arg1 f0 f1 fl r hr n := by
  induction n with
  | zero => omega
  | succ n ih =>
    by_cases h : m = n
    · subst h; exact List.mem_cons_self
    · exact List.mem_cons_of_mem _ (ih (by omega))

theorem code_at (n : ℕ) (hn : n < 24) (hr : 32 * n + 32 ≤ 768) (m : ℕ) (hm : m < 40) (x : S32x128.Idx) :
    shapeCast S32x128 (codeV c arg0 arg1 f0 f1 fl (32 * n) hr m) shapeCasts_S32x128_S32x128 x = CODES c arg0 arg1 f0 f1 fl ((xR (32 * n) hr m).emb x) := by
  have h0 : (x 0).val < 32 := (x 0).isLt
  have h1 : (x 1).val < 128 := (x 1).isLt
  have e0 : (((xR (32 * n) hr m).emb x) 0).val = 32 * n + (x 0).val := by show 32 * n + 1 * (x 0).val = _; omega
  have e1 : (((xR (32 * n) hr m).emb x) 1).val = 128 * m + (x 1).val := by show 128 * (m % 40) + 1 * (x 1).val = _; rw [Nat.mod_eq_of_lt hm]; omega
  rw [shapeCast_self]
  unfold CODES
  have key : ∀ (r' m' a b : ℕ) (h' : r' + 32 ≤ 768), r' = 32 * n → m' = m → a = (x 0).val → b = (x 1).val →
      codeV c arg0 arg1 f0 f1 fl (32 * n) hr m x = codeV c arg0 arg1 f0 f1 fl r' h' m' (at2 32 128 a b) := by
    intro r' m' a b h' e1 e2 e3 e4; subst e1 e2 e3 e4; exact congrArg _ (at2_eq (n := 32) (m := 128) x rfl rfl)
  exact key _ _ _ _ _ (by rw [e0]; omega) (by rw [e1]; omega) (by rw [e0]; omega) (by rw [e1]; omega)

/-- After a step its row tile holds the codes. -/
theorem sa_read (n : ℕ) (hn : n < 24) (hr : 32 * n + 32 ≤ 768) (fs : Buf (Elt F) (saM.view.loc (c : Thread nD τ))) (y : S768x5120.Idx)
    (hy : (y 0).val / 32 = n) :
    saM.view.read (Elt F) (saM.view.writes (Elt F) fs (saPieces c arg0 arg1 f0 f1 fl (32 * n) hr 40)) y = CODES c arg0 arg1 f0 f1 fl y := by
  have h0 : (y 0).val < 768 := (y 0).isLt
  have h1 : (y 1).val < 5120 := (y 1).isLt
  refine View.read_writes_apply_of_pieces saM.view fs (CODES c arg0 arg1 f0 f1 fl) _ ?_ y ?_
  · intro p hp
    obtain ⟨m, hm, rfl⟩ := saPieces_mem c arg0 arg1 f0 f1 fl _ hr 40 (le_refl _) p hp
    exact fun x => code_at c arg0 arg1 f0 f1 fl n hn hr m hm x
  · refine ⟨_, saPieces_of c arg0 arg1 f0 f1 fl _ hr 40 ((y 1).val / 128) (by omega), (Rect.mem_set_unit (inb := x_inb _ hr _)).mpr fun a => ?_⟩
    match a with
    | ⟨0, _⟩ => exact (by show 32 * n ≤ (y 0).val ∧ (y 0).val < 32 * n + 32; omega)
    | ⟨1, _⟩ => exact (by show 128 * ((y 1).val / 128 % 40) ≤ (y 1).val ∧ (y 1).val < 128 * ((y 1).val / 128 % 40) + 128; omega)

/-- After a step its row tile holds the scales. -/
theorem sr_read (n : ℕ) (hn : n < 24) (hr : 32 * n + 32 ≤ 768) (fr : Buf (Elt F) (srM.view.loc (c : Thread nD τ))) (y : S768x128.Idx)
    (hy : (y 0).val / 32 = n) :
    srM.view.read (Elt F) (srM.view.writes (Elt F) fr (srPieces c arg0 arg1 f0 f1 fl (32 * n) hr)) y = SCALES c arg0 arg1 f0 f1 fl y := by
  have h0 : (y 0).val < 768 := (y 0).isLt
  have h1 : (y 1).val < 128 := (y 1).isLt
  refine View.read_writes_apply_of_pieces srM.view fr (SCALES c arg0 arg1 f0 f1 fl) _ ?_ y ?_
  · intro p hp
    obtain rfl := List.mem_singleton.mp hp
    intro x
    have h0 : (x 0).val < 32 := (x 0).isLt
    have e0 : (((Rect.unit (s := S768x128) ![32 * n, 0] S32x128.size (s_inb _ hr)).emb x) 0).val = 32 * n + (x 0).val := by show 32 * n + 1 * (x 0).val = _; omega
    have e1 : (((Rect.unit (s := S768x128) ![32 * n, 0] S32x128.size (s_inb _ hr)).emb x) 1).val = (x 1).val := by show 0 + 1 * (x 1).val = _; omega
    change shapeCast S32x128 (scV c arg0 arg1 f0 f1 fl (32 * n) hr) shapeCasts_S32x128_S32x128 x
      = SCALES c arg0 arg1 f0 f1 fl ((Rect.unit (s := S768x128) ![32 * n, 0] S32x128.size (s_inb _ hr)).emb x)
    rw [shapeCast_self]
    unfold SCALES
    have key : ∀ (r' a b : ℕ) (h' : r' + 32 ≤ 768), r' = 32 * n → a = (x 0).val → b = (x 1).val →
        scV c arg0 arg1 f0 f1 fl (32 * n) hr x = scV c arg0 arg1 f0 f1 fl r' h' (at2 32 128 a b) := by
      intro r' a b h' e1 e3 e4; subst e1 e3 e4; exact congrArg _ (at2_eq (n := 32) (m := 128) x rfl rfl)
    exact key _ _ _ _ (by rw [e0]; omega) (by rw [e0]; omega) e1
  · refine ⟨_, List.mem_singleton_self _, (Rect.mem_set_unit (inb := s_inb _ hr)).mpr fun a => ?_⟩
    match a with
    | ⟨0, _⟩ => exact (by show 32 * n ≤ (y 0).val ∧ (y 0).val < 32 * n + 32; omega)
    | ⟨1, _⟩ => exact (by show 0 ≤ (y 1).val ∧ (y 1).val < 0 + 128; omega)

theorem mem_row {n : ℕ} {h : n < 24} {y : S768x5120.Idx} (hy : y ∈ (rowR n h).set) : (y 0).val / 32 = n := by
  have := (Rect.mem_set_unit (inb := row_inb n h)).mp hy 0
  have h2 : 32 * n ≤ (y 0).val ∧ (y 0).val < 32 * n + 32 := this
  omega
theorem mem_srow {n : ℕ} {h : n < 24} {y : S768x128.Idx} (hy : y ∈ (srowR n h).set) : (y 0).val / 32 = n := by
  have := (Rect.mem_set_unit (inb := srow_inb n h)).mp hy 0
  have h2 : 32 * n ≤ (y 0).val ∧ (y 0).val < 32 * n + 32 := this
  omega

/-- The codes' buffer when all is written, -/
def SA : Buf (Elt F) (saM.view.loc (c : Thread nD τ)) := CODES c arg0 arg1 f0 f1 fl
/-- the codes' result, -/
def SC : Buf (Elt F) (scM.view.loc (c : Thread nD τ)) := CODES c arg0 arg1 f0 f1 fl
/-- and the scales' buffer. -/
def SR : Buf (Elt F) (srM.view.loc (c : Thread nD τ)) := SCALES c arg0 arg1 f0 f1 fl

theorem saT_set (n : ℕ) (h : n < 24) : (saT n h).view.set = (rowR n h).set := View.set_slice_whole _ _
theorem scT_set (n : ℕ) (h : n < 24) : (scT n h).view.set = (rowR n h).set := View.set_slice_whole _ _
theorem saM_set (n : ℕ) (h : n < 24) : saM.view.setOn (rowR n h).set = (rowR n h).set :=
  (View.set_slice saM.view (rowR n h)).symm.trans (View.set_slice_whole cc0_scoped1 (rowR n h))
theorem lhM_set (n : ℕ) (h : n < 24) : lhM.view.setOn (rowR n h).set = (rowR n h).set :=
  (View.set_slice lhM.view (rowR n h)).symm.trans (View.set_slice_whole cc0_scoped0 (rowR n h))
theorem srM_set (n : ℕ) (h : n < 24) : srM.view.setOn (srowR n h).set = (srowR n h).set :=
  (View.set_slice srM.view (srowR n h)).symm.trans (View.set_slice_whole cc0_scratch0 (srowR n h))

/-- The row a trip of the loop begins at. -/
abbrev kRow (k : Trip) : ℕ := (Scalar.indexCast (Scalar.muli (Scf.iv 0#32 1#32 k.val) 32#32)).toNat
theorem kRow_eq (k : Trip) : kRow k = 32 * k.val := congrFun (k0_off42_eq k) 0
theorem kRow_le (k : Trip) : kRow k + 32 ≤ 768 := by rw [kRow_eq]; have := lt1 k; omega

/-- After a trip its tile of the codes' buffer has its final contents, -/
theorem sa_done (k : Trip) (fs : Buf (Elt F) (saM.view.loc (c : Thread nD τ))) :
    saP c k.val (lt1 k) (saM.view.writes (Elt F) fs (saPieces c arg0 arg1 f0 f1 fl (kRow k) (kRow_le k) 40))
      = saP c k.val (lt1 k) (SA c arg0 arg1 f0 f1 fl) := by
  have key : ∀ r (h : r + 32 ≤ 768), r = 32 * k.val → saP c k.val (lt1 k) (saM.view.writes (Elt F) fs (saPieces c arg0 arg1 f0 f1 fl r h 40))
      = saP c k.val (lt1 k) (SA c arg0 arg1 f0 f1 fl) := by
    intro r h e; subst e
    refine pointsTo_congr fun i hi => ?_
    rw [saM_set] at hi
    exact sa_read c arg0 arg1 f0 f1 fl k.val (lt1 k) h fs i (mem_row hi)
  exact key _ _ (kRow_eq k)
/-- and of the scales' buffer. -/
theorem sr_done (k : Trip) (fr : Buf (Elt F) (srM.view.loc (c : Thread nD τ))) :
    srP c k.val (lt1 k) (srM.view.writes (Elt F) fr (srPieces c arg0 arg1 f0 f1 fl (kRow k) (kRow_le k)))
      = srP c k.val (lt1 k) (SR c arg0 arg1 f0 f1 fl) := by
  have key : ∀ r (h : r + 32 ≤ 768), r = 32 * k.val → srP c k.val (lt1 k) (srM.view.writes (Elt F) fr (srPieces c arg0 arg1 f0 f1 fl r h))
      = srP c k.val (lt1 k) (SR c arg0 arg1 f0 f1 fl) := by
    intro r h e; subst e
    refine pointsTo_congr fun i hi => ?_
    rw [srM_set] at hi
    exact sr_read c arg0 arg1 f0 f1 fl k.val (lt1 k) h fr i (mem_srow hi)
  exact key _ _ (kRow_eq k)
/-- A tile of the codes' buffer, held as a tile or as a part of the whole. -/
theorem saP_eq (n : ℕ) (h : n < 24) (f : Buf (Elt F) (saM.view.loc (c : Thread nD τ))) : saP c n h f = saP' c n h f := by
  unfold saP saP'
  rw [saM_set, saT_set]
  rfl
theorem sc_at (n : ℕ) (h : n < 24) (fo : Buf (Elt F) (scM.view.loc (c : Thread nD τ))) (j : S32x5120.Idx) :
    (scT n h).view.read (Elt F) (scLanded c n h fo (SA c arg0 arg1 f0 f1 fl)) j = CODES c arg0 arg1 f0 f1 fl ((rowR n h).emb j) := by
  refine (congrArg _ (whole_emb (s := S32x5120) j).symm).trans ((View.read_writes_cons_emb (scT n h).view _ (Rect.whole S32x5120) _ [] j).trans ?_)
  rfl
theorem scP_congr (n : ℕ) (h : n < 24) (f g : Buf (Elt F) (scM.view.loc (c : Thread nD τ)))
    (e : (scT n h).view.read (Elt F) f = (scT n h).view.read (Elt F) g) : scP c n h f = scP c n h g := by
  refine pointsTo_congr fun i hi => ?_
  obtain ⟨z, -, rfl⟩ := Finset.mem_map.mp hi
  exact congrFun e z
/-- A copied tile of the codes has the result's final contents. -/
theorem sc_done (n : ℕ) (h : n < 24) (fo : Buf (Elt F) (scM.view.loc (c : Thread nD τ))) :
    scP c n h (scLanded c n h fo (SA c arg0 arg1 f0 f1 fl)) = scP c n h (SC c arg0 arg1 f0 f1 fl) :=
  scP_congr c n h _ _ (funext fun j => sc_at c arg0 arg1 f0 f1 fl n h fo j)
end Tile

end Cert.Proof.PrepKernelIdeal

end
-- ==== Proof.PTripKI.lean ====
module

public import proofs.«01_k».proof.Defs
public import proofs.«01_k».proof.Proof.Gen.PrepKernelIdeal.Launch
public import proofs.«01_k».proof.Proof.Gen.PrepKernelIdeal.Skeleton
public import proofs.«01_k».proof.Proof.Gen.PrepKernelIdeal.Loops
public import proofs.«01_k».proof.Proof.Gen.PrepKernelIdeal.Points
public import proofs.«01_k».proof.Proof.Gen.PrepKernelIdeal.Frame
public import Idealize.ShloMosaic.Lib.Pipeline.KitQuiescent
public import Idealize.ShloMosaic.Lib.Ring
public import Idealize.ShloMosaic.Lib.Ring.WriteBehind
public import Idealize.ShloMosaic.Lib.Affine
public import Idealize.ShloMosaic.Lib.Tactic
public import Idealize.ShloMosaic.Lib.Batch
public import proofs.«01_k».proof.Proof.PBaseKI

@[expose] public section

set_option maxRecDepth 16384

noncomputable section

namespace Cert.Proof.PrepKernelIdeal

open Cert.PrepKernelIdeal Cert.PrepKernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Trip
variable (c : Dev nD)
  (arg0 : Memref sig .tc .vmem S1x5120 .f32) (harg0 : arg0.IsWhole)
  (arg1 : Memref sig .tc .vmem S1x5120 .f32) (harg1 : arg1.IsWhole)
  (arg4 : Memref sig .tc .vmem S6x128 .f32) (harg4 : arg4.IsWhole)

abbrev tripG (k : Trip) : Prog (TpuEff nD τ sig (Elt F) Λ₀ .tc) Unit :=
  k0_t1_body (F := F) arg0 harg0 arg1 harg1 xM (Memref.isWhole_whole _) scM (Memref.isWhole_whole _) arg4 harg4 srM (Memref.isWhole_whole _) cc0_scratch1
    lhM (Memref.isWhole_whole _) saM (Memref.isWhole_whole _) k ()

/-- One trip: it computes a row tile's scales and codes, and starts the copy of the codes. -/
theorem trip (k : Trip)
    (f0 : Buf (Elt F) (arg0.view.loc (c : Thread nD τ))) (f1 : Buf (Elt F) (arg1.view.loc (c : Thread nD τ)))
    (fl : Buf (Elt F) (lhM.view.loc (c : Thread nD τ))) (fs : Buf (Elt F) (saM.view.loc (c : Thread nD τ)))
    (fo : Buf (Elt F) (scM.view.loc (c : Thread nD τ))) (fr : Buf (Elt F) (srM.view.loc (c : Thread nD τ))) :
    iprop((arg0.view.loc (c : Thread nD τ) ↦[arg0.view.set]{fullShare} f0)
      ∗ (arg1.view.loc (c : Thread nD τ) ↦[arg1.view.set]{fullShare} f1)
      ∗ lhP c k.val (lt1 k) fl ∗ saP c k.val (lt1 k) fs ∗ scP c k.val (lt1 k) fo ∗ srP c k.val (lt1 k) fr
      ∗ cBatch c fo (SA c arg0 arg1 f0 f1 fl) k.val 0)
      ⊢ wp frame (wpE (defs₀ (F := F)) 𝒱₀ (c : Thread nD τ) none) Set.univ (tripG arg0 harg0 arg1 harg1 arg4 harg4 k)
        (fun _ => iprop((arg0.view.loc (c : Thread nD τ) ↦[arg0.view.set]{fullShare} f0)
          ∗ (arg1.view.loc (c : Thread nD τ) ↦[arg1.view.set]{fullShare} f1)
          ∗ (∃ fl, lhP c k.val (lt1 k) fl) ∗ srP c k.val (lt1 k) (SR c arg0 arg1 f0 f1 fl)
          ∗ cBatch c fo (SA c arg0 arg1 f0 f1 fl) (k.val + 1) 0)) := by
  iintro ⟨H0, H1, HL, HS, HO, HR, HB⟩
  sl_unfold [tripG, k0_t1_body]
  sl_exec_parts
  have eS : trip.sl.HS_40 c arg0 arg1 k f0 f1 fl = saPieces c arg0 arg1 f0 f1 fl (kRow k) (kRow_le k) 40 := rfl
  have eR : trip.sl.HR_1 c arg0 arg1 k f0 f1 fl = srPieces c arg0 arg1 f0 f1 fl (kRow k) (kRow_le k) := rfl
  ihave HR2 := (entails_of_eq ((congrArg (fun l => srP c k.val (lt1 k) (srM.view.writes (Elt F) fr l)) eR).trans (sr_done c arg0 arg1 f0 f1 fl k fr))) $$ [HR]
  · iexact HR
  ihave HS2 := (entails_of_eq (((congrArg (fun l => saP c k.val (lt1 k) (saM.view.writes (Elt F) fs l)) eS).trans (sa_done c arg0 arg1 f0 f1 fl k fs)).trans (saP_eq c k.val (lt1 k) _))) $$ [HS]
  · iexact HS
  sl_exec_parts
  sl_step
  isplitl [H0]; · iexact H0
  isplitl [H1]; · iexact H1
  isplitl [HL]; · iexists _; iexact HL
  isplitl [HR2]; · iexact HR2
  iexact HB
end Trip

end Cert.Proof.PrepKernelIdeal

end
-- ==== Proof.PInvKI.lean ====
module

public import proofs.«01_k».proof.Defs
public import proofs.«01_k».proof.Proof.Gen.PrepKernelIdeal.Launch
public import proofs.«01_k».proof.Proof.Gen.PrepKernelIdeal.Skeleton
public import proofs.«01_k».proof.Proof.Gen.PrepKernelIdeal.Loops
public import proofs.«01_k».proof.Proof.Gen.PrepKernelIdeal.Points
public import proofs.«01_k».proof.Proof.Gen.PrepKernelIdeal.Frame
public import Idealize.ShloMosaic.Lib.Pipeline.KitQuiescent
public import Idealize.ShloMosaic.Lib.Ring
public import Idealize.ShloMosaic.Lib.Ring.WriteBehind
public import Idealize.ShloMosaic.Lib.Affine
public import Idealize.ShloMosaic.Lib.Tactic
public import Idealize.ShloMosaic.Lib.Batch
public import proofs.«01_k».proof.Proof.PBaseKI
public import proofs.«01_k».proof.Proof.PTripKI

@[expose] public section

set_option maxRecDepth 16384

noncomputable section

namespace Cert.Proof.PrepKernelIdeal

open Cert.PrepKernelIdeal Cert.PrepKernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## Tiles and whole buffers -/

abbrev RB (b : Fin 24) : Finset S768x5120.Idx := (rowR b.val b.isLt).set
abbrev SB (b : Fin 24) : Finset S768x128.Idx := (srowR b.val b.isLt).set
theorem mem_RB (b : Fin 24) (y : S768x5120.Idx) : y ∈ RB b ↔ (y 0).val / 32 = b.val := by
  refine ⟨mem_row, fun h => (Rect.mem_set_unit (inb := row_inb _ b.isLt)).mpr fun a => ?_⟩
  have h1 : (y 1).val < 5120 := (y 1).isLt
  match a with
  | ⟨0, _⟩ => exact (by show 32 * b.val ≤ (y 0).val ∧ (y 0).val < 32 * b.val + 32; omega)
  | ⟨1, _⟩ => exact (by show 0 ≤ (y 1).val ∧ (y 1).val < 0 + 5120; omega)
theorem mem_SB (b : Fin 24) (y : S768x128.Idx) : y ∈ SB b ↔ (y 0).val / 32 = b.val := by
  refine ⟨mem_srow, fun h => (Rect.mem_set_unit (inb := srow_inb _ b.isLt)).mpr fun a => ?_⟩
  have h1 : (y 1).val < 128 := (y 1).isLt
  match a with
  | ⟨0, _⟩ => exact (by show 32 * b.val ≤ (y 0).val ∧ (y 0).val < 32 * b.val + 32; omega)
  | ⟨1, _⟩ => exact (by show 0 ≤ (y 1).val ∧ (y 1).val < 0 + 128; omega)
theorem RB_disjoint : ∀ b b' : Fin 24, b ≠ b' → Disjoint (RB b) (RB b') := by
  intro b b' hne; rw [Finset.disjoint_left]; intro y hy hy'; rw [mem_RB] at hy hy'; exact hne (Fin.ext (hy.symm.trans hy'))
theorem SB_disjoint : ∀ b b' : Fin 24, b ≠ b' → Disjoint (SB b) (SB b') := by
  intro b b' hne; rw [Finset.disjoint_left]; intro y hy hy'; rw [mem_SB] at hy hy'; exact hne (Fin.ext (hy.symm.trans hy'))
theorem RB_cover : (Finset.univ : Finset (Fin 24)).biUnion RB = Finset.univ := by
  ext y; rw [Finset.mem_biUnion]; simp only [Finset.mem_univ, true_and, iff_true]
  have h0 : (y 0).val < 768 := (y 0).isLt
  exact ⟨⟨(y 0).val / 32, by omega⟩, by rw [mem_RB]⟩
theorem SB_cover : (Finset.univ : Finset (Fin 24)).biUnion SB = Finset.univ := by
  ext y; rw [Finset.mem_biUnion]; simp only [Finset.mem_univ, true_and, iff_true]
  have h0 : (y 0).val < 768 := (y 0).isLt
  exact ⟨⟨(y 0).val / 32, by omega⟩, by rw [mem_SB]⟩

section Whole
variable (c : Dev nD)
theorem lh_whole (f : Buf (Elt F) ((c : Thread nD τ).loc cc0_scoped0)) :
    (((c : Thread nD τ).loc cc0_scoped0) ↦{fullShare} f : sProp 𝕄) = (lhM.view.loc (c : Thread nD τ) ↦[lhM.view.set]{fullShare} f) :=
  congrArg (fun S => (((c : Thread nD τ).loc cc0_scoped0) ↦[S]{fullShare} f : sProp 𝕄)) (View.set_whole cc0_scoped0).symm
theorem sa_whole (f : Buf (Elt F) ((c : Thread nD τ).loc cc0_scoped1)) :
    (((c : Thread nD τ).loc cc0_scoped1) ↦{fullShare} f : sProp 𝕄) = (saM.view.loc (c : Thread nD τ) ↦[saM.view.set]{fullShare} f) :=
  congrArg (fun S => (((c : Thread nD τ).loc cc0_scoped1) ↦[S]{fullShare} f : sProp 𝕄)) (View.set_whole cc0_scoped1).symm
theorem sr_whole (f : Buf (Elt F) ((c : Thread nD τ).loc cc0_scratch0)) :
    (((c : Thread nD τ).loc cc0_scratch0) ↦{fullShare} f : sProp 𝕄) = (srM.view.loc (c : Thread nD τ) ↦[srM.view.set]{fullShare} f) :=
  congrArg (fun S => (((c : Thread nD τ).loc cc0_scratch0) ↦[S]{fullShare} f : sProp 𝕄)) (View.set_whole cc0_scratch0).symm
theorem sc_whole (f : Buf (Elt F) ((c : Thread nD τ).loc main_v3_0)) :
    (((c : Thread nD τ).loc main_v3_0) ↦{fullShare} f : sProp 𝕄) = (scM.view.loc (c : Thread nD τ) ↦[scM.view.set]{fullShare} f) :=
  congrArg (fun S => (((c : Thread nD τ).loc main_v3_0) ↦[S]{fullShare} f : sProp 𝕄)) (View.set_whole main_v3_0).symm
theorem x_whole (f : Buf (Elt F) ((c : Thread nD τ).loc main_v2)) :
    (((c : Thread nD τ).loc main_v2) ↦{fullShare} f : sProp 𝕄) = (xM.view.loc (c : Thread nD τ) ↦[xM.view.set]{fullShare} f) :=
  congrArg (fun S => (((c : Thread nD τ).loc main_v2) ↦[S]{fullShare} f : sProp 𝕄)) (View.set_whole main_v2).symm
theorem lh_tiles (f : Buf (Elt F) ((c : Thread nD τ).loc cc0_scoped0)) :
    (((c : Thread nD τ).loc cc0_scoped0) ↦{fullShare} f : sProp 𝕄) = bigSep Finset.univ (fun b : Fin 24 => lhP c b.val b.isLt f) := by
  rw [Ring.pointsTo_blocks (ℓ := (c : Thread nD τ).loc cc0_scoped0) RB RB_disjoint RB_cover]
  exact bigSep_congr fun b _ => congrArg (fun S => (((c : Thread nD τ).loc cc0_scoped0) ↦[S]{fullShare} f : sProp 𝕄)) (lhM_set b.val b.isLt).symm
theorem sa_tiles (f : Buf (Elt F) ((c : Thread nD τ).loc cc0_scoped1)) :
    (((c : Thread nD τ).loc cc0_scoped1) ↦{fullShare} f : sProp 𝕄) = bigSep Finset.univ (fun b : Fin 24 => saP c b.val b.isLt f) := by
  rw [Ring.pointsTo_blocks (ℓ := (c : Thread nD τ).loc cc0_scoped1) RB RB_disjoint RB_cover]
  exact bigSep_congr fun b _ => congrArg (fun S => (((c : Thread nD τ).loc cc0_scoped1) ↦[S]{fullShare} f : sProp 𝕄)) (saM_set b.val b.isLt).symm
theorem sr_tiles (f : Buf (Elt F) ((c : Thread nD τ).loc cc0_scratch0)) :
    (((c : Thread nD τ).loc cc0_scratch0) ↦{fullShare} f : sProp 𝕄) = bigSep Finset.univ (fun b : Fin 24 => srP c b.val b.isLt f) := by
  rw [Ring.pointsTo_blocks (ℓ := (c : Thread nD τ).loc cc0_scratch0) SB SB_disjoint SB_cover]
  exact bigSep_congr fun b _ => congrArg (fun S => (((c : Thread nD τ).loc cc0_scratch0) ↦[S]{fullShare} f : sProp 𝕄)) (srM_set b.val b.isLt).symm
theorem sc_tiles (f : Buf (Elt F) ((c : Thread nD τ).loc main_v3_0)) :
    (((c : Thread nD τ).loc main_v3_0) ↦{fullShare} f : sProp 𝕄) = bigSep Finset.univ (fun b : Fin 24 => scP c b.val b.isLt f) := by
  rw [Ring.pointsTo_blocks (ℓ := (c : Thread nD τ).loc main_v3_0) RB RB_disjoint RB_cover]
  exact bigSep_congr fun b _ => congrArg (fun S => (((c : Thread nD τ).loc main_v3_0) ↦[S]{fullShare} f : sProp 𝕄)) (scT_set b.val b.isLt).symm
/-- Tiles of the activations' buffer, each with contents of its own, are the buffer. -/
theorem lh_join (f₀ : Buf (Elt F) ((c : Thread nD τ).loc cc0_scoped0)) :
    bigSep Finset.univ (fun b : Fin 24 => iprop(∃ f, lhP c b.val b.isLt f))
      ⊢ (iprop(∃ f : Buf (Elt F) ((c : Thread nD τ).loc cc0_scoped0), ((c : Thread nD τ).loc cc0_scoped0) ↦{fullShare} f) : sProp 𝕄) := by
  refine (entails_of_eq (bigSep_congr fun b _ => ?_)).trans (Ring.pointsTo_blocks_join_exists (ℓ := (c : Thread nD τ).loc cc0_scoped0) RB RB_disjoint RB_cover f₀)
  exact congrArg (fun S => (iprop(∃ f, ((c : Thread nD τ).loc cc0_scoped0) ↦[S]{fullShare} f) : sProp 𝕄)) (lhM_set b.val b.isLt)
end Whole

/-! ## The loops -/

section Inv
variable (c : Dev nD)
  (arg0 : Memref sig .tc .vmem S1x5120 .f32) (harg0 : arg0.IsWhole)
  (arg1 : Memref sig .tc .vmem S1x5120 .f32) (harg1 : arg1.IsWhole)
  (arg4 : Memref sig .tc .vmem S6x128 .f32) (harg4 : arg4.IsWhole)
  (f0 : Buf (Elt F) (arg0.view.loc (c : Thread nD τ))) (f1 : Buf (Elt F) (arg1.view.loc (c : Thread nD τ)))
  (fl : Buf (Elt F) (lhM.view.loc (c : Thread nD τ))) (fs : Buf (Elt F) (saM.view.loc (c : Thread nD τ)))
  (fo : Buf (Elt F) (scM.view.loc (c : Thread nD τ))) (fr : Buf (Elt F) (srM.view.loc (c : Thread nD τ)))

/-- A row tile of the buffers before its trip, -/
def tTodo (b : Fin 24) : sProp 𝕄 := iprop(lhP c b.val b.isLt fl ∗ saP c b.val b.isLt fs ∗ scP c b.val b.isLt fo ∗ srP c b.val b.isLt fr)
/-- and after it. -/
def tDone (b : Fin 24) : sProp 𝕄 := iprop((∃ f, lhP c b.val b.isLt f) ∗ srP c b.val b.isLt (SR c arg0 arg1 f0 f1 fl))
def tAt (k : ℕ) (b : Fin 24) : sProp 𝕄 := if b.val < k then tDone c arg0 arg1 f0 f1 fl b else tTodo c fl fs fo fr b
/-- What holds before trip `k`. -/
def Inv (k : ℕ) : sProp 𝕄 :=
  iprop((arg0.view.loc (c : Thread nD τ) ↦[arg0.view.set]{fullShare} f0)
    ∗ (arg1.view.loc (c : Thread nD τ) ↦[arg1.view.set]{fullShare} f1)
    ∗ bigSep Finset.univ (tAt c arg0 arg1 f0 f1 fl fs fo fr k) ∗ cBatch c fo (SA c arg0 arg1 f0 f1 fl) k 0)

theorem at_open (b : Fin 24) : bigSep Finset.univ (tAt c arg0 arg1 f0 f1 fl fs fo fr b.val)
    = iprop(tTodo c fl fs fo fr b ∗ bigSep (Finset.univ.erase b) (tAt c arg0 arg1 f0 f1 fl fs fo fr b.val)) := by
  rw [Idealize.SL.BI.bigSep_erase (Finset.mem_univ b)]
  unfold tAt
  rw [if_neg (lt_irrefl _)]
  rfl
theorem at_close (b : Fin 24) : bigSep Finset.univ (tAt c arg0 arg1 f0 f1 fl fs fo fr (b.val + 1))
    = iprop(tDone c arg0 arg1 f0 f1 fl b ∗ bigSep (Finset.univ.erase b) (tAt c arg0 arg1 f0 f1 fl fs fo fr b.val)) := by
  rw [Idealize.SL.BI.bigSep_erase (Finset.mem_univ b)]
  have e : tAt c arg0 arg1 f0 f1 fl fs fo fr (b.val + 1) b = tDone c arg0 arg1 f0 f1 fl b := if_pos (Nat.lt_succ_self _)
  rw [e]
  congr 1
  refine bigSep_congr fun b' hb => ?_
  have hne : b'.val ≠ b.val := fun h => (Finset.mem_erase.mp hb).1 (Fin.ext h)
  unfold tAt
  by_cases h : b'.val < b.val
  · rw [if_pos h, if_pos (by omega)]
  · rw [if_neg h, if_neg (by omega)]
theorem at_first : bigSep Finset.univ (tAt c arg0 arg1 f0 f1 fl fs fo fr 0)
    = iprop((((c : Thread nD τ).loc cc0_scoped0) ↦{fullShare} fl) ∗ (((c : Thread nD τ).loc cc0_scoped1) ↦{fullShare} fs)
      ∗ (((c : Thread nD τ).loc main_v3_0) ↦{fullShare} fo) ∗ (((c : Thread nD τ).loc cc0_scratch0) ↦{fullShare} fr)) := by
  rw [lh_tiles, sa_tiles, sc_tiles, sr_tiles, ← bigSep_sep', ← bigSep_sep', ← bigSep_sep']
  exact bigSep_congr fun b _ => if_neg (Nat.not_lt_zero _)
theorem at_last : bigSep Finset.univ (tAt c arg0 arg1 f0 f1 fl fs fo fr 24)
    ⊢ iprop((∃ f : Buf (Elt F) ((c : Thread nD τ).loc cc0_scoped0), ((c : Thread nD τ).loc cc0_scoped0) ↦{fullShare} f)
      ∗ (((c : Thread nD τ).loc cc0_scratch0) ↦{fullShare} SR c arg0 arg1 f0 f1 fl)) := by
  have e : bigSep Finset.univ (tAt c arg0 arg1 f0 f1 fl fs fo fr 24)
      = bigSep Finset.univ (fun b : Fin 24 => iprop((∃ f, lhP c b.val b.isLt f) ∗ srP c b.val b.isLt (SR c arg0 arg1 f0 f1 fl))) :=
    bigSep_congr fun b _ => if_pos b.isLt
  rw [sr_tiles, e, bigSep_sep']
  iintro ⟨H1, H2⟩
  isplitl [H1]; · iapply (lh_join c fl); iexact H1
  iexact H2
/-- The copies' deliveries are the result and the codes' buffer. -/
theorem landed : bigSep Finset.univ (cD c fo (SA c arg0 arg1 f0 f1 fl))
    = iprop((((c : Thread nD τ).loc main_v3_0) ↦{fullShare} SC c arg0 arg1 f0 f1 fl) ∗ (((c : Thread nD τ).loc cc0_scoped1) ↦{fullShare} SA c arg0 arg1 f0 f1 fl)) := by
  rw [sc_tiles, sa_tiles, ← bigSep_sep']
  refine bigSep_congr fun b _ => ?_
  rw [← sc_done c arg0 arg1 f0 f1 fl b.val b.isLt fo, saP_eq]

/-- A trip keeps the invariant. -/
theorem step_all (k : Trip) : Inv c arg0 arg1 f0 f1 fl fs fo fr k.val
    ⊢ wp frame (wpE (defs₀ (F := F)) 𝒱₀ (c : Thread nD τ) none) Set.univ (tripG arg0 harg0 arg1 harg1 arg4 harg4 k)
        (fun _ => Inv c arg0 arg1 f0 f1 fl fs fo fr (k.val + 1)) := by
  unfold Inv
  rw [at_open c arg0 arg1 f0 f1 fl fs fo fr ⟨k.val, lt1 k⟩, at_close c arg0 arg1 f0 f1 fl fs fo fr ⟨k.val, lt1 k⟩]
  unfold tTodo tDone
  iintro ⟨H0, H1, ⟨⟨HL, HS, HO, HR⟩, Hr⟩, HB⟩
  iapply (wp_wand_r Idealize.ShloMosaic.frame (wpE (defs₀ (F := F)) 𝒱₀ (c : Thread nD τ) none) Set.univ)
  isplitr [Hr]
  · iapply (trip c arg0 harg0 arg1 harg1 arg4 harg4 k f0 f1 fl fs fo fr)
    isplitl [H0]; · iexact H0
    isplitl [H1]; · iexact H1
    isplitl [HL]; · iexact HL
    isplitl [HS]; · iexact HS
    isplitl [HO]; · iexact HO
    isplitl [HR]; · iexact HR
    iexact HB
  · iintro %_ ⟨H0, H1, HL, HR, HB⟩
    isplitl [H0]; · iexact H0
    isplitl [H1]; · iexact H1
    isplitl [HL HR Hr]
    · isplitl [HL HR]
      · isplitl [HL]; · iexact HL
        iexact HR
      iexact Hr
    iexact HB

set_option warn.classDefReducibility false in
/-- The loop keeps the invariant. -/
def loopInv1 : LoopInvTy_k0_t1 (F := F) Unit ℕ (UU nD τ) ℕ 𝒱₀ c none Set.univ arg0 harg0 arg1 harg1 xM (Memref.isWhole_whole _) scM (Memref.isWhole_whole _)
    arg4 harg4 srM (Memref.isWhole_whole _) cc0_scratch1 lhM (Memref.isWhole_whole _) saM (Memref.isWhole_whole _) where
  inv k _ := Inv c arg0 arg1 f0 f1 fl fs fo fr k
  step k _ := by
    iintro H
    iapply (step_all c arg0 harg0 arg1 harg1 arg4 harg4 f0 f1 fl fs fo fr k)
    iexact H

/-- What holds in the loop that waits for the copies, `k` of them waited for. -/
def Inv2 (g : Buf (Elt F) (saM.view.loc (c : Thread nD τ))) (k : ℕ) : sProp 𝕄 := iprop(cBatch c fo g 24 (NC * k) ∗ ∃ W, owes (c : Thread nD τ) 0 W)

abbrev drainG (k : Trip2) : Prog (TpuEff nD τ sig (Elt F) Λ₀ .tc) Unit :=
  k0_t2_body (F := F) arg0 harg0 arg1 harg1 xM (Memref.isWhole_whole _) scM (Memref.isWhole_whole _) arg4 harg4 srM (Memref.isWhole_whole _) cc0_scratch1
    lhM (Memref.isWhole_whole _) saM (Memref.isWhole_whole _) k ()

theorem drain (g : Buf (Elt F) (saM.view.loc (c : Thread nD τ))) (k : Trip2) : Inv2 c fo g k.val
    ⊢ wp frame (wpE (defs₀ (F := F)) 𝒱₀ (c : Thread nD τ) none) Set.univ (drainG arg0 harg0 arg1 harg1 arg4 harg4 k)
        (fun _ => Inv2 c fo g (k.val + 1)) := by
  have hk := lt2 k
  have hi : Transfers.InterleavedWaits (c : Thread nD τ) (SemLoc.dma cdm.sem) := trivial
  unfold Inv2
  iintro ⟨HB, ⟨%W, HW⟩⟩
  sl_unfold [drainG, k0_t2_body]
  sl_exec
  sl_step
  isplitl [HB]; · iexact HB
  iexists _; iexact HW

set_option warn.classDefReducibility false in
/-- The second loop keeps its invariant. -/
def loopInv2 (g : Buf (Elt F) (saM.view.loc (c : Thread nD τ))) : LoopInvTy_k0_t2 (F := F) Unit ℕ (UU nD τ) ℕ 𝒱₀ c none Set.univ arg0 harg0 arg1 harg1 xM (Memref.isWhole_whole _) scM (Memref.isWhole_whole _)
    arg4 harg4 srM (Memref.isWhole_whole _) cc0_scratch1 lhM (Memref.isWhole_whole _) saM (Memref.isWhole_whole _) where
  inv k _ := Inv2 c fo g k
  step k _ := by
    iintro H
    iapply (drain c arg0 harg0 arg1 harg1 arg4 harg4 fo g k)
    iexact H
end Inv

end Cert.Proof.PrepKernelIdeal

end
-- ==== Proof.PBodyKI.lean ====
module

public import proofs.«01_k».proof.Defs
public import proofs.«01_k».proof.Proof.Gen.PrepKernelIdeal.Launch
public import proofs.«01_k».proof.Proof.Gen.PrepKernelIdeal.Skeleton
public import proofs.«01_k».proof.Proof.Gen.PrepKernelIdeal.Loops
public import proofs.«01_k».proof.Proof.Gen.PrepKernelIdeal.Points
public import proofs.«01_k».proof.Proof.Gen.PrepKernelIdeal.Frame
public import Idealize.ShloMosaic.Lib.Pipeline.KitQuiescent
public import Idealize.ShloMosaic.Lib.Ring
public import Idealize.ShloMosaic.Lib.Ring.WriteBehind
public import Idealize.ShloMosaic.Lib.Affine
public import Idealize.ShloMosaic.Lib.Tactic
public import Idealize.ShloMosaic.Lib.Batch
public import proofs.«01_k».proof.Proof.PBaseKI
public import proofs.«01_k».proof.Proof.PTripKI
public import proofs.«01_k».proof.Proof.PInvKI

@[expose] public section

set_option maxRecDepth 16384

noncomputable section

namespace Cert.Proof.PrepKernelIdeal

open Cert.PrepKernelIdeal Cert.PrepKernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The scales, a block of 128 rows at a time -/

theorem lm_inb (b : Fin 6) : ∀ a, (![128 * b.val, 0] : Fin 2 → Nat) a + S128x128.size a ≤ S768x128.size a := by
  have := b.isLt; intro a; fin_cases a
  · show 128 * b.val + 128 ≤ 768; omega
  · show 0 + 128 ≤ 128; omega
theorem lo_inb (b : Fin 6) : ∀ a, (![b.val, 0] : Fin 2 → Nat) a + S1x128.size a ≤ S6x128.size a := by
  have := b.isLt; intro a; fin_cases a
  · show b.val + 1 ≤ 6; omega
  · show 0 + 128 ≤ 128; omega

section Lane
variable (c : Dev nD) (g : Buf (Elt F) (srM.view.loc (c : Thread nD τ)))
/-- The diagonal of block `b` of the scales, along the lanes. -/
def lmB (b : Fin 6) : FVec F S1x128 .f32 :=
  k0_pay184 (srM.view.readAt (Elt F) (Rect.unit (s := S768x128) ![128 * b.val, 0] S128x128.size (lm_inb b)).toLoadRect g)
/-- All of them. -/
def VS : S6x128.Idx → Elt F .f32 := fun y => lmB c g (y 0) (at2 1 128 0 (y 1).val)
abbrev lmPiece (b : Fin 6) : View.Piece (Elt F) S6x128 .f32 := ⟨Rect.unit (s := S6x128) ![b.val, 0] S1x128.size (lo_inb b), lmB c g b⟩
/-- The body's stores into the result, newest first. -/
abbrev lmPieces : List (View.Piece (Elt F) S6x128 .f32) := [lmPiece c g 5, lmPiece c g 4, lmPiece c g 3, lmPiece c g 2, lmPiece c g 1, lmPiece c g 0]

theorem lm_mem (b : Fin 6) : lmPiece c g b ∈ lmPieces c g := by
  match b with
  | 0 => simp
  | 1 => simp
  | 2 => simp
  | 3 => simp
  | 4 => simp
  | 5 => simp
theorem lm_of (p : View.Piece (Elt F) S6x128 .f32) (hp : p ∈ lmPieces c g) : ∃ b, p = lmPiece c g b := by
  simp only [lmPieces, List.mem_cons, List.not_mem_nil, or_false] at hp
  rcases hp with h | h | h | h | h | h <;> exact ⟨_, h⟩
theorem lm_read (arg4 : Memref sig .tc .vmem S6x128 .f32) (f : Buf (Elt F) (arg4.view.loc (c : Thread nD τ))) :
    arg4.view.read (Elt F) (arg4.view.writes (Elt F) f (lmPieces c g)) = VS c g := by
  funext y
  refine View.read_writes_apply_of_pieces arg4.view f (VS c g) _ ?_ y ?_
  · intro p hp
    obtain ⟨b, rfl⟩ := lm_of c g p hp
    intro x
    have h0 : (x 0).val < 1 := (x 0).isLt
    have e0 : ((Rect.unit (s := S6x128) ![b.val, 0] S1x128.size (lo_inb b)).emb x) 0 = b := Fin.ext (by show b.val + 1 * (x 0).val = _; omega)
    have e1 : (((Rect.unit (s := S6x128) ![b.val, 0] S1x128.size (lo_inb b)).emb x) 1).val = (x 1).val := by show 0 + 1 * (x 1).val = _; omega
    change lmB c g b x = VS c g ((Rect.unit (s := S6x128) ![b.val, 0] S1x128.size (lo_inb b)).emb x)
    unfold VS
    rw [e0, e1]
    exact congrArg _ (at2_eq (n := 1) (m := 128) x (by omega) rfl)
  · refine ⟨_, lm_mem c g (y 0), (Rect.mem_set_unit (inb := lo_inb _)).mpr fun a => ?_⟩
    have h1 : (y 1).val < 128 := (y 1).isLt
    match a with
    | ⟨0, _⟩ => exact (by show (y 0).val ≤ (y 0).val ∧ (y 0).val < (y 0).val + 1; omega)
    | ⟨1, _⟩ => exact (by show 0 ≤ (y 1).val ∧ (y 1).val < 0 + 128; omega)
end Lane

/-! ## The body -/

section Body
variable (c : Dev nD) (fx : Buf (Elt F) ((c : Thread nD τ).loc main_v2))
  (arg0 : Memref sig .tc .vmem S1x5120 .f32) (harg0 : arg0.IsWhole)
  (arg1 : Memref sig .tc .vmem S1x5120 .f32) (harg1 : arg1.IsWhole)
  (arg4 : Memref sig .tc .vmem S6x128 .f32) (harg4 : arg4.IsWhole)
  (f0 : Buf (Elt F) (arg0.view.loc (c : Thread nD τ))) (f1 : Buf (Elt F) (arg1.view.loc (c : Thread nD τ)))

abbrev xsm : DmaSems sig S_ := (cc0_scratch1.slice (Rect.unit (s := S10) ![0] S1.size inb_S10_S1_0)).squeeze S_ squeezes_S1_S_

/-- The activations in the kernel's buffer. -/
def LX : Buf (Elt F) (lhM.view.loc (c : Thread nD τ)) := fun i => fx i

theorem read_lh (f : Buf (Elt F) (lhM.view.loc (c : Thread nD τ))) : lhM.view.read (Elt F) f = f := rfl
theorem lx_eq (f : Buf (Elt F) (lhM.view.loc (c : Thread nD τ))) :
    (lhM.view.loc (c : Thread nD τ) ↦[lhM.view.set]{fullShare} lhM.view.writes (Elt F) f [⟨Rect.whole S768x5120, ReadAs.same.apply (xM.view.read (Elt F) fx)⟩] : sProp 𝕄)
      = (((c : Thread nD τ).loc cc0_scoped0) ↦{fullShare} LX c fx) := by
  rw [lh_whole]
  have e := View.read_writes_whole lhM.view f (xM.view.read (Elt F) fx)
  exact pointsTo_congr fun i _ => (congrFun (read_lh c _) i).symm.trans (congrFun e i)

abbrev bodyG : Prog (TpuEff nD τ sig (Elt F) Λ₀ .tc) PUnit :=
  cc0_moe_ffn_prep arg0 harg0 arg1 harg1 xM (Memref.isWhole_whole _) scM (Memref.isWhole_whole _) arg4 harg4 srM (Memref.isWhole_whole _) cc0_scratch1
    lhM (Memref.isWhole_whole _) saM (Memref.isWhole_whole _)

instance scP_storable (n : ℕ) (h : n < 24) (f : Buf (Elt F) ((scT n h).view.loc (c : Thread nD τ))) : BI.Storable (upEmb : UEmb _ 𝕄) (scP c n h f) := by
  unfold scP; infer_instance
instance saP'_storable (n : ℕ) (h : n < 24) (f : Buf (Elt F) ((saT n h).view.loc (c : Thread nD τ))) : BI.Storable (upEmb : UEmb _ 𝕄) (saP' c n h f) := by
  unfold saP'; infer_instance
theorem sep_storable (A B : sProp 𝕄) (hA : BI.Storable (upEmb : UEmb _ 𝕄) A) (hB : BI.Storable (upEmb : UEmb _ 𝕄) B) : BI.Storable (upEmb : UEmb _ 𝕄) iprop(A ∗ B) := inferInstance
instance cD_storable (fo : Buf (Elt F) (scM.view.loc (c : Thread nD τ))) (g : Buf (Elt F) (saM.view.loc (c : Thread nD τ))) (b : Fin 24) :
    BI.Storable (upEmb : UEmb _ 𝕄) (cD c fo g b) :=
  sep_storable _ _ (scP_storable c b.val b.isLt _) (saP'_storable c b.val b.isLt _)

/-- What the body is handed. -/
abbrev PRE (W : Waits sig Unit) : sProp 𝕄 :=
  iprop((arg0.view.loc (c : Thread nD τ) ↦[arg0.view.set]{fullShare} f0)
    ∗ (arg1.view.loc (c : Thread nD τ) ↦[arg1.view.set]{fullShare} f1)
    ∗ (((c : Thread nD τ).loc main_v2) ↦{fullShare} fx)
    ∗ (∃ fo : Buf (Elt F) ((c : Thread nD τ).loc main_v3_0), ((c : Thread nD τ).loc main_v3_0) ↦{fullShare} fo)
    ∗ (∃ f4, arg4.view.loc (c : Thread nD τ) ↦[arg4.view.set]{fullShare} f4)
    ∗ (∃ fr : Buf (Elt F) ((c : Thread nD τ).loc cc0_scratch0), ((c : Thread nD τ).loc cc0_scratch0) ↦{fullShare} fr)
    ∗ (∃ fl : Buf (Elt F) ((c : Thread nD τ).loc cc0_scoped0), ((c : Thread nD τ).loc cc0_scoped0) ↦{fullShare} fl)
    ∗ (∃ fs : Buf (Elt F) ((c : Thread nD τ).loc cc0_scoped1), ((c : Thread nD τ).loc cc0_scoped1) ↦{fullShare} fs)
    ∗ owes (c : Thread nD τ) 0 W
    ∗ semVal ((c : Thread nD τ), SemLoc.dma xsm.sem) 0 ∗ semVal ((c : Thread nD τ), SemLoc.dma cdm.sem) 0)

/-- What the body hands back: the same, with the results written. -/
abbrev POST : sProp 𝕄 :=
  iprop((arg0.view.loc (c : Thread nD τ) ↦[arg0.view.set]{fullShare} f0)
    ∗ (arg1.view.loc (c : Thread nD τ) ↦[arg1.view.set]{fullShare} f1)
    ∗ (((c : Thread nD τ).loc main_v2) ↦{fullShare} fx)
    ∗ (((c : Thread nD τ).loc main_v3_0) ↦{fullShare} SC c arg0 arg1 f0 f1 (LX c fx))
    ∗ (∃ f4, (arg4.view.loc (c : Thread nD τ) ↦[arg4.view.set]{fullShare} f4)
        ∗ ⌜arg4.view.read (Elt F) f4 = VS c (SR c arg0 arg1 f0 f1 (LX c fx))⌝)
    ∗ (∃ fr : Buf (Elt F) ((c : Thread nD τ).loc cc0_scratch0), ((c : Thread nD τ).loc cc0_scratch0) ↦{fullShare} fr)
    ∗ (∃ fl : Buf (Elt F) ((c : Thread nD τ).loc cc0_scoped0), ((c : Thread nD τ).loc cc0_scoped0) ↦{fullShare} fl)
    ∗ (∃ fs : Buf (Elt F) ((c : Thread nD τ).loc cc0_scoped1), ((c : Thread nD τ).loc cc0_scoped1) ↦{fullShare} fs)
    ∗ (∃ W, owes (c : Thread nD τ) 0 W)
    ∗ semVal ((c : Thread nD τ), SemLoc.dma xsm.sem) 0 ∗ semVal ((c : Thread nD τ), SemLoc.dma cdm.sem) 0)

/-- The body: it copies the activations in, runs the trips, lays the scales along the lanes, and waits for the codes' copies. -/
theorem bodyRun (W : Waits sig Unit) (Q : PUnit → sProp 𝕄) :
    iprop(PRE c fx arg0 arg1 arg4 f0 f1 W ∗ (POST c fx arg0 arg1 arg4 f0 f1 -∗ Q ⟨⟩))
      ⊢ wp frame (wpE (defs₀ (F := F)) 𝒱₀ (c : Thread nD τ) none) Set.univ (bodyG arg0 harg0 arg1 harg1 arg4 harg4) Q := by
  iintro ⟨⟨H0, H1, HX, ⟨%fo, HO⟩, ⟨%f4, H4⟩, ⟨%fr, HR⟩, ⟨%fl, HL⟩, ⟨%fs, HS⟩, HW, Hs0, Hs4⟩, Hk⟩
  haveI : ∀ b : Fin 24, BI.Storable (upEmb : UEmb _ 𝕄) (cD c fo (SA c arg0 arg1 f0 f1 (LX c fx)) b) := fun b => cD_storable c fo _ b
  imod (Transfers.batch_alloc' (countersEmb (U := UU nD τ)) (c : Thread nD τ) () NC (cD c fo (SA c arg0 arg1 f0 f1 (LX c fx))) (sm := SemLoc.dma cdm.sem) (E := Set.univ)) $$ Hs4 with HB
  ihave HX1 := (entails_of_eq (x_whole c fx)) $$ HX
  ihave HL1 := (entails_of_eq (lh_whole c fl)) $$ HL
  sl_unfold [bodyG]
  sl_exec_parts
  ihave HL := (entails_of_eq (lx_eq c fx lhM.view.junk)) $$ [HL1]
  · iexact HL1
  ihave HT := (entails_of_eq (at_first c arg0 arg1 f0 f1 (LX c fx) fs fo fr).symm) $$ [HL HS HO HR]
  · isplitl [HL]; · iexact HL
    isplitl [HS]; · iexact HS
    isplitl [HO]; · iexact HO
    iexact HR
  iapply (exec_loop _ _ _ _ _ _ _ _ _ (loopInv1 c arg0 harg0 arg1 harg1 arg4 harg4 f0 f1 (LX c fx) fs fo fr)) $$ [H0 H1 HT HB]
  · iapply (entails_of_eq (show Inv c arg0 arg1 f0 f1 (LX c fx) fs fo fr 0
      = (loopInv1 c arg0 harg0 arg1 harg1 arg4 harg4 f0 f1 (LX c fx) fs fo fr).inv 0 () from rfl))
    unfold Inv
    isplitl [H0]; · iexact H0
    isplitl [H1]; · iexact H1
    isplitl [HT]; · iexact HT
    iexact HB
  iintro %u HI
  ihave HI2 := (entails_of_eq (show (loopInv1 c arg0 harg0 arg1 harg1 arg4 harg4 f0 f1 (LX c fx) fs fo fr).inv (Scf.trips k0_t1_loop.lb k0_t1_loop.ub k0_t1_loop.st) u
      = Inv c arg0 arg1 f0 f1 (LX c fx) fs fo fr 24 from congrArg (Inv c arg0 arg1 f0 f1 (LX c fx) fs fo fr) (by decide))) $$ [HI]
  · iexact HI
  unfold Inv
  icases HI2 with ⟨H0, H1, HT, HB⟩
  ihave HT2 := (at_last c arg0 arg1 f0 f1 (LX c fx) fs fo fr) $$ HT
  icases HT2 with ⟨HL, HR⟩
  ihave HR1 := (entails_of_eq (sr_whole c (SR c arg0 arg1 f0 f1 (LX c fx)))) $$ HR
  sl_exec_parts
  iapply (exec_loop _ _ _ _ _ _ _ _ _ (loopInv2 c arg0 harg0 arg1 harg1 arg4 harg4 fo (SA c arg0 arg1 f0 f1 (LX c fx)))) $$ [HB HW]
  · iapply (entails_of_eq (show Inv2 c fo (SA c arg0 arg1 f0 f1 (LX c fx)) 0
      = (loopInv2 c arg0 harg0 arg1 harg1 arg4 harg4 fo (SA c arg0 arg1 f0 f1 (LX c fx))).inv 0 () from rfl))
    unfold Inv2
    isplitl [HB]; · iexact HB
    iexists _; iexact HW
  iintro %u2 HI
  ihave HI2 := (entails_of_eq (show (loopInv2 c arg0 harg0 arg1 harg1 arg4 harg4 fo (SA c arg0 arg1 f0 f1 (LX c fx))).inv (Scf.trips k0_t2_loop.lb k0_t2_loop.ub k0_t2_loop.st) u2
      = Inv2 c fo (SA c arg0 arg1 f0 f1 (LX c fx)) 24 from congrArg (Inv2 c fo (SA c arg0 arg1 f0 f1 (LX c fx))) (by decide))) $$ [HI]
  · iexact HI
  unfold Inv2
  icases HI2 with ⟨HB, ⟨%W', HW⟩⟩
  imod (Transfers.batch_collect' (countersEmb (U := UU nD τ)) (c : Thread nD τ) (sm := SemLoc.dma cdm.sem) (D := cD c fo (SA c arg0 arg1 f0 f1 (LX c fx))) (show 0 < NC by decide)) $$ HB with ⟨HD, Hs4⟩
  ihave HD2 := (entails_of_eq (landed c arg0 arg1 f0 f1 (LX c fx) fo)) $$ HD
  icases HD2 with ⟨HO, HS⟩
  sl_step
  iapply Hk
  isplitl [H0]; · iexact H0
  isplitl [H1]; · iexact H1
  isplitl [HX1]; · iapply (entails_of_eq (x_whole c fx).symm); iexact HX1
  isplitl [HO]; · iexact HO
  isplitl [H4]
  · iexists _
    isplitl [H4]; · iexact H4
    ipureintro; exact lm_read c (SR c arg0 arg1 f0 f1 (LX c fx)) arg4 arg4.view.junk
  isplitl [HR1]; · iexists _; iapply (entails_of_eq (sr_whole c (SR c arg0 arg1 f0 f1 (LX c fx))).symm); iexact HR1
  isplitl [HL]; · iexact HL
  isplitl [HS]; · iexists _; iexact HS
  isplitl [HW]; · iexists _; iexact HW
  isplitl [Hs0]; · iexact Hs0
  iexact Hs4
end Body

end Cert.Proof.PrepKernelIdeal

end
-- ==== Proof.PLaunchKI.lean ====
module

public import proofs.«01_k».proof.Defs
public import proofs.«01_k».proof.Proof.PBodyKI
public import Idealize.ShloMosaic.Lib.Pipeline.Value
public import proofs.«01_k».proof.Proof.Gen.PrepKernelIdeal.Launch
public import proofs.«01_k».proof.Proof.Gen.PrepKernelIdeal.Skeleton
public import proofs.«01_k».proof.Proof.Gen.PrepKernelIdeal.Loops
public import proofs.«01_k».proof.Proof.Gen.PrepKernelIdeal.Points
public import proofs.«01_k».proof.Proof.Gen.PrepKernelIdeal.Frame
public import Idealize.ShloMosaic.Lib.Pipeline.KitQuiescent
public import Idealize.ShloMosaic.Lib.Ring
public import Idealize.ShloMosaic.Lib.Ring.WriteBehind
public import Idealize.ShloMosaic.Lib.Affine
public import Idealize.ShloMosaic.Lib.Tactic
public import Idealize.ShloMosaic.Lib.Batch

@[expose] public section

set_option maxRecDepth 16384

noncomputable section

namespace Cert.Proof.PrepKernelIdeal

open Cert.PrepKernelIdeal Cert.PrepKernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! # The launch -/

section Launch
variable (m : (ℓ : Loc nD τ sig) → Buf (Elt F) ℓ) (ρ : Dev nD → PrngReg)

/-! ## The kernel's own semaphores -/

theorem cell_inb (s : Fin 10) : ∀ a, (![s.val] : Fin 1 → Nat) a + S1.size a ≤ S10.size a := by
  have := s.isLt; intro a; fin_cases a; show s.val + 1 ≤ 10; omega
abbrev osemc : Fin 10 → SemLoc sig := fun s => .dma ((cc0_scratch1.slice (Rect.unit (s := S10) ![s.val] S1.size (cell_inb s))).squeeze S_ squeezes_S1_S_).sem
theorem ownSemFacts : Pipeline.OwnSemFacts spec0 osemc := by decide

/-- A cell at zero. -/
abbrev idle (c : Dev nD) (s : Fin 10) : sProp 𝕄 := semVal ((c : Thread nD τ), osemc s) 0
/-- The eight that nothing signals. -/
def idles (c : Dev nD) : sProp 𝕄 := iprop(idle c 1 ∗ idle c 2 ∗ idle c 3 ∗ idle c 5 ∗ idle c 6 ∗ idle c 7 ∗ idle c 8 ∗ idle c 9)
abbrev xcellP (c : Dev nD) : sProp 𝕄 := semVal ((c : Thread nD τ), SemLoc.dma xsm.sem) 0
abbrev ccellP (c : Dev nD) : sProp 𝕄 := semVal ((c : Thread nD τ), SemLoc.dma cdm.sem) 0

theorem ownSems0_eq (c : Dev nD) : (Pipeline.ownSems0 (Ix := Unit) (Name := ℕ) (U := UU nD τ) (Lvl := ℕ) (Val := Elt F) (τ := τ) osemc c : sProp 𝕄)
    = iprop(xcellP c ∗ idle c 1 ∗ idle c 2 ∗ idle c 3 ∗ ccellP c ∗ idle c 5 ∗ idle c 6 ∗ idle c 7 ∗ idle c 8 ∗ idle c 9) := by
  unfold Pipeline.ownSems0
  exact bigSep_univ_eq_bigSepL [(0 : Fin 10), 1, 2, 3, 4, 5, 6, 7, 8, 9] (by decide) (by decide) _

/-! ## The pipeline's proof data -/

abbrev st0 (t : Fin cfg0.N) : Memref sig .tc .vmem S1x5120 .f32 := win0_0.stage (cfg0.slots t 0)
abbrev st1 (t : Fin cfg0.N) : Memref sig .tc .vmem S1x5120 .f32 := win0_1.stage (cfg0.slots t 1)
abbrev st2 (t : Fin cfg0.N) : Memref sig .tc .vmem S6x128 .f32 := win0_2.stage (cfg0.slots t 2)
abbrev hst0 (t : Fin cfg0.N) : (st0 t).IsWhole := hstage0_0 0
abbrev hst1 (t : Fin cfg0.N) : (st1 t).IsWhole := hstage0_1 0
abbrev hst2 (t : Fin cfg0.N) : (st2 t).IsWhole := hstage0_2 0

/-- The activations in the kernel's buffer. -/
abbrev LXc (c : Dev nD) : Buf (Elt F) (lhM.view.loc (c : Thread nD τ)) := LX c (V m c main_v2)
/-- The codes at the end, -/
def outC (c : Dev nD) : Buf (Elt F) ((c : Thread nD τ).loc main_v3_0) :=
  SC c (st0 t0_0) (st1 t0_0) ((st0 t0_0).view.rep (iblk m c 0 t0_0)) ((st1 t0_0).view.rep (iblk m c 1 t0_0)) (LXc m c)
/-- and what the body leaves in the scales' block. -/
def outB (c : Dev nD) : S6x128.Idx → Elt F .f32 :=
  VS c (SR c (st0 t0_0) (st1 t0_0) ((st0 t0_0).view.rep (iblk m c 0 t0_0)) ((st1 t0_0).view.rep (iblk m c 1 t0_0)) (LXc m c))

/-- The buffers at hand, the codes' result apart. -/
def rest (c : Dev nD) : sProp 𝕄 :=
  iprop((((c : Thread nD τ).loc main_v2) ↦{fullShare} V m c main_v2)
    ∗ (∃ fr : Buf (Elt F) ((c : Thread nD τ).loc cc0_scratch0), ((c : Thread nD τ).loc cc0_scratch0) ↦{fullShare} fr)
    ∗ (∃ fl : Buf (Elt F) ((c : Thread nD τ).loc cc0_scoped0), ((c : Thread nD τ).loc cc0_scoped0) ↦{fullShare} fl)
    ∗ (∃ fs : Buf (Elt F) ((c : Thread nD τ).loc cc0_scoped1), ((c : Thread nD τ).loc cc0_scoped1) ↦{fullShare} fs)
    ∗ xcellP c ∗ ccellP c ∗ idles c)
/-- Before the body, -/
def keep0 (c : Dev nD) : sProp 𝕄 := iprop((∃ fo : Buf (Elt F) ((c : Thread nD τ).loc main_v3_0), ((c : Thread nD τ).loc main_v3_0) ↦{fullShare} fo) ∗ rest m c)
/-- and after it. -/
def keep1 (c : Dev nD) : sProp 𝕄 := iprop((((c : Thread nD τ).loc main_v3_0) ↦{fullShare} outC m c) ∗ rest m c)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => outB m c
  Φ t := if t.val = 0 then keep0 m c else keep1 m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = outB m c := by dsimp only [dats]
theorem phi_first (c : Dev nD) : (dats m 0 c).Φ t0_0.castSucc = keep0 m c := rfl
theorem phi_next (c : Dev nD) : (dats m 0 c).Φ t0_0.succ = keep1 m c := rfl

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0) := rfl
theorem prog_eq (t : Fin cfg0.N) : (defs₀ (F := F)) .tc cfg0.body (cfg0.bodyArgs t (cfg0.slots t))
    = bodyG (st0 t) (hst0 t) (st1 t) (hst1 t) (st2 t) (hst2 t) :=
  (congrFun defs_tc _).trans rfl

set_option backward.isDefEq.respectTransparency.types false in
theorem body_obligation (c : Dev nD) : BodyObligation (dats (F := F) m 0 c) (defs₀ (F := F)) 𝒱₀ () Set.univ := fun t => by
  obtain rfl : t = t0_0 := fin_N0 t
  rw [bigSep_W0, bigSep_W0]
  dsimp only
  simp only [before_w0, before_w1, after_w0, after_w1, after_w2]
  rw [phi_first, phi_next]
  unfold Dat.owesAt Pipeline.owesWithin
  rw [show (dats m 0 c).owed t0_0.castSucc = 0 from rfl, show (dats m 0 c).owed t0_0.succ = 0 from rfl]
  unfold owns keep0 keep1 rest
  iintro ⟨⟨HO, HX, HR, HL, HS, Hs0, Hs4, Hid⟩, ⟨%W, -, HW⟩, ⟨%d0, %g0, %hg0, H0⟩, ⟨%d1, %g1, %hg1, H1⟩, ⟨%d2, %g2, -, H2⟩⟩
  ihave H0' := (pointsTo_rep_entails (c : Thread nD τ) (st0 t0_0) g0 fullShare) $$ H0
  ihave H1' := (pointsTo_rep_entails (c : Thread nD τ) (st1 t0_0) g1 fullShare) $$ H1
  rw [hg0, hg1]
  sl_rw [prog_eq t0_0]
  iapply (bodyRun c (V m c main_v2) (st0 t0_0) (hst0 t0_0) (st1 t0_0) (hst1 t0_0) (st2 t0_0) (hst2 t0_0) _ _ W)
  isplitr [Hid]
  · isplitl [H0']; · iexact H0'
    isplitl [H1']; · iexact H1'
    isplitl [HX]; · iexact HX
    isplitl [HO]; · iexact HO
    isplitl [H2]; · iexists g2; iexact H2
    isplitl [HR]; · iexact HR
    isplitl [HL]; · iexact HL
    isplitl [HS]; · iexact HS
    isplitl [HW]; · iexact HW
    isplitl [Hs0]; · iexact Hs0
    iexact Hs4
  · iintro ⟨H0, H1, HX, HO, ⟨%f4, H4, %h4⟩, HR, HL, HS, ⟨%W', HW⟩, Hs0, Hs4⟩
    isplitl [HO HX HR HL HS Hs0 Hs4 Hid]
    · isplitl [HO]; · iexact HO
      isplitl [HX]; · iexact HX
      isplitl [HR]; · iexact HR
      isplitl [HL]; · iexact HL
      isplitl [HS]; · iexact HS
      isplitl [Hs0]; · iexact Hs0
      isplitl [Hs4]; · iexact Hs4
      iexact Hid
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    iexists f4; isplitr; · ipureintro; exact h4
    iexact H4

/-! ## The run -/

def intoΦ (c : Dev nD) : sProp 𝕄 :=
  iprop((((c : Thread nD τ).loc main_v2) ↦{fullShare} V m c main_v2) ∗ (((c : Thread nD τ).loc main_v3_0) ↦{fullShare} V m c main_v3_0) ∗ Pipeline.ownSems0 osemc c)
def outOfΦ (c : Dev nD) : sProp 𝕄 := (((c : Thread nD τ).loc main_v3_0) ↦{fullShare} outC m c)
def aside (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_arg2) ↦{fullShare} V m c main_arg2))
def u₀ : UU nD τ := (initOf (Pipeline.cells cfgs Gen.cellOf_inj) (Pipeline.launchToks cfgs Gen.cellOf_inj), 1)
def finalA (c : Dev nD) (w : Fin cfg0.W) : Buf (Elt F) ((cfg0.win w).arr.view.loc (c : Thread nD τ)) := (dats m 0 c).arrAt w cfg0.N
def QY (c : Dev nD) (s : MemSt nD τ sig (Elt F)) : Prop :=
  s.mem ((c : Thread nD τ).loc main_v3_0) = outC m c ∧ s.mem ((c : Thread nD τ).loc main_arg0) = V m c main_arg0
    ∧ s.mem ((c : Thread nD τ).loc main_arg1) = V m c main_arg1 ∧ s.mem ((c : Thread nD τ).loc main_arg2) = V m c main_arg2
def QC : PUnit × MemSt nD τ sig (Elt F) → Prop := fun r =>
  ∀ c : Dev nD, (∀ w : Fin cfg0.W, r.2.mem ((cfg0.win w).arr.view.loc (c : Thread nD τ)) = finalA m c w) ∧ QY m c r.2

set_option maxHeartbeats 800000 in
theorem hmainU : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- What the region's buffers give the invariant. -/
theorem enter (c : Dev nD) : iprop(intoΦ m c ∗ Pipeline.scopedRest spec0 c) ⊢ (keep0 m c : sProp 𝕄) := by
  rw [scopedRest0_eq]
  unfold intoΦ keep0 rest idles
  rw [ownSems0_eq]
  iintro ⟨⟨HX, HO, i0, i1, i2, i3, i4, i5, i6, i7, i8, i9⟩, HR, HL, HS⟩
  isplitl [HO]; · iexists _; iexact HO
  isplitl [HX]; · iexact HX
  isplitl [HR]; · iexact HR
  isplitl [HL]; · iexact HL
  isplitl [HS]; · iexact HS
  isplitl [i0]; · iexact i0
  isplitl [i4]; · iexact i4
  isplitl [i1]; · iexact i1
  isplitl [i2]; · iexact i2
  isplitl [i3]; · iexact i3
  isplitl [i5]; · iexact i5
  isplitl [i6]; · iexact i6
  isplitl [i7]; · iexact i7
  isplitl [i8]; · iexact i8
  iexact i9

/-- What the invariant gives back. -/
theorem leave (c : Dev nD) : (keep1 m c : sProp 𝕄) ⊢ iprop(outOfΦ m c ∗ Pipeline.ownSems0 osemc c ∗ Pipeline.scopedRest spec0 c) := by
  rw [scopedRest0_eq]
  unfold outOfΦ keep1 rest idles
  rw [ownSems0_eq]
  iintro ⟨HO, HX, HR, HL, HS, i0, i4, i1, i2, i3, i5, i6, i7, i8, i9⟩
  isplitl [HO]; · iexact HO
  isplitl [i0 i1 i2 i3 i4 i5 i6 i7 i8 i9]
  · isplitl [i0]; · iexact i0
    isplitl [i1]; · iexact i1
    isplitl [i2]; · iexact i2
    isplitl [i3]; · iexact i3
    isplitl [i4]; · iexact i4
    isplitl [i5]; · iexact i5
    isplitl [i6]; · iexact i6
    isplitl [i7]; · iexact i7
    isplitl [i8]; · iexact i8
    iexact i9
  isplitl [HR]; · iexact HR
  isplitl [HL]; · iexact HL
  iexact HS

set_option backward.isDefEq.respectTransparency.types false in
/-- Every run of @main, from any memory with zero counters, ends with each window's array at `finalA`, the codes at `outC`, the
    arguments unchanged and every counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m) (hmain := hmainU m)
    (hA := fun _ _ => rfl)
    (X := intoΦ m) (Y := outOfΦ m) (Z := aside m)
    (hX := fun c => by
      rw [unscopedRest0_eq]
      unfold intoΦ aside
      iintro ⟨⟨H0, H1, H2, HX, HO⟩, HS, -, -, -⟩; imodintro
      isplitl [HX HO HS]
      · isplitl [HX]; · iexact HX
        isplitl [HO]; · iexact HO
        iexact HS
      isplitl [H0]; · iexact H0
      isplitl [H1]; · iexact H1
      iexact H2)
    (hin := fun c => enter m c)
    (hout := fun c => leave m c)
    (QY := QY m)
    (hY := fun c s' => by
      unfold outOfΦ aside
      iintro ⟨HO, ⟨H0, H1, H2⟩, HSI⟩
      icombine HSI HO gives %hO
      icombine HSI H0 gives %h0
      icombine HSI H1 gives %h1
      icombine HSI H2 gives %h2
      imodintro
      isplitr
      · ipureintro
        exact ⟨Buf.eq_of_forall_mem_univ hO, Buf.eq_of_forall_mem_univ h0, Buf.eq_of_forall_mem_univ h1, Buf.eq_of_forall_mem_univ h2⟩
      iexact HSI)
    (hQ := fun _ hh hz => ⟨hh, hz⟩)

/-- The scales' array at the end. -/
def outG (c : Dev nD) : Buf (Elt F) ((c : Thread nD τ).loc main_v3_1) := (dats m 0 c).arrAt 2 cfg0.N

/-- The run, read at the arguments and the results. -/
theorem run_post : θ_run defs (onTc (τ := τ) (main (F := F))) (s₀ m ρ) (fun r => (∀ c : Dev nD,
      r.2.mem ((c.tc : Thread nD τ).loc main_v3_0) = outC m c
      ∧ r.2.mem ((c.tc : Thread nD τ).loc main_v3_1) = outG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ hh => ⟨fun c => ⟨(hh.1 c).2.1, (hh.1 c).1 2,
    (hh.1 c).2.2.1.trans (V_main_arg0 m c), (hh.1 c).2.2.2.1.trans (V_main_arg1 m c), (hh.1 c).2.2.2.2.trans (V_main_arg2 m c)⟩, hh.2⟩) (run_main m ρ)

/-! ## The scales' array, read -/

theorem idx_inj2 : ∀ t t' : Fin cfg0.N, win0_2.index t = win0_2.index t' → t = t' :=
  (by decide +kernel : ∀ t t' : Fin grid0.N, win0_2.index t = win0_2.index t' → t = t')
theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)
/-- Where the scales' one block lies in its array. -/
theorem emb2 (j : S6x128.Idx) : ((cfg0.win 2).blk t0_0).view.emb j = j := by
  funext a
  match a with
  | ⟨0, _⟩ => exact Fin.ext (by show 0 * 6 + 1 * (j 0).val = (j 0).val; omega)
  | ⟨1, _⟩ => exact Fin.ext (by show 0 * 128 + 1 * (j 1).val = (j 1).val; omega)
/-- The scales' array at the end is what the body leaves. -/
theorem outG_apply (c : Dev nD) (i : S6x128.Idx) : outG m c i = outB m c i := by
  have h := congrFun ((dats m 0 c).read_blk_arrAt_eq_flushed 2 disjoint2 cfg0.N t0_0 t0_0.isLt (flush0_2 t0_0)) i
  rw [View.read_apply] at h
  refine (congrArg ((dats m 0 c).arrAt 2 cfg0.N) (emb2 i)).symm.trans (h.trans ?_)
  show (cfg0.win 2).cut (grid0.coords t0_0) ((dats m 0 c).after 2 t0_0) i = _
  rw [after_w2]
  rfl

end Launch

end Cert.Proof.PrepKernelIdeal

end
-- ==== Proof.PEqKI.lean ====
module

public import proofs.«01_k».proof.Defs
public import proofs.«01_k».proof.Proof.PLaunchKI
public import Idealize.ShloMosaic.Lib.Pointwise
public import Idealize.ShloMosaic.Lib.StableHlo.ReadAt

@[expose] public section

set_option maxRecDepth 16384

noncomputable section

namespace Cert.Proof.PrepKernelIdeal

open Cert.PrepKernelIdeal Cert.PrepKernelIdeal.Gen
open Idealize.ShloMosaic Idealize.ShloMosaic.TcCoe

/-! ## The mathematics, on real numbers -/

/-- The root of a row's mean square. -/
def DENr (f : ℕ → EReal) : EReal :=
  Ideal.sqrt (Ideal.div (∑ k : Fin 5120, f k.val * f k.val) (Ideal.ofBits .f32 0x45A00000#32) + Ideal.ofBits .f32 0x358637BD#32)
/-- A row's normalised and smoothed activations. -/
def HR (x : S768x5120.Idx → EReal) (n s : ℕ → EReal) (r k : ℕ) : EReal :=
  Ideal.div (x (at2 768 5120 r k)) (DENr fun k => x (at2 768 5120 r k)) * n k * s k
/-- A row's largest magnitude. -/
def MXR (x : S768x5120.Idx → EReal) (n s : ℕ → EReal) (r : ℕ) : EReal :=
  (Finset.univ : Finset (Fin 5120)).fold max (Ideal.ofBits .f32 0xFF800000#32) fun k => max (HR x n s r k.val) (-HR x n s r k.val)
/-- A scale from a row's largest magnitude. -/
def sclR (a : EReal) : EReal := if a = 0 then 1 else Ideal.div a (Ideal.ofBits .f32 0x42FE0000#32)
/-- A code from a value and its row's scale. -/
def cod (h s : EReal) : BitVec 8 :=
  FloatOps.fptosi (F := Ideal) (φ := .f32) 8 (min (Ideal.ofBits .f32 0x42FE0000#32) (max (Ideal.ofBits .f32 0xC2FE0000#32) (Ideal.liftRound Ideal.roundHalfEven (Ideal.div h s))))

theorem pay8_apply (a : FVec Ideal S32x128 .f32) (b : Vec Ideal S32x128 .bf16) (j : S32x128.Idx) :
    k0_pay8 a b j = Ideal.sqrt (Ideal.div (∑ l : Fin 128, (a (ix2 (j 0) l) + b (ix2 (j 0) l) * b (ix2 (j 0) l)) : EReal) (Ideal.ofBits .f32 0x45A00000#32) + Ideal.ofBits .f32 0x358637BD#32) := by
  unfold k0_pay8
  pointwise
theorem pay34_apply (a : FVec Ideal S32x128 .f32) (j : S32x128.Idx) :
    k0_pay34 a j = sclR ((Finset.univ : Finset (Fin 128)).fold max (Ideal.ofBits .f32 0xFF800000#32) fun l => a (ix2 (j 0) l)) := by
  unfold k0_pay34 sclR
  pointwise
theorem sel_eq (a b : BitVec 32) (u v : EReal) : Scalar.select (IntOp.cmpi .eq a b) u v = if a = b then u else v := by
  unfold Scalar.select IntOp.cmpi
  by_cases h : a = b
  · simp [h]
  · have e : (a == b) = false := by simpa using h
    simp [h, e]
theorem pay184_sum (a : Vec Ideal S128x128 .f32) (j : S1x128.Idx) :
    k0_pay184 a j = ∑ x : Fin 128, (Scalar.select (IntOp.cmpi .eq (BitVec.ofNat 32 x.val) (BitVec.ofNat 32 (j 1).val)) (a (ix2 x (j 1))) 0 : EReal) := by
  unfold k0_pay184 k0_pay183
  pointwise
/-- A block's diagonal. -/
theorem pay184_apply (a : Vec Ideal S128x128 .f32) (j : S1x128.Idx) : k0_pay184 a j = a (ix2 (j 1) (j 1)) := by
  have h1 : (j 1).val < 128 := (j 1).isLt
  rw [pay184_sum]
  refine (Finset.sum_eq_single (j 1 : Fin 128) (fun x _ hx => ?_) (fun h => absurd (Finset.mem_univ _) h)).trans ?_
  · rw [sel_eq, if_neg]
    intro h
    have h := congrArg BitVec.toNat h
    rw [BitVec.toNat_ofNat, BitVec.toNat_ofNat] at h
    have := x.isLt
    exact hx (Fin.ext (by omega))
  · rw [sel_eq, if_pos rfl]

theorem sum_lanes (g : ℕ → EReal) (n : ℕ) : (∑ t ∈ Finset.range n, ∑ k : Fin 128, g (128 * t + k.val)) = ∑ s ∈ Finset.range (128 * n), g s := by
  induction n with
  | zero => simp
  | succ n ih => rw [Finset.sum_range_succ, ih, Nat.mul_succ, Finset.sum_range_add]; exact congrArg _ (Finset.sum_range (fun x => g (128 * n + x))).symm
theorem abs_nonneg' (x : EReal) : 0 ≤ max x (-x) := by
  rcases le_total 0 x with h | h
  · exact le_max_of_le_left h
  · refine le_max_of_le_right ?_
    have := EReal.neg_le_neg_iff.mpr h
    simpa using this

section Tile
variable (c : Dev nD)
  (arg0 : Memref sig .tc .vmem S1x5120 .f32) (arg1 : Memref sig .tc .vmem S1x5120 .f32)
  (f0 : Buf (Elt Ideal) (arg0.view.loc (c : Thread nD τ))) (f1 : Buf (Elt Ideal) (arg1.view.loc (c : Thread nD τ)))
  (fl : S768x5120.Idx → EReal) (n s : ℕ → EReal)
  (hn : ∀ m j, nT (F := Ideal) c arg0 f0 m j = n (128 * (m % 40) + (j 1).val)) (hs : ∀ m j, sT (F := Ideal) c arg1 f1 m j = s (128 * (m % 40) + (j 1).val))
  (r : ℕ) (hr : r + 32 ≤ 768)

theorem xT_apply (m : ℕ) (j : S32x128.Idx) : xT (F := Ideal) c fl r hr m j = fl (at2 768 5120 (r + (j 0).val) (128 * (m % 40) + (j 1).val)) := by
  have e : xT (F := Ideal) c fl r hr m j = fl ((xR r hr m).emb j) := rfl
  rw [e]
  exact congrArg fl (at2_eq (n := 768) (m := 5120) _ (by show r + 1 * (j 0).val = _; omega) (by show 128 * (m % 40) + 1 * (j 1).val = _; omega))
theorem sqV_apply (j : S32x128.Idx) (p : ℕ) : sqV (F := Ideal) c fl r hr p j
    = ∑ t ∈ Finset.range p, (fl (at2 768 5120 (r + (j 0).val) (128 * (t % 40) + (j 1).val)) * fl (at2 768 5120 (r + (j 0).val) (128 * (t % 40) + (j 1).val)) : EReal) := by
  induction p with
  | zero => rw [Finset.sum_range_zero]; exact Ideal.ofBits_zero_f32
  | succ p ih =>
    rw [Finset.sum_range_succ, ← ih, ← xT_apply c fl r hr p j]
    rfl
theorem denV_apply (j : S32x128.Idx) : denV (F := Ideal) c fl r hr j = DENr fun k => fl (at2 768 5120 (r + (j 0).val) k) := by
  let g : ℕ → EReal := fun k => fl (at2 768 5120 (r + (j 0).val) k) * fl (at2 768 5120 (r + (j 0).val) k)
  have e : (∑ l : Fin 128, (sqV (F := Ideal) c fl r hr 39 (ix2 (j 0) l) + xT (F := Ideal) c fl r hr 39 (ix2 (j 0) l) * xT (F := Ideal) c fl r hr 39 (ix2 (j 0) l)) : EReal)
      = ∑ k : Fin 5120, g k.val := by
    have e1 : ∀ l : Fin 128, (sqV (F := Ideal) c fl r hr 39 (ix2 (j 0) l) + xT (F := Ideal) c fl r hr 39 (ix2 (j 0) l) * xT (F := Ideal) c fl r hr 39 (ix2 (j 0) l) : EReal)
        = ∑ t ∈ Finset.range 40, g (128 * t + l.val) := by
      intro l
      refine (show _ = sqV (F := Ideal) c fl r hr 40 (ix2 (j 0) l) from rfl).trans ((sqV_apply c fl r hr (ix2 (j 0) l) 40).trans ?_)
      refine Finset.sum_congr rfl fun t ht => ?_
      rw [Nat.mod_eq_of_lt (Finset.mem_range.mp ht)]
      rfl
    rw [Finset.sum_congr rfl fun l _ => e1 l, Finset.sum_comm, sum_lanes]
    exact Finset.sum_range (n := 5120) g
  unfold denV
  rw [pay8_apply, e]
  rfl
theorem hV_read (m : ℕ) (j : S32x128.Idx) : hV (F := Ideal) c arg0 arg1 f0 f1 fl r hr m j
    = Ideal.div (xT (F := Ideal) c fl r hr m j) (denV (F := Ideal) c fl r hr j) * nT (F := Ideal) c arg0 f0 m (ix2 0 (j 1)) * sT (F := Ideal) c arg1 f1 m (ix2 0 (j 1)) := by
  unfold hV
  pointwise
include hn hs in
theorem hV_apply (m : ℕ) (hm : m < 40) (j : S32x128.Idx) : hV (F := Ideal) c arg0 arg1 f0 f1 fl r hr m j = HR fl n s (r + (j 0).val) (128 * m + (j 1).val) := by
  rw [hV_read, xT_apply, denV_apply, hn, hs, Nat.mod_eq_of_lt hm]
  rfl
theorem mxV_le (j : S32x128.Idx) (p : ℕ) (b : EReal) : (mxV (F := Ideal) c arg0 arg1 f0 f1 fl r hr p j : EReal) ≤ b
    ↔ 0 ≤ b ∧ ∀ t < p, max (hV (F := Ideal) c arg0 arg1 f0 f1 fl r hr t j : EReal) (-(hV (F := Ideal) c arg0 arg1 f0 f1 fl r hr t j : EReal)) ≤ b := by
  induction p with
  | zero =>
    have e : (mxV (F := Ideal) c arg0 arg1 f0 f1 fl r hr 0 j : EReal) = 0 := Ideal.ofBits_zero_f32
    rw [e]
    exact ⟨fun h => ⟨h, fun t ht => absurd ht (Nat.not_lt_zero t)⟩, fun h => h.1⟩
  | succ p ih =>
    have e : (mxV (F := Ideal) c arg0 arg1 f0 f1 fl r hr (p + 1) j : EReal) = max (mxV (F := Ideal) c arg0 arg1 f0 f1 fl r hr p j : EReal)
      (max (hV (F := Ideal) c arg0 arg1 f0 f1 fl r hr p j : EReal) (-(hV (F := Ideal) c arg0 arg1 f0 f1 fl r hr p j : EReal))) := rfl
    rw [e, max_le_iff, ih]
    constructor
    · rintro ⟨⟨h0, h⟩, hp⟩
      refine ⟨h0, fun t ht => ?_⟩
      rcases Nat.lt_succ_iff_lt_or_eq.mp ht with h' | rfl
      · exact h t h'
      · exact hp
    · rintro ⟨h0, h⟩
      exact ⟨⟨h0, fun t ht => h t (by omega)⟩, h p (by omega)⟩
include hn hs in
theorem scV_apply (j : S32x128.Idx) : scV (F := Ideal) c arg0 arg1 f0 f1 fl r hr j = sclR (MXR fl n s (r + (j 0).val)) := by
  unfold scV
  rw [pay34_apply]
  refine congrArg sclR (eq_of_forall_ge_iff fun b => ?_)
  unfold MXR
  rw [Finset.fold_max_le, Finset.fold_max_le]
  constructor
  · rintro ⟨h0, h⟩
    refine ⟨h0, fun k _ => ?_⟩
    have hk := k.isLt
    have hl : k.val % 128 < 128 := Nat.mod_lt _ (by omega)
    have h' := ((mxV_le c arg0 arg1 f0 f1 fl r hr _ 40 b).mp (h ⟨k.val % 128, hl⟩ (Finset.mem_univ _))).2 (k.val / 128) (by omega)
    rw [hV_apply c arg0 arg1 f0 f1 fl n s hn hs r hr _ (by omega)] at h'
    have e : 128 * (k.val / 128) + k.val % 128 = k.val := by omega
    have e' : 128 * (k.val / 128) + ((ix2 (j 0) ⟨k.val % 128, hl⟩ : S32x128.Idx) 1).val = k.val := e
    rw [e'] at h'
    exact h'
  · rintro ⟨h0, h⟩
    refine ⟨h0, fun l _ => (mxV_le c arg0 arg1 f0 f1 fl r hr _ 40 b).mpr ⟨?_, fun t ht => ?_⟩⟩
    · exact (abs_nonneg' _).trans (h ⟨0, by decide⟩ (Finset.mem_univ _))
    · rw [hV_apply c arg0 arg1 f0 f1 fl n s hn hs r hr _ ht]
      have hl := l.isLt
      exact h ⟨128 * t + l.val, by omega⟩ (Finset.mem_univ _)
include hn hs in
theorem codeV_apply (m : ℕ) (hm : m < 40) (j : S32x128.Idx) : codeV (F := Ideal) c arg0 arg1 f0 f1 fl r hr m j
    = cod (HR fl n s (r + (j 0).val) (128 * m + (j 1).val)) (sclR (MXR fl n s (r + (j 0).val))) := by
  rw [← hV_apply c arg0 arg1 f0 f1 fl n s hn hs r hr m hm j, ← scV_apply c arg0 arg1 f0 f1 fl n s hn hs r hr j]
  rfl
include hn hs in
/-- The codes are the mathematics, -/
theorem CODES_eq (y : S768x5120.Idx) : CODES (F := Ideal) c arg0 arg1 f0 f1 fl y = cod (HR fl n s (y 0).val (y 1).val) (sclR (MXR fl n s (y 0).val)) := by
  have h0 : (y 0).val < 768 := (y 0).isLt
  have h1 : (y 1).val < 5120 := (y 1).isLt
  unfold CODES
  rw [codeV_apply c arg0 arg1 f0 f1 fl n s hn hs _ _ _ (by omega), at2_0 (Nat.mod_lt _ (by omega)), at2_1 (Nat.mod_lt _ (by omega)),
    show 32 * ((y 0).val / 32) + (y 0).val % 32 = (y 0).val by omega, show 128 * ((y 1).val / 128) + (y 1).val % 128 = (y 1).val by omega]
include hn hs in
/-- and so are the scales. -/
theorem SCALES_eq (y : S768x128.Idx) : SCALES (F := Ideal) c arg0 arg1 f0 f1 fl y = sclR (MXR fl n s (y 0).val) := by
  have h0 : (y 0).val < 768 := (y 0).isLt
  unfold SCALES
  rw [scV_apply c arg0 arg1 f0 f1 fl n s hn hs, at2_0 (Nat.mod_lt _ (by omega)), show 32 * ((y 0).val / 32) + (y 0).val % 32 = (y 0).val by omega]
end Tile

/-- The scales' result at a place is the scales' buffer on the diagonal. -/
theorem VS_apply (c : Dev nD) (g : S768x128.Idx → EReal) (y : S6x128.Idx) : VS (F := Ideal) c g y = g (at2 768 128 (128 * (y 0).val + (y 1).val) (y 1).val) := by
  have h1 : (y 1).val < 128 := (y 1).isLt
  unfold VS lmB
  rw [pay184_apply]
  refine congrArg g (at2_eq (n := 768) (m := 128) _ ?_ ?_)
  · show 128 * (y 0).val + 1 * (at2 1 128 0 (y 1).val 1).val = _
    rw [at2_1 h1]; omega
  · show 0 + 1 * (at2 1 128 0 (y 1).val 1).val = _
    rw [at2_1 h1]; omega

variable (m : (ℓ : Loc nD τ sig) → Buf (Elt Ideal) ℓ)
theorem V_v0 (c : Dev nD) (j : S1x5120.Idx) : V m c main_v0 j = m ((c.tc : Thread nD τ).loc main_arg1) (ix1 (j 1)) := by
  unfold V
  after_reads_at
theorem V_v1 (c : Dev nD) (j : S1x5120.Idx) : V m c main_v1 j = m ((c.tc : Thread nD τ).loc main_arg2) (ix1 (j 1)) := by
  unfold V
  after_reads_at
theorem iblk0 (c : Dev nD) (j : S1x5120.Idx) : iblk m c 0 t0_0 j = V m c main_v0 j := by
  unfold iblk
  rw [View.read_apply]
  show V m c main_v0 (((cfg0.win 0).blk t0_0).view.emb j) = _
  congr 1
  funext a
  match a with
  | ⟨0, _⟩ => exact Fin.ext (by show 0 * 1 + 1 * (j 0).val = (j 0).val; omega)
  | ⟨1, _⟩ => exact Fin.ext (by show 0 * 5120 + 1 * (j 1).val = (j 1).val; omega)
theorem iblk1 (c : Dev nD) (j : S1x5120.Idx) : iblk m c 1 t0_0 j = V m c main_v1 j := by
  unfold iblk
  rw [View.read_apply]
  show V m c main_v1 (((cfg0.win 1).blk t0_0).view.emb j) = _
  congr 1
  funext a
  match a with
  | ⟨0, _⟩ => exact Fin.ext (by show 0 * 1 + 1 * (j 0).val = (j 0).val; omega)
  | ⟨1, _⟩ => exact Fin.ext (by show 0 * 5120 + 1 * (j 1).val = (j 1).val; omega)

/-- The norm's weights and the smoothing factors, by column. -/
def colF (w : S5120.Idx → EReal) (k : ℕ) : EReal := w (ix1 (Fin.ofNat 5120 k))
theorem colF_eq (w : S5120.Idx → EReal) (k : Fin 5120) : colF w k.val = w (ix1 k) :=
  congrArg (fun a : Fin 5120 => w (ix1 a)) (Fin.ext (Nat.mod_eq_of_lt k.isLt))
theorem nT_eq (c : Dev nD) (q : ℕ) (j : S1x128.Idx) : nT (F := Ideal) c (st0 t0_0) ((st0 t0_0).view.rep (iblk m c 0 t0_0)) q j
    = colF (m ((c.tc : Thread nD τ).loc main_arg1)) (128 * (q % 40) + (j 1).val) := by
  have h1 : (j 1).val < 128 := (j 1).isLt
  have hq := Nat.mod_lt q (show 0 < 40 by decide)
  unfold nT
  rw [View.readAt_eq_ld, View.read_rep]
  show iblk m c 0 t0_0 ((Rect.unit (s := S1x5120) ![0, 128 * (q % 40)] S1x128.size (w_inb q)).emb j) = _
  refine (iblk0 m c _).trans ((V_v0 m c _).trans ((colF_eq _ _).symm.trans (congrArg (colF _) ?_)))
  exact (by show 128 * (q % 40) + 1 * (j 1).val = _; omega)
theorem sT_eq (c : Dev nD) (q : ℕ) (j : S1x128.Idx) : sT (F := Ideal) c (st1 t0_0) ((st1 t0_0).view.rep (iblk m c 1 t0_0)) q j
    = colF (m ((c.tc : Thread nD τ).loc main_arg2)) (128 * (q % 40) + (j 1).val) := by
  have h1 : (j 1).val < 128 := (j 1).isLt
  have hq := Nat.mod_lt q (show 0 < 40 by decide)
  unfold sT
  rw [View.readAt_eq_ld, View.read_rep]
  show iblk m c 1 t0_0 ((Rect.unit (s := S1x5120) ![0, 128 * (q % 40)] S1x128.size (w_inb q)).emb j) = _
  refine (iblk1 m c _).trans ((V_v1 m c _).trans ((colF_eq _ _).symm.trans (congrArg (colF _) ?_)))
  exact (by show 128 * (q % 40) + 1 * (j 1).val = _; omega)

/-- The codes, by the mathematics, of the arguments, -/
def MCODES (x : S768x5120.Idx → EReal) (n s : S5120.Idx → EReal) (y : S768x5120.Idx) : BitVec 8 :=
  cod (HR x (colF n) (colF s) (y 0).val (y 1).val) (sclR (MXR x (colF n) (colF s) (y 0).val))
/-- and the scales. -/
def MSCALES (x : S768x5120.Idx → EReal) (n s : S5120.Idx → EReal) (y : S6x128.Idx) : EReal :=
  sclR (MXR x (colF n) (colF s) (128 * (y 0).val + (y 1).val))
theorem outC_eq (c : Dev nD) (y : S768x5120.Idx) : outC m c y
    = MCODES (V m c main_v2) (m ((c.tc : Thread nD τ).loc main_arg1)) (m ((c.tc : Thread nD τ).loc main_arg2)) y := by
  unfold outC SC
  exact CODES_eq c _ _ _ _ _ _ _ (nT_eq m c) (sT_eq m c) y
theorem outG_eq (c : Dev nD) (y : S6x128.Idx) : outG m c y
    = MSCALES (V m c main_v2) (m ((c.tc : Thread nD τ).loc main_arg1)) (m ((c.tc : Thread nD τ).loc main_arg2)) y := by
  have h0 : (y 0).val < 6 := (y 0).isLt
  have h1 : (y 1).val < 128 := (y 1).isLt
  rw [outG_apply]
  unfold outB
  rw [VS_apply]
  unfold SR
  rw [SCALES_eq c _ _ _ _ _ _ _ (nT_eq m c) (sT_eq m c), at2_0 (by omega)]
  rfl
theorem V_v2 (c : Dev nD) (j : S768x5120.Idx) : V m c main_v2 j = m ((c.tc : Thread nD τ).loc main_arg0)
    (ix3 ⟨(j 0).val / 128, by have h : (j 0).val < 768 := (j 0).isLt; omega⟩ ⟨(j 0).val % 128, by omega⟩ (j 1)) := by
  unfold V
  after_reads_at

end Cert.Proof.PrepKernelIdeal

end
-- ==== Proof.PEqRes.lean ====
module

public import proofs.«01_k».proof.Defs
public import proofs.«01_k».proof.Proof.PEqKI
public import proofs.«01_k».proof.Proof.Gen.PrepReferenceIdeal.Value
public import Idealize.ShloMosaic.Lib.Pointwise
public import Idealize.ShloMosaic.Lib.StableHlo.ReadAt

@[expose] public section

set_option maxRecDepth 16384

noncomputable section

namespace Cert.Proof.PrepReferenceIdeal

open Cert.PrepReferenceIdeal Cert.PrepReferenceIdeal.Gen
open Idealize.ShloMosaic Idealize.ShloMosaic.TcCoe

open Cert.Proof.PrepKernelIdeal (DENr HR MXR sclR cod colF colF_eq MCODES MSCALES at2 at2_eq)

theorem hz2 : (![0, 0] : Fin 2 → ℕ) = fun _ => 0 := by decide

/-- A value at a row and a column, from the row's values and the column's factors. -/
abbrev entry (v0 : Vec Ideal S768x5120 .bf16) (v1 : Vec Ideal S1x5120 .f32) (v2 : Vec Ideal S1x5120 .f32) (r : Fin 768) (k : Fin 5120) : EReal :=
  Ideal.div (v0 (ix2 r k)) (Ideal.sqrt (Ideal.div (∑ x : Fin 5120, (v0 (ix2 r x) * v0 (ix2 r x) : EReal)) (Ideal.ofBits .f32 0x45A00000#32) + Ideal.ofBits .f32 0x358637BD#32))
    * v1 (ix2 0 k) * v2 (ix2 0 k)
theorem pay1_entry (v0 : Vec Ideal S768x5120 .bf16) (v1 : Vec Ideal S1x5120 .f32) (v2 : Vec Ideal S1x5120 .f32) (r : Fin 768) (k : Fin 5120) :
    k0_pay1 v0 v1 v2 (ix2 r k) = entry v0 v1 v2 r k := by
  unfold k0_pay1
  pointwise
theorem entry_eq (v0 : Vec Ideal S768x5120 .bf16) (v1 : Vec Ideal S1x5120 .f32) (v2 : Vec Ideal S1x5120 .f32) (n s : S5120.Idx → EReal)
    (h1 : ∀ k, v1 (ix2 0 k) = n (ix1 k)) (h2 : ∀ k, v2 (ix2 0 k) = s (ix1 k)) (r : Fin 768) (k : Fin 5120) :
    k0_pay1 v0 v1 v2 (ix2 r k) = HR v0 (colF n) (colF s) r.val k.val := by
  have e0 : ∀ x : Fin 5120, v0 (ix2 r x) = v0 (at2 768 5120 r.val x.val) := fun x => congrArg v0 (at2_eq (n := 768) (m := 5120) (ix2 r x) rfl rfl)
  have eS : (∑ x : Fin 5120, (v0 (ix2 r x) * v0 (ix2 r x) : EReal)) = ∑ x : Fin 5120, (v0 (at2 768 5120 r.val x.val) * v0 (at2 768 5120 r.val x.val) : EReal) :=
    Finset.sum_congr rfl fun x _ => congrArg (fun a : EReal => a * a) (e0 x)
  have eT : ∀ a S n s a' S' n' s' : EReal, a = a' → S = S' → n = n' → s = s' →
      Ideal.div a (Ideal.sqrt (Ideal.div S (Ideal.ofBits .f32 0x45A00000#32) + Ideal.ofBits .f32 0x358637BD#32)) * n * s
        = Ideal.div a' (Ideal.sqrt (Ideal.div S' (Ideal.ofBits .f32 0x45A00000#32) + Ideal.ofBits .f32 0x358637BD#32)) * n' * s' := by
    rintro _ _ _ _ _ _ _ _ rfl rfl rfl rfl; rfl
  exact (pay1_entry v0 v1 v2 r k).trans (eT _ _ _ _ _ _ _ _ (e0 k) eS ((h1 k).trans (colF_eq n k).symm) ((h2 k).trans (colF_eq s k).symm))

/-- The largest magnitudes of all rows, -/
def mxM (h : FVec Ideal S768x5120 .f32) : FVec Ideal S768 .f32 := multiReduction .maximumf [1] S768 (absf h) 0xFF800000#32 reduces_S768x5120_S768 (.inl rfl) rfl
/-- and the scales from them. -/
def sclM (a : FVec Ideal S768 .f32) : FVec Ideal S768 .f32 :=
  select (cmpf .oeq a (broadcast S768 (Scalar.ofBits (F := Ideal) .f32 0x00000000#32))) (broadcast S768 (Scalar.ofBits (F := Ideal) .f32 0x3F800000#32))
    (divf a (broadcast S768 (Scalar.ofBits (F := Ideal) .f32 0x42FE0000#32)))
/-- The codes, from the values and the scales. -/
def cde (h : FVec Ideal S768x5120 .f32) (s : FVec Ideal S768 .f32) : IVec S768x5120 8 :=
  have v29 : FVec Ideal S768x1 .f32 := shapeCast S768x1 s shapeCasts_S768_S768x1
  have v30 : FVec Ideal S768x5120 .f32 := broadcastTo S768x5120 v29 broadcasts_S768x1_S768x5120
  have v31 : FVec Ideal S768x5120 .f32 := divf h v30
  have v32 : FVec Ideal S768x5120 .f32 := roundeven v31
  have v33 : Ideal .f32 := Scalar.sitofp (F := Ideal) .f32 4294967169#32
  have v34 : FVec Ideal S768x5120 .f32 := broadcast S768x5120 v33
  have v35 : FVec Ideal S768x5120 .f32 := maximumf v34 v32
  have v36 : Ideal .f32 := Scalar.sitofp (F := Ideal) .f32 127#32
  have v37 : FVec Ideal S768x5120 .f32 := broadcast S768x5120 v36
  have v38 : FVec Ideal S768x5120 .f32 := minimumf v37 v35
  have v39 : IVec S768x5120 8 := fptosi 8 v38
  v39
theorem pay2_eq (v0 : Vec Ideal S768x5120 .bf16) (v1 : Vec Ideal S1x5120 .f32) (v2 : Vec Ideal S1x5120 .f32) : k0_pay2 v0 v1 v2 = sclM (mxM (k0_pay1 v0 v1 v2)) := rfl
theorem pay3_eq (v0 : Vec Ideal S768x5120 .bf16) (v1 : Vec Ideal S1x5120 .f32) (v2 : Vec Ideal S1x5120 .f32) : k0_pay3 v0 v1 v2 = cde (k0_pay1 v0 v1 v2) (k0_pay2 v0 v1 v2) := rfl
theorem selR (a : EReal) : Scalar.select (FloatOps.cmpf (F := Ideal) (φ := .f32) .oeq a (Ideal.ofBits .f32 0x00000000#32)) (Ideal.ofBits .f32 0x3F800000#32)
    (Ideal.div a (Ideal.ofBits .f32 0x42FE0000#32)) = sclR a := by
  unfold sclR
  pointwise
theorem sclM_apply (a : FVec Ideal S768 .f32) (r : Fin 768) : sclM a (ix1 r) = sclR (a (ix1 r)) := by
  rw [← selR]
  rfl
theorem mx_apply (h : FVec Ideal S768x5120 .f32) (r : Fin 768) :
    mxM h (ix1 r) = (Finset.univ : Finset (Fin 5120)).fold max (Ideal.ofBits .f32 0xFF800000#32) fun k => FloatOps.absf (F := Ideal) (φ := .f32) (h (ix2 r k)) := by
  unfold mxM
  pointwise
theorem scl_apply (h : FVec Ideal S768x5120 .f32) (r : Fin 768) :
    sclM (mxM h) (ix1 r) = sclR ((Finset.univ : Finset (Fin 5120)).fold max (Ideal.ofBits .f32 0xFF800000#32) fun k => FloatOps.absf (F := Ideal) (φ := .f32) (h (ix2 r k))) := by
  rw [sclM_apply, mx_apply]
theorem ofBits_127 : Ideal.ofBits .f32 0x42FE0000#32 = ((127 : ℝ) : EReal) := by
  simp [Ideal.ofBits, Ideal.ieee, -EReal.coe_mul]; norm_num
theorem ofBits_m127 : Ideal.ofBits .f32 0xC2FE0000#32 = ((-127 : ℝ) : EReal) := by
  simp [Ideal.ofBits, Ideal.ieee, -EReal.coe_mul]; norm_num
theorem si_127 : FloatOps.sitofp (F := Ideal) .f32 (127#32) = Ideal.ofBits .f32 0x42FE0000#32 := by
  rw [ofBits_127]
  show (((127#32).toInt : ℝ) : EReal) = _
  rw [show (127#32).toInt = 127 by decide]; norm_num
theorem si_m127 : FloatOps.sitofp (F := Ideal) .f32 (4294967169#32) = Ideal.ofBits .f32 0xC2FE0000#32 := by
  rw [ofBits_m127]
  show (((4294967169#32).toInt : ℝ) : EReal) = _
  rw [show (4294967169#32).toInt = -127 by decide]; norm_num
theorem col_apply (s : FVec Ideal S768 .f32) (r : Fin 768) (k : Fin 5120) :
    broadcastTo S768x5120 (shapeCast S768x1 s shapeCasts_S768_S768x1) broadcasts_S768x1_S768x5120 (ix2 r k) = s (ix1 r) := by
  pointwise
theorem cde_read (h : FVec Ideal S768x5120 .f32) (s : FVec Ideal S768 .f32) (r : Fin 768) (k : Fin 5120) : cde h s (ix2 r k)
    = FloatOps.fptosi (F := Ideal) (φ := .f32) 8 (min (FloatOps.sitofp (F := Ideal) .f32 (127#32)) (max (FloatOps.sitofp (F := Ideal) .f32 (4294967169#32))
      (Ideal.liftRound Ideal.roundHalfEven (Ideal.div (h (ix2 r k)) (broadcastTo S768x5120 (shapeCast S768x1 s shapeCasts_S768_S768x1) broadcasts_S768x1_S768x5120 (ix2 r k)))))) := rfl
theorem cde_apply (h : FVec Ideal S768x5120 .f32) (s : FVec Ideal S768 .f32) (r : Fin 768) (k : Fin 5120) : cde h s (ix2 r k) = cod (h (ix2 r k)) (s (ix1 r)) := by
  rw [cde_read, si_127, si_m127, col_apply]
  rfl
theorem pay4_apply (v0 : Vec Ideal S768x5120 .bf16) (v1 : Vec Ideal S1x5120 .f32) (v2 : Vec Ideal S1x5120 .f32) (j : S6x128.Idx)
    (hj : (j 0).val * 128 + (j 1).val < 768) : k0_pay4 v0 v1 v2 j = k0_pay2 v0 v1 v2 (ix1 ⟨_, hj⟩) := by
  unfold k0_pay4
  pointwise

section Out
variable (v0 : Vec Ideal S768x5120 .bf16) (v1 : Vec Ideal S1x5120 .f32) (v2 : Vec Ideal S1x5120 .f32) (n s : S5120.Idx → EReal)
    (h1 : ∀ k, v1 (ix2 0 k) = n (ix1 k)) (h2 : ∀ k, v2 (ix2 0 k) = s (ix1 k))
include h1 h2
theorem pay2_apply (r : Fin 768) : k0_pay2 v0 v1 v2 (ix1 r) = sclR (MXR v0 (colF n) (colF s) r.val) := by
  rw [pay2_eq, scl_apply]
  refine congrArg sclR ?_
  unfold MXR
  refine congrArg (fun f => (Finset.univ : Finset (Fin 5120)).fold max (Ideal.ofBits .f32 0xFF800000#32) f) (funext fun k => ?_)
  exact congrArg (fun a : EReal => max a (-a)) (entry_eq v0 v1 v2 n s h1 h2 r k)
theorem pay3_apply (y : S768x5120.Idx) : k0_pay3 v0 v1 v2 y = MCODES v0 n s y := by
  have e : y = ix2 (y 0) (y 1) := by
    funext a
    match a with
    | ⟨0, _⟩ => rfl
    | ⟨1, _⟩ => rfl
  rw [pay3_eq]
  refine (congrArg _ e).trans ((cde_apply _ _ _ _).trans ?_)
  exact congrArg₂ cod (entry_eq v0 v1 v2 n s h1 h2 (y 0) (y 1)) (pay2_apply v0 v1 v2 n s h1 h2 (y 0))
theorem pay4_math (y : S6x128.Idx) : k0_pay4 v0 v1 v2 y = MSCALES v0 n s y := by
  have h0' : (y 0).val < 6 := (y 0).isLt
  have h1' : (y 1).val < 128 := (y 1).isLt
  rw [pay4_apply v0 v1 v2 y (by omega), pay2_apply v0 v1 v2 n s h1 h2]
  exact congrArg (fun a : ℕ => sclR (MXR v0 (colF n) (colF s) a)) (by show (y 0).val * 128 + (y 1).val = _; omega)
end Out

variable (m : (ℓ : Loc nD τ sig) → Buf (Elt Ideal) ℓ)
theorem V_v0 (c : Dev nD) (j : S768x5120.Idx) : V m c main_v0 j = m ((c.tc : Thread nD τ).loc main_arg0)
    (ix3 ⟨(j 0).val / 128, by have h : (j 0).val < 768 := (j 0).isLt; omega⟩ ⟨(j 0).val % 128, by omega⟩ (j 1)) := by
  unfold V
  after_reads_at
theorem V_v1 (c : Dev nD) (j : S1x5120.Idx) : V m c main_v1 j = m ((c.tc : Thread nD τ).loc main_arg1) (ix1 (j 1)) := by
  unfold V
  after_reads_at
theorem V_v2 (c : Dev nD) (j : S1x5120.Idx) : V m c main_v2 j = m ((c.tc : Thread nD τ).loc main_arg2) (ix1 (j 1)) := by
  unfold V
  after_reads_at
theorem iblk0 (c : Dev nD) (j : S768x5120.Idx) : iblk m c 0 t0_0 j = V m c main_v0 j := by
  unfold iblk
  rw [View.read_apply]
  show V m c main_v0 (((cfg0.win 0).blk t0_0).view.emb j) = _
  congr 1
  funext a
  match a with
  | ⟨0, _⟩ => exact Fin.ext (by show 0 * 768 + 1 * (j 0).val = (j 0).val; omega)
  | ⟨1, _⟩ => exact Fin.ext (by show 0 * 5120 + 1 * (j 1).val = (j 1).val; omega)
theorem iblk1 (c : Dev nD) (j : S1x5120.Idx) : iblk m c 1 t0_0 j = V m c main_v1 j := by
  unfold iblk
  rw [View.read_apply]
  show V m c main_v1 (((cfg0.win 1).blk t0_0).view.emb j) = _
  congr 1
  funext a
  match a with
  | ⟨0, _⟩ => exact Fin.ext (by show 0 * 1 + 1 * (j 0).val = (j 0).val; omega)
  | ⟨1, _⟩ => exact Fin.ext (by show 0 * 5120 + 1 * (j 1).val = (j 1).val; omega)
theorem iblk2 (c : Dev nD) (j : S1x5120.Idx) : iblk m c 2 t0_0 j = V m c main_v2 j := by
  unfold iblk
  rw [View.read_apply]
  show V m c main_v2 (((cfg0.win 2).blk t0_0).view.emb j) = _
  congr 1
  funext a
  match a with
  | ⟨0, _⟩ => exact Fin.ext (by show 0 * 1 + 1 * (j 0).val = (j 0).val; omega)
  | ⟨1, _⟩ => exact Fin.ext (by show 0 * 5120 + 1 * (j 1).val = (j 1).val; omega)
theorem emb3 (j : S768x5120.Idx) : ((cfg0.win 3).blk t0_0).view.emb j = j := by
  funext a
  match a with
  | ⟨0, _⟩ => exact Fin.ext (by show 0 * 768 + 1 * (j 0).val = (j 0).val; omega)
  | ⟨1, _⟩ => exact Fin.ext (by show 0 * 5120 + 1 * (j 1).val = (j 1).val; omega)
theorem emb4 (j : S6x128.Idx) : ((cfg0.win 4).blk t0_0).view.emb j = j := by
  funext a
  match a with
  | ⟨0, _⟩ => exact Fin.ext (by show 0 * 6 + 1 * (j 0).val = (j 0).val; omega)
  | ⟨1, _⟩ => exact Fin.ext (by show 0 * 128 + 1 * (j 1).val = (j 1).val; omega)
/-- The reference's codes are what its body leaves, -/
theorem arr3_apply (c : Dev nD) (i : S768x5120.Idx) : (dats m 0 c).arrAt 3 cfg0.N i
    = out0_3 (iblk m c 0 t0_0) (iblk m c 1 t0_0) (iblk m c 2 t0_0) i := by
  have h := congrFun (Value.blocks3 m c t0_0 (by decide)) i
  rw [View.read_apply, Value.flushed3] at h
  exact (congrArg ((dats m 0 c).arrAt 3 cfg0.N) (emb3 i)).symm.trans (h.trans rfl)
/-- and so are its scales. -/
theorem arr4_apply (c : Dev nD) (i : S6x128.Idx) : (dats m 0 c).arrAt 4 cfg0.N i
    = out0_4 (iblk m c 0 t0_0) (iblk m c 1 t0_0) (iblk m c 2 t0_0) i := by
  have h := congrFun (Value.blocks4 m c t0_0 (by decide)) i
  rw [View.read_apply, Value.flushed4] at h
  exact (congrArg ((dats m 0 c).arrAt 4 cfg0.N) (emb4 i)).symm.trans (h.trans rfl)
/-- The reference's codes are the mathematics of the arguments, -/
theorem codes_eq (c : Dev nD) (i : S768x5120.Idx) : (dats m 0 c).arrAt 3 cfg0.N i
    = MCODES (V m c main_v0) (m ((c.tc : Thread nD τ).loc main_arg1)) (m ((c.tc : Thread nD τ).loc main_arg2)) i := by
  have e0 : iblk m c 0 t0_0 = V m c main_v0 := funext (iblk0 m c)
  rw [arr3_apply]
  unfold out0_3
  rw [View.canon_unit_zero (S := S768x5120) hz2, View.ld_unit_zero (S := S768x5120) hz2, View.ld_unit_zero (S := S1x5120) hz2, View.ld_unit_zero (S := S1x5120) hz2, e0]
  exact pay3_apply _ _ _ _ _ (fun k => (iblk1 m c _).trans (V_v1 m c _)) (fun k => (iblk2 m c _).trans (V_v2 m c _)) i
/-- and so are its scales. -/
theorem scales_eq (c : Dev nD) (i : S6x128.Idx) : (dats m 0 c).arrAt 4 cfg0.N i
    = MSCALES (V m c main_v0) (m ((c.tc : Thread nD τ).loc main_arg1)) (m ((c.tc : Thread nD τ).loc main_arg2)) i := by
  have e0 : iblk m c 0 t0_0 = V m c main_v0 := funext (iblk0 m c)
  rw [arr4_apply]
  unfold out0_4
  rw [View.canon_unit_zero (S := S6x128) hz2, View.ld_unit_zero (S := S768x5120) hz2, View.ld_unit_zero (S := S1x5120) hz2, View.ld_unit_zero (S := S1x5120) hz2, e0]
  exact pay4_math _ _ _ _ _ (fun k => (iblk1 m c _).trans (V_v1 m c _)) (fun k => (iblk2 m c _).trans (V_v2 m c _)) i

end Cert.Proof.PrepReferenceIdeal

end
-- ==== Proof.lean ====
module

public import proofs.«01_k».proof.Defs
public import proofs.«01_k».proof.Proof.LaunchKI
public import proofs.«01_k».proof.Proof.Gen.Kernel
public import proofs.«01_k».proof.Proof.Gen.UpKernel
public import proofs.«01_k».proof.Proof.Gen.PrepKernel
public import proofs.«01_k».proof.Proof.EqRes
public import proofs.«01_k».proof.Proof.ULaunchKI
public import proofs.«01_k».proof.Proof.UEqRes
public import proofs.«01_k».proof.Proof.Gen.UpReferenceIdeal.Value
public import proofs.«01_k».proof.Proof.Gen.ReferenceIdeal.Value
public import proofs.«01_k».proof.Proof.Gen.PrepReferenceIdeal.Value
public import proofs.«01_k».proof.Proof.PLaunchKI
public import proofs.«01_k».proof.Proof.PEqRes
public import Idealize.ShloMosaic.Adequacy
public import Idealize.ShloMosaic.Init

@[expose] public section

noncomputable section

namespace Cert.Proof

open Idealize.ShloMosaic Idealize.SL.Sem

/-- The printed program and the one read over the reals are the same text, so at one and the same kind of numbers they have the same body table. -/
theorem defsK_eq : Cert.Kernel.defs (F := Bits) = Cert.KernelIdeal.defs (F := Bits) := by
  refine congrArg (fun d => Pipeline.defs (Cert.Kernel.pcfgs (F := Bits)) (Defs.onTc (nD := Cert.Kernel.nD) (τ := Cert.Kernel.τ) (sig := Cert.Kernel.sig) (Λ := Cert.Kernel.Λ₀) d)) ?_
  funext l a
  match l, a with
  | 0, (_, _) => rfl

/-- The kernel as printed runs, faults nowhere, leaves its arguments unchanged and every semaphore at zero. -/
theorem frameK : Cert.quiescent_Kernel (hKernel := Cert.Kernel.Gen.facts) := fun m g _ =>
  by
  have h := Cert.Proof.KernelIdeal.run_post (F := Bits) m g
  rw [← defsK_eq] at h
  exact (θ_run (Cert.Kernel.defs (F := Bits)) _ _).mono (fun _ h => ⟨fun c => (h.1 c).2, h.2⟩) h

/-- The same of the kernel over the reals. -/
theorem frameKI : Cert.quiescent_KernelIdeal (hKernelIdeal := Cert.KernelIdeal.Gen.facts) := fun m g _ =>
  (θ_run (Cert.KernelIdeal.defs (F := Ideal)) _ _).mono (fun _ h => ⟨fun c => (h.1 c).2, h.2⟩) (Cert.Proof.KernelIdeal.run_post (F := Ideal) m g)

/-- Over the reals the kernel and the reference, from equal arguments, end with equal results. -/
theorem equal : Cert.algebraic_KernelIdeal_ReferenceIdeal (hKernelIdeal := Cert.KernelIdeal.Gen.facts) (hReferenceIdeal := Cert.ReferenceIdeal.Gen.facts) := by
  intro m g m' g' _ hag
  refine ⟨fun c => Cert.Proof.KernelIdeal.outG m c,
    (θ_run (Cert.KernelIdeal.defs (F := Ideal)) _ _).mono (fun _ h => h.1) (Cert.Proof.KernelIdeal.run_post (F := Ideal) m g),
    (θ_run (Cert.ReferenceIdeal.defs (F := Ideal)) _ _).mono (fun _ h c => ⟨(h c).1.trans ?_, (h c).2⟩) (Cert.ReferenceIdeal.Value.run_blocks (F := Ideal) m' g')⟩
  obtain ⟨h0, h1, h2, h3⟩ := hag c
  funext i
  refine (Cert.Proof.ReferenceIdeal.out_eq m' c i).trans (Eq.trans ?_ (Cert.Proof.KernelIdeal.outG_eq m c i).symm)
  rw [h0, h1, h2, h3]

/-- The printed program and the one read over the reals are the same text, so at one and the same kind of numbers they have the same body table. -/
theorem defsUK_eq : Cert.UpKernel.defs (F := Bits) = Cert.UpKernelIdeal.defs (F := Bits) := by
  refine congrArg (fun d => Pipeline.defs (Cert.UpKernel.pcfgs (F := Bits)) (Defs.onTc (nD := Cert.UpKernel.nD) (τ := Cert.UpKernel.τ) (sig := Cert.UpKernel.sig) (Λ := Cert.UpKernel.Λ₀) d)) ?_
  funext l a
  match l, a with
  | 0, (_, _) => rfl

/-- The up-projection's kernel as printed runs, faults nowhere, leaves its arguments unchanged and every semaphore at zero. -/
theorem frameUK : Cert.quiescent_UpKernel (hUpKernel := Cert.UpKernel.Gen.facts) := fun m g _ =>
  by
  have h := Cert.Proof.UpKernelIdeal.run_post (F := Bits) m g
  rw [← defsUK_eq] at h
  exact (θ_run (Cert.UpKernel.defs (F := Bits)) _ _).mono (fun _ h => ⟨fun c => (h.1 c).2, h.2⟩) h

/-- The same of it over the reals. -/
theorem frameUKI : Cert.quiescent_UpKernelIdeal (hUpKernelIdeal := Cert.UpKernelIdeal.Gen.facts) := fun m g _ =>
  (θ_run (Cert.UpKernelIdeal.defs (F := Ideal)) _ _).mono (fun _ h => ⟨fun c => (h.1 c).2, h.2⟩) (Cert.Proof.UpKernelIdeal.run_post (F := Ideal) m g)

/-- Over the reals the up-projection's kernel and its reference, from equal arguments, end with equal results. -/
theorem equalU : Cert.algebraic_UpKernelIdeal_UpReferenceIdeal (hUpKernelIdeal := Cert.UpKernelIdeal.Gen.facts)
    (hUpReferenceIdeal := Cert.UpReferenceIdeal.Gen.facts) := by
  intro m g m' g' _ hag
  refine ⟨fun c => Cert.Proof.UpKernelIdeal.outG m c,
    (θ_run (Cert.UpKernelIdeal.defs (F := Ideal)) _ _).mono (fun _ h => h.1) (Cert.Proof.UpKernelIdeal.run_post (F := Ideal) m g),
    (θ_run (Cert.UpReferenceIdeal.defs (F := Ideal)) _ _).mono (fun _ h c => ⟨(h c).1.trans ?_, (h c).2⟩) (Cert.UpReferenceIdeal.Value.run_blocks (F := Ideal) m' g')⟩
  obtain ⟨h0, h1, h2, h3, h4⟩ := hag c
  funext i
  refine (Cert.Proof.UpReferenceIdeal.out_eq m' c i).trans (Eq.trans ?_ (Cert.Proof.UpKernelIdeal.outG_eq m c i).symm)
  rw [h0, h1, h2, h3, h4]

/-- The printed program and the one read over the reals are the same text, so at one and the same kind of numbers they have the same body table. -/
theorem defsPK_eq : Cert.PrepKernel.defs (F := Bits) = Cert.PrepKernelIdeal.defs (F := Bits) := by
  refine congrArg (fun d => Pipeline.defs (Cert.PrepKernel.pcfgs (F := Bits)) (Defs.onTc (nD := Cert.PrepKernel.nD) (τ := Cert.PrepKernel.τ) (sig := Cert.PrepKernel.sig) (Λ := Cert.PrepKernel.Λ₀) d)) ?_
  funext l a
  match l, a with
  | 0, (_, _) => rfl

/-- The first quantiser's kernel as printed runs, faults nowhere, leaves its arguments unchanged and every semaphore at zero. -/
theorem framePK : Cert.quiescent_PrepKernel (hPrepKernel := Cert.PrepKernel.Gen.facts) := fun m g _ =>
  by
  have h := Cert.Proof.PrepKernelIdeal.run_post (F := Bits) m g
  rw [← defsPK_eq] at h
  exact (θ_run (Cert.PrepKernel.defs (F := Bits)) _ _).mono (fun _ h => ⟨fun c => (h.1 c).2.2, h.2⟩) h

/-- The same of it over the reals. -/
theorem framePKI : Cert.quiescent_PrepKernelIdeal (hPrepKernelIdeal := Cert.PrepKernelIdeal.Gen.facts) := fun m g _ =>
  (θ_run (Cert.PrepKernelIdeal.defs (F := Ideal)) _ _).mono (fun _ h => ⟨fun c => (h.1 c).2.2, h.2⟩) (Cert.Proof.PrepKernelIdeal.run_post (F := Ideal) m g)

/-- Over the reals the first quantiser's kernel and its reference, from equal arguments, end with equal codes and equal scales. -/
theorem equalP : Cert.algebraic_PrepKernelIdeal_PrepReferenceIdeal (hPrepKernelIdeal := Cert.PrepKernelIdeal.Gen.facts)
    (hPrepReferenceIdeal := Cert.PrepReferenceIdeal.Gen.facts) := by
  intro m g m' g' _ hag
  have hx : ∀ c, Cert.PrepReferenceIdeal.Gen.V m' c Cert.PrepReferenceIdeal.main_v0 = Cert.PrepKernelIdeal.Gen.V m c Cert.PrepKernelIdeal.main_v2 := fun c =>
    funext fun j => (Cert.Proof.PrepReferenceIdeal.V_v0 m' c j).trans ((congrFun (hag c).1 _).trans (Cert.Proof.PrepKernelIdeal.V_v2 m c j).symm)
  refine ⟨fun c => Cert.Proof.PrepKernelIdeal.outC m c, fun c => Cert.Proof.PrepKernelIdeal.outG m c,
    (θ_run (Cert.PrepKernelIdeal.defs (F := Ideal)) _ _).mono (fun _ h => h.1) (Cert.Proof.PrepKernelIdeal.run_post (F := Ideal) m g),
    (θ_run (Cert.PrepReferenceIdeal.defs (F := Ideal)) _ _).mono (fun _ h c => ⟨(h c).1.trans ?_, (h c).2.1.trans ?_, (h c).2.2⟩)
      (Cert.PrepReferenceIdeal.Value.run_blocks (F := Ideal) m' g')⟩
  · obtain ⟨-, h1, h2⟩ := hag c
    funext i
    refine (Cert.Proof.PrepReferenceIdeal.codes_eq m' c i).trans (Eq.trans ?_ (Cert.Proof.PrepKernelIdeal.outC_eq m c i).symm)
    rw [hx, h1, h2]
  · obtain ⟨-, h1, h2⟩ := hag c
    funext i
    refine (Cert.Proof.PrepReferenceIdeal.scales_eq m' c i).trans (Eq.trans ?_ (Cert.Proof.PrepKernelIdeal.outG_eq m c i).symm)
    rw [hx, h1, h2]

/-- The claims of the certificate hold. -/
theorem claim : Cert.Claim :=
  ⟨Cert.Kernel.Gen.facts, Cert.KernelIdeal.Gen.facts, Cert.ReferenceIdeal.Gen.facts,
    Cert.UpKernel.Gen.facts, Cert.UpKernelIdeal.Gen.facts, Cert.UpReferenceIdeal.Gen.facts,
    Cert.PrepKernel.Gen.facts, Cert.PrepKernelIdeal.Gen.facts, Cert.PrepReferenceIdeal.Gen.facts,
    frameK, frameKI, fun m g _ => Cert.ReferenceIdeal.Gen.frame m g,
    frameUK, frameUKI, fun m g _ => Cert.UpReferenceIdeal.Gen.frame m g,
    framePK, framePKI, fun m g _ => Cert.PrepReferenceIdeal.Gen.frame m g,
    trivial, equal, trivial, equalU, trivial, equalP⟩

end Cert.Proof

end
